-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8)
      ∧ r.2.mem ((c.tc : Thread Cert.Kernel9.nD Cert.Kernel9.τ).loc Cert.Kernel9.main_arg9) = m ((c.tc : Thread Cert.Kernel9.nD Cert.Kernel9.τ).loc Cert.Kernel9.main_arg9)
      ∧ r.2.mem ((c.tc : Thread Cert.Kernel9.nD Cert.Kernel9.τ).loc Cert.Kernel9.main_arg10) = m ((c.tc : Thread Cert.Kernel9.nD Cert.Kernel9.τ).loc Cert.Kernel9.main_arg10)
      ∧ r.2.mem ((c.tc : Thread Cert.Kernel9.nD Cert.Kernel9.τ).loc Cert.Kernel9.main_arg11) = m ((c.tc : Thread Cert.Kernel9.nD Cert.Kernel9.τ).loc Cert.Kernel9.main_arg11)
      ∧ r.2.mem ((c.tc : Thread Cert.Kernel9.nD Cert.Kernel9.τ).loc Cert.Kernel9.main_arg12) = m ((c.tc : Thread Cert.Kernel9.nD Cert.Kernel9.τ).loc Cert.Kernel9.main_arg12)
      ∧ r.2.mem ((c.tc : Thread Cert.Kernel9.nD Cert.Kernel9.τ).loc Cert.Kernel9.main_arg13) = m ((c.tc : Thread Cert.Kernel9.nD Cert.Kernel9.τ).loc Cert.Kernel9.main_arg13))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
      ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
      ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10)
      ∧ r.2.mem ((c.tc : Thread Cert.Kernel9Ideal.nD Cert.Kernel9Ideal.τ).loc Cert.Kernel9Ideal.main_arg11) = m ((c.tc : Thread Cert.Kernel9Ideal.nD Cert.Kernel9Ideal.τ).loc Cert.Kernel9Ideal.main_arg11)
      ∧ r.2.mem ((c.tc : Thread Cert.Kernel9Ideal.nD Cert.Kernel9Ideal.τ).loc Cert.Kernel9Ideal.main_arg12) = m ((c.tc : Thread Cert.Kernel9Ideal.nD Cert.Kernel9Ideal.τ).loc Cert.Kernel9Ideal.main_arg12)
      ∧ r.2.mem ((c.tc : Thread Cert.Kernel9Ideal.nD Cert.Kernel9Ideal.τ).loc Cert.Kernel9Ideal.main_arg13) = m ((c.tc : Thread Cert.Kernel9Ideal.nD Cert.Kernel9Ideal.τ).loc Cert.Kernel9Ideal.main_arg13))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8)
      ∧ r.2.mem ((c.tc : Thread Cert.Reference9Ideal.nD Cert.Reference9Ideal.τ).loc Cert.Reference9Ideal.main_arg9) = m ((c.tc : Thread Cert.Reference9Ideal.nD Cert.Reference9Ideal.τ).loc Cert.Reference9Ideal.main_arg9)
      ∧ r.2.mem ((c.tc : Thread Cert.Reference9Ideal.nD Cert.Reference9Ideal.τ).loc Cert.Reference9Ideal.main_arg10) = m ((c.tc : Thread Cert.Reference9Ideal.nD Cert.Reference9Ideal.τ).loc Cert.Reference9Ideal.main_arg10)
      ∧ r.2.mem ((c.tc : Thread Cert.Reference9Ideal.nD Cert.Reference9Ideal.τ).loc Cert.Reference9Ideal.main_arg11) = m ((c.tc : Thread Cert.Reference9Ideal.nD Cert.Reference9Ideal.τ).loc Cert.Reference9Ideal.main_arg11)
      ∧ r.2.mem ((c.tc : Thread Cert.Reference9Ideal.nD Cert.Reference9Ideal.τ).loc Cert.Reference9Ideal.main_arg12) = m ((c.tc : Thread Cert.Reference9Ideal.nD Cert.Reference9Ideal.τ).loc Cert.Reference9Ideal.main_arg12)
      ∧ r.2.mem ((c.tc : Thread Cert.Reference9Ideal.nD Cert.Reference9Ideal.τ).loc Cert.Reference9Ideal.main_arg13) = m ((c.tc : Thread Cert.Reference9Ideal.nD Cert.Reference9Ideal.τ).loc Cert.Reference9Ideal.main_arg13))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v303) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v39) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v35) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v7_0)) (v1 : (c : Dev Cert.Kernel4Ideal.nD) → Buf (Elt Ideal) ((c.tc : Thread Cert.Kernel4Ideal.nD Cert.Kernel4Ideal.τ).loc Cert.Kernel4Ideal.main_v7_1)) (v2 : (c : Dev Cert.Kernel4Ideal.nD) → Buf (Elt Ideal) ((c.tc : Thread Cert.Kernel4Ideal.nD Cert.Kernel4Ideal.τ).loc Cert.Kernel4Ideal.main_v7_2)) (v3 : (c : Dev Cert.Kernel4Ideal.nD) → Buf (Elt Ideal) ((c.tc : Thread Cert.Kernel4Ideal.nD Cert.Kernel4Ideal.τ).loc Cert.Kernel4Ideal.main_v7_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7_0) = v0 c
          ∧ r.2.mem ((c.tc : Thread Cert.Kernel4Ideal.nD Cert.Kernel4Ideal.τ).loc Cert.Kernel4Ideal.main_v7_1) = v1 c
          ∧ r.2.mem ((c.tc : Thread Cert.Kernel4Ideal.nD Cert.Kernel4Ideal.τ).loc Cert.Kernel4Ideal.main_v7_2) = v2 c
          ∧ r.2.mem ((c.tc : Thread Cert.Kernel4Ideal.nD Cert.Kernel4Ideal.τ).loc Cert.Kernel4Ideal.main_v7_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v22) = v0 c
          ∧ r.2.mem ((c.tc : Thread Cert.Reference4Ideal.nD Cert.Reference4Ideal.τ).loc Cert.Reference4Ideal.main_v28) = v1 c
          ∧ r.2.mem ((c.tc : Thread Cert.Reference4Ideal.nD Cert.Reference4Ideal.τ).loc Cert.Reference4Ideal.main_v30) = v2 c
          ∧ r.2.mem ((c.tc : Thread Cert.Reference4Ideal.nD Cert.Reference4Ideal.τ).loc Cert.Reference4Ideal.main_v31) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v9_0)) (v1 : (c : Dev Cert.Kernel5Ideal.nD) → Buf (Elt Ideal) ((c.tc : Thread Cert.Kernel5Ideal.nD Cert.Kernel5Ideal.τ).loc Cert.Kernel5Ideal.main_v9_1)) (v2 : (c : Dev Cert.Kernel5Ideal.nD) → Buf (Elt Ideal) ((c.tc : Thread Cert.Kernel5Ideal.nD Cert.Kernel5Ideal.τ).loc Cert.Kernel5Ideal.main_v9_2)) (v3 : (c : Dev Cert.Kernel5Ideal.nD) → Buf (Elt Ideal) ((c.tc : Thread Cert.Kernel5Ideal.nD Cert.Kernel5Ideal.τ).loc Cert.Kernel5Ideal.main_v9_3)) (v4 : (c : Dev Cert.Kernel5Ideal.nD) → Buf (Elt Ideal) ((c.tc : Thread Cert.Kernel5Ideal.nD Cert.Kernel5Ideal.τ).loc Cert.Kernel5Ideal.main_v9_4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v9_0) = v0 c
          ∧ r.2.mem ((c.tc : Thread Cert.Kernel5Ideal.nD Cert.Kernel5Ideal.τ).loc Cert.Kernel5Ideal.main_v9_1) = v1 c
          ∧ r.2.mem ((c.tc : Thread Cert.Kernel5Ideal.nD Cert.Kernel5Ideal.τ).loc Cert.Kernel5Ideal.main_v9_2) = v2 c
          ∧ r.2.mem ((c.tc : Thread Cert.Kernel5Ideal.nD Cert.Kernel5Ideal.τ).loc Cert.Kernel5Ideal.main_v9_3) = v3 c
          ∧ r.2.mem ((c.tc : Thread Cert.Kernel5Ideal.nD Cert.Kernel5Ideal.τ).loc Cert.Kernel5Ideal.main_v9_4) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v40) = v0 c
          ∧ r.2.mem ((c.tc : Thread Cert.Reference5Ideal.nD Cert.Reference5Ideal.τ).loc Cert.Reference5Ideal.main_v41) = v1 c
          ∧ r.2.mem ((c.tc : Thread Cert.Reference5Ideal.nD Cert.Reference5Ideal.τ).loc Cert.Reference5Ideal.main_v47) = v2 c
          ∧ r.2.mem ((c.tc : Thread Cert.Reference5Ideal.nD Cert.Reference5Ideal.τ).loc Cert.Reference5Ideal.main_v49) = v3 c
          ∧ r.2.mem ((c.tc : Thread Cert.Reference5Ideal.nD Cert.Reference5Ideal.τ).loc Cert.Reference5Ideal.main_v50) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v9_0)) (v1 : (c : Dev Cert.Kernel6Ideal.nD) → Buf (Elt Ideal) ((c.tc : Thread Cert.Kernel6Ideal.nD Cert.Kernel6Ideal.τ).loc Cert.Kernel6Ideal.main_v9_1)) (v2 : (c : Dev Cert.Kernel6Ideal.nD) → Buf (Elt Ideal) ((c.tc : Thread Cert.Kernel6Ideal.nD Cert.Kernel6Ideal.τ).loc Cert.Kernel6Ideal.main_v9_2)) (v3 : (c : Dev Cert.Kernel6Ideal.nD) → Buf (Elt Ideal) ((c.tc : Thread Cert.Kernel6Ideal.nD Cert.Kernel6Ideal.τ).loc Cert.Kernel6Ideal.main_v9_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v9_0) = v0 c
          ∧ r.2.mem ((c.tc : Thread Cert.Kernel6Ideal.nD Cert.Kernel6Ideal.τ).loc Cert.Kernel6Ideal.main_v9_1) = v1 c
          ∧ r.2.mem ((c.tc : Thread Cert.Kernel6Ideal.nD Cert.Kernel6Ideal.τ).loc Cert.Kernel6Ideal.main_v9_2) = v2 c
          ∧ r.2.mem ((c.tc : Thread Cert.Kernel6Ideal.nD Cert.Kernel6Ideal.τ).loc Cert.Kernel6Ideal.main_v9_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v26) = v0 c
          ∧ r.2.mem ((c.tc : Thread Cert.Reference6Ideal.nD Cert.Reference6Ideal.τ).loc Cert.Reference6Ideal.main_v32) = v1 c
          ∧ r.2.mem ((c.tc : Thread Cert.Reference6Ideal.nD Cert.Reference6Ideal.τ).loc Cert.Reference6Ideal.main_v34) = v2 c
          ∧ r.2.mem ((c.tc : Thread Cert.Reference6Ideal.nD Cert.Reference6Ideal.τ).loc Cert.Reference6Ideal.main_v35) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v2_0)) (v1 : (c : Dev Cert.Kernel7Ideal.nD) → Buf (Elt Ideal) ((c.tc : Thread Cert.Kernel7Ideal.nD Cert.Kernel7Ideal.τ).loc Cert.Kernel7Ideal.main_v2_1)) (v2 : (c : Dev Cert.Kernel7Ideal.nD) → Buf (Elt Ideal) ((c.tc : Thread Cert.Kernel7Ideal.nD Cert.Kernel7Ideal.τ).loc Cert.Kernel7Ideal.main_v2_2)) (v3 : (c : Dev Cert.Kernel7Ideal.nD) → Buf (Elt Ideal) ((c.tc : Thread Cert.Kernel7Ideal.nD Cert.Kernel7Ideal.τ).loc Cert.Kernel7Ideal.main_v2_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2_0) = v0 c
          ∧ r.2.mem ((c.tc : Thread Cert.Kernel7Ideal.nD Cert.Kernel7Ideal.τ).loc Cert.Kernel7Ideal.main_v2_1) = v1 c
          ∧ r.2.mem ((c.tc : Thread Cert.Kernel7Ideal.nD Cert.Kernel7Ideal.τ).loc Cert.Kernel7Ideal.main_v2_2) = v2 c
          ∧ r.2.mem ((c.tc : Thread Cert.Kernel7Ideal.nD Cert.Kernel7Ideal.τ).loc Cert.Kernel7Ideal.main_v2_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v21) = v0 c
          ∧ r.2.mem ((c.tc : Thread Cert.Reference7Ideal.nD Cert.Reference7Ideal.τ).loc Cert.Reference7Ideal.main_v23) = v1 c
          ∧ r.2.mem ((c.tc : Thread Cert.Reference7Ideal.nD Cert.Reference7Ideal.τ).loc Cert.Reference7Ideal.main_v25) = v2 c
          ∧ r.2.mem ((c.tc : Thread Cert.Reference7Ideal.nD Cert.Reference7Ideal.τ).loc Cert.Reference7Ideal.main_v27) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v15) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)
      ∧ m' ((c.tc : Thread Cert.Reference9Ideal.nD Cert.Reference9Ideal.τ).loc Cert.Reference9Ideal.main_arg8) = m ((c.tc : Thread Cert.Kernel9Ideal.nD Cert.Kernel9Ideal.τ).loc Cert.Kernel9Ideal.main_arg8)
      ∧ m' ((c.tc : Thread Cert.Reference9Ideal.nD Cert.Reference9Ideal.τ).loc Cert.Reference9Ideal.main_arg9) = m ((c.tc : Thread Cert.Kernel9Ideal.nD Cert.Kernel9Ideal.τ).loc Cert.Kernel9Ideal.main_arg9)
      ∧ m' ((c.tc : Thread Cert.Reference9Ideal.nD Cert.Reference9Ideal.τ).loc Cert.Reference9Ideal.main_arg10) = m ((c.tc : Thread Cert.Kernel9Ideal.nD Cert.Kernel9Ideal.τ).loc Cert.Kernel9Ideal.main_arg10)
      ∧ m' ((c.tc : Thread Cert.Reference9Ideal.nD Cert.Reference9Ideal.τ).loc Cert.Reference9Ideal.main_arg11) = m ((c.tc : Thread Cert.Kernel9Ideal.nD Cert.Kernel9Ideal.τ).loc Cert.Kernel9Ideal.main_arg11)
      ∧ m' ((c.tc : Thread Cert.Reference9Ideal.nD Cert.Reference9Ideal.τ).loc Cert.Reference9Ideal.main_arg12) = m ((c.tc : Thread Cert.Kernel9Ideal.nD Cert.Kernel9Ideal.τ).loc Cert.Kernel9Ideal.main_arg12)
      ∧ m' ((c.tc : Thread Cert.Reference9Ideal.nD Cert.Reference9Ideal.τ).loc Cert.Reference9Ideal.main_arg13) = m ((c.tc : Thread Cert.Kernel9Ideal.nD Cert.Kernel9Ideal.τ).loc Cert.Kernel9Ideal.main_arg13)) →
    ∃ (v0 : (c : Dev Cert.Kernel9Ideal.nD) → Buf (Elt Ideal) ((c.tc : Thread Cert.Kernel9Ideal.nD Cert.Kernel9Ideal.τ).loc Cert.Kernel9Ideal.main_v14_1)) (v1 : (c : Dev Cert.Kernel9Ideal.nD) → Buf (Elt Ideal) ((c.tc : Thread Cert.Kernel9Ideal.nD Cert.Kernel9Ideal.τ).loc Cert.Kernel9Ideal.main_v14_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v14_1) = v0 c
          ∧ r.2.mem ((c.tc : Thread Cert.Kernel9Ideal.nD Cert.Kernel9Ideal.τ).loc Cert.Kernel9Ideal.main_v14_2) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
          ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
          ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
          ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10)
          ∧ r.2.mem ((c.tc : Thread Cert.Kernel9Ideal.nD Cert.Kernel9Ideal.τ).loc Cert.Kernel9Ideal.main_arg11) = m ((c.tc : Thread Cert.Kernel9Ideal.nD Cert.Kernel9Ideal.τ).loc Cert.Kernel9Ideal.main_arg11)
          ∧ r.2.mem ((c.tc : Thread Cert.Kernel9Ideal.nD Cert.Kernel9Ideal.τ).loc Cert.Kernel9Ideal.main_arg12) = m ((c.tc : Thread Cert.Kernel9Ideal.nD Cert.Kernel9Ideal.τ).loc Cert.Kernel9Ideal.main_arg12)
          ∧ r.2.mem ((c.tc : Thread Cert.Kernel9Ideal.nD Cert.Kernel9Ideal.τ).loc Cert.Kernel9Ideal.main_arg13) = m ((c.tc : Thread Cert.Kernel9Ideal.nD Cert.Kernel9Ideal.τ).loc Cert.Kernel9Ideal.main_arg13))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v81) = v0 c
          ∧ r.2.mem ((c.tc : Thread Cert.Reference9Ideal.nD Cert.Reference9Ideal.τ).loc Cert.Reference9Ideal.main_v83) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7)
          ∧ r.2.mem ((c.tc : Thread Cert.Reference9Ideal.nD Cert.Reference9Ideal.τ).loc Cert.Reference9Ideal.main_arg8) = m' ((c.tc : Thread Cert.Reference9Ideal.nD Cert.Reference9Ideal.τ).loc Cert.Reference9Ideal.main_arg8)
          ∧ r.2.mem ((c.tc : Thread Cert.Reference9Ideal.nD Cert.Reference9Ideal.τ).loc Cert.Reference9Ideal.main_arg9) = m' ((c.tc : Thread Cert.Reference9Ideal.nD Cert.Reference9Ideal.τ).loc Cert.Reference9Ideal.main_arg9)
          ∧ r.2.mem ((c.tc : Thread Cert.Reference9Ideal.nD Cert.Reference9Ideal.τ).loc Cert.Reference9Ideal.main_arg10) = m' ((c.tc : Thread Cert.Reference9Ideal.nD Cert.Reference9Ideal.τ).loc Cert.Reference9Ideal.main_arg10)
          ∧ r.2.mem ((c.tc : Thread Cert.Reference9Ideal.nD Cert.Reference9Ideal.τ).loc Cert.Reference9Ideal.main_arg11) = m' ((c.tc : Thread Cert.Reference9Ideal.nD Cert.Reference9Ideal.τ).loc Cert.Reference9Ideal.main_arg11)
          ∧ r.2.mem ((c.tc : Thread Cert.Reference9Ideal.nD Cert.Reference9Ideal.τ).loc Cert.Reference9Ideal.main_arg12) = m' ((c.tc : Thread Cert.Reference9Ideal.nD Cert.Reference9Ideal.τ).loc Cert.Reference9Ideal.main_arg12)
          ∧ r.2.mem ((c.tc : Thread Cert.Reference9Ideal.nD Cert.Reference9Ideal.τ).loc Cert.Reference9Ideal.main_arg13) = m' ((c.tc : Thread Cert.Reference9Ideal.nD Cert.Reference9Ideal.τ).loc Cert.Reference9Ideal.main_arg13))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Kernel.lean ====
abbrev S8x2048x1536 : Shape := ⟨3, ![8, 2048, 1536]⟩
abbrev S8x2048x3072 : Shape := ⟨3, ![8, 2048, 3072]⟩
abbrev S3 : Shape := ⟨1, ![3]⟩
abbrev S_ : Shape := ⟨0, ![]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S3x1x1 : Shape := ⟨3, ![3, 1, 1]⟩
abbrev S1x128x256 : Shape := ⟨3, ![1, 128, 256]⟩
abbrev S3x128x256 : Shape := ⟨3, ![3, 128, 256]⟩
abbrev S24 : Shape := ⟨1, ![24]⟩
abbrev S3x8 : Shape := ⟨2, ![3, 8]⟩
abbrev S3x8x1x1 : Shape := ⟨4, ![3, 8, 1, 1]⟩
abbrev S3x1x128x256 : Shape := ⟨4, ![3, 1, 128, 256]⟩
abbrev S3x8x128x256 : Shape := ⟨4, ![3, 8, 128, 256]⟩
abbrev S1x1x128x256 : Shape := ⟨4, ![1, 1, 128, 256]⟩
abbrev S8x2048x512 : Shape := ⟨3, ![8, 2048, 512]⟩
abbrev S1x2048x128 : Shape := ⟨3, ![1, 2048, 128]⟩
abbrev S3x2x128x256 : Shape := ⟨4, ![3, 2, 128, 256]⟩
abbrev S3x2048x128 : Shape := ⟨3, ![3, 2048, 128]⟩
abbrev S128x128 : Shape := ⟨2, ![128, 128]⟩
abbrev S1x128x128 : Shape := ⟨3, ![1, 128, 128]⟩
abbrev S256x128 : Shape := ⟨2, ![256, 128]⟩
abbrev S1x2x128x128 : Shape := ⟨4, ![1, 2, 128, 128]⟩
abbrev S2x128x128 : Shape := ⟨3, ![2, 128, 128]⟩
abbrev S256x1 : Shape := ⟨2, ![256, 1]⟩
abbrev S1x256x128 : Shape := ⟨3, ![1, 256, 128]⟩
abbrev S256x256 : Shape := ⟨2, ![256, 256]⟩
abbrev S1x2x128x256 : Shape := ⟨4, ![1, 2, 128, 256]⟩
abbrev S2x128x256 : Shape := ⟨3, ![2, 128, 256]⟩

abbrev nBuf : Space → Nat
  | .hbm => 57
  | .vmem => 25
  | .smem => 0
  | _ => 0

abbrev bufTy : (tb : Table) → Fin (tcTables nBuf tb) → BufTy
  | .hbm, ⟨0, _⟩ => ⟨S8x2048x1536, .f32⟩
  | .hbm, ⟨1, _⟩ => ⟨S8x2048x3072, .f32⟩
  | .hbm, ⟨2, _⟩ => ⟨S3, .i32⟩
  | .hbm, ⟨3, _⟩ => ⟨S_, .f32⟩
  | .hbm, ⟨4, _⟩ => ⟨S8x2048x1536, .f32⟩
  | .hbm, ⟨5, _⟩ => ⟨S8x2048x1536, .f32⟩
  | .hbm, ⟨6, _⟩ => ⟨S128, .i32⟩
  | .hbm, ⟨7, _⟩ => ⟨S128x1, .i32⟩
  | .hbm, ⟨8, _⟩ => ⟨S256, .i32⟩
  | .hbm, ⟨9, _⟩ => ⟨S1x256, .i32⟩
  | .hbm, ⟨10, _⟩ => ⟨S_, .i32⟩
  | .hbm, ⟨11, _⟩ => ⟨S128x1, .i32⟩
  | .hbm, ⟨12, _⟩ => ⟨S128x1, .i32⟩
  | .hbm, ⟨13, _⟩ => ⟨S128x256, .i32⟩
  | .hbm, ⟨14, _⟩ => ⟨S128x256, .i32⟩
  | .hbm, ⟨15, _⟩ => ⟨S128x256, .i32⟩
  | .hbm, ⟨16, _⟩ => ⟨S_, .i32⟩
  | .hbm, ⟨17, _⟩ => ⟨S128x256, .i32⟩
  | .hbm, ⟨18, _⟩ => ⟨S128x256, .i1⟩
  | .hbm, ⟨19, _⟩ => ⟨S_, .i32⟩
  | .hbm, ⟨20, _⟩ => ⟨S128x256, .i32⟩
  | .hbm, ⟨21, _⟩ => ⟨S128x256, .i1⟩
  | .hbm, ⟨22, _⟩ => ⟨S128x256, .i1⟩
  | .hbm, ⟨23, _⟩ => ⟨S3x1x1, .i32⟩
  | .hbm, ⟨24, _⟩ => ⟨S1x128x256, .i32⟩
  | .hbm, ⟨25, _⟩ => ⟨S3x128x256, .i32⟩
  | .hbm, ⟨26, _⟩ => ⟨S3x128x256, .i32⟩
  | .hbm, ⟨27, _⟩ => ⟨S3x128x256, .i32⟩
  | .hbm, ⟨28, _⟩ => ⟨S3x128x256, .f32⟩
  | .hbm, ⟨29, _⟩ => ⟨S24, .f32⟩
  | .hbm, ⟨30, _⟩ => ⟨S_, .f32⟩
  | .hbm, ⟨31, _⟩ => ⟨S24, .f32⟩
  | .hbm, ⟨32, _⟩ => ⟨S24, .f32⟩
  | .hbm, ⟨33, _⟩ => ⟨S_, .f32⟩
  | .hbm, ⟨34, _⟩ => ⟨S24, .f32⟩
  | .hbm, ⟨35, _⟩ => ⟨S24, .f32⟩
  | .hbm, ⟨36, _⟩ => ⟨S_, .f32⟩
  | .hbm, ⟨37, _⟩ => ⟨S24, .f32⟩
  | .hbm, ⟨38, _⟩ => ⟨S24, .f32⟩
  | .hbm, ⟨39, _⟩ => ⟨S_, .f32⟩
  | .hbm, ⟨40, _⟩ => ⟨S24, .f32⟩
  | .hbm, ⟨41, _⟩ => ⟨S24, .f32⟩
  | .hbm, ⟨42, _⟩ => ⟨S24, .f32⟩
  | .hbm, ⟨43, _⟩ => ⟨S3x8, .f32⟩
  | .hbm, ⟨44, _⟩ => ⟨S3x8x1x1, .f32⟩
  | .hbm, ⟨45, _⟩ => ⟨S3x8x1x1, .f32⟩
  | .hbm, ⟨46, _⟩ => ⟨S3x1x128x256, .f32⟩
  | .hbm, ⟨47, _⟩ => ⟨S3x8x128x256, .f32⟩
  | .hbm, ⟨48, _⟩ => ⟨S3x8x128x256, .f32⟩
  | .hbm, ⟨49, _⟩ => ⟨S3x8x128x256, .f32⟩
  | .hbm, ⟨50, _⟩ => ⟨S1x1x128x256, .i1⟩
  | .hbm, ⟨51, _⟩ => ⟨S_, .f32⟩
  | .hbm, ⟨52, _⟩ => ⟨S_, .f32⟩
  | .hbm, ⟨53, _⟩ => ⟨S3x8x128x256, .i1⟩
  | .hbm, ⟨54, _⟩ => ⟨S3x8x128x256, .f32⟩
  | .hbm, ⟨55, _⟩ => ⟨S3x8x128x256, .f32⟩
  | .hbm, ⟨56, _⟩ => ⟨S8x2048x512, .f32⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x2048x128, .f32⟩
  | .local _ .vmem, ⟨7, _⟩ => ⟨S1x2048x128, .f32⟩
  | .local _ .vmem, ⟨8, _⟩ => ⟨S1x2048x128, .f32⟩
  | .local _ .vmem, ⟨9, _⟩ => ⟨S1x2048x128, .f32⟩
  | .local _ .vmem, ⟨10, _⟩ => ⟨S1x2048x128, .f32⟩
  | .local _ .vmem, ⟨11, _⟩ => ⟨S1x2048x128, .f32⟩
  | .local _ .vmem, ⟨12, _⟩ => ⟨S1x2048x128, .f32⟩
  | .local _ .vmem, ⟨13, _⟩ => ⟨S1x2048x128, .f32⟩
  | .local _ .vmem, ⟨14, _⟩ => ⟨S1x2048x128, .f32⟩
  | .local _ .vmem, ⟨15, _⟩ => ⟨S1x2048x128, .f32⟩
  | .local _ .vmem, ⟨16, _⟩ => ⟨S1x2048x128, .f32⟩
  | .local _ .vmem, ⟨17, _⟩ => ⟨S1x2048x128, .f32⟩
  | .local _ .vmem, ⟨18, _⟩ => ⟨S3x2x128x256, .f32⟩
  | .local _ .vmem, ⟨19, _⟩ => ⟨S3x2x128x256, .f32⟩
  | .local _ .vmem, ⟨20, _⟩ => ⟨S1x2048x128, .f32⟩
  | .local _ .vmem, ⟨21, _⟩ => ⟨S1x2048x128, .f32⟩
  | .local _ .vmem, ⟨22, _⟩ => ⟨S3x2048x128, .f32⟩
  | .local _ .vmem, ⟨23, _⟩ => ⟨S3x2048x128, .f32⟩
  | .local _ .vmem, ⟨24, _⟩ => ⟨S3x2048x128, .f32⟩
  | _, _ => ⟨S8x2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_c_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_v28 : Ref sig .tc := ⟨.hbm, 38, rfl⟩
abbrev main_cst_6 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_7 : Ref sig .tc := ⟨.hbm, 51, rfl⟩
abbrev main_call0_v0 : Ref sig .tc := ⟨.hbm, 52, rfl⟩
abbrev main_call0_v1 : Ref sig .tc := ⟨.hbm, 53, rfl⟩
abbrev main_call0_v2 : Ref sig .tc := ⟨.hbm, 54, rfl⟩
abbrev main_v40 : Ref sig .tc := ⟨.hbm, 55, rfl⟩
abbrev main_v41 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![8, 4], ![false, false]⟩

@[reducible] def k0_t1_loop : Scf.Loop 32 :=
  let c0_i32 : BitVec 32 := 0#32
  let c8_i32 : BitVec 32 := 8#32
  let v2595 : BitVec 32 := Scalar.addi c0_i32 c8_i32
  let c1_i32 : BitVec 32 := 1#32
  ⟨c0_i32, v2595, c1_i32⟩
def k0_mult1 (k0_t1 : Fin k0_t1_loop.trips) : BitVec 32 :=
  let c0_i32 : BitVec 32 := 0#32
  let c1_i32 : BitVec 32 := 1#32
  let arg16 : BitVec 32 := Scf.iv c0_i32 c1_i32 k0_t1
  let c256_i32 : BitVec 32 := 256#32
  let v2596 : BitVec 32 := Scalar.muli arg16 c256_i32
  v2596
def k0_off1 (k0_t1 : Fin k0_t1_loop.trips) : Fin 3 → Nat :=
  let c0_1304 : Index := 0#32
  let c0_i32 : BitVec 32 := 0#32
  let c1_i32 : BitVec 32 := 1#32
  let arg16 : BitVec 32 := Scf.iv c0_i32 c1_i32 k0_t1
  let c256_i32 : BitVec 32 := 256#32
  let v2596 : BitVec 32 := Scalar.muli arg16 c256_i32
  let v2597 : BitVec 32 := v2596
  let v2598 : Index := Scalar.indexCast v2597
  let c0_1305 : Index := 0#32
  ![0, v2598.toNat, 0]
def k0_off2 (k0_t1 : Fin k0_t1_loop.trips) : Fin 3 → Nat :=
  let c1_1306 : Index := 1#32
  let c0_i32 : BitVec 32 := 0#32
  let c1_i32 : BitVec 32 := 1#32
  let arg16 : BitVec 32 := Scf.iv c0_i32 c1_i32 k0_t1
  let c256_i32 : BitVec 32 := 256#32
  let v2596 : BitVec 32 := Scalar.muli arg16 c256_i32
  let v2597 : BitVec 32 := v2596
  let v2601 : Index := Scalar.indexCast v2597
  let c0_1307 : Index := 0#32
  ![1, v2601.toNat, 0]
def k0_off3 (k0_t1 : Fin k0_t1_loop.trips) : Fin 3 → Nat :=
  let c2_1308 : Index := 2#32
  let c0_i32 : BitVec 32 := 0#32
  let c1_i32 : BitVec 32 := 1#32
  let arg16 : BitVec 32 := Scf.iv c0_i32 c1_i32 k0_t1
  let c256_i32 : BitVec 32 := 256#32
  let v2596 : BitVec 32 := Scalar.muli arg16 c256_i32
  let v2597 : BitVec 32 := v2596
  let v2604 : Index := Scalar.indexCast v2597
  let c0_1309 : Index := 0#32
  ![2, v2604.toNat, 0]
def k0_off4 (k0_t1 : Fin k0_t1_loop.trips) : Fin 3 → Nat :=
  let c0_1322 : Index := 0#32
  let c0_i32 : BitVec 32 := 0#32
  let c1_i32 : BitVec 32 := 1#32
  let arg16 : BitVec 32 := Scf.iv c0_i32 c1_i32 k0_t1
  let c256_i32 : BitVec 32 := 256#32
  let v2596 : BitVec 32 := Scalar.muli arg16 c256_i32
  let v2597 : BitVec 32 := v2596
  let v2644 : Index := Scalar.indexCast v2597
  let c0_1323 : Index := 0#32
  ![0, v2644.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_7 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![arg0.toNat, c0_i32.toNat, v0.toNat]

def cc0_transform_8 (i : grid0.Coords) : Fin 3 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg1
  let c0_i32 : BitVec 32 := 0#32
  let c0_i32_0 : BitVec 32 := 0#32
  ![arg0.toNat, c0_i32.toNat, v0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S3x2x128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x2048x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S8x2048x1536 : Shape := ⟨3, ![8, 2048, 1536]⟩
abbrev S8x2048x3072 : Shape := ⟨3, ![8, 2048, 3072]⟩
abbrev S8x2048x3x2x8x64 : Shape := ⟨6, ![8, 2048, 3, 2, 8, 64]⟩
abbrev S24 : Shape := ⟨1, ![24]⟩
abbrev S_ : Shape := ⟨0, ![]⟩
abbrev S3x8 : Shape := ⟨2, ![3, 8]⟩
abbrev S8x2048x1x2x8x64 : Shape := ⟨6, ![8, 2048, 1, 2, 8, 64]⟩
abbrev S8x2048x2x8x64 : Shape := ⟨5, ![8, 2048, 2, 8, 64]⟩
abbrev S8x2048x1x8x64 : Shape := ⟨5, ![8, 2048, 1, 8, 64]⟩
abbrev S8x2048x8x64 : Shape := ⟨4, ![8, 2048, 8, 64]⟩
abbrev S8x2048x512 : Shape := ⟨3, ![8, 2048, 512]⟩
abbrev S1x8 : Shape := ⟨2, ![1, 8]⟩
abbrev S8 : Shape := ⟨1, ![8]⟩
abbrev S8x16x128x1x8x64 : Shape := ⟨6, ![8, 16, 128, 1, 8, 64]⟩
abbrev S8x1x16x128x8x64 : Shape := ⟨6, ![8, 1, 16, 128, 8, 64]⟩
abbrev S8x1x17x128x8x64 : Shape := ⟨6, ![8, 1, 17, 128, 8, 64]⟩
abbrev S8x1x16x256x8x64 : Shape := ⟨6, ![8, 1, 16, 256, 8, 64]⟩
abbrev S8x1x16x8x256x128 : Shape := ⟨6, ![8, 1, 16, 8, 256, 128]⟩
abbrev S8x1x16x128x8x256 : Shape := ⟨6, ![8, 1, 16, 128, 8, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16 : Shape := ⟨1, ![16]⟩
abbrev S16x1x1 : Shape := ⟨3, ![16, 1, 1]⟩
abbrev S1x1x256 : Shape := ⟨3, ![1, 1, 256]⟩
abbrev S16x1x256 : Shape := ⟨3, ![16, 1, 256]⟩
abbrev S1x128x256 : Shape := ⟨3, ![1, 128, 256]⟩
abbrev S16x128x256 : Shape := ⟨3, ![16, 128, 256]⟩
abbrev S1x8x1 : Shape := ⟨3, ![1, 8, 1]⟩
abbrev S128x1x256 : Shape := ⟨3, ![128, 1, 256]⟩
abbrev S128x8x256 : Shape := ⟨3, ![128, 8, 256]⟩
abbrev S16x128x1x256 : Shape := ⟨4, ![16, 128, 1, 256]⟩
abbrev S1x1x1x128x8x256 : Shape := ⟨6, ![1, 1, 1, 128, 8, 256]⟩
abbrev S8x1x16x128x8 : Shape := ⟨5, ![8, 1, 16, 128, 8]⟩
abbrev S8x1x16x128x8x1 : Shape := ⟨6, ![8, 1, 16, 128, 8, 1]⟩
abbrev S8x1x16x8x64x128 : Shape := ⟨6, ![8, 1, 16, 8, 64, 128]⟩
abbrev S8x1x2048x8x64 : Shape := ⟨5, ![8, 1, 2048, 8, 64]⟩
abbrev S8x1x2048x8 : Shape := ⟨4, ![8, 1, 2048, 8]⟩
abbrev S8x2048x1x8 : Shape := ⟨4, ![8, 2048, 1, 8]⟩
abbrev S8x2048x8 : Shape := ⟨3, ![8, 2048, 8]⟩
abbrev S8x4x128x4x8x64 : Shape := ⟨6, ![8, 4, 128, 4, 8, 64]⟩
abbrev S8x4x4x128x8x64 : Shape := ⟨6, ![8, 4, 4, 128, 8, 64]⟩
abbrev S8x4x5x128x8x64 : Shape := ⟨6, ![8, 4, 5, 128, 8, 64]⟩
abbrev S8x4x4x256x8x64 : Shape := ⟨6, ![8, 4, 4, 256, 8, 64]⟩
abbrev S8x4x4x8x256x128 : Shape := ⟨6, ![8, 4, 4, 8, 256, 128]⟩
abbrev S8x4x4x128x8x256 : Shape := ⟨6, ![8, 4, 4, 128, 8, 256]⟩
abbrev S4 : Shape := ⟨1, ![4]⟩
abbrev S4x1x1 : Shape := ⟨3, ![4, 1, 1]⟩
abbrev S4x1x256 : Shape := ⟨3, ![4, 1, 256]⟩
abbrev S4x128x256 : Shape := ⟨3, ![4, 128, 256]⟩
abbrev S4x128x1x256 : Shape := ⟨4, ![4, 128, 1, 256]⟩
abbrev S8x4x4x128x8 : Shape := ⟨5, ![8, 4, 4, 128, 8]⟩
abbrev S8x4x4x128x8x1 : Shape := ⟨6, ![8, 4, 4, 128, 8, 1]⟩
abbrev S8x4x4x8x64x128 : Shape := ⟨6, ![8, 4, 4, 8, 64, 128]⟩
abbrev S8x4x512x8x64 : Shape := ⟨5, ![8, 4, 512, 8, 64]⟩
abbrev S8x512x4x8x64 : Shape := ⟨5, ![8, 512, 4, 8, 64]⟩
abbrev S8x4x512x8 : Shape := ⟨4, ![8, 4, 512, 8]⟩
abbrev S8x512x4x8 : Shape := ⟨4, ![8, 512, 4, 8]⟩
abbrev S8x1x128x16x8x64 : Shape := ⟨6, ![8, 1, 128, 16, 8, 64]⟩
abbrev S8x16x1x128x8x64 : Shape := ⟨6, ![8, 16, 1, 128, 8, 64]⟩
abbrev S8x16x2x128x8x64 : Shape := ⟨6, ![8, 16, 2, 128, 8, 64]⟩
abbrev S8x16x1x256x8x64 : Shape := ⟨6, ![8, 16, 1, 256, 8, 64]⟩
abbrev S8x16x1x8x256x128 : Shape := ⟨6, ![8, 16, 1, 8, 256, 128]⟩
abbrev S8x16x1x128x8x256 : Shape := ⟨6, ![8, 16, 1, 128, 8, 256]⟩
abbrev S1 : Shape := ⟨1, ![1]⟩
abbrev S1x1x1 : Shape := ⟨3, ![1, 1, 1]⟩
abbrev S1x128x1x256 : Shape := ⟨4, ![1, 128, 1, 256]⟩
abbrev S8x16x1x128x8 : Shape := ⟨5, ![8, 16, 1, 128, 8]⟩
abbrev S8x16x1x128x8x1 : Shape := ⟨6, ![8, 16, 1, 128, 8, 1]⟩
abbrev S8x16x1x8x64x128 : Shape := ⟨6, ![8, 16, 1, 8, 64, 128]⟩
abbrev S8x16x128x8x64 : Shape := ⟨5, ![8, 16, 128, 8, 64]⟩
abbrev S8x128x16x8x64 : Shape := ⟨5, ![8, 128, 16, 8, 64]⟩
abbrev S8x16x128x8 : Shape := ⟨4, ![8, 16, 128, 8]⟩
abbrev S8x128x16x8 : Shape := ⟨4, ![8, 128, 16, 8]⟩
abbrev S1x8x2048x8 : Shape := ⟨4, ![1, 8, 2048, 8]⟩
abbrev S3x8x2048x8 : Shape := ⟨4, ![3, 8, 2048, 8]⟩
abbrev S1x8x2048x8x64 : Shape := ⟨5, ![1, 8, 2048, 8, 64]⟩
abbrev S3x8x2048x8x64 : Shape := ⟨5, ![3, 8, 2048, 8, 64]⟩
abbrev S3x8x2048x8x1 : Shape := ⟨5, ![3, 8, 2048, 8, 1]⟩
abbrev S8x2048x8x1 : Shape := ⟨4, ![8, 2048, 8, 1]⟩

abbrev nBuf : Space → Nat
  | .hbm => 367
  | .vmem => 0
  | .smem => 0
  | _ => 0

abbrev hbmTy0_0 (i : Nat) : BufTy := match i % 128 with
  | 0 => ⟨S8x2048x1536, .f32⟩
  | 1 => ⟨S8x2048x3072, .f32⟩
  | 2 => ⟨S8x2048x3x2x8x64, .f32⟩
  | 3 => ⟨S24, .f32⟩
  | 4 => ⟨S_, .f32⟩
  | 5 => ⟨S24, .f32⟩
  | 6 => ⟨S24, .f32⟩
  | 7 => ⟨S_, .f32⟩
  | 8 => ⟨S24, .f32⟩
  | 9 => ⟨S24, .f32⟩
  | 10 => ⟨S_, .f32⟩
  | 11 => ⟨S24, .f32⟩
  | 12 => ⟨S24, .f32⟩
  | 13 => ⟨S_, .f32⟩
  | 14 => ⟨S24, .f32⟩
  | 15 => ⟨S24, .f32⟩
  | 16 => ⟨S24, .f32⟩
  | 17 => ⟨S3x8, .f32⟩
  | 18 => ⟨S8x2048x1x2x8x64, .f32⟩
  | 19 => ⟨S8x2048x2x8x64, .f32⟩
  | 20 => ⟨S8x2048x1x8x64, .f32⟩
  | 21 => ⟨S8x2048x8x64, .f32⟩
  | 22 => ⟨S8x2048x1x2x8x64, .f32⟩
  | 23 => ⟨S8x2048x2x8x64, .f32⟩
  | 24 => ⟨S8x2048x1x8x64, .f32⟩
  | 25 => ⟨S8x2048x8x64, .f32⟩
  | 26 => ⟨S8x2048x512, .f32⟩
  | 27 => ⟨S8x2048x8x64, .f32⟩
  | 28 => ⟨S1x8, .f32⟩
  | 29 => ⟨S8, .f32⟩
  | 30 => ⟨S8x16x128x1x8x64, .f32⟩
  | 31 => ⟨S8x1x16x128x8x64, .f32⟩
  | 32 => ⟨S8x16x128x1x8x64, .f32⟩
  | 33 => ⟨S8x1x16x128x8x64, .f32⟩
  | 34 => ⟨S8x16x128x1x8x64, .f32⟩
  | 35 => ⟨S8x1x16x128x8x64, .f32⟩
  | 36 => ⟨S_, .i32⟩
  | 37 => ⟨S_, .f32⟩
  | 38 => ⟨S8x1x17x128x8x64, .f32⟩
  | 39 => ⟨S8x1x16x128x8x64, .f32⟩
  | 40 => ⟨S8x1x16x256x8x64, .f32⟩
  | 41 => ⟨S_, .i32⟩
  | 42 => ⟨S_, .f32⟩
  | 43 => ⟨S8x1x17x128x8x64, .f32⟩
  | 44 => ⟨S8x1x16x128x8x64, .f32⟩
  | 45 => ⟨S8x1x16x256x8x64, .f32⟩
  | 46 => ⟨S8x1x16x8x256x128, .f32⟩
  | 47 => ⟨S8x1x16x128x8x256, .f32⟩
  | 48 => ⟨S_, .f32⟩
  | 49 => ⟨S8x1x16x128x8x256, .f32⟩
  | 50 => ⟨S8x1x16x128x8x256, .f32⟩
  | 51 => ⟨S128, .i32⟩
  | 52 => ⟨S128x1, .i32⟩
  | 53 => ⟨S256, .i32⟩
  | 54 => ⟨S1x256, .i32⟩
  | 55 => ⟨S_, .i32⟩
  | 56 => ⟨S128x1, .i32⟩
  | 57 => ⟨S128x1, .i32⟩
  | 58 => ⟨S128x256, .i32⟩
  | 59 => ⟨S128x256, .i32⟩
  | 60 => ⟨S128x256, .i32⟩
  | 61 => ⟨S16, .i32⟩
  | 62 => ⟨S16x1x1, .i32⟩
  | 63 => ⟨S_, .i32⟩
  | 64 => ⟨S16x1x1, .i32⟩
  | 65 => ⟨S16x1x1, .i32⟩
  | 66 => ⟨S_, .i32⟩
  | 67 => ⟨S16x1x1, .i32⟩
  | 68 => ⟨S16x1x1, .i32⟩
  | 69 => ⟨S1x1x256, .i32⟩
  | 70 => ⟨S16x1x256, .i32⟩
  | 71 => ⟨S16x1x256, .i32⟩
  | 72 => ⟨S16x1x256, .i32⟩
  | 73 => ⟨S_, .i32⟩
  | 74 => ⟨S128x256, .i32⟩
  | 75 => ⟨S128x256, .i1⟩
  | 76 => ⟨S_, .i32⟩
  | 77 => ⟨S128x256, .i32⟩
  | 78 => ⟨S128x256, .i1⟩
  | 79 => ⟨S128x256, .i1⟩
  | 80 => ⟨S_, .i32⟩
  | 81 => ⟨S16x1x256, .i32⟩
  | 82 => ⟨S16x1x256, .i1⟩
  | 83 => ⟨S1x128x256, .i1⟩
  | 84 => ⟨S16x128x256, .i1⟩
  | 85 => ⟨S16x128x256, .i1⟩
  | 86 => ⟨S16x128x256, .i1⟩
  | 87 => ⟨S1x8x1, .f32⟩
  | 88 => ⟨S1x8x1, .f32⟩
  | 89 => ⟨S_, .i32⟩
  | 90 => ⟨S128x256, .i32⟩
  | 91 => ⟨S128x256, .i32⟩
  | 92 => ⟨S128x256, .f32⟩
  | 93 => ⟨S128x1x256, .f32⟩
  | 94 => ⟨S128x8x256, .f32⟩
  | 95 => ⟨S128x8x256, .f32⟩
  | 96 => ⟨S128x8x256, .f32⟩
  | 97 => ⟨S16x128x1x256, .i1⟩
  | 98 => ⟨S1x1x1x128x8x256, .f32⟩
  | 99 => ⟨S8x1x16x128x8x256, .f32⟩
  | 100 => ⟨S8x1x16x128x8x256, .f32⟩
  | 101 => ⟨S_, .f32⟩
  | 102 => ⟨S_, .f32⟩
  | 103 => ⟨S8x1x16x128x8x256, .i1⟩
  | 104 => ⟨S8x1x16x128x8x256, .f32⟩
  | 105 => ⟨S8x1x16x128x8x256, .f32⟩
  | 106 => ⟨S_, .f32⟩
  | 107 => ⟨S8x1x16x128x8, .f32⟩
  | 108 => ⟨S8x1x16x128x8x1, .f32⟩
  | 109 => ⟨S8x1x16x128x8x256, .f32⟩
  | 110 => ⟨S8x1x16x128x8x256, .f32⟩
  | 111 => ⟨S8x1x16x128x8x256, .f32⟩
  | 112 => ⟨S_, .f32⟩
  | 113 => ⟨S8x1x16x128x8, .f32⟩
  | 114 => ⟨S8x1x16x8x64x128, .f32⟩
  | 115 => ⟨S8x1x16x128x8x64, .f32⟩
  | 116 => ⟨S8x1x2048x8x64, .f32⟩
  | 117 => ⟨S8x2048x1x8x64, .f32⟩
  | 118 => ⟨S8x2048x8x64, .f32⟩
  | 119 => ⟨S8x1x2048x8, .f32⟩
  | 120 => ⟨S8x2048x1x8, .f32⟩
  | 121 => ⟨S8x2048x8, .f32⟩
  | 122 => ⟨S8x1x2048x8, .f32⟩
  | 123 => ⟨S8x2048x1x8, .f32⟩
  | 124 => ⟨S8x2048x8, .f32⟩
  | 125 => ⟨S8x2048x1x2x8x64, .f32⟩
  | 126 => ⟨S8x2048x2x8x64, .f32⟩
  | 127 => ⟨S8x2048x1x8x64, .f32⟩
  | _ => ⟨S8x2048x1536, .f32⟩

abbrev hbmTy0_1 (i : Nat) : BufTy := match i % 128 with
  | 0 => ⟨S8x2048x8x64, .f32⟩
  | 1 => ⟨S8x2048x1x2x8x64, .f32⟩
  | 2 => ⟨S8x2048x2x8x64, .f32⟩
  | 3 => ⟨S8x2048x1x8x64, .f32⟩
  | 4 => ⟨S8x2048x8x64, .f32⟩
  | 5 => ⟨S8x2048x512, .f32⟩
  | 6 => ⟨S8x2048x8x64, .f32⟩
  | 7 => ⟨S1x8, .f32⟩
  | 8 => ⟨S8, .f32⟩
  | 9 => ⟨S8x4x128x4x8x64, .f32⟩
  | 10 => ⟨S8x4x4x128x8x64, .f32⟩
  | 11 => ⟨S8x4x128x4x8x64, .f32⟩
  | 12 => ⟨S8x4x4x128x8x64, .f32⟩
  | 13 => ⟨S8x4x128x4x8x64, .f32⟩
  | 14 => ⟨S8x4x4x128x8x64, .f32⟩
  | 15 => ⟨S_, .i32⟩
  | 16 => ⟨S_, .f32⟩
  | 17 => ⟨S8x4x5x128x8x64, .f32⟩
  | 18 => ⟨S8x4x4x128x8x64, .f32⟩
  | 19 => ⟨S8x4x4x256x8x64, .f32⟩
  | 20 => ⟨S_, .i32⟩
  | 21 => ⟨S_, .f32⟩
  | 22 => ⟨S8x4x5x128x8x64, .f32⟩
  | 23 => ⟨S8x4x4x128x8x64, .f32⟩
  | 24 => ⟨S8x4x4x256x8x64, .f32⟩
  | 25 => ⟨S8x4x4x8x256x128, .f32⟩
  | 26 => ⟨S8x4x4x128x8x256, .f32⟩
  | 27 => ⟨S_, .f32⟩
  | 28 => ⟨S8x4x4x128x8x256, .f32⟩
  | 29 => ⟨S8x4x4x128x8x256, .f32⟩
  | 30 => ⟨S128, .i32⟩
  | 31 => ⟨S128x1, .i32⟩
  | 32 => ⟨S256, .i32⟩
  | 33 => ⟨S1x256, .i32⟩
  | 34 => ⟨S_, .i32⟩
  | 35 => ⟨S128x1, .i32⟩
  | 36 => ⟨S128x1, .i32⟩
  | 37 => ⟨S128x256, .i32⟩
  | 38 => ⟨S128x256, .i32⟩
  | 39 => ⟨S128x256, .i32⟩
  | 40 => ⟨S4, .i32⟩
  | 41 => ⟨S4x1x1, .i32⟩
  | 42 => ⟨S_, .i32⟩
  | 43 => ⟨S4x1x1, .i32⟩
  | 44 => ⟨S4x1x1, .i32⟩
  | 45 => ⟨S_, .i32⟩
  | 46 => ⟨S4x1x1, .i32⟩
  | 47 => ⟨S4x1x1, .i32⟩
  | 48 => ⟨S1x1x256, .i32⟩
  | 49 => ⟨S4x1x256, .i32⟩
  | 50 => ⟨S4x1x256, .i32⟩
  | 51 => ⟨S4x1x256, .i32⟩
  | 52 => ⟨S_, .i32⟩
  | 53 => ⟨S128x256, .i32⟩
  | 54 => ⟨S128x256, .i1⟩
  | 55 => ⟨S_, .i32⟩
  | 56 => ⟨S128x256, .i32⟩
  | 57 => ⟨S128x256, .i1⟩
  | 58 => ⟨S128x256, .i1⟩
  | 59 => ⟨S_, .i32⟩
  | 60 => ⟨S4x1x256, .i32⟩
  | 61 => ⟨S4x1x256, .i1⟩
  | 62 => ⟨S1x128x256, .i1⟩
  | 63 => ⟨S4x128x256, .i1⟩
  | 64 => ⟨S4x128x256, .i1⟩
  | 65 => ⟨S4x128x256, .i1⟩
  | 66 => ⟨S1x8x1, .f32⟩
  | 67 => ⟨S1x8x1, .f32⟩
  | 68 => ⟨S_, .i32⟩
  | 69 => ⟨S128x256, .i32⟩
  | 70 => ⟨S128x256, .i32⟩
  | 71 => ⟨S128x256, .f32⟩
  | 72 => ⟨S128x1x256, .f32⟩
  | 73 => ⟨S128x8x256, .f32⟩
  | 74 => ⟨S128x8x256, .f32⟩
  | 75 => ⟨S128x8x256, .f32⟩
  | 76 => ⟨S4x128x1x256, .i1⟩
  | 77 => ⟨S1x1x1x128x8x256, .f32⟩
  | 78 => ⟨S8x4x4x128x8x256, .f32⟩
  | 79 => ⟨S8x4x4x128x8x256, .f32⟩
  | 80 => ⟨S_, .f32⟩
  | 81 => ⟨S_, .f32⟩
  | 82 => ⟨S8x4x4x128x8x256, .i1⟩
  | 83 => ⟨S8x4x4x128x8x256, .f32⟩
  | 84 => ⟨S8x4x4x128x8x256, .f32⟩
  | 85 => ⟨S_, .f32⟩
  | 86 => ⟨S8x4x4x128x8, .f32⟩
  | 87 => ⟨S8x4x4x128x8x1, .f32⟩
  | 88 => ⟨S8x4x4x128x8x256, .f32⟩
  | 89 => ⟨S8x4x4x128x8x256, .f32⟩
  | 90 => ⟨S8x4x4x128x8x256, .f32⟩
  | 91 => ⟨S_, .f32⟩
  | 92 => ⟨S8x4x4x128x8, .f32⟩
  | 93 => ⟨S8x4x4x8x64x128, .f32⟩
  | 94 => ⟨S8x4x4x128x8x64, .f32⟩
  | 95 => ⟨S8x4x512x8x64, .f32⟩
  | 96 => ⟨S8x512x4x8x64, .f32⟩
  | 97 => ⟨S8x2048x8x64, .f32⟩
  | 98 => ⟨S8x4x512x8, .f32⟩
  | 99 => ⟨S8x512x4x8, .f32⟩
  | 100 => ⟨S8x2048x8, .f32⟩
  | 101 => ⟨S8x4x512x8, .f32⟩
  | 102 => ⟨S8x512x4x8, .f32⟩
  | 103 => ⟨S8x2048x8, .f32⟩
  | 104 => ⟨S8x2048x1x2x8x64, .f32⟩
  | 105 => ⟨S8x2048x2x8x64, .f32⟩
  | 106 => ⟨S8x2048x1x8x64, .f32⟩
  | 107 => ⟨S8x2048x8x64, .f32⟩
  | 108 => ⟨S8x2048x1x2x8x64, .f32⟩
  | 109 => ⟨S8x2048x2x8x64, .f32⟩
  | 110 => ⟨S8x2048x1x8x64, .f32⟩
  | 111 => ⟨S8x2048x8x64, .f32⟩
  | 112 => ⟨S8x2048x512, .f32⟩
  | 113 => ⟨S8x2048x8x64, .f32⟩
  | 114 => ⟨S1x8, .f32⟩
  | 115 => ⟨S8, .f32⟩
  | 116 => ⟨S8x1x128x16x8x64, .f32⟩
  | 117 => ⟨S8x16x1x128x8x64, .f32⟩
  | 118 => ⟨S8x1x128x16x8x64, .f32⟩
  | 119 => ⟨S8x16x1x128x8x64, .f32⟩
  | 120 => ⟨S8x1x128x16x8x64, .f32⟩
  | 121 => ⟨S8x16x1x128x8x64, .f32⟩
  | 122 => ⟨S_, .i32⟩
  | 123 => ⟨S_, .f32⟩
  | 124 => ⟨S8x16x2x128x8x64, .f32⟩
  | 125 => ⟨S8x16x1x128x8x64, .f32⟩
  | 126 => ⟨S8x16x1x256x8x64, .f32⟩
  | 127 => ⟨S_, .i32⟩
  | _ => ⟨S8x2048x1536, .f32⟩

abbrev hbmTy0_2 (i : Nat) : BufTy := match i % 128 with
  | 0 => ⟨S_, .f32⟩
  | 1 => ⟨S8x16x2x128x8x64, .f32⟩
  | 2 => ⟨S8x16x1x128x8x64, .f32⟩
  | 3 => ⟨S8x16x1x256x8x64, .f32⟩
  | 4 => ⟨S8x16x1x8x256x128, .f32⟩
  | 5 => ⟨S8x16x1x128x8x256, .f32⟩
  | 6 => ⟨S_, .f32⟩
  | 7 => ⟨S8x16x1x128x8x256, .f32⟩
  | 8 => ⟨S8x16x1x128x8x256, .f32⟩
  | 9 => ⟨S128, .i32⟩
  | 10 => ⟨S128x1, .i32⟩
  | 11 => ⟨S256, .i32⟩
  | 12 => ⟨S1x256, .i32⟩
  | 13 => ⟨S_, .i32⟩
  | 14 => ⟨S128x1, .i32⟩
  | 15 => ⟨S128x1, .i32⟩
  | 16 => ⟨S128x256, .i32⟩
  | 17 => ⟨S128x256, .i32⟩
  | 18 => ⟨S128x256, .i32⟩
  | 19 => ⟨S1, .i32⟩
  | 20 => ⟨S1x1x1, .i32⟩
  | 21 => ⟨S_, .i32⟩
  | 22 => ⟨S1x1x1, .i32⟩
  | 23 => ⟨S1x1x1, .i32⟩
  | 24 => ⟨S_, .i32⟩
  | 25 => ⟨S1x1x1, .i32⟩
  | 26 => ⟨S1x1x1, .i32⟩
  | 27 => ⟨S1x1x256, .i32⟩
  | 28 => ⟨S1x1x256, .i32⟩
  | 29 => ⟨S1x1x256, .i32⟩
  | 30 => ⟨S_, .i32⟩
  | 31 => ⟨S128x256, .i32⟩
  | 32 => ⟨S128x256, .i1⟩
  | 33 => ⟨S_, .i32⟩
  | 34 => ⟨S128x256, .i32⟩
  | 35 => ⟨S128x256, .i1⟩
  | 36 => ⟨S128x256, .i1⟩
  | 37 => ⟨S_, .i32⟩
  | 38 => ⟨S1x1x256, .i32⟩
  | 39 => ⟨S1x1x256, .i1⟩
  | 40 => ⟨S1x128x256, .i1⟩
  | 41 => ⟨S1x128x256, .i1⟩
  | 42 => ⟨S1x128x256, .i1⟩
  | 43 => ⟨S1x8x1, .f32⟩
  | 44 => ⟨S1x8x1, .f32⟩
  | 45 => ⟨S_, .i32⟩
  | 46 => ⟨S128x256, .i32⟩
  | 47 => ⟨S128x256, .i32⟩
  | 48 => ⟨S128x256, .f32⟩
  | 49 => ⟨S128x1x256, .f32⟩
  | 50 => ⟨S128x8x256, .f32⟩
  | 51 => ⟨S128x8x256, .f32⟩
  | 52 => ⟨S128x8x256, .f32⟩
  | 53 => ⟨S1x128x1x256, .i1⟩
  | 54 => ⟨S1x1x1x128x8x256, .f32⟩
  | 55 => ⟨S8x16x1x128x8x256, .f32⟩
  | 56 => ⟨S8x16x1x128x8x256, .f32⟩
  | 57 => ⟨S_, .f32⟩
  | 58 => ⟨S_, .f32⟩
  | 59 => ⟨S8x16x1x128x8x256, .i1⟩
  | 60 => ⟨S8x16x1x128x8x256, .f32⟩
  | 61 => ⟨S8x16x1x128x8x256, .f32⟩
  | 62 => ⟨S_, .f32⟩
  | 63 => ⟨S8x16x1x128x8, .f32⟩
  | 64 => ⟨S8x16x1x128x8x1, .f32⟩
  | 65 => ⟨S8x16x1x128x8x256, .f32⟩
  | 66 => ⟨S8x16x1x128x8x256, .f32⟩
  | 67 => ⟨S8x16x1x128x8x256, .f32⟩
  | 68 => ⟨S_, .f32⟩
  | 69 => ⟨S8x16x1x128x8, .f32⟩
  | 70 => ⟨S8x16x1x8x64x128, .f32⟩
  | 71 => ⟨S8x16x1x128x8x64, .f32⟩
  | 72 => ⟨S8x16x128x8x64, .f32⟩
  | 73 => ⟨S8x128x16x8x64, .f32⟩
  | 74 => ⟨S8x2048x8x64, .f32⟩
  | 75 => ⟨S8x16x128x8, .f32⟩
  | 76 => ⟨S8x128x16x8, .f32⟩
  | 77 => ⟨S8x2048x8, .f32⟩
  | 78 => ⟨S8x16x128x8, .f32⟩
  | 79 => ⟨S8x128x16x8, .f32⟩
  | 80 => ⟨S8x2048x8, .f32⟩
  | 81 => ⟨S1x8x2048x8, .f32⟩
  | 82 => ⟨S1x8x2048x8, .f32⟩
  | 83 => ⟨S1x8x2048x8, .f32⟩
  | 84 => ⟨S3x8x2048x8, .f32⟩
  | 85 => ⟨S1x8x2048x8, .f32⟩
  | 86 => ⟨S1x8x2048x8, .f32⟩
  | 87 => ⟨S1x8x2048x8, .f32⟩
  | 88 => ⟨S3x8x2048x8, .f32⟩
  | 89 => ⟨S1x8x2048x8x64, .f32⟩
  | 90 => ⟨S1x8x2048x8x64, .f32⟩
  | 91 => ⟨S1x8x2048x8x64, .f32⟩
  | 92 => ⟨S3x8x2048x8x64, .f32⟩
  | 93 => ⟨S_, .f32⟩
  | 94 => ⟨S8x2048x8, .f32⟩
  | 95 => ⟨S1x8x2048x8, .f32⟩
  | 96 => ⟨S3x8x2048x8, .f32⟩
  | 97 => ⟨S3x8x2048x8, .f32⟩
  | 98 => ⟨S3x8x2048x8, .f32⟩
  | 99 => ⟨S3x8x2048x8, .f32⟩
  | 100 => ⟨S_, .f32⟩
  | 101 => ⟨S8x2048x8, .f32⟩
  | 102 => ⟨S3x8x2048x8x1, .f32⟩
  | 103 => ⟨S3x8x2048x8x64, .f32⟩
  | 104 => ⟨S3x8x2048x8x64, .f32⟩
  | 105 => ⟨S_, .f32⟩
  | 106 => ⟨S8x2048x8x64, .f32⟩
  | 107 => ⟨S8x2048x8x1, .f32⟩
  | 108 => ⟨S8x2048x8x64, .f32⟩
  | 109 => ⟨S8x2048x8x64, .f32⟩
  | 110 => ⟨S8x2048x512, .f32⟩
  | _ => ⟨S8x2048x1536, .f32⟩

abbrev hbmTy (i : Nat) : BufTy := match i / 128 with
  | 0 => hbmTy0_0 i
  | 1 => hbmTy0_1 i
  | 2 => hbmTy0_2 i
  | _ => ⟨S8x2048x1536, .f32⟩

abbrev bufTy : (tb : Table) → Fin (tcTables nBuf tb) → BufTy
  | .hbm, ⟨i, _⟩ => hbmTy i
  | _, _ => ⟨S8x2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_c : Ref sig .tc := ⟨.hbm, 36, rfl⟩
abbrev main_call0_v0 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_c_3 : Ref sig .tc := ⟨.hbm, 41, rfl⟩
abbrev main_call1_v0 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_4 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_c_5 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_c_6 : Ref sig .tc := ⟨.hbm, 63, rfl⟩
abbrev main_v51 : Ref sig .tc := ⟨.hbm, 64, rfl⟩
abbrev main_v52 : Ref sig .tc := ⟨.hbm, 65, rfl⟩
abbrev main_c_7 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_c_8 : Ref sig .tc := ⟨.hbm, 73, rfl⟩
abbrev main_v59 : Ref sig .tc := ⟨.hbm, 74, rfl⟩
abbrev main_v60 : Ref sig .tc := ⟨.hbm, 75, rfl⟩
abbrev main_c_9 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_c_10 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_c_11 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_cst_12 : Ref sig .tc := ⟨.hbm, 101, rfl⟩
abbrev main_call2_v0 : Ref sig .tc := ⟨.hbm, 102, rfl⟩
abbrev main_call2_v1 : Ref sig .tc := ⟨.hbm, 103, rfl⟩
abbrev main_call2_v2 : Ref sig .tc := ⟨.hbm, 104, rfl⟩
abbrev main_v83 : Ref sig .tc := ⟨.hbm, 105, rfl⟩
abbrev main_cst_13 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_cst_14 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_c_15 : Ref sig .tc := ⟨.hbm, 143, rfl⟩
abbrev main_call3_v0 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_c_16 : Ref sig .tc := ⟨.hbm, 148, rfl⟩
abbrev main_call4_v0 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_cst_17 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_c_18 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_c_19 : Ref sig .tc := ⟨.hbm, 170, rfl⟩
abbrev main_v140 : Ref sig .tc := ⟨.hbm, 171, rfl⟩
abbrev main_v141 : Ref sig .tc := ⟨.hbm, 172, rfl⟩
abbrev main_c_20 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_c_21 : Ref sig .tc := ⟨.hbm, 180, rfl⟩
abbrev main_v148 : Ref sig .tc := ⟨.hbm, 181, rfl⟩
abbrev main_v149 : Ref sig .tc := ⟨.hbm, 182, rfl⟩
abbrev main_c_22 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_c_23 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩
abbrev main_v158 : Ref sig .tc := ⟨.hbm, 193, rfl⟩
abbrev main_v159 : Ref sig .tc := ⟨.hbm, 194, rfl⟩
abbrev main_v160 : Ref sig .tc := ⟨.hbm, 195, rfl⟩
abbrev main_c_24 : Ref sig .tc := ⟨.hbm, 196, rfl⟩
abbrev main_v161 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_v165 : Ref sig .tc := ⟨.hbm, 201, rfl⟩
abbrev main_v166 : Ref sig .tc := ⟨.hbm, 202, rfl⟩
abbrev main_v167 : Ref sig .tc := ⟨.hbm, 203, rfl⟩
abbrev main_v168 : Ref sig .tc := ⟨.hbm, 204, rfl⟩
abbrev main_v169 : Ref sig .tc := ⟨.hbm, 205, rfl⟩
abbrev main_v170 : Ref sig .tc := ⟨.hbm, 206, rfl⟩
abbrev main_v171 : Ref sig .tc := ⟨.hbm, 207, rfl⟩
abbrev main_cst_25 : Ref sig .tc := ⟨.hbm, 208, rfl⟩
abbrev main_call5_v0 : Ref sig .tc := ⟨.hbm, 209, rfl⟩
abbrev main_call5_v1 : Ref sig .tc := ⟨.hbm, 210, rfl⟩
abbrev main_call5_v2 : Ref sig .tc := ⟨.hbm, 211, rfl⟩
abbrev main_v172 : Ref sig .tc := ⟨.hbm, 212, rfl⟩
abbrev main_cst_26 : Ref sig .tc := ⟨.hbm, 213, rfl⟩
abbrev main_v173 : Ref sig .tc := ⟨.hbm, 214, rfl⟩
abbrev main_v174 : Ref sig .tc := ⟨.hbm, 215, rfl⟩
abbrev main_v175 : Ref sig .tc := ⟨.hbm, 216, rfl⟩
abbrev main_v176 : Ref sig .tc := ⟨.hbm, 217, rfl⟩
abbrev main_v177 : Ref sig .tc := ⟨.hbm, 218, rfl⟩
abbrev main_cst_27 : Ref sig .tc := ⟨.hbm, 219, rfl⟩
abbrev main_v178 : Ref sig .tc := ⟨.hbm, 220, rfl⟩
abbrev main_v179 : Ref sig .tc := ⟨.hbm, 221, rfl⟩
abbrev main_v180 : Ref sig .tc := ⟨.hbm, 222, rfl⟩
abbrev main_v181 : Ref sig .tc := ⟨.hbm, 223, rfl⟩
abbrev main_v182 : Ref sig .tc := ⟨.hbm, 224, rfl⟩
abbrev main_v183 : Ref sig .tc := ⟨.hbm, 225, rfl⟩
abbrev main_v184 : Ref sig .tc := ⟨.hbm, 226, rfl⟩
abbrev main_v185 : Ref sig .tc := ⟨.hbm, 227, rfl⟩
abbrev main_v186 : Ref sig .tc := ⟨.hbm, 228, rfl⟩
abbrev main_v187 : Ref sig .tc := ⟨.hbm, 229, rfl⟩
abbrev main_v188 : Ref sig .tc := ⟨.hbm, 230, rfl⟩
abbrev main_v189 : Ref sig .tc := ⟨.hbm, 231, rfl⟩
abbrev main_v190 : Ref sig .tc := ⟨.hbm, 232, rfl⟩
abbrev main_v191 : Ref sig .tc := ⟨.hbm, 233, rfl⟩
abbrev main_v192 : Ref sig .tc := ⟨.hbm, 234, rfl⟩
abbrev main_v193 : Ref sig .tc := ⟨.hbm, 235, rfl⟩
abbrev main_v194 : Ref sig .tc := ⟨.hbm, 236, rfl⟩
abbrev main_v195 : Ref sig .tc := ⟨.hbm, 237, rfl⟩
abbrev main_v196 : Ref sig .tc := ⟨.hbm, 238, rfl⟩
abbrev main_v197 : Ref sig .tc := ⟨.hbm, 239, rfl⟩
abbrev main_v198 : Ref sig .tc := ⟨.hbm, 240, rfl⟩
abbrev main_v199 : Ref sig .tc := ⟨.hbm, 241, rfl⟩
abbrev main_v200 : Ref sig .tc := ⟨.hbm, 242, rfl⟩
abbrev main_v201 : Ref sig .tc := ⟨.hbm, 243, rfl⟩
abbrev main_v202 : Ref sig .tc := ⟨.hbm, 244, rfl⟩
abbrev main_v203 : Ref sig .tc := ⟨.hbm, 245, rfl⟩
abbrev main_v204 : Ref sig .tc := ⟨.hbm, 246, rfl⟩
abbrev main_v205 : Ref sig .tc := ⟨.hbm, 247, rfl⟩
abbrev main_v206 : Ref sig .tc := ⟨.hbm, 248, rfl⟩
abbrev main_v207 : Ref sig .tc := ⟨.hbm, 249, rfl⟩
abbrev main_c_28 : Ref sig .tc := ⟨.hbm, 250, rfl⟩
abbrev main_call6_v0 : Ref sig .tc := ⟨.hbm, 251, rfl⟩
abbrev main_v208 : Ref sig .tc := ⟨.hbm, 252, rfl⟩
abbrev main_v209 : Ref sig .tc := ⟨.hbm, 253, rfl⟩
abbrev main_v210 : Ref sig .tc := ⟨.hbm, 254, rfl⟩
abbrev main_c_29 : Ref sig .tc := ⟨.hbm, 255, rfl⟩
abbrev main_call7_v0 : Ref sig .tc := ⟨.hbm, 256, rfl⟩
abbrev main_v211 : Ref sig .tc := ⟨.hbm, 257, rfl⟩
abbrev main_v212 : Ref sig .tc := ⟨.hbm, 258, rfl⟩
abbrev main_v213 : Ref sig .tc := ⟨.hbm, 259, rfl⟩
abbrev main_v214 : Ref sig .tc := ⟨.hbm, 260, rfl⟩
abbrev main_v215 : Ref sig .tc := ⟨.hbm, 261, rfl⟩
abbrev main_cst_30 : Ref sig .tc := ⟨.hbm, 262, rfl⟩
abbrev main_v216 : Ref sig .tc := ⟨.hbm, 263, rfl⟩
abbrev main_v217 : Ref sig .tc := ⟨.hbm, 264, rfl⟩
abbrev main_v218 : Ref sig .tc := ⟨.hbm, 265, rfl⟩
abbrev main_v219 : Ref sig .tc := ⟨.hbm, 266, rfl⟩
abbrev main_v220 : Ref sig .tc := ⟨.hbm, 267, rfl⟩
abbrev main_v221 : Ref sig .tc := ⟨.hbm, 268, rfl⟩
abbrev main_c_31 : Ref sig .tc := ⟨.hbm, 269, rfl⟩
abbrev main_v222 : Ref sig .tc := ⟨.hbm, 270, rfl⟩
abbrev main_v223 : Ref sig .tc := ⟨.hbm, 271, rfl⟩
abbrev main_v224 : Ref sig .tc := ⟨.hbm, 272, rfl⟩
abbrev main_v225 : Ref sig .tc := ⟨.hbm, 273, rfl⟩
abbrev main_v226 : Ref sig .tc := ⟨.hbm, 274, rfl⟩
abbrev main_v227 : Ref sig .tc := ⟨.hbm, 275, rfl⟩
abbrev main_v228 : Ref sig .tc := ⟨.hbm, 276, rfl⟩
abbrev main_c_32 : Ref sig .tc := ⟨.hbm, 277, rfl⟩
abbrev main_v229 : Ref sig .tc := ⟨.hbm, 278, rfl⟩
abbrev main_v230 : Ref sig .tc := ⟨.hbm, 279, rfl⟩
abbrev main_c_33 : Ref sig .tc := ⟨.hbm, 280, rfl⟩
abbrev main_v231 : Ref sig .tc := ⟨.hbm, 281, rfl⟩
abbrev main_v232 : Ref sig .tc := ⟨.hbm, 282, rfl⟩
abbrev main_v233 : Ref sig .tc := ⟨.hbm, 283, rfl⟩
abbrev main_v234 : Ref sig .tc := ⟨.hbm, 284, rfl⟩
abbrev main_v235 : Ref sig .tc := ⟨.hbm, 285, rfl⟩
abbrev main_c_34 : Ref sig .tc := ⟨.hbm, 286, rfl⟩
abbrev main_v236 : Ref sig .tc := ⟨.hbm, 287, rfl⟩
abbrev main_v237 : Ref sig .tc := ⟨.hbm, 288, rfl⟩
abbrev main_c_35 : Ref sig .tc := ⟨.hbm, 289, rfl⟩
abbrev main_v238 : Ref sig .tc := ⟨.hbm, 290, rfl⟩
abbrev main_v239 : Ref sig .tc := ⟨.hbm, 291, rfl⟩
abbrev main_v240 : Ref sig .tc := ⟨.hbm, 292, rfl⟩
abbrev main_c_36 : Ref sig .tc := ⟨.hbm, 293, rfl⟩
abbrev main_v241 : Ref sig .tc := ⟨.hbm, 294, rfl⟩
abbrev main_v242 : Ref sig .tc := ⟨.hbm, 295, rfl⟩
abbrev main_v243 : Ref sig .tc := ⟨.hbm, 296, rfl⟩
abbrev main_v244 : Ref sig .tc := ⟨.hbm, 297, rfl⟩
abbrev main_v245 : Ref sig .tc := ⟨.hbm, 298, rfl⟩
abbrev main_v246 : Ref sig .tc := ⟨.hbm, 299, rfl⟩
abbrev main_v247 : Ref sig .tc := ⟨.hbm, 300, rfl⟩
abbrev main_c_37 : Ref sig .tc := ⟨.hbm, 301, rfl⟩
abbrev main_v248 : Ref sig .tc := ⟨.hbm, 302, rfl⟩
abbrev main_v249 : Ref sig .tc := ⟨.hbm, 303, rfl⟩
abbrev main_v250 : Ref sig .tc := ⟨.hbm, 304, rfl⟩
abbrev main_v251 : Ref sig .tc := ⟨.hbm, 305, rfl⟩
abbrev main_v252 : Ref sig .tc := ⟨.hbm, 306, rfl⟩
abbrev main_v253 : Ref sig .tc := ⟨.hbm, 307, rfl⟩
abbrev main_v254 : Ref sig .tc := ⟨.hbm, 308, rfl⟩
abbrev main_v255 : Ref sig .tc := ⟨.hbm, 309, rfl⟩
abbrev main_v256 : Ref sig .tc := ⟨.hbm, 310, rfl⟩
abbrev main_v257 : Ref sig .tc := ⟨.hbm, 311, rfl⟩
abbrev main_v258 : Ref sig .tc := ⟨.hbm, 312, rfl⟩
abbrev main_cst_38 : Ref sig .tc := ⟨.hbm, 313, rfl⟩
abbrev main_call8_v0 : Ref sig .tc := ⟨.hbm, 314, rfl⟩
abbrev main_call8_v1 : Ref sig .tc := ⟨.hbm, 315, rfl⟩
abbrev main_call8_v2 : Ref sig .tc := ⟨.hbm, 316, rfl⟩
abbrev main_v259 : Ref sig .tc := ⟨.hbm, 317, rfl⟩
abbrev main_cst_39 : Ref sig .tc := ⟨.hbm, 318, rfl⟩
abbrev main_v260 : Ref sig .tc := ⟨.hbm, 319, rfl⟩
abbrev main_v261 : Ref sig .tc := ⟨.hbm, 320, rfl⟩
abbrev main_v262 : Ref sig .tc := ⟨.hbm, 321, rfl⟩
abbrev main_v263 : Ref sig .tc := ⟨.hbm, 322, rfl⟩
abbrev main_v264 : Ref sig .tc := ⟨.hbm, 323, rfl⟩
abbrev main_cst_40 : Ref sig .tc := ⟨.hbm, 324, rfl⟩
abbrev main_v265 : Ref sig .tc := ⟨.hbm, 325, rfl⟩
abbrev main_v266 : Ref sig .tc := ⟨.hbm, 326, rfl⟩
abbrev main_v267 : Ref sig .tc := ⟨.hbm, 327, rfl⟩
abbrev main_v268 : Ref sig .tc := ⟨.hbm, 328, rfl⟩
abbrev main_v269 : Ref sig .tc := ⟨.hbm, 329, rfl⟩
abbrev main_v270 : Ref sig .tc := ⟨.hbm, 330, rfl⟩
abbrev main_v271 : Ref sig .tc := ⟨.hbm, 331, rfl⟩
abbrev main_v272 : Ref sig .tc := ⟨.hbm, 332, rfl⟩
abbrev main_v273 : Ref sig .tc := ⟨.hbm, 333, rfl⟩
abbrev main_v274 : Ref sig .tc := ⟨.hbm, 334, rfl⟩
abbrev main_v275 : Ref sig .tc := ⟨.hbm, 335, rfl⟩
abbrev main_v276 : Ref sig .tc := ⟨.hbm, 336, rfl⟩
abbrev main_v277 : Ref sig .tc := ⟨.hbm, 337, rfl⟩
abbrev main_v278 : Ref sig .tc := ⟨.hbm, 338, rfl⟩
abbrev main_v279 : Ref sig .tc := ⟨.hbm, 339, rfl⟩
abbrev main_v280 : Ref sig .tc := ⟨.hbm, 340, rfl⟩
abbrev main_v281 : Ref sig .tc := ⟨.hbm, 341, rfl⟩
abbrev main_v282 : Ref sig .tc := ⟨.hbm, 342, rfl⟩
abbrev main_v283 : Ref sig .tc := ⟨.hbm, 343, rfl⟩
abbrev main_v284 : Ref sig .tc := ⟨.hbm, 344, rfl⟩
abbrev main_v285 : Ref sig .tc := ⟨.hbm, 345, rfl⟩
abbrev main_v286 : Ref sig .tc := ⟨.hbm, 346, rfl⟩
abbrev main_v287 : Ref sig .tc := ⟨.hbm, 347, rfl⟩
abbrev main_v288 : Ref sig .tc := ⟨.hbm, 348, rfl⟩
abbrev main_cst_41 : Ref sig .tc := ⟨.hbm, 349, rfl⟩
abbrev main_v289 : Ref sig .tc := ⟨.hbm, 350, rfl⟩
abbrev main_v290 : Ref sig .tc := ⟨.hbm, 351, rfl⟩
abbrev main_v291 : Ref sig .tc := ⟨.hbm, 352, rfl⟩
abbrev main_v292 : Ref sig .tc := ⟨.hbm, 353, rfl⟩
abbrev main_v293 : Ref sig .tc := ⟨.hbm, 354, rfl⟩
abbrev main_v294 : Ref sig .tc := ⟨.hbm, 355, rfl⟩
abbrev main_cst_42 : Ref sig .tc := ⟨.hbm, 356, rfl⟩
abbrev main_v295 : Ref sig .tc := ⟨.hbm, 357, rfl⟩
abbrev main_v296 : Ref sig .tc := ⟨.hbm, 358, rfl⟩
abbrev main_v297 : Ref sig .tc := ⟨.hbm, 359, rfl⟩
abbrev main_v298 : Ref sig .tc := ⟨.hbm, 360, rfl⟩
abbrev main_cst_43 : Ref sig .tc := ⟨.hbm, 361, rfl⟩
abbrev main_v299 : Ref sig .tc := ⟨.hbm, 362, rfl⟩
abbrev main_v300 : Ref sig .tc := ⟨.hbm, 363, rfl⟩
abbrev main_v301 : Ref sig .tc := ⟨.hbm, 364, rfl⟩
abbrev main_v302 : Ref sig .tc := ⟨.hbm, 365, rfl⟩
abbrev main_v303 : Ref sig .tc := ⟨.hbm, 366, rfl⟩

abbrev nD : Nat := 1
abbrev τ : Topo := Topo.v7x

variable {F : FTy → Type} [FloatOps F]
-- ==== Kernel2.lean ====
abbrev S8x2048x1024 : Shape := ⟨3, ![8, 2048, 1024]⟩
abbrev S8x2048x512 : Shape := ⟨3, ![8, 2048, 512]⟩
abbrev S1024 : Shape := ⟨1, ![1024]⟩
abbrev S1024x5632 : Shape := ⟨2, ![1024, 5632]⟩
abbrev S2816x1024 : Shape := ⟨2, ![2816, 1024]⟩
abbrev S2x512x1024 : Shape := ⟨3, ![2, 512, 1024]⟩
abbrev S16384x1024 : Shape := ⟨2, ![16384, 1024]⟩
abbrev S1024x2816 : Shape := ⟨2, ![1024, 2816]⟩
abbrev S16384x512 : Shape := ⟨2, ![16384, 512]⟩
abbrev S1x1024 : Shape := ⟨2, ![1, 1024]⟩
abbrev S512x1024 : Shape := ⟨2, ![512, 1024]⟩
abbrev S512x512 : Shape := ⟨2, ![512, 512]⟩
abbrev S1x512x1024 : Shape := ⟨3, ![1, 512, 1024]⟩
abbrev S512 : Shape := ⟨1, ![512]⟩
abbrev S512x1 : Shape := ⟨2, ![512, 1]⟩
abbrev S1024x1536 : Shape := ⟨2, ![1024, 1536]⟩
abbrev S512x1536 : Shape := ⟨2, ![512, 1536]⟩
abbrev S1536x1024 : Shape := ⟨2, ![1536, 1024]⟩
abbrev S1024x1280 : Shape := ⟨2, ![1024, 1280]⟩
abbrev S512x1280 : Shape := ⟨2, ![512, 1280]⟩
abbrev S1280x1024 : Shape := ⟨2, ![1280, 1024]⟩

abbrev nBuf : Space → Nat
  | .hbm => 18
  | .vmem => 12
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S1024, .f32⟩
  | .hbm, ⟨6, _⟩ => ⟨S2x512x1024, .f32⟩
  | .hbm, ⟨7, _⟩ => ⟨S16384x1024, .f32⟩
  | .hbm, ⟨8, _⟩ => ⟨S1024x2816, .f32⟩
  | .hbm, ⟨9, _⟩ => ⟨S1024x2816, .bf16⟩
  | .hbm, ⟨10, _⟩ => ⟨S1024x2816, .f32⟩
  | .hbm, ⟨11, _⟩ => ⟨S1024x2816, .bf16⟩
  | .hbm, ⟨12, _⟩ => ⟨S2816x1024, .bf16⟩
  | .hbm, ⟨13, _⟩ => ⟨S16384x512, .f32⟩
  | .hbm, ⟨14, _⟩ => ⟨S2x512x1024, .bf16⟩
  | .hbm, ⟨15, _⟩ => ⟨S1x1024, .f32⟩
  | .hbm, ⟨16, _⟩ => ⟨S1x1024, .f32⟩
  | .hbm, ⟨17, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S1x512x1024, .bf16⟩
  | .local _ .vmem, ⟨5, _⟩ => ⟨S1x1024, .f32⟩
  | .local _ .vmem, ⟨6, _⟩ => ⟨S1024x2816, .bf16⟩
  | .local _ .vmem, ⟨7, _⟩ => ⟨S1024x2816, .bf16⟩
  | .local _ .vmem, ⟨8, _⟩ => ⟨S2816x1024, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S8x2048x1024 : Shape := ⟨3, ![8, 2048, 1024]⟩
abbrev S8x2048x512 : Shape := ⟨3, ![8, 2048, 512]⟩
abbrev S1024 : Shape := ⟨1, ![1024]⟩
abbrev S1024x5632 : Shape := ⟨2, ![1024, 5632]⟩
abbrev S2816x1024 : Shape := ⟨2, ![2816, 1024]⟩
abbrev S2x512x1024 : Shape := ⟨3, ![2, 512, 1024]⟩
abbrev S1x512x1024 : Shape := ⟨3, ![1, 512, 1024]⟩
abbrev S512x1024 : Shape := ⟨2, ![512, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x5632 : Shape := ⟨3, ![8, 2048, 5632]⟩
abbrev S8x2048x2816 : Shape := ⟨3, ![8, 2048, 2816]⟩
abbrev S16384x1024 : Shape := ⟨2, ![16384, 1024]⟩

abbrev nBuf : Space → Nat
  | .hbm => 62
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S1024, .f32⟩
  | .hbm, ⟨6, _⟩ => ⟨S2x512x1024, .f32⟩
  | .hbm, ⟨7, _⟩ => ⟨S1x512x1024, .f32⟩
  | .hbm, ⟨8, _⟩ => ⟨S512x1024, .f32⟩
  | .hbm, ⟨9, _⟩ => ⟨S8x2048x1024, .f32⟩
  | .hbm, ⟨10, _⟩ => ⟨S8x2048x1024, .f32⟩
  | .hbm, ⟨11, _⟩ => ⟨S8x2048x1024, .f32⟩
  | .hbm, ⟨12, _⟩ => ⟨S_, .f32⟩
  | .hbm, ⟨13, _⟩ => ⟨S8x2048, .f32⟩
  | .hbm, ⟨14, _⟩ => ⟨S8x2048x1, .f32⟩
  | .hbm, ⟨15, _⟩ => ⟨S_, .f32⟩
  | .hbm, ⟨16, _⟩ => ⟨S8x2048x1, .f32⟩
  | .hbm, ⟨17, _⟩ => ⟨S8x2048x1, .f32⟩
  | .hbm, ⟨18, _⟩ => ⟨S_, .f32⟩
  | .hbm, ⟨19, _⟩ => ⟨S8x2048x1, .f32⟩
  | .hbm, ⟨20, _⟩ => ⟨S8x2048x1, .f32⟩
  | .hbm, ⟨21, _⟩ => ⟨S8x2048x1, .f32⟩
  | .hbm, ⟨22, _⟩ => ⟨S8x2048x1024, .f32⟩
  | .hbm, ⟨23, _⟩ => ⟨S8x2048x1024, .f32⟩
  | .hbm, ⟨24, _⟩ => ⟨S1x1x1024, .f32⟩
  | .hbm, ⟨25, _⟩ => ⟨S8x2048x1024, .f32⟩
  | .hbm, ⟨26, _⟩ => ⟨S8x2048x1024, .f32⟩
  | .hbm, ⟨27, _⟩ => ⟨S8x2048x5632, .f32⟩
  | .hbm, ⟨28, _⟩ => ⟨S8x2048x2816, .f32⟩
  | .hbm, ⟨29, _⟩ => ⟨S8x2048x2816, .f32⟩
  | .hbm, ⟨30, _⟩ => ⟨S8x2048x2816, .f32⟩
  | .hbm, ⟨31, _⟩ => ⟨S_, .f32⟩
  | .hbm, ⟨32, _⟩ => ⟨S8x2048x2816, .f32⟩
  | .hbm, ⟨33, _⟩ => ⟨S8x2048x2816, .f32⟩
  | .hbm, ⟨34, _⟩ => ⟨S_, .f32⟩
  | .hbm, ⟨35, _⟩ => ⟨S8x2048x2816, .f32⟩
  | .hbm, ⟨36, _⟩ => ⟨S8x2048x2816, .f32⟩
  | .hbm, ⟨37, _⟩ => ⟨S8x2048x2816, .f32⟩
  | .hbm, ⟨38, _⟩ => ⟨S8x2048x2816, .f32⟩
  | .hbm, ⟨39, _⟩ => ⟨S8x2048x2816, .f32⟩
  | .hbm, ⟨40, _⟩ => ⟨S8x2048x1024, .f32⟩
  | .hbm, ⟨41, _⟩ => ⟨S_, .f32⟩
  | .hbm, ⟨42, _⟩ => ⟨S8x2048x1024, .f32⟩
  | .hbm, ⟨43, _⟩ => ⟨S8x2048x1024, .f32⟩
  | .hbm, ⟨44, _⟩ => ⟨S8x2048x1024, .f32⟩
  | .hbm, ⟨45, _⟩ => ⟨S8x2048x1024, .f32⟩
  | .hbm, ⟨46, _⟩ => ⟨S_, .f32⟩
  | .hbm, ⟨47, _⟩ => ⟨S8x2048, .f32⟩
  | .hbm, ⟨48, _⟩ => ⟨S8x2048x1, .f32⟩
  | .hbm, ⟨49, _⟩ => ⟨S_, .f32⟩
  | .hbm, ⟨50, _⟩ => ⟨S8x2048x1, .f32⟩
  | .hbm, ⟨51, _⟩ => ⟨S8x2048x1, .f32⟩
  | .hbm, ⟨52, _⟩ => ⟨S_, .f32⟩
  | .hbm, ⟨53, _⟩ => ⟨S8x2048x1, .f32⟩
  | .hbm, ⟨54, _⟩ => ⟨S8x2048x1, .f32⟩
  | .hbm, ⟨55, _⟩ => ⟨S8x2048x1, .f32⟩
  | .hbm, ⟨56, _⟩ => ⟨S8x2048x1024, .f32⟩
  | .hbm, ⟨57, _⟩ => ⟨S8x2048x1024, .f32⟩
  | .hbm, ⟨58, _⟩ => ⟨S1x1x1024, .f32⟩
  | .hbm, ⟨59, _⟩ => ⟨S8x2048x1024, .f32⟩
  | .hbm, ⟨60, _⟩ => ⟨S8x2048x1024, .f32⟩
  | .hbm, ⟨61, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_2 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_3 : Ref sig .tc := ⟨.hbm, 46, rfl⟩
abbrev main_v27 : Ref sig .tc := ⟨.hbm, 47, rfl⟩
abbrev main_v28 : Ref sig .tc := ⟨.hbm, 48, rfl⟩
abbrev main_cst_4 : Ref sig .tc := ⟨.hbm, 49, rfl⟩
abbrev main_v29 : Ref sig .tc := ⟨.hbm, 50, rfl⟩
abbrev main_v30 : Ref sig .tc := ⟨.hbm, 51, rfl⟩
abbrev main_cst_5 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩

abbrev nD : Nat := 1
abbrev τ : Topo := Topo.v7x

variable {F : FTy → Type} [FloatOps F]
-- ==== Kernel3.lean ====
abbrev S32x1x1024 : Shape := ⟨3, ![32, 1, 1024]⟩
abbrev S1024 : Shape := ⟨1, ![1024]⟩
abbrev S1024x5632 : Shape := ⟨2, ![1024, 5632]⟩
abbrev S2816x1024 : Shape := ⟨2, ![2816, 1024]⟩
abbrev S32x1024 : Shape := ⟨2, ![32, 1024]⟩
abbrev S1024x2816 : Shape := ⟨2, ![1024, 2816]⟩
abbrev S1x1024 : Shape := ⟨2, ![1, 1024]⟩
abbrev S32 : Shape := ⟨1, ![32]⟩
abbrev S32x1 : Shape := ⟨2, ![32, 1]⟩
abbrev S1024x1536 : Shape := ⟨2, ![1024, 1536]⟩
abbrev S32x1536 : Shape := ⟨2, ![32, 1536]⟩
abbrev S1536x1024 : Shape := ⟨2, ![1536, 1024]⟩
abbrev S1024x1280 : Shape := ⟨2, ![1024, 1280]⟩
abbrev S32x1280 : Shape := ⟨2, ![32, 1280]⟩
abbrev S1280x1024 : Shape := ⟨2, ![1280, 1024]⟩

abbrev nBuf : Space → Nat
  | .hbm => 14
  | .vmem => 7
  | .smem => 0
  | _ => 0

abbrev bufTy : (tb : Table) → Fin (tcTables nBuf tb) → BufTy
  | .hbm, ⟨0, _⟩ => ⟨S32x1x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S32x1024, .f32⟩
  | .hbm, ⟨6, _⟩ => ⟨S1024x2816, .f32⟩
  | .hbm, ⟨7, _⟩ => ⟨S1024x2816, .bf16⟩
  | .hbm, ⟨8, _⟩ => ⟨S1024x2816, .f32⟩
  | .hbm, ⟨9, _⟩ => ⟨S1024x2816, .bf16⟩
  | .hbm, ⟨10, _⟩ => ⟨S2816x1024, .bf16⟩
  | .hbm, ⟨11, _⟩ => ⟨S1x1024, .f32⟩
  | .hbm, ⟨12, _⟩ => ⟨S1x1024, .f32⟩
  | .hbm, ⟨13, _⟩ => ⟨S32x1024, .f32⟩
  | .local _ .vmem, ⟨0, _⟩ => ⟨S32x1024, .f32⟩
  | .local _ .vmem, ⟨1, _⟩ => ⟨S1x1024, .f32⟩
  | .local _ .vmem, ⟨2, _⟩ => ⟨S1024x2816, .bf16⟩
  | .local _ .vmem, ⟨3, _⟩ => ⟨S1024x2816, .bf16⟩
  | .local _ .vmem, ⟨4, _⟩ => ⟨S2816x1024, .bf16⟩
  | .local _ .vmem, ⟨5, _⟩ => ⟨S1x1024, .f32⟩
  | .local _ .vmem, ⟨6, _⟩ => ⟨S32x1024, .f32⟩
  | _, _ => ⟨S32x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference3Ideal.lean ====
abbrev S32x1x1024 : Shape := ⟨3, ![32, 1, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S32x1 : Shape := ⟨2, ![32, 1]⟩
abbrev S32x1x1 : Shape := ⟨3, ![32, 1, 1]⟩
abbrev S1x1x1024 : Shape := ⟨3, ![1, 1, 1024]⟩
abbrev S32x1x5632 : Shape := ⟨3, ![32, 1, 5632]⟩
abbrev S32x1x2816 : Shape := ⟨3, ![32, 1, 2816]⟩
abbrev S32x1024 : Shape := ⟨2, ![32, 1024]⟩

abbrev nBuf : Space → Nat
  | .hbm => 56
  | .vmem => 0
  | .smem => 0
  | _ => 0

abbrev bufTy : (tb : Table) → Fin (tcTables nBuf tb) → BufTy
  | .hbm, ⟨0, _⟩ => ⟨S32x1x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S32x1x1024, .f32⟩
  | .hbm, ⟨6, _⟩ => ⟨S_, .f32⟩
  | .hbm, ⟨7, _⟩ => ⟨S32x1, .f32⟩
  | .hbm, ⟨8, _⟩ => ⟨S32x1x1, .f32⟩
  | .hbm, ⟨9, _⟩ => ⟨S_, .f32⟩
  | .hbm, ⟨10, _⟩ => ⟨S32x1x1, .f32⟩
  | .hbm, ⟨11, _⟩ => ⟨S32x1x1, .f32⟩
  | .hbm, ⟨12, _⟩ => ⟨S_, .f32⟩
  | .hbm, ⟨13, _⟩ => ⟨S32x1x1, .f32⟩
  | .hbm, ⟨14, _⟩ => ⟨S32x1x1, .f32⟩
  | .hbm, ⟨15, _⟩ => ⟨S32x1x1, .f32⟩
  | .hbm, ⟨16, _⟩ => ⟨S32x1x1024, .f32⟩
  | .hbm, ⟨17, _⟩ => ⟨S32x1x1024, .f32⟩
  | .hbm, ⟨18, _⟩ => ⟨S1x1x1024, .f32⟩
  | .hbm, ⟨19, _⟩ => ⟨S32x1x1024, .f32⟩
  | .hbm, ⟨20, _⟩ => ⟨S32x1x1024, .f32⟩
  | .hbm, ⟨21, _⟩ => ⟨S32x1x5632, .f32⟩
  | .hbm, ⟨22, _⟩ => ⟨S32x1x2816, .f32⟩
  | .hbm, ⟨23, _⟩ => ⟨S32x1x2816, .f32⟩
  | .hbm, ⟨24, _⟩ => ⟨S32x1x2816, .f32⟩
  | .hbm, ⟨25, _⟩ => ⟨S_, .f32⟩
  | .hbm, ⟨26, _⟩ => ⟨S32x1x2816, .f32⟩
  | .hbm, ⟨27, _⟩ => ⟨S32x1x2816, .f32⟩
  | .hbm, ⟨28, _⟩ => ⟨S_, .f32⟩
  | .hbm, ⟨29, _⟩ => ⟨S32x1x2816, .f32⟩
  | .hbm, ⟨30, _⟩ => ⟨S32x1x2816, .f32⟩
  | .hbm, ⟨31, _⟩ => ⟨S32x1x2816, .f32⟩
  | .hbm, ⟨32, _⟩ => ⟨S32x1x2816, .f32⟩
  | .hbm, ⟨33, _⟩ => ⟨S32x1x2816, .f32⟩
  | .hbm, ⟨34, _⟩ => ⟨S32x1x1024, .f32⟩
  | .hbm, ⟨35, _⟩ => ⟨S_, .f32⟩
  | .hbm, ⟨36, _⟩ => ⟨S32x1x1024, .f32⟩
  | .hbm, ⟨37, _⟩ => ⟨S32x1x1024, .f32⟩
  | .hbm, ⟨38, _⟩ => ⟨S32x1x1024, .f32⟩
  | .hbm, ⟨39, _⟩ => ⟨S32x1x1024, .f32⟩
  | .hbm, ⟨40, _⟩ => ⟨S_, .f32⟩
  | .hbm, ⟨41, _⟩ => ⟨S32x1, .f32⟩
  | .hbm, ⟨42, _⟩ => ⟨S32x1x1, .f32⟩
  | .hbm, ⟨43, _⟩ => ⟨S_, .f32⟩
  | .hbm, ⟨44, _⟩ => ⟨S32x1x1, .f32⟩
  | .hbm, ⟨45, _⟩ => ⟨S32x1x1, .f32⟩
  | .hbm, ⟨46, _⟩ => ⟨S_, .f32⟩
  | .hbm, ⟨47, _⟩ => ⟨S32x1x1, .f32⟩
  | .hbm, ⟨48, _⟩ => ⟨S32x1x1, .f32⟩
  | .hbm, ⟨49, _⟩ => ⟨S32x1x1, .f32⟩
  | .hbm, ⟨50, _⟩ => ⟨S32x1x1024, .f32⟩
  | .hbm, ⟨51, _⟩ => ⟨S32x1x1024, .f32⟩
  | .hbm, ⟨52, _⟩ => ⟨S1x1x1024, .f32⟩
  | .hbm, ⟨53, _⟩ => ⟨S32x1x1024, .f32⟩
  | .hbm, ⟨54, _⟩ => ⟨S32x1x1024, .f32⟩
  | .hbm, ⟨55, _⟩ => ⟨S32x1024, .f32⟩
  | _, _ => ⟨S32x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_cst_4 : Ref sig .tc := ⟨.hbm, 43, rfl⟩
abbrev main_v25 : Ref sig .tc := ⟨.hbm, 44, rfl⟩
abbrev main_v26 : Ref sig .tc := ⟨.hbm, 45, rfl⟩
abbrev main_cst_5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩

abbrev nD : Nat := 1
abbrev τ : Topo := Topo.v7x

variable {F : FTy → Type} [FloatOps F]
-- ==== Kernel4.lean ====
abbrev S8x2048x1024 : Shape := ⟨3, ![8, 2048, 1024]⟩
abbrev S1024 : Shape := ⟨1, ![1024]⟩
abbrev S1024x5632 : Shape := ⟨2, ![1024, 5632]⟩
abbrev S2816x1024 : Shape := ⟨2, ![2816, 1024]⟩
abbrev S4x1024x5632 : Shape := ⟨3, ![4, 1024, 5632]⟩
abbrev S4x2816x1024 : Shape := ⟨3, ![4, 2816, 1024]⟩
abbrev S16384x1024 : Shape := ⟨2, ![16384, 1024]⟩
abbrev S1024x2816 : Shape := ⟨2, ![1024, 2816]⟩
abbrev S1x1024 : Shape := ⟨2, ![1, 1024]⟩
abbrev S512x1024 : Shape := ⟨2, ![512, 1024]⟩
abbrev S1x32x2816 : Shape := ⟨3, ![1, 32, 2816]⟩
abbrev S1x176x1024 : Shape := ⟨3, ![1, 176, 1024]⟩
abbrev S32x2816 : Shape := ⟨2, ![32, 2816]⟩
abbrev S176x1024 : Shape := ⟨2, ![176, 1024]⟩
abbrev S512 : Shape := ⟨1, ![512]⟩
abbrev S512x1 : Shape := ⟨2, ![512, 1]⟩
abbrev S1024x1536 : Shape := ⟨2, ![1024, 1536]⟩
abbrev S512x1536 : Shape := ⟨2, ![512, 1536]⟩
abbrev S1536x1024 : Shape := ⟨2, ![1536, 1024]⟩
abbrev S1024x1280 : Shape := ⟨2, ![1024, 1280]⟩
abbrev S512x1280 : Shape := ⟨2, ![512, 1280]⟩
abbrev S1280x1024 : Shape := ⟨2, ![1280, 1024]⟩

abbrev nBuf : Space → Nat
  | .hbm => 17
  | .vmem => 20
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S4x1024x5632, .f32⟩
  | .hbm, ⟨5, _⟩ => ⟨S4x2816x1024, .f32⟩
  | .hbm, ⟨6, _⟩ => ⟨S16384x1024, .f32⟩
  | .hbm, ⟨7, _⟩ => ⟨S1024x2816, .f32⟩
  | .hbm, ⟨8, _⟩ => ⟨S1024x2816, .bf16⟩
  | .hbm, ⟨9, _⟩ => ⟨S1024x2816, .f32⟩
  | .hbm, ⟨10, _⟩ => ⟨S1024x2816, .bf16⟩
  | .hbm, ⟨11, _⟩ => ⟨S2816x1024, .bf16⟩
  | .hbm, ⟨12, _⟩ => ⟨S1x1024, .f32⟩
  | .hbm, ⟨13, _⟩ => ⟨S16384x1024, .f32⟩
  | .hbm, ⟨14, _⟩ => ⟨S1024x2816, .bf16⟩
  | .hbm, ⟨15, _⟩ => ⟨S1024x2816, .bf16⟩
  | .hbm, ⟨16, _⟩ => ⟨S2816x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x32x2816, .f32⟩
  | .local _ .vmem, ⟨7, _⟩ => ⟨S1x32x2816, .f32⟩
  | .local _ .vmem, ⟨8, _⟩ => ⟨S1x32x2816, .f32⟩
  | .local _ .vmem, ⟨9, _⟩ => ⟨S1x32x2816, .f32⟩
  | .local _ .vmem, ⟨10, _⟩ => ⟨S1x176x1024, .f32⟩
  | .local _ .vmem, ⟨11, _⟩ => ⟨S1x176x1024, .f32⟩
  | .local _ .vmem, ⟨12, _⟩ => ⟨S512x1024, .f32⟩
  | .local _ .vmem, ⟨13, _⟩ => ⟨S512x1024, .f32⟩
  | .local _ .vmem, ⟨14, _⟩ => ⟨S32x2816, .bf16⟩
  | .local _ .vmem, ⟨15, _⟩ => ⟨S32x2816, .bf16⟩
  | .local _ .vmem, ⟨16, _⟩ => ⟨S32x2816, .bf16⟩
  | .local _ .vmem, ⟨17, _⟩ => ⟨S32x2816, .bf16⟩
  | .local _ .vmem, ⟨18, _⟩ => ⟨S176x1024, .bf16⟩
  | .local _ .vmem, ⟨19, _⟩ => ⟨S176x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev main_v7_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  ![c0_i32.toNat, arg0.toNat, c1_i32.toNat]

def cc0_transform_7 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![c0_i32_4.toNat, v16.toNat, c0_i32_5.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x32x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x32x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S32x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S32x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S176x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference4Ideal.lean ====
abbrev S8x2048x1024 : Shape := ⟨3, ![8, 2048, 1024]⟩
abbrev S1024 : Shape := ⟨1, ![1024]⟩
abbrev S1024x5632 : Shape := ⟨2, ![1024, 5632]⟩
abbrev S2816x1024 : Shape := ⟨2, ![2816, 1024]⟩
abbrev S4x1024x5632 : Shape := ⟨3, ![4, 1024, 5632]⟩
abbrev S4x2816x1024 : Shape := ⟨3, ![4, 2816, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x5632 : Shape := ⟨3, ![8, 2048, 5632]⟩
abbrev S8x2048x2816 : Shape := ⟨3, ![8, 2048, 2816]⟩
abbrev S16384x1024 : Shape := ⟨2, ![16384, 1024]⟩
abbrev S1x1024x5632 : Shape := ⟨3, ![1, 1024, 5632]⟩
abbrev S1x2816x1024 : Shape := ⟨3, ![1, 2816, 1024]⟩
abbrev S1024x2816 : Shape := ⟨2, ![1024, 2816]⟩

abbrev nBuf : Space → Nat
  | .hbm => 50
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S4x1024x5632, .f32⟩
  | .hbm, ⟨5, _⟩ => ⟨S4x2816x1024, .f32⟩
  | .hbm, ⟨6, _⟩ => ⟨S8x2048x1024, .f32⟩
  | .hbm, ⟨7, _⟩ => ⟨S_, .f32⟩
  | .hbm, ⟨8, _⟩ => ⟨S8x2048, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S8x2048x1, .f32⟩
  | .hbm, ⟨17, _⟩ => ⟨S8x2048x1024, .f32⟩
  | .hbm, ⟨18, _⟩ => ⟨S8x2048x1024, .f32⟩
  | .hbm, ⟨19, _⟩ => ⟨S1x1x1024, .f32⟩
  | .hbm, ⟨20, _⟩ => ⟨S8x2048x1024, .f32⟩
  | .hbm, ⟨21, _⟩ => ⟨S8x2048x1024, .f32⟩
  | .hbm, ⟨22, _⟩ => ⟨S8x2048x5632, .f32⟩
  | .hbm, ⟨23, _⟩ => ⟨S8x2048x2816, .f32⟩
  | .hbm, ⟨24, _⟩ => ⟨S8x2048x2816, .f32⟩
  | .hbm, ⟨25, _⟩ => ⟨S8x2048x2816, .f32⟩
  | .hbm, ⟨26, _⟩ => ⟨S_, .f32⟩
  | .hbm, ⟨27, _⟩ => ⟨S8x2048x2816, .f32⟩
  | .hbm, ⟨28, _⟩ => ⟨S8x2048x2816, .f32⟩
  | .hbm, ⟨29, _⟩ => ⟨S_, .f32⟩
  | .hbm, ⟨30, _⟩ => ⟨S8x2048x2816, .f32⟩
  | .hbm, ⟨31, _⟩ => ⟨S8x2048x2816, .f32⟩
  | .hbm, ⟨32, _⟩ => ⟨S8x2048x2816, .f32⟩
  | .hbm, ⟨33, _⟩ => ⟨S8x2048x2816, .f32⟩
  | .hbm, ⟨34, _⟩ => ⟨S8x2048x2816, .f32⟩
  | .hbm, ⟨35, _⟩ => ⟨S8x2048x1024, .f32⟩
  | .hbm, ⟨36, _⟩ => ⟨S_, .f32⟩
  | .hbm, ⟨37, _⟩ => ⟨S8x2048x1024, .f32⟩
  | .hbm, ⟨38, _⟩ => ⟨S8x2048x1024, .f32⟩
  | .hbm, ⟨39, _⟩ => ⟨S8x2048x1024, .f32⟩
  | .hbm, ⟨40, _⟩ => ⟨S16384x1024, .f32⟩
  | .hbm, ⟨41, _⟩ => ⟨S1x1024x5632, .f32⟩
  | .hbm, ⟨42, _⟩ => ⟨S1024x5632, .f32⟩
  | .hbm, ⟨43, _⟩ => ⟨S1x2816x1024, .f32⟩
  | .hbm, ⟨44, _⟩ => ⟨S2816x1024, .f32⟩
  | .hbm, ⟨45, _⟩ => ⟨S1024x2816, .f32⟩
  | .hbm, ⟨46, _⟩ => ⟨S1024x2816, .bf16⟩
  | .hbm, ⟨47, _⟩ => ⟨S1024x2816, .f32⟩
  | .hbm, ⟨48, _⟩ => ⟨S1024x2816, .bf16⟩
  | .hbm, ⟨49, _⟩ => ⟨S2816x1024, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩

abbrev nD : Nat := 1
abbrev τ : Topo := Topo.v7x

variable {F : FTy → Type} [FloatOps F]
-- ==== Kernel5.lean ====
abbrev S8x2048x1024 : Shape := ⟨3, ![8, 2048, 1024]⟩
abbrev S1024 : Shape := ⟨1, ![1024]⟩
abbrev S1024x5632 : Shape := ⟨2, ![1024, 5632]⟩
abbrev S2816x1024 : Shape := ⟨2, ![2816, 1024]⟩
abbrev S2x1024x1536 : Shape := ⟨3, ![2, 1024, 1536]⟩
abbrev S4x1024x5632 : Shape := ⟨3, ![4, 1024, 5632]⟩
abbrev S4x2816x1024 : Shape := ⟨3, ![4, 2816, 1024]⟩
abbrev S16384x1024 : Shape := ⟨2, ![16384, 1024]⟩
abbrev S1024x2816 : Shape := ⟨2, ![1024, 2816]⟩
abbrev S1x1024 : Shape := ⟨2, ![1, 1024]⟩
abbrev S16384x1536 : Shape := ⟨2, ![16384, 1536]⟩
abbrev S512x1024 : Shape := ⟨2, ![512, 1024]⟩
abbrev S1x1024x1536 : Shape := ⟨3, ![1, 1024, 1536]⟩
abbrev S1x32x2816 : Shape := ⟨3, ![1, 32, 2816]⟩
abbrev S1x176x1024 : Shape := ⟨3, ![1, 176, 1024]⟩
abbrev S512x1536 : Shape := ⟨2, ![512, 1536]⟩
abbrev S32x2816 : Shape := ⟨2, ![32, 2816]⟩
abbrev S176x1024 : Shape := ⟨2, ![176, 1024]⟩
abbrev S512 : Shape := ⟨1, ![512]⟩
abbrev S512x1 : Shape := ⟨2, ![512, 1]⟩
abbrev S1024x1536 : Shape := ⟨2, ![1024, 1536]⟩
abbrev S1536x1024 : Shape := ⟨2, ![1536, 1024]⟩
abbrev S1024x1280 : Shape := ⟨2, ![1024, 1280]⟩
abbrev S512x1280 : Shape := ⟨2, ![512, 1280]⟩
abbrev S1280x1024 : Shape := ⟨2, ![1280, 1024]⟩

abbrev nBuf : Space → Nat
  | .hbm => 22
  | .vmem => 24
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S2x1024x1536, .f32⟩
  | .hbm, ⟨6, _⟩ => ⟨S4x1024x5632, .f32⟩
  | .hbm, ⟨7, _⟩ => ⟨S4x2816x1024, .f32⟩
  | .hbm, ⟨8, _⟩ => ⟨S16384x1024, .f32⟩
  | .hbm, ⟨9, _⟩ => ⟨S1024x2816, .f32⟩
  | .hbm, ⟨10, _⟩ => ⟨S1024x2816, .bf16⟩
  | .hbm, ⟨11, _⟩ => ⟨S1024x2816, .f32⟩
  | .hbm, ⟨12, _⟩ => ⟨S1024x2816, .bf16⟩
  | .hbm, ⟨13, _⟩ => ⟨S2816x1024, .bf16⟩
  | .hbm, ⟨14, _⟩ => ⟨S2x1024x1536, .bf16⟩
  | .hbm, ⟨15, _⟩ => ⟨S1x1024, .f32⟩
  | .hbm, ⟨16, _⟩ => ⟨S1x1024, .f32⟩
  | .hbm, ⟨17, _⟩ => ⟨S16384x1024, .f32⟩
  | .hbm, ⟨18, _⟩ => ⟨S16384x1536, .f32⟩
  | .hbm, ⟨19, _⟩ => ⟨S1024x2816, .bf16⟩
  | .hbm, ⟨20, _⟩ => ⟨S1024x2816, .bf16⟩
  | .hbm, ⟨21, _⟩ => ⟨S2816x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S1x1024x1536, .bf16⟩
  | .local _ .vmem, ⟨8, _⟩ => ⟨S1x32x2816, .f32⟩
  | .local _ .vmem, ⟨9, _⟩ => ⟨S1x32x2816, .f32⟩
  | .local _ .vmem, ⟨10, _⟩ => ⟨S1x32x2816, .f32⟩
  | .local _ .vmem, ⟨11, _⟩ => ⟨S1x32x2816, .f32⟩
  | .local _ .vmem, ⟨12, _⟩ => ⟨S1x176x1024, .f32⟩
  | .local _ .vmem, ⟨13, _⟩ => ⟨S1x176x1024, .f32⟩
  | .local _ .vmem, ⟨14, _⟩ => ⟨S512x1024, .f32⟩
  | .local _ .vmem, ⟨15, _⟩ => ⟨S512x1024, .f32⟩
  | .local _ .vmem, ⟨16, _⟩ => ⟨S512x1536, .f32⟩
  | .local _ .vmem, ⟨17, _⟩ => ⟨S512x1536, .f32⟩
  | .local _ .vmem, ⟨18, _⟩ => ⟨S32x2816, .bf16⟩
  | .local _ .vmem, ⟨19, _⟩ => ⟨S32x2816, .bf16⟩
  | .local _ .vmem, ⟨20, _⟩ => ⟨S32x2816, .bf16⟩
  | .local _ .vmem, ⟨21, _⟩ => ⟨S32x2816, .bf16⟩
  | .local _ .vmem, ⟨22, _⟩ => ⟨S176x1024, .bf16⟩
  | .local _ .vmem, ⟨23, _⟩ => ⟨S176x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev main_v9_3 : Ref sig .tc := ⟨.hbm, 20, rfl⟩
abbrev main_v9_4 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_8 (i : grid0.Coords) : Fin 3 → Nat :=
  let arg0 : BitVec 32 := BitVec.ofNat 32 (i 0).val
  let c2_i32 : BitVec 32 := 2#32
  let c1_i32 : BitVec 32 := 1#32
  let c0_i32 : BitVec 32 := 0#32
  ![c2_i32.toNat, arg0.toNat, c1_i32.toNat]

def cc0_transform_9 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let c0_i32_6 : BitVec 32 := 0#32
  ![c2_i32_4.toNat, v16.toNat, c0_i32_5.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x1536 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x32x2816 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x32x2816 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x176x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1536 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S32x2816 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S32x2816 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S176x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference5Ideal.lean ====
abbrev S8x2048x1024 : Shape := ⟨3, ![8, 2048, 1024]⟩
abbrev S1024 : Shape := ⟨1, ![1024]⟩
abbrev S1024x5632 : Shape := ⟨2, ![1024, 5632]⟩
abbrev S2816x1024 : Shape := ⟨2, ![2816, 1024]⟩
abbrev S2x1024x1536 : Shape := ⟨3, ![2, 1024, 1536]⟩
abbrev S4x1024x5632 : Shape := ⟨3, ![4, 1024, 5632]⟩
abbrev S4x2816x1024 : Shape := ⟨3, ![4, 2816, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x5632 : Shape := ⟨3, ![8, 2048, 5632]⟩
abbrev S8x2048x2816 : Shape := ⟨3, ![8, 2048, 2816]⟩
abbrev S1x1024x1536 : Shape := ⟨3, ![1, 1024, 1536]⟩
abbrev S1024x1536 : Shape := ⟨2, ![1024, 1536]⟩
abbrev S8x2048x1536 : Shape := ⟨3, ![8, 2048, 1536]⟩
abbrev S16384x1024 : Shape := ⟨2, ![16384, 1024]⟩
abbrev S16384x1536 : Shape := ⟨2, ![16384, 1536]⟩
abbrev S1x1024x5632 : Shape := ⟨3, ![1, 1024, 5632]⟩
abbrev S1x2816x1024 : Shape := ⟨3, ![1, 2816, 1024]⟩
abbrev S1024x2816 : Shape := ⟨2, ![1024, 2816]⟩

abbrev nBuf : Space → Nat
  | .hbm => 75
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S2x1024x1536, .f32⟩
  | .hbm, ⟨6, _⟩ => ⟨S4x1024x5632, .f32⟩
  | .hbm, ⟨7, _⟩ => ⟨S4x2816x1024, .f32⟩
  | .hbm, ⟨8, _⟩ => ⟨S8x2048x1024, .f32⟩
  | .hbm, ⟨9, _⟩ => ⟨S_, .f32⟩
  | .hbm, ⟨10, _⟩ => ⟨S8x2048, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S_, .f32⟩
  | .hbm, ⟨16, _⟩ => ⟨S8x2048x1, .f32⟩
  | .hbm, ⟨17, _⟩ => ⟨S8x2048x1, .f32⟩
  | .hbm, ⟨18, _⟩ => ⟨S8x2048x1, .f32⟩
  | .hbm, ⟨19, _⟩ => ⟨S8x2048x1024, .f32⟩
  | .hbm, ⟨20, _⟩ => ⟨S8x2048x1024, .f32⟩
  | .hbm, ⟨21, _⟩ => ⟨S1x1x1024, .f32⟩
  | .hbm, ⟨22, _⟩ => ⟨S8x2048x1024, .f32⟩
  | .hbm, ⟨23, _⟩ => ⟨S8x2048x1024, .f32⟩
  | .hbm, ⟨24, _⟩ => ⟨S8x2048x5632, .f32⟩
  | .hbm, ⟨25, _⟩ => ⟨S8x2048x2816, .f32⟩
  | .hbm, ⟨26, _⟩ => ⟨S8x2048x2816, .f32⟩
  | .hbm, ⟨27, _⟩ => ⟨S8x2048x2816, .f32⟩
  | .hbm, ⟨28, _⟩ => ⟨S_, .f32⟩
  | .hbm, ⟨29, _⟩ => ⟨S8x2048x2816, .f32⟩
  | .hbm, ⟨30, _⟩ => ⟨S8x2048x2816, .f32⟩
  | .hbm, ⟨31, _⟩ => ⟨S_, .f32⟩
  | .hbm, ⟨32, _⟩ => ⟨S8x2048x2816, .f32⟩
  | .hbm, ⟨33, _⟩ => ⟨S8x2048x2816, .f32⟩
  | .hbm, ⟨34, _⟩ => ⟨S8x2048x2816, .f32⟩
  | .hbm, ⟨35, _⟩ => ⟨S8x2048x2816, .f32⟩
  | .hbm, ⟨36, _⟩ => ⟨S8x2048x2816, .f32⟩
  | .hbm, ⟨37, _⟩ => ⟨S8x2048x1024, .f32⟩
  | .hbm, ⟨38, _⟩ => ⟨S_, .f32⟩
  | .hbm, ⟨39, _⟩ => ⟨S8x2048x1024, .f32⟩
  | .hbm, ⟨40, _⟩ => ⟨S8x2048x1024, .f32⟩
  | .hbm, ⟨41, _⟩ => ⟨S8x2048x1024, .f32⟩
  | .hbm, ⟨42, _⟩ => ⟨S8x2048x1024, .f32⟩
  | .hbm, ⟨43, _⟩ => ⟨S_, .f32⟩
  | .hbm, ⟨44, _⟩ => ⟨S8x2048, .f32⟩
  | .hbm, ⟨45, _⟩ => ⟨S8x2048x1, .f32⟩
  | .hbm, ⟨46, _⟩ => ⟨S_, .f32⟩
  | .hbm, ⟨47, _⟩ => ⟨S8x2048x1, .f32⟩
  | .hbm, ⟨48, _⟩ => ⟨S8x2048x1, .f32⟩
  | .hbm, ⟨49, _⟩ => ⟨S_, .f32⟩
  | .hbm, ⟨50, _⟩ => ⟨S8x2048x1, .f32⟩
  | .hbm, ⟨51, _⟩ => ⟨S8x2048x1, .f32⟩
  | .hbm, ⟨52, _⟩ => ⟨S8x2048x1, .f32⟩
  | .hbm, ⟨53, _⟩ => ⟨S8x2048x1024, .f32⟩
  | .hbm, ⟨54, _⟩ => ⟨S8x2048x1024, .f32⟩
  | .hbm, ⟨55, _⟩ => ⟨S1x1x1024, .f32⟩
  | .hbm, ⟨56, _⟩ => ⟨S8x2048x1024, .f32⟩
  | .hbm, ⟨57, _⟩ => ⟨S8x2048x1024, .f32⟩
  | .hbm, ⟨58, _⟩ => ⟨S1x1024x1536, .f32⟩
  | .hbm, ⟨59, _⟩ => ⟨S1024x1536, .f32⟩
  | .hbm, ⟨60, _⟩ => ⟨S8x2048x1536, .f32⟩
  | .hbm, ⟨61, _⟩ => ⟨S_, .f32⟩
  | .hbm, ⟨62, _⟩ => ⟨S8x2048x1536, .f32⟩
  | .hbm, ⟨63, _⟩ => ⟨S8x2048x1536, .f32⟩
  | .hbm, ⟨64, _⟩ => ⟨S16384x1024, .f32⟩
  | .hbm, ⟨65, _⟩ => ⟨S16384x1536, .f32⟩
  | .hbm, ⟨66, _⟩ => ⟨S1x1024x5632, .f32⟩
  | .hbm, ⟨67, _⟩ => ⟨S1024x5632, .f32⟩
  | .hbm, ⟨68, _⟩ => ⟨S1x2816x1024, .f32⟩
  | .hbm, ⟨69, _⟩ => ⟨S2816x1024, .f32⟩
  | .hbm, ⟨70, _⟩ => ⟨S1024x2816, .f32⟩
  | .hbm, ⟨71, _⟩ => ⟨S1024x2816, .bf16⟩
  | .hbm, ⟨72, _⟩ => ⟨S1024x2816, .f32⟩
  | .hbm, ⟨73, _⟩ => ⟨S1024x2816, .bf16⟩
  | .hbm, ⟨74, _⟩ => ⟨S2816x1024, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_2 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_3 : Ref sig .tc := ⟨.hbm, 43, rfl⟩
abbrev main_v23 : Ref sig .tc := ⟨.hbm, 44, rfl⟩
abbrev main_v24 : Ref sig .tc := ⟨.hbm, 45, rfl⟩
abbrev main_cst_4 : Ref sig .tc := ⟨.hbm, 46, rfl⟩
abbrev main_v25 : Ref sig .tc := ⟨.hbm, 47, rfl⟩
abbrev main_v26 : Ref sig .tc := ⟨.hbm, 48, rfl⟩
abbrev main_cst_5 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_6 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩

abbrev nD : Nat := 1
abbrev τ : Topo := Topo.v7x

variable {F : FTy → Type} [FloatOps F]
-- ==== Kernel6.lean ====
abbrev S8x2048x1024 : Shape := ⟨3, ![8, 2048, 1024]⟩
abbrev S8x2048x512 : Shape := ⟨3, ![8, 2048, 512]⟩
abbrev S1024 : Shape := ⟨1, ![1024]⟩
abbrev S1024x5632 : Shape := ⟨2, ![1024, 5632]⟩
abbrev S2816x1024 : Shape := ⟨2, ![2816, 1024]⟩
abbrev S2x512x1024 : Shape := ⟨3, ![2, 512, 1024]⟩
abbrev S4x1024x5632 : Shape := ⟨3, ![4, 1024, 5632]⟩
abbrev S4x2816x1024 : Shape := ⟨3, ![4, 2816, 1024]⟩
abbrev S16384x1024 : Shape := ⟨2, ![16384, 1024]⟩
abbrev S1024x2816 : Shape := ⟨2, ![1024, 2816]⟩
abbrev S16384x512 : Shape := ⟨2, ![16384, 512]⟩
abbrev S1x1024 : Shape := ⟨2, ![1, 1024]⟩
abbrev S512x1024 : Shape := ⟨2, ![512, 1024]⟩
abbrev S512x512 : Shape := ⟨2, ![512, 512]⟩
abbrev S1x512x1024 : Shape := ⟨3, ![1, 512, 1024]⟩
abbrev S1x32x2816 : Shape := ⟨3, ![1, 32, 2816]⟩
abbrev S1x176x1024 : Shape := ⟨3, ![1, 176, 1024]⟩
abbrev S32x2816 : Shape := ⟨2, ![32, 2816]⟩
abbrev S176x1024 : Shape := ⟨2, ![176, 1024]⟩
abbrev S512 : Shape := ⟨1, ![512]⟩
abbrev S512x1 : Shape := ⟨2, ![512, 1]⟩
abbrev S1024x1536 : Shape := ⟨2, ![1024, 1536]⟩
abbrev S512x1536 : Shape := ⟨2, ![512, 1536]⟩
abbrev S1536x1024 : Shape := ⟨2, ![1536, 1024]⟩
abbrev S1024x1280 : Shape := ⟨2, ![1024, 1280]⟩
abbrev S512x1280 : Shape := ⟨2, ![512, 1280]⟩
abbrev S1280x1024 : Shape := ⟨2, ![1280, 1024]⟩

abbrev nBuf : Space → Nat
  | .hbm => 21
  | .vmem => 23
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S2x512x1024, .f32⟩
  | .hbm, ⟨6, _⟩ => ⟨S4x1024x5632, .f32⟩
  | .hbm, ⟨7, _⟩ => ⟨S4x2816x1024, .f32⟩
  | .hbm, ⟨8, _⟩ => ⟨S16384x1024, .f32⟩
  | .hbm, ⟨9, _⟩ => ⟨S1024x2816, .f32⟩
  | .hbm, ⟨10, _⟩ => ⟨S1024x2816, .bf16⟩
  | .hbm, ⟨11, _⟩ => ⟨S1024x2816, .f32⟩
  | .hbm, ⟨12, _⟩ => ⟨S1024x2816, .bf16⟩
  | .hbm, ⟨13, _⟩ => ⟨S2816x1024, .bf16⟩
  | .hbm, ⟨14, _⟩ => ⟨S16384x512, .f32⟩
  | .hbm, ⟨15, _⟩ => ⟨S2x512x1024, .bf16⟩
  | .hbm, ⟨16, _⟩ => ⟨S1x1024, .f32⟩
  | .hbm, ⟨17, _⟩ => ⟨S16384x1024, .f32⟩
  | .hbm, ⟨18, _⟩ => ⟨S1024x2816, .bf16⟩
  | .hbm, ⟨19, _⟩ => ⟨S1024x2816, .bf16⟩
  | .hbm, ⟨20, _⟩ => ⟨S2816x1024, .bf16⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S1x512x1024, .bf16⟩
  | .local _ .vmem, ⟨5, _⟩ => ⟨S1x1024, .f32⟩
  | .local _ .vmem, ⟨6, _⟩ => ⟨S1024x2816, .bf16⟩
  | .local _ .vmem, ⟨7, _⟩ => ⟨S1024x2816, .bf16⟩
  | .local _ .vmem, ⟨8, _⟩ => ⟨S2816x1024, .bf16⟩
  | .local _ .vmem, ⟨9, _⟩ => ⟨S1x32x2816, .f32⟩
  | .local _ .vmem, ⟨10, _⟩ => ⟨S1x32x2816, .f32⟩
  | .local _ .vmem, ⟨11, _⟩ => ⟨S1x32x2816, .f32⟩
  | .local _ .vmem, ⟨12, _⟩ => ⟨S1x32x2816, .f32⟩
  | .local _ .vmem, ⟨13, _⟩ => ⟨S1x176x1024, .f32⟩
  | .local _ .vmem, ⟨14, _⟩ => ⟨S1x176x1024, .f32⟩
  | .local _ .vmem, ⟨15, _⟩ => ⟨S512x1024, .f32⟩
  | .local _ .vmem, ⟨16, _⟩ => ⟨S512x1024, .f32⟩
  | .local _ .vmem, ⟨17, _⟩ => ⟨S32x2816, .bf16⟩
  | .local _ .vmem, ⟨18, _⟩ => ⟨S32x2816, .bf16⟩
  | .local _ .vmem, ⟨19, _⟩ => ⟨S32x2816, .bf16⟩
  | .local _ .vmem, ⟨20, _⟩ => ⟨S32x2816, .bf16⟩
  | .local _ .vmem, ⟨21, _⟩ => ⟨S176x1024, .bf16⟩
  | .local _ .vmem, ⟨22, _⟩ => ⟨S176x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev main_v9_3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_8 (i : grid0.Coords) : Fin 3 → Nat :=
  let arg0 : BitVec 32 := BitVec.ofNat 32 (i 0).val
  let c3_i32 : BitVec 32 := 3#32
  let c1_i32 : BitVec 32 := 1#32
  let c0_i32 : BitVec 32 := 0#32
  ![c3_i32.toNat, arg0.toNat, c1_i32.toNat]

def cc0_transform_9 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32 : BitVec 32 := 3#32
  let c0_i32_4 : BitVec 32 := 0#32
  let c0_i32_5 : BitVec 32 := 0#32
  ![c3_i32.toNat, v16.toNat, c0_i32_4.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x32x2816 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x32x2816 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x176x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S32x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S32x2816 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S176x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference6Ideal.lean ====
abbrev S8x2048x1024 : Shape := ⟨3, ![8, 2048, 1024]⟩
abbrev S8x2048x512 : Shape := ⟨3, ![8, 2048, 512]⟩
abbrev S1024 : Shape := ⟨1, ![1024]⟩
abbrev S1024x5632 : Shape := ⟨2, ![1024, 5632]⟩
abbrev S2816x1024 : Shape := ⟨2, ![2816, 1024]⟩
abbrev S2x512x1024 : Shape := ⟨3, ![2, 512, 1024]⟩
abbrev S4x1024x5632 : Shape := ⟨3, ![4, 1024, 5632]⟩
abbrev S4x2816x1024 : Shape := ⟨3, ![4, 2816, 1024]⟩
abbrev S1x512x1024 : Shape := ⟨3, ![1, 512, 1024]⟩
abbrev S512x1024 : Shape := ⟨2, ![512, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x5632 : Shape := ⟨3, ![8, 2048, 5632]⟩
abbrev S8x2048x2816 : Shape := ⟨3, ![8, 2048, 2816]⟩
abbrev S16384x1024 : Shape := ⟨2, ![16384, 1024]⟩
abbrev S1x1024x5632 : Shape := ⟨3, ![1, 1024, 5632]⟩
abbrev S1x2816x1024 : Shape := ⟨3, ![1, 2816, 1024]⟩
abbrev S1024x2816 : Shape := ⟨2, ![1024, 2816]⟩

abbrev nBuf : Space → Nat
  | .hbm => 56
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S2x512x1024, .f32⟩
  | .hbm, ⟨6, _⟩ => ⟨S4x1024x5632, .f32⟩
  | .hbm, ⟨7, _⟩ => ⟨S4x2816x1024, .f32⟩
  | .hbm, ⟨8, _⟩ => ⟨S1x512x1024, .f32⟩
  | .hbm, ⟨9, _⟩ => ⟨S512x1024, .f32⟩
  | .hbm, ⟨10, _⟩ => ⟨S8x2048x1024, .f32⟩
  | .hbm, ⟨11, _⟩ => ⟨S8x2048x1024, .f32⟩
  | .hbm, ⟨12, _⟩ => ⟨S8x2048x1024, .f32⟩
  | .hbm, ⟨13, _⟩ => ⟨S_, .f32⟩
  | .hbm, ⟨14, _⟩ => ⟨S8x2048, .f32⟩
  | .hbm, ⟨15, _⟩ => ⟨S8x2048x1, .f32⟩
  | .hbm, ⟨16, _⟩ => ⟨S_, .f32⟩
  | .hbm, ⟨17, _⟩ => ⟨S8x2048x1, .f32⟩
  | .hbm, ⟨18, _⟩ => ⟨S8x2048x1, .f32⟩
  | .hbm, ⟨19, _⟩ => ⟨S_, .f32⟩
  | .hbm, ⟨20, _⟩ => ⟨S8x2048x1, .f32⟩
  | .hbm, ⟨21, _⟩ => ⟨S8x2048x1, .f32⟩
  | .hbm, ⟨22, _⟩ => ⟨S8x2048x1, .f32⟩
  | .hbm, ⟨23, _⟩ => ⟨S8x2048x1024, .f32⟩
  | .hbm, ⟨24, _⟩ => ⟨S8x2048x1024, .f32⟩
  | .hbm, ⟨25, _⟩ => ⟨S1x1x1024, .f32⟩
  | .hbm, ⟨26, _⟩ => ⟨S8x2048x1024, .f32⟩
  | .hbm, ⟨27, _⟩ => ⟨S8x2048x1024, .f32⟩
  | .hbm, ⟨28, _⟩ => ⟨S8x2048x5632, .f32⟩
  | .hbm, ⟨29, _⟩ => ⟨S8x2048x2816, .f32⟩
  | .hbm, ⟨30, _⟩ => ⟨S8x2048x2816, .f32⟩
  | .hbm, ⟨31, _⟩ => ⟨S8x2048x2816, .f32⟩
  | .hbm, ⟨32, _⟩ => ⟨S_, .f32⟩
  | .hbm, ⟨33, _⟩ => ⟨S8x2048x2816, .f32⟩
  | .hbm, ⟨34, _⟩ => ⟨S8x2048x2816, .f32⟩
  | .hbm, ⟨35, _⟩ => ⟨S_, .f32⟩
  | .hbm, ⟨36, _⟩ => ⟨S8x2048x2816, .f32⟩
  | .hbm, ⟨37, _⟩ => ⟨S8x2048x2816, .f32⟩
  | .hbm, ⟨38, _⟩ => ⟨S8x2048x2816, .f32⟩
  | .hbm, ⟨39, _⟩ => ⟨S8x2048x2816, .f32⟩
  | .hbm, ⟨40, _⟩ => ⟨S8x2048x2816, .f32⟩
  | .hbm, ⟨41, _⟩ => ⟨S8x2048x1024, .f32⟩
  | .hbm, ⟨42, _⟩ => ⟨S_, .f32⟩
  | .hbm, ⟨43, _⟩ => ⟨S8x2048x1024, .f32⟩
  | .hbm, ⟨44, _⟩ => ⟨S8x2048x1024, .f32⟩
  | .hbm, ⟨45, _⟩ => ⟨S8x2048x1024, .f32⟩
  | .hbm, ⟨46, _⟩ => ⟨S16384x1024, .f32⟩
  | .hbm, ⟨47, _⟩ => ⟨S1x1024x5632, .f32⟩
  | .hbm, ⟨48, _⟩ => ⟨S1024x5632, .f32⟩
  | .hbm, ⟨49, _⟩ => ⟨S1x2816x1024, .f32⟩
  | .hbm, ⟨50, _⟩ => ⟨S2816x1024, .f32⟩
  | .hbm, ⟨51, _⟩ => ⟨S1024x2816, .f32⟩
  | .hbm, ⟨52, _⟩ => ⟨S1024x2816, .bf16⟩
  | .hbm, ⟨53, _⟩ => ⟨S1024x2816, .f32⟩
  | .hbm, ⟨54, _⟩ => ⟨S1024x2816, .bf16⟩
  | .hbm, ⟨55, _⟩ => ⟨S2816x1024, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_2 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩

abbrev nD : Nat := 1
abbrev τ : Topo := Topo.v7x

variable {F : FTy → Type} [FloatOps F]
-- ==== Kernel7.lean ====
abbrev S8x2048x1024 : Shape := ⟨3, ![8, 2048, 1024]⟩
abbrev S1024 : Shape := ⟨1, ![1024]⟩
abbrev S1024x3072 : Shape := ⟨2, ![1024, 3072]⟩
abbrev S1x1024 : Shape := ⟨2, ![1, 1024]⟩
abbrev S8x2048x3072 : Shape := ⟨3, ![8, 2048, 3072]⟩
abbrev S8x1024x128 : Shape := ⟨3, ![8, 1024, 128]⟩
abbrev S8x1024x512 : Shape := ⟨3, ![8, 1024, 512]⟩
abbrev S8x1024x2048 : Shape := ⟨3, ![8, 1024, 2048]⟩
abbrev S1x512x1024 : Shape := ⟨3, ![1, 512, 1024]⟩
abbrev S1x512x3072 : Shape := ⟨3, ![1, 512, 3072]⟩
abbrev S1x1024x128 : Shape := ⟨3, ![1, 1024, 128]⟩
abbrev S1x1024x512 : Shape := ⟨3, ![1, 1024, 512]⟩
abbrev S512x1024 : Shape := ⟨2, ![512, 1024]⟩
abbrev S512 : Shape := ⟨1, ![512]⟩
abbrev S512x1 : Shape := ⟨2, ![512, 1]⟩
abbrev S512x3072 : Shape := ⟨2, ![512, 3072]⟩
abbrev S128x1024 : Shape := ⟨2, ![128, 1024]⟩
abbrev S1024x128 : Shape := ⟨2, ![1024, 128]⟩
abbrev S1024x512 : Shape := ⟨2, ![1024, 512]⟩

abbrev nBuf : Space → Nat
  | .hbm => 9
  | .vmem => 12
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x3072, .f32⟩
  | .hbm, ⟨3, _⟩ => ⟨S1024x3072, .bf16⟩
  | .hbm, ⟨4, _⟩ => ⟨S1x1024, .f32⟩
  | .hbm, ⟨5, _⟩ => ⟨S8x2048x3072, .f32⟩
  | .hbm, ⟨6, _⟩ => ⟨S8x1024x128, .f32⟩
  | .hbm, ⟨7, _⟩ => ⟨S8x1024x512, .f32⟩
  | .hbm, ⟨8, _⟩ => ⟨S8x1024x2048, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x3072, .bf16⟩
  | .local _ .vmem, ⟨4, _⟩ => ⟨S1x512x3072, .f32⟩
  | .local _ .vmem, ⟨5, _⟩ => ⟨S1x512x3072, .f32⟩
  | .local _ .vmem, ⟨6, _⟩ => ⟨S1x1024x128, .f32⟩
  | .local _ .vmem, ⟨7, _⟩ => ⟨S1x1024x128, .f32⟩
  | .local _ .vmem, ⟨8, _⟩ => ⟨S1x1024x512, .f32⟩
  | .local _ .vmem, ⟨9, _⟩ => ⟨S1x1024x512, .f32⟩
  | .local _ .vmem, ⟨10, _⟩ => ⟨S1x1024x512, .f32⟩
  | .local _ .vmem, ⟨11, _⟩ => ⟨S1x1024x512, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c3_i32 : BitVec 32 := 3#32
  let v23 : BitVec 1 := Scalar.cmpi .sge arg1 c3_i32
  let v24 : BitVec 32 := Scalar.extui v23
  let c0_i32 : BitVec 32 := 0#32
  let v25 : BitVec 1 := Scalar.cmpi .ne v24 c0_i32
  v25

def k0_cond2 (i : grid0.Coords) : BitVec 1 :=
  let arg1 : BitVec 32 := BitVec.ofNat 32 (i 1).val
  let c3_i32_12 : BitVec 32 := 3#32
  let v26 : BitVec 1 := Scalar.cmpi .sge arg1 c3_i32_12
  let v27 : BitVec 32 := Scalar.extui v26
  let c0_i32_13 : BitVec 32 := 0#32
  let v28 : BitVec 1 := Scalar.cmpi .ne v27 c0_i32_13
  v28

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi arg1 c3_i32
  let c0_i32 : BitVec 32 := 0#32
  let v1 : BitVec 32 := Scalar.maxsi v0 c0_i32
  let c0_i32_0 : BitVec 32 := 0#32
  let c0_i32_1 : BitVec 32 := 0#32
  ![arg0.toNat, c0_i32_0.toNat, v1.toNat]

def cc0_transform_5 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi arg1 c3_i32
  let c0_i32 : BitVec 32 := 0#32
  let v1 : BitVec 32 := Scalar.maxsi v0 c0_i32
  let c0_i32_0 : BitVec 32 := 0#32
  let c0_i32_1 : BitVec 32 := 0#32
  ![arg0.toNat, c0_i32_0.toNat, v1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let v1 : BitVec 32 := Scalar.maxsi v0 c0_i32_0
  let c0_i32_1 : BitVec 32 := 0#32
  let c0_i32_2 : BitVec 32 := 0#32
  ![arg0.toNat, c0_i32_1.toNat, v1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference7Ideal.lean ====
abbrev S8x2048x1024 : Shape := ⟨3, ![8, 2048, 1024]⟩
abbrev S1024 : Shape := ⟨1, ![1024]⟩
abbrev S1024x3072 : Shape := ⟨2, ![1024, 3072]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x3072 : Shape := ⟨3, ![8, 2048, 3072]⟩
abbrev S8x2048x3x2x8x64 : Shape := ⟨6, ![8, 2048, 3, 2, 8, 64]⟩
abbrev S8x128x1x2x8x64 : Shape := ⟨6, ![8, 128, 1, 2, 8, 64]⟩
abbrev S8x128x2x8x64 : Shape := ⟨5, ![8, 128, 2, 8, 64]⟩
abbrev S8x512x1x2x8x64 : Shape := ⟨6, ![8, 512, 1, 2, 8, 64]⟩
abbrev S8x512x2x8x64 : Shape := ⟨5, ![8, 512, 2, 8, 64]⟩
abbrev S8x2048x1x2x8x64 : Shape := ⟨6, ![8, 2048, 1, 2, 8, 64]⟩
abbrev S8x2048x2x8x64 : Shape := ⟨5, ![8, 2048, 2, 8, 64]⟩
abbrev S8x128x1024 : Shape := ⟨3, ![8, 128, 1024]⟩
abbrev S8x1024x128 : Shape := ⟨3, ![8, 1024, 128]⟩
abbrev S8x512x1024 : Shape := ⟨3, ![8, 512, 1024]⟩
abbrev S8x1024x512 : Shape := ⟨3, ![8, 1024, 512]⟩
abbrev S8x1024x2048 : Shape := ⟨3, ![8, 1024, 2048]⟩

abbrev nBuf : Space → Nat
  | .hbm => 34
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S1024x3072, .f32⟩
  | .hbm, ⟨3, _⟩ => ⟨S8x2048x1024, .f32⟩
  | .hbm, ⟨4, _⟩ => ⟨S_, .f32⟩
  | .hbm, ⟨5, _⟩ => ⟨S8x2048, .f32⟩
  | .hbm, ⟨6, _⟩ => ⟨S8x2048x1, .f32⟩
  | .hbm, ⟨7, _⟩ => ⟨S_, .f32⟩
  | .hbm, ⟨8, _⟩ => ⟨S8x2048x1, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S8x2048x1, .f32⟩
  | .hbm, ⟨14, _⟩ => ⟨S8x2048x1024, .f32⟩
  | .hbm, ⟨15, _⟩ => ⟨S8x2048x1024, .f32⟩
  | .hbm, ⟨16, _⟩ => ⟨S1x1x1024, .f32⟩
  | .hbm, ⟨17, _⟩ => ⟨S8x2048x1024, .f32⟩
  | .hbm, ⟨18, _⟩ => ⟨S8x2048x1024, .f32⟩
  | .hbm, ⟨19, _⟩ => ⟨S8x2048x3072, .f32⟩
  | .hbm, ⟨20, _⟩ => ⟨S8x2048x3x2x8x64, .f32⟩
  | .hbm, ⟨21, _⟩ => ⟨S8x128x1x2x8x64, .f32⟩
  | .hbm, ⟨22, _⟩ => ⟨S8x128x2x8x64, .f32⟩
  | .hbm, ⟨23, _⟩ => ⟨S8x512x1x2x8x64, .f32⟩
  | .hbm, ⟨24, _⟩ => ⟨S8x512x2x8x64, .f32⟩
  | .hbm, ⟨25, _⟩ => ⟨S8x2048x1x2x8x64, .f32⟩
  | .hbm, ⟨26, _⟩ => ⟨S8x2048x2x8x64, .f32⟩
  | .hbm, ⟨27, _⟩ => ⟨S8x2048x3072, .f32⟩
  | .hbm, ⟨28, _⟩ => ⟨S8x128x1024, .f32⟩
  | .hbm, ⟨29, _⟩ => ⟨S8x1024x128, .f32⟩
  | .hbm, ⟨30, _⟩ => ⟨S8x512x1024, .f32⟩
  | .hbm, ⟨31, _⟩ => ⟨S8x1024x512, .f32⟩
  | .hbm, ⟨32, _⟩ => ⟨S8x2048x1024, .f32⟩
  | .hbm, ⟨33, _⟩ => ⟨S8x1024x2048, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩

abbrev nD : Nat := 1
abbrev τ : Topo := Topo.v7x

variable {F : FTy → Type} [FloatOps F]
-- ==== Kernel8.lean ====
abbrev S32x1x1024 : Shape := ⟨3, ![32, 1, 1024]⟩
abbrev S1024 : Shape := ⟨1, ![1024]⟩
abbrev S1024x3072 : Shape := ⟨2, ![1024, 3072]⟩
abbrev S32x1024 : Shape := ⟨2, ![32, 1024]⟩
abbrev S1x1024 : Shape := ⟨2, ![1, 1024]⟩
abbrev S32x3072 : Shape := ⟨2, ![32, 3072]⟩
abbrev S32 : Shape := ⟨1, ![32]⟩
abbrev S32x1 : Shape := ⟨2, ![32, 1]⟩

abbrev nBuf : Space → Nat
  | .hbm => 7
  | .vmem => 4
  | .smem => 0
  | _ => 0

abbrev bufTy : (tb : Table) → Fin (tcTables nBuf tb) → BufTy
  | .hbm, ⟨0, _⟩ => ⟨S32x1x1024, .f32⟩
  | .hbm, ⟨1, _⟩ => ⟨S1024, .f32⟩
  | .hbm, ⟨2, _⟩ => ⟨S1024x3072, .f32⟩
  | .hbm, ⟨3, _⟩ => ⟨S32x1024, .f32⟩
  | .hbm, ⟨4, _⟩ => ⟨S1024x3072, .bf16⟩
  | .hbm, ⟨5, _⟩ => ⟨S1x1024, .f32⟩
  | .hbm, ⟨6, _⟩ => ⟨S32x3072, .f32⟩
  | .local _ .vmem, ⟨0, _⟩ => ⟨S32x1024, .f32⟩
  | .local _ .vmem, ⟨1, _⟩ => ⟨S1x1024, .f32⟩
  | .local _ .vmem, ⟨2, _⟩ => ⟨S1024x3072, .bf16⟩
  | .local _ .vmem, ⟨3, _⟩ => ⟨S32x3072, .f32⟩
  | _, _ => ⟨S32x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]
-- ==== Reference8Ideal.lean ====
abbrev S32x1x1024 : Shape := ⟨3, ![32, 1, 1024]⟩
abbrev S1024 : Shape := ⟨1, ![1024]⟩
abbrev S1024x3072 : Shape := ⟨2, ![1024, 3072]⟩
abbrev S_ : Shape := ⟨0, ![]⟩
abbrev S32x1 : Shape := ⟨2, ![32, 1]⟩
abbrev S32x1x1 : Shape := ⟨3, ![32, 1, 1]⟩
abbrev S1x1x1024 : Shape := ⟨3, ![1, 1, 1024]⟩
abbrev S32x1x3072 : Shape := ⟨3, ![32, 1, 3072]⟩
abbrev S32x1x3x2x8x64 : Shape := ⟨6, ![32, 1, 3, 2, 8, 64]⟩
abbrev S32x3072 : Shape := ⟨2, ![32, 3072]⟩

abbrev nBuf : Space → Nat
  | .hbm => 22
  | .vmem => 0
  | .smem => 0
  | _ => 0

abbrev bufTy : (tb : Table) → Fin (tcTables nBuf tb) → BufTy
  | .hbm, ⟨0, _⟩ => ⟨S32x1x1024, .f32⟩
  | .hbm, ⟨1, _⟩ => ⟨S1024, .f32⟩
  | .hbm, ⟨2, _⟩ => ⟨S1024x3072, .f32⟩
  | .hbm, ⟨3, _⟩ => ⟨S32x1x1024, .f32⟩
  | .hbm, ⟨4, _⟩ => ⟨S_, .f32⟩
  | .hbm, ⟨5, _⟩ => ⟨S32x1, .f32⟩
  | .hbm, ⟨6, _⟩ => ⟨S32x1x1, .f32⟩
  | .hbm, ⟨7, _⟩ => ⟨S_, .f32⟩
  | .hbm, ⟨8, _⟩ => ⟨S32x1x1, .f32⟩
  | .hbm, ⟨9, _⟩ => ⟨S32x1x1, .f32⟩
  | .hbm, ⟨10, _⟩ => ⟨S_, .f32⟩
  | .hbm, ⟨11, _⟩ => ⟨S32x1x1, .f32⟩
  | .hbm, ⟨12, _⟩ => ⟨S32x1x1, .f32⟩
  | .hbm, ⟨13, _⟩ => ⟨S32x1x1, .f32⟩
  | .hbm, ⟨14, _⟩ => ⟨S32x1x1024, .f32⟩
  | .hbm, ⟨15, _⟩ => ⟨S32x1x1024, .f32⟩
  | .hbm, ⟨16, _⟩ => ⟨S1x1x1024, .f32⟩
  | .hbm, ⟨17, _⟩ => ⟨S32x1x1024, .f32⟩
  | .hbm, ⟨18, _⟩ => ⟨S32x1x1024, .f32⟩
  | .hbm, ⟨19, _⟩ => ⟨S32x1x3072, .f32⟩
  | .hbm, ⟨20, _⟩ => ⟨S32x1x3x2x8x64, .f32⟩
  | .hbm, ⟨21, _⟩ => ⟨S32x3072, .f32⟩
  | _, _ => ⟨S32x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel9.lean ====
abbrev S32x1x1024 : Shape := ⟨3, ![32, 1, 1024]⟩
abbrev S1024 : Shape := ⟨1, ![1024]⟩
abbrev S32x64x64 : Shape := ⟨3, ![32, 64, 64]⟩
abbrev S64 : Shape := ⟨1, ![64]⟩
abbrev S64x64 : Shape := ⟨2, ![64, 64]⟩
abbrev S64x64x16 : Shape := ⟨3, ![64, 64, 16]⟩
abbrev S64x16x64 : Shape := ⟨3, ![64, 16, 64]⟩
abbrev S64x16 : Shape := ⟨2, ![64, 16]⟩
abbrev S2x1024x2048 : Shape := ⟨3, ![2, 1024, 2048]⟩
abbrev S2048 : Shape := ⟨1, ![2048]⟩
abbrev S64x1 : Shape := ⟨2, ![64, 1]⟩
abbrev S8x128x1024 : Shape := ⟨3, ![8, 128, 1024]⟩
abbrev S8x512x128 : Shape := ⟨3, ![8, 512, 128]⟩
abbrev S8x256x1024 : Shape := ⟨3, ![8, 256, 1024]⟩
abbrev S8x512x256 : Shape := ⟨3, ![8, 512, 256]⟩
abbrev S8x256x256 : Shape := ⟨3, ![8, 256, 256]⟩
abbrev S64x1x64 : Shape := ⟨3, ![64, 1, 64]⟩
abbrev S64x16x16 : Shape := ⟨3, ![64, 16, 16]⟩
abbrev S64x512 : Shape := ⟨2, ![64, 512]⟩
abbrev S512x64 : Shape := ⟨2, ![512, 64]⟩
abbrev S128x16 : Shape := ⟨2, ![128, 16]⟩
abbrev S128x512 : Shape := ⟨2, ![128, 512]⟩
abbrev S512x128 : Shape := ⟨2, ![512, 128]⟩
abbrev S128x128 : Shape := ⟨2, ![128, 128]⟩
abbrev S8x16x64 : Shape := ⟨3, ![8, 16, 64]⟩
abbrev S128x64 : Shape := ⟨2, ![128, 64]⟩
abbrev S128x1024 : Shape := ⟨2, ![128, 1024]⟩
abbrev S1x128x1024 : Shape := ⟨3, ![1, 128, 1024]⟩
abbrev S1x512x128 : Shape := ⟨3, ![1, 512, 128]⟩
abbrev S256x1024 : Shape := ⟨2, ![256, 1024]⟩
abbrev S1x256x1024 : Shape := ⟨3, ![1, 256, 1024]⟩
abbrev S512x256 : Shape := ⟨2, ![512, 256]⟩
abbrev S1x512x256 : Shape := ⟨3, ![1, 512, 256]⟩
abbrev S8x16x16 : Shape := ⟨3, ![8, 16, 16]⟩
abbrev S128x256 : Shape := ⟨2, ![128, 256]⟩
abbrev S256x256 : Shape := ⟨2, ![256, 256]⟩
abbrev S1x256x256 : Shape := ⟨3, ![1, 256, 256]⟩
abbrev S1x4096 : Shape := ⟨2, ![1, 4096]⟩
abbrev S32x4096 : Shape := ⟨2, ![32, 4096]⟩
abbrev S1x32x1024 : Shape := ⟨3, ![1, 32, 1024]⟩
abbrev S1x1024 : Shape := ⟨2, ![1, 1024]⟩
abbrev S1x2048 : Shape := ⟨2, ![1, 2048]⟩
abbrev S1x1024x2048 : Shape := ⟨3, ![1, 1024, 2048]⟩
abbrev S8x32x128 : Shape := ⟨3, ![8, 32, 128]⟩
abbrev S32x1024 : Shape := ⟨2, ![32, 1024]⟩
abbrev S32 : Shape := ⟨1, ![32]⟩
abbrev S32x1 : Shape := ⟨2, ![32, 1]⟩
abbrev S32x128 : Shape := ⟨2, ![32, 128]⟩
abbrev S1x32x128 : Shape := ⟨3, ![1, 32, 128]⟩
abbrev S32x512 : Shape := ⟨2, ![32, 512]⟩
abbrev S1x512 : Shape := ⟨2, ![1, 512]⟩
abbrev S1x128 : Shape := ⟨2, ![1, 128]⟩
abbrev S1024x2048 : Shape := ⟨2, ![1024, 2048]⟩
abbrev S32x2048 : Shape := ⟨2, ![32, 2048]⟩

abbrev nBuf : Space → Nat
  | .hbm => 40
  | .vmem => 34
  | .smem => 0
  | _ => 0

abbrev bufTy : (tb : Table) → Fin (tcTables nBuf tb) → BufTy
  | .hbm, ⟨0, _⟩ => ⟨S32x1x1024, .f32⟩
  | .hbm, ⟨1, _⟩ => ⟨S1024, .f32⟩
  | .hbm, ⟨2, _⟩ => ⟨S32x64x64, .f32⟩
  | .hbm, ⟨3, _⟩ => ⟨S32x64x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64x64x16, .f32⟩
  | .hbm, ⟨8, _⟩ => ⟨S64x64x16, .f32⟩
  | .hbm, ⟨9, _⟩ => ⟨S64x16x64, .f32⟩
  | .hbm, ⟨10, _⟩ => ⟨S64x16x64, .f32⟩
  | .hbm, ⟨11, _⟩ => ⟨S64x16, .f32⟩
  | .hbm, ⟨12, _⟩ => ⟨S2x1024x2048, .f32⟩
  | .hbm, ⟨13, _⟩ => ⟨S2048, .f32⟩
  | .hbm, ⟨14, _⟩ => ⟨S64x1, .f32⟩
  | .hbm, ⟨15, _⟩ => ⟨S64x16x64, .f32⟩
  | .hbm, ⟨16, _⟩ => ⟨S64x16x64, .f32⟩
  | .hbm, ⟨17, _⟩ => ⟨S64x64, .f32⟩
  | .hbm, ⟨18, _⟩ => ⟨S64x64, .f32⟩
  | .hbm, ⟨19, _⟩ => ⟨S8x128x1024, .bf16⟩
  | .hbm, ⟨20, _⟩ => ⟨S8x512x128, .bf16⟩
  | .hbm, ⟨21, _⟩ => ⟨S8x512x128, .bf16⟩
  | .hbm, ⟨22, _⟩ => ⟨S8x256x1024, .bf16⟩
  | .hbm, ⟨23, _⟩ => ⟨S8x512x256, .bf16⟩
  | .hbm, ⟨24, _⟩ => ⟨S8x512x256, .bf16⟩
  | .hbm, ⟨25, _⟩ => ⟨S8x256x256, .bf16⟩
  | .hbm, ⟨26, _⟩ => ⟨S1x4096, .f32⟩
  | .hbm, ⟨27, _⟩ => ⟨S1x4096, .f32⟩
  | .hbm, ⟨28, _⟩ => ⟨S32x4096, .f32⟩
  | .hbm, ⟨29, _⟩ => ⟨S32x4096, .f32⟩
  | .hbm, ⟨30, _⟩ => ⟨S1024, .f32⟩
  | .hbm, ⟨31, _⟩ => ⟨S2x1024x2048, .bf16⟩
  | .hbm, ⟨32, _⟩ => ⟨S1x32x1024, .f32⟩
  | .hbm, ⟨33, _⟩ => ⟨S1x1024, .f32⟩
  | .hbm, ⟨34, _⟩ => ⟨S1x1024, .f32⟩
  | .hbm, ⟨35, _⟩ => ⟨S1x2048, .f32⟩
  | .hbm, ⟨36, _⟩ => ⟨S1x32x1024, .f32⟩
  | .hbm, ⟨37, _⟩ => ⟨S32x4096, .f32⟩
  | .hbm, ⟨38, _⟩ => ⟨S32x4096, .f32⟩
  | .hbm, ⟨39, _⟩ => ⟨S32x1x1024, .f32⟩
  | .local _ .vmem, ⟨0, _⟩ => ⟨S64x1, .f32⟩
  | .local _ .vmem, ⟨1, _⟩ => ⟨S64x64, .f32⟩
  | .local _ .vmem, ⟨2, _⟩ => ⟨S64x64, .f32⟩
  | .local _ .vmem, ⟨3, _⟩ => ⟨S64x16x64, .f32⟩
  | .local _ .vmem, ⟨4, _⟩ => ⟨S64x16x64, .f32⟩
  | .local _ .vmem, ⟨5, _⟩ => ⟨S64x16x64, .f32⟩
  | .local _ .vmem, ⟨6, _⟩ => ⟨S64x16x64, .f32⟩
  | .local _ .vmem, ⟨7, _⟩ => ⟨S64x64, .f32⟩
  | .local _ .vmem, ⟨8, _⟩ => ⟨S64x64, .f32⟩
  | .local _ .vmem, ⟨9, _⟩ => ⟨S8x128x1024, .bf16⟩
  | .local _ .vmem, ⟨10, _⟩ => ⟨S8x512x128, .bf16⟩
  | .local _ .vmem, ⟨11, _⟩ => ⟨S8x512x128, .bf16⟩
  | .local _ .vmem, ⟨12, _⟩ => ⟨S8x256x1024, .bf16⟩
  | .local _ .vmem, ⟨13, _⟩ => ⟨S8x512x256, .bf16⟩
  | .local _ .vmem, ⟨14, _⟩ => ⟨S8x512x256, .bf16⟩
  | .local _ .vmem, ⟨15, _⟩ => ⟨S8x256x256, .bf16⟩
  | .local _ .vmem, ⟨16, _⟩ => ⟨S1x32x1024, .f32⟩
  | .local _ .vmem, ⟨17, _⟩ => ⟨S1x1024, .f32⟩
  | .local _ .vmem, ⟨18, _⟩ => ⟨S32x4096, .f32⟩
  | .local _ .vmem, ⟨19, _⟩ => ⟨S32x4096, .f32⟩
  | .local _ .vmem, ⟨20, _⟩ => ⟨S1x4096, .f32⟩
  | .local _ .vmem, ⟨21, _⟩ => ⟨S1x4096, .f32⟩
  | .local _ .vmem, ⟨22, _⟩ => ⟨S8x128x1024, .bf16⟩
  | .local _ .vmem, ⟨23, _⟩ => ⟨S8x512x128, .bf16⟩
  | .local _ .vmem, ⟨24, _⟩ => ⟨S8x512x128, .bf16⟩
  | .local _ .vmem, ⟨25, _⟩ => ⟨S1x1024, .f32⟩
  | .local _ .vmem, ⟨26, _⟩ => ⟨S1x1024x2048, .bf16⟩
  | .local _ .vmem, ⟨27, _⟩ => ⟨S1x2048, .f32⟩
  | .local _ .vmem, ⟨28, _⟩ => ⟨S1x32x1024, .f32⟩
  | .local _ .vmem, ⟨29, _⟩ => ⟨S32x4096, .f32⟩
  | .local _ .vmem, ⟨30, _⟩ => ⟨S32x4096, .f32⟩
  | .local _ .vmem, ⟨31, _⟩ => ⟨S8x32x128, .f32⟩
  | .local _ .vmem, ⟨32, _⟩ => ⟨S32x4096, .f32⟩
  | .local _ .vmem, ⟨33, _⟩ => ⟨S32x4096, .f32⟩
  | _, _ => ⟨S32x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3_0 : Ref sig .tc := ⟨.hbm, 17, rfl⟩
abbrev main_v3_1 : Ref sig .tc := ⟨.hbm, 18, rfl⟩
abbrev main_v3_2 : Ref sig .tc := ⟨.hbm, 19, rfl⟩
abbrev main_v3_3 : Ref sig .tc := ⟨.hbm, 20, rfl⟩
abbrev main_v3_4 : Ref sig .tc := ⟨.hbm, 21, rfl⟩
abbrev main_v3_5 : Ref sig .tc := ⟨.hbm, 22, rfl⟩
abbrev main_v3_6 : Ref sig .tc := ⟨.hbm, 23, rfl⟩
abbrev main_v3_7 : Ref sig .tc := ⟨.hbm, 24, rfl⟩
abbrev main_v3_8 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14_0 : Ref sig .tc := ⟨.hbm, 36, rfl⟩
abbrev main_v14_1 : Ref sig .tc := ⟨.hbm, 37, rfl⟩
abbrev main_v14_2 : Ref sig .tc := ⟨.hbm, 38, rfl⟩
abbrev main_v15 : Ref sig .tc := ⟨.hbm, 39, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc1_stg0_0 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg9_0 : Ref sig .tc := ⟨.vmem, 25, rfl⟩
abbrev cc1_stg10_0 : Ref sig .tc := ⟨.vmem, 26, rfl⟩
abbrev cc1_stg11_0 : Ref sig .tc := ⟨.vmem, 27, rfl⟩
abbrev cc1_stg12_0 : Ref sig .tc := ⟨.vmem, 28, rfl⟩
abbrev cc1_stg13_0 : Ref sig .tc := ⟨.vmem, 29, rfl⟩
abbrev cc1_stg14_0 : Ref sig .tc := ⟨.vmem, 30, rfl⟩
abbrev cc1_scratch0 : Ref sig .tc := ⟨.vmem, 31, rfl⟩
abbrev cc1_scratch1 : Ref sig .tc := ⟨.vmem, 32, rfl⟩
abbrev cc1_scratch2 : Ref sig .tc := ⟨.vmem, 33, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc1_sem0_0 : DmaSem sig := 16
abbrev cc1_sem1_0 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem9_0 : DmaSem sig := 25
abbrev cc1_sem10_0 : DmaSem sig := 26
abbrev cc1_sem11_0 : DmaSem sig := 27
abbrev cc1_sem12_0 : DmaSem sig := 28
abbrev cc1_sem13_0 : DmaSem sig := 29
abbrev cc1_sem14_0 : DmaSem sig := 30

abbrev nD : Nat := 1
abbrev τ : Topo := Topo.v7x

variable {F : FTy → Type} [FloatOps F]

abbrev grid0 : Pipeline.Grid := .none

abbrev stage0_0 : Fin 1 → Memref sig .tc .vmem S64x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x16x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x16x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8x128x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S8x512x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S8x512x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S8x256x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S8x512x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S8x512x256 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S8x256x256 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev grid1 : Pipeline.Grid := ⟨1, ![1], ![false]⟩

def k1_mult1 : BitVec 32 :=
  let c0_i32_113 : BitVec 32 := 0#32
  let c32_i32 : BitVec 32 := 32#32
  let v175 : BitVec 32 := Scalar.muli c0_i32_113 c32_i32
  v175
def k1_off1 : Fin 2 → Nat :=
  let c0_i32_113 : BitVec 32 := 0#32
  let c32_i32 : BitVec 32 := 32#32
  let v175 : BitVec 32 := Scalar.muli c0_i32_113 c32_i32
  let v176 : BitVec 32 := v175
  let v180 : Index := Scalar.indexCast v176
  let c0_114 : Index := 0#32
  ![v180.toNat, 0]
def k1_mult2 : BitVec 32 :=
  let c0_i32_130 : BitVec 32 := 0#32
  let c32_i32_131 : BitVec 32 := 32#32
  let v211 : BitVec 32 := Scalar.muli c0_i32_130 c32_i32_131
  v211
def k1_off2 : Fin 2 → Nat :=
  let c0_i32_130 : BitVec 32 := 0#32
  let c32_i32_131 : BitVec 32 := 32#32
  let v211 : BitVec 32 := Scalar.muli c0_i32_130 c32_i32_131
  let v212 : BitVec 32 := v211
  let v216 : Index := Scalar.indexCast v212
  let c512_132 : Index := 512#32
  ![v216.toNat, 512]
def k1_mult3 : BitVec 32 :=
  let c0_i32_149 : BitVec 32 := 0#32
  let c32_i32_150 : BitVec 32 := 32#32
  let v247 : BitVec 32 := Scalar.muli c0_i32_149 c32_i32_150
  v247
def k1_off3 : Fin 2 → Nat :=
  let c0_i32_149 : BitVec 32 := 0#32
  let c32_i32_150 : BitVec 32 := 32#32
  let v247 : BitVec 32 := Scalar.muli c0_i32_149 c32_i32_150
  let v248 : BitVec 32 := v247
  let v252 : Index := Scalar.indexCast v248
  let c1024_151 : Index := 1024#32
  ![v252.toNat, 1024]
def k1_mult4 : BitVec 32 :=
  let c0_i32_168 : BitVec 32 := 0#32
  let c32_i32_169 : BitVec 32 := 32#32
  let v283 : BitVec 32 := Scalar.muli c0_i32_168 c32_i32_169
  v283
def k1_off4 : Fin 2 → Nat :=
  let c0_i32_168 : BitVec 32 := 0#32
  let c32_i32_169 : BitVec 32 := 32#32
  let v283 : BitVec 32 := Scalar.muli c0_i32_168 c32_i32_169
  let v284 : BitVec 32 := v283
  let v288 : Index := Scalar.indexCast v284
  let c1536_170 : Index := 1536#32
  ![v288.toNat, 1536]
def k1_mult5 : BitVec 32 :=
  let c0_i32_187 : BitVec 32 := 0#32
  let c32_i32_188 : BitVec 32 := 32#32
  let v319 : BitVec 32 := Scalar.muli c0_i32_187 c32_i32_188
  v319
def k1_off5 : Fin 2 → Nat :=
  let c0_i32_187 : BitVec 32 := 0#32
  let c32_i32_188 : BitVec 32 := 32#32
  let v319 : BitVec 32 := Scalar.muli c0_i32_187 c32_i32_188
  let v320 : BitVec 32 := v319
  let v324 : Index := Scalar.indexCast v320
  let c2048_189 : Index := 2048#32
  ![v324.toNat, 2048]
def k1_mult6 : BitVec 32 :=
  let c0_i32_206 : BitVec 32 := 0#32
  let c32_i32_207 : BitVec 32 := 32#32
  let v355 : BitVec 32 := Scalar.muli c0_i32_206 c32_i32_207
  v355
def k1_off6 : Fin 2 → Nat :=
  let c0_i32_206 : BitVec 32 := 0#32
  let c32_i32_207 : BitVec 32 := 32#32
  let v355 : BitVec 32 := Scalar.muli c0_i32_206 c32_i32_207
  let v356 : BitVec 32 := v355
  let v360 : Index := Scalar.indexCast v356
  let c2560_208 : Index := 2560#32
  ![v360.toNat, 2560]
def k1_mult7 : BitVec 32 :=
  let c0_i32_225 : BitVec 32 := 0#32
  let c32_i32_226 : BitVec 32 := 32#32
  let v391 : BitVec 32 := Scalar.muli c0_i32_225 c32_i32_226
  v391
def k1_off7 : Fin 2 → Nat :=
  let c0_i32_225 : BitVec 32 := 0#32
  let c32_i32_226 : BitVec 32 := 32#32
  let v391 : BitVec 32 := Scalar.muli c0_i32_225 c32_i32_226
  let v392 : BitVec 32 := v391
  let v396 : Index := Scalar.indexCast v392
  let c3072_227 : Index := 3072#32
  ![v396.toNat, 3072]
def k1_mult8 : BitVec 32 :=
  let c0_i32_244 : BitVec 32 := 0#32
  let c32_i32_245 : BitVec 32 := 32#32
  let v427 : BitVec 32 := Scalar.muli c0_i32_244 c32_i32_245
  v427
def k1_off8 : Fin 2 → Nat :=
  let c0_i32_244 : BitVec 32 := 0#32
  let c32_i32_245 : BitVec 32 := 32#32
  let v427 : BitVec 32 := Scalar.muli c0_i32_244 c32_i32_245
  let v428 : BitVec 32 := v427
  let v432 : Index := Scalar.indexCast v428
  let c3584_246 : Index := 3584#32
  ![v432.toNat, 3584]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1x32x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x4096 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x4096 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x4096 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S8x128x1024 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S8x512x128 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S8x512x128 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x1024 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x1024x2048 .bf16 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x2048 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x32x1024 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![true]

abbrev stage1_13 : Fin 1 → Memref sig .tc .vmem S32x4096 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S32x4096 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]
-- ==== Reference9Ideal.lean ====
abbrev S32x1x1024 : Shape := ⟨3, ![32, 1, 1024]⟩
abbrev S1024 : Shape := ⟨1, ![1024]⟩
abbrev S32x64x64 : Shape := ⟨3, ![32, 64, 64]⟩
abbrev S64 : Shape := ⟨1, ![64]⟩
abbrev S64x64 : Shape := ⟨2, ![64, 64]⟩
abbrev S64x64x16 : Shape := ⟨3, ![64, 64, 16]⟩
abbrev S64x16x64 : Shape := ⟨3, ![64, 16, 64]⟩
abbrev S64x16 : Shape := ⟨2, ![64, 16]⟩
abbrev S2x1024x2048 : Shape := ⟨3, ![2, 1024, 2048]⟩
abbrev S2048 : Shape := ⟨1, ![2048]⟩
abbrev S_ : Shape := ⟨0, ![]⟩
abbrev S32x1 : Shape := ⟨2, ![32, 1]⟩
abbrev S32x1x1 : Shape := ⟨3, ![32, 1, 1]⟩
abbrev S1x1x1024 : Shape := ⟨3, ![1, 1, 1024]⟩
abbrev S32x1x64x16 : Shape := ⟨4, ![32, 1, 64, 16]⟩
abbrev S64x1 : Shape := ⟨2, ![64, 1]⟩
abbrev S64x64x1 : Shape := ⟨3, ![64, 64, 1]⟩
abbrev S64x64x32x1 : Shape := ⟨4, ![64, 64, 32, 1]⟩
abbrev S1x32x64x64 : Shape := ⟨4, ![1, 32, 64, 64]⟩
abbrev S1x64x64 : Shape := ⟨3, ![1, 64, 64]⟩
abbrev S1 : Shape := ⟨1, ![1]⟩
abbrev S1x1x64x64 : Shape := ⟨4, ![1, 1, 64, 64]⟩
abbrev S32x4096 : Shape := ⟨2, ![32, 4096]⟩

abbrev nBuf : Space → Nat
  | .hbm => 105
  | .vmem => 0
  | .smem => 0
  | _ => 0

abbrev bufTy : (tb : Table) → Fin (tcTables nBuf tb) → BufTy
  | .hbm, ⟨0, _⟩ => ⟨S32x1x1024, .f32⟩
  | .hbm, ⟨1, _⟩ => ⟨S1024, .f32⟩
  | .hbm, ⟨2, _⟩ => ⟨S32x64x64, .f32⟩
  | .hbm, ⟨3, _⟩ => ⟨S32x64x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64x64x16, .f32⟩
  | .hbm, ⟨8, _⟩ => ⟨S64x64x16, .f32⟩
  | .hbm, ⟨9, _⟩ => ⟨S64x16x64, .f32⟩
  | .hbm, ⟨10, _⟩ => ⟨S64x16x64, .f32⟩
  | .hbm, ⟨11, _⟩ => ⟨S64x16, .f32⟩
  | .hbm, ⟨12, _⟩ => ⟨S2x1024x2048, .f32⟩
  | .hbm, ⟨13, _⟩ => ⟨S2048, .f32⟩
  | .hbm, ⟨14, _⟩ => ⟨S32x1x1024, .f32⟩
  | .hbm, ⟨15, _⟩ => ⟨S_, .f32⟩
  | .hbm, ⟨16, _⟩ => ⟨S32x1, .f32⟩
  | .hbm, ⟨17, _⟩ => ⟨S32x1x1, .f32⟩
  | .hbm, ⟨18, _⟩ => ⟨S_, .f32⟩
  | .hbm, ⟨19, _⟩ => ⟨S32x1x1, .f32⟩
  | .hbm, ⟨20, _⟩ => ⟨S32x1x1, .f32⟩
  | .hbm, ⟨21, _⟩ => ⟨S_, .f32⟩
  | .hbm, ⟨22, _⟩ => ⟨S32x1x1, .f32⟩
  | .hbm, ⟨23, _⟩ => ⟨S32x1x1, .f32⟩
  | .hbm, ⟨24, _⟩ => ⟨S32x1x1, .f32⟩
  | .hbm, ⟨25, _⟩ => ⟨S32x1x1024, .f32⟩
  | .hbm, ⟨26, _⟩ => ⟨S32x1x1024, .f32⟩
  | .hbm, ⟨27, _⟩ => ⟨S1x1x1024, .f32⟩
  | .hbm, ⟨28, _⟩ => ⟨S32x1x1024, .f32⟩
  | .hbm, ⟨29, _⟩ => ⟨S32x1x1024, .f32⟩
  | .hbm, ⟨30, _⟩ => ⟨S32x1x64x16, .f32⟩
  | .hbm, ⟨31, _⟩ => ⟨S64, .f32⟩
  | .hbm, ⟨32, _⟩ => ⟨S64x1, .f32⟩
  | .hbm, ⟨33, _⟩ => ⟨S64x64, .f32⟩
  | .hbm, ⟨34, _⟩ => ⟨S64x64, .f32⟩
  | .hbm, ⟨35, _⟩ => ⟨S64x64, .f32⟩
  | .hbm, ⟨36, _⟩ => ⟨S64x64, .f32⟩
  | .hbm, ⟨37, _⟩ => ⟨S64x64, .f32⟩
  | .hbm, ⟨38, _⟩ => ⟨S64x64, .f32⟩
  | .hbm, ⟨39, _⟩ => ⟨S64x64, .f32⟩
  | .hbm, ⟨40, _⟩ => ⟨S64x64, .f32⟩
  | .hbm, ⟨41, _⟩ => ⟨S64x64, .f32⟩
  | .hbm, ⟨42, _⟩ => ⟨S64x64, .f32⟩
  | .hbm, ⟨43, _⟩ => ⟨S64x64, .f32⟩
  | .hbm, ⟨44, _⟩ => ⟨S64x64, .f32⟩
  | .hbm, ⟨45, _⟩ => ⟨S64x64, .f32⟩
  | .hbm, ⟨46, _⟩ => ⟨S64x64, .f32⟩
  | .hbm, ⟨47, _⟩ => ⟨S_, .f32⟩
  | .hbm, ⟨48, _⟩ => ⟨S64x64, .f32⟩
  | .hbm, ⟨49, _⟩ => ⟨S64x64, .f32⟩
  | .hbm, ⟨50, _⟩ => ⟨S64x64, .f32⟩
  | .hbm, ⟨51, _⟩ => ⟨S64x64, .f32⟩
  | .hbm, ⟨52, _⟩ => ⟨S64x64, .f32⟩
  | .hbm, ⟨53, _⟩ => ⟨S64x64, .f32⟩
  | .hbm, ⟨54, _⟩ => ⟨S64x64, .f32⟩
  | .hbm, ⟨55, _⟩ => ⟨S_, .f32⟩
  | .hbm, ⟨56, _⟩ => ⟨S64x64, .f32⟩
  | .hbm, ⟨57, _⟩ => ⟨S64x64, .f32⟩
  | .hbm, ⟨58, _⟩ => ⟨S64x64, .f32⟩
  | .hbm, ⟨59, _⟩ => ⟨S64x64, .f32⟩
  | .hbm, ⟨60, _⟩ => ⟨S64x64, .f32⟩
  | .hbm, ⟨61, _⟩ => ⟨S64x64x1, .f32⟩
  | .hbm, ⟨62, _⟩ => ⟨S64x64x16, .f32⟩
  | .hbm, ⟨63, _⟩ => ⟨S64x64x16, .f32⟩
  | .hbm, ⟨64, _⟩ => ⟨S64x64x1, .f32⟩
  | .hbm, ⟨65, _⟩ => ⟨S64x64x16, .f32⟩
  | .hbm, ⟨66, _⟩ => ⟨S64x64x16, .f32⟩
  | .hbm, ⟨67, _⟩ => ⟨S64x64x16, .f32⟩
  | .hbm, ⟨68, _⟩ => ⟨S64x64x1, .f32⟩
  | .hbm, ⟨69, _⟩ => ⟨S64x64x16, .f32⟩
  | .hbm, ⟨70, _⟩ => ⟨S64x64x16, .f32⟩
  | .hbm, ⟨71, _⟩ => ⟨S64x64x1, .f32⟩
  | .hbm, ⟨72, _⟩ => ⟨S64x64x16, .f32⟩
  | .hbm, ⟨73, _⟩ => ⟨S64x64x16, .f32⟩
  | .hbm, ⟨74, _⟩ => ⟨S64x64x16, .f32⟩
  | .hbm, ⟨75, _⟩ => ⟨S64x64x32x1, .f32⟩
  | .hbm, ⟨76, _⟩ => ⟨S1x32x64x64, .f32⟩
  | .hbm, ⟨77, _⟩ => ⟨S64x64x32x1, .f32⟩
  | .hbm, ⟨78, _⟩ => ⟨S1x32x64x64, .f32⟩
  | .hbm, ⟨79, _⟩ => ⟨S1x64x64, .f32⟩
  | .hbm, ⟨80, _⟩ => ⟨S32x64x64, .f32⟩
  | .hbm, ⟨81, _⟩ => ⟨S32x64x64, .f32⟩
  | .hbm, ⟨82, _⟩ => ⟨S1x64x64, .f32⟩
  | .hbm, ⟨83, _⟩ => ⟨S32x64x64, .f32⟩
  | .hbm, ⟨84, _⟩ => ⟨S32x64x64, .f32⟩
  | .hbm, ⟨85, _⟩ => ⟨S32x64x64, .f32⟩
  | .hbm, ⟨86, _⟩ => ⟨S_, .i32⟩
  | .hbm, ⟨87, _⟩ => ⟨S1, .i32⟩
  | .hbm, ⟨88, _⟩ => ⟨S1x32x64x64, .f32⟩
  | .hbm, ⟨89, _⟩ => ⟨S1x64x64, .f32⟩
  | .hbm, ⟨90, _⟩ => ⟨S32x64x64, .f32⟩
  | .hbm, ⟨91, _⟩ => ⟨S32x64x64, .f32⟩
  | .hbm, ⟨92, _⟩ => ⟨S1x64x64, .f32⟩
  | .hbm, ⟨93, _⟩ => ⟨S32x64x64, .f32⟩
  | .hbm, ⟨94, _⟩ => ⟨S32x64x64, .f32⟩
  | .hbm, ⟨95, _⟩ => ⟨S32x64x64, .f32⟩
  | .hbm, ⟨96, _⟩ => ⟨S_, .i32⟩
  | .hbm, ⟨97, _⟩ => ⟨S1, .i32⟩
  | .hbm, ⟨98, _⟩ => ⟨S1x32x64x64, .f32⟩
  | .hbm, ⟨99, _⟩ => ⟨S1x1x64x64, .f32⟩
  | .hbm, ⟨100, _⟩ => ⟨S1x1x64x64, .f32⟩
  | .hbm, ⟨101, _⟩ => ⟨S32x64x64, .f32⟩
  | .hbm, ⟨102, _⟩ => ⟨S32x4096, .f32⟩
  | .hbm, ⟨103, _⟩ => ⟨S32x64x64, .f32⟩
  | .hbm, ⟨104, _⟩ => ⟨S32x4096, .f32⟩
  | _, _ => ⟨S32x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_cst_1 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_2 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_3 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_c : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_c_4 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩

abbrev nD : Nat := 1
abbrev τ : Topo := Topo.v7x

variable {F : FTy → Type} [FloatOps F]
-- ==== Proof.AttnPieces.lean ====
/- What the kernel's body leaves in its three scratches: the 48 unrolled blocks' stores as one uniform function of
   the group, the block and the residue. -/
module

public import proofs.«01_k».proof.Proof.Gen.KernelIdeal.Value
public import Mathlib.Tactic.Ring

@[expose] public section

set_option maxRecDepth 16384

noncomputable section

namespace Cert.Attn

open Cert.KernelIdeal Cert.KernelIdeal.Gen Idealize.ShloMosaic Idealize.ShloMosaic.TcCoe

variable {F : FTy → Type} [FloatOps F]

/-! ## One block's three results -/

/-- The weighted sum of the values, of a block that opens its chain: it sees its own 128 keys. -/
def accFirst (q k v : Vec F S1x128x128 .f32) (b : Vec F S1x2x128x128 .f32) : FVec F S1x128x128 .f32 :=
  k0_pay18 (k0_pay17 q k v b)

/-- The row maxima of such a block, on the lanes of their head. -/
def maxFirst (q k v : Vec F S1x128x128 .f32) (b : Vec F S1x2x128x128 .f32) : FVec F S1x128x128 .f32 :=
  k0_pay19 k0_pay12 (k0_pay14 q k b)

/-- Its row sums, on the lanes of their head. -/
def sumFirst (q k v : Vec F S1x128x128 .f32) (b : Vec F S1x2x128x128 .f32) : FVec F S1x128x128 .f32 :=
  k0_pay20 k0_pay12 (k0_pay16 q k b)

/-- The weighted sum of the values, of a block that also sees the block before it: 256 keys. -/
def accLater (q : Vec F S1x128x128 .f32) (k v : Vec F S1x256x128 .f32) (b : Vec F S1x2x128x256 .f32) :
    FVec F S1x128x128 .f32 :=
  k0_pay26 k0_pay12 (k0_pay21 v) (k0_pay22 k0_pay12 q k) b

/-- The row maxima of such a block, on the lanes of their head. -/
def maxLater (q : Vec F S1x128x128 .f32) (k v : Vec F S1x256x128 .f32) (b : Vec F S1x2x128x256 .f32) :
    FVec F S1x128x128 .f32 :=
  k0_pay27 k0_pay12 (k0_pay22 k0_pay12 q k) b

/-- Its row sums, on the lanes of their head. -/
def sumLater (q : Vec F S1x128x128 .f32) (k v : Vec F S1x256x128 .f32) (b : Vec F S1x2x128x256 .f32) :
    FVec F S1x128x128 .f32 :=
  k0_pay28 k0_pay12 (k0_pay22 k0_pay12 q k) b

/-! ## The blocks of one group -/

/-- `n` consecutive rows from row `s` of an operand. -/
def rowsU (s n : ℕ) (h : s + n ≤ 2048) : LoadRect S1x2048x128 :=
  (Rect.unit (s := S1x2048x128) ![0, s, 0] (⟨3, ![1, n, 128]⟩ : Shape).size (by
    intro a; fin_cases a <;> simp <;> omega)).toLoadRect

/-- `n` rows, `d` apart, from row `s` of an operand. -/
def rowsS (d s n : ℕ) (h : s + d * (n - 1) < 2048) : LoadRect S1x2048x128 :=
  ⟨![0, s, 0], (⟨3, ![1, n, 128]⟩ : Shape).size, ![1, d, 1], by
    intro a; fin_cases a <;> simp <;> omega⟩

/-- 128 consecutive rows from row `s` of a scratch's slab `g`. -/
def slabU (g s : ℕ) (hg : g < 3) (h : s + 128 ≤ 2048) : Rect S3x2048x128 :=
  Rect.unit (s := S3x2048x128) ![g, s, 0] S1x128x128.size (by
    intro a; fin_cases a <;> simp <;> omega)

/-- 128 rows, `d` apart, from row `s` of a scratch's slab `g`. -/
def slabS (g d s : ℕ) (hg : g < 3) (hd : 0 < d) (h : s + d * 127 < 2048) : Rect S3x2048x128 :=
  ⟨⟨![g, s, 0], S1x128x128.size, ![1, d, 1], by intro a; fin_cases a <;> simp <;> omega⟩, by
    intro a; fin_cases a <;> simp <;> omega⟩

/-- Columns `128 …` of a group's bias: what a block that opens its chain reads. -/
def biasFirst (g : ℕ) (hg : g < 3) : LoadRect S3x2x128x256 :=
  (Rect.unit (s := S3x2x128x256) ![g, 0, 0, 128] S1x2x128x128.size (by
    intro a; fin_cases a <;> simp <;> omega)).toLoadRect

/-- All columns of a group's bias. -/
def biasLater (g : ℕ) (hg : g < 3) : LoadRect S3x2x128x256 :=
  (Rect.unit (s := S3x2x128x256) ![g, 0, 0, 0] S1x2x128x256.size (by
    intro a; fin_cases a <;> simp <;> omega)).toLoadRect

section group

variable (fF : Vec F S1x128x128 .f32 → Vec F S1x128x128 .f32 → Vec F S1x128x128 .f32 → Vec F S1x2x128x128 .f32 →
    FVec F S1x128x128 .f32)
variable (fL : Vec F S1x128x128 .f32 → Vec F S1x256x128 .f32 → Vec F S1x256x128 .f32 → Vec F S1x2x128x256 .f32 →
    FVec F S1x128x128 .f32)
variable (q k v : Vec F S1x2048x128 .f32) (b : Vec F S3x2x128x256 .f32)

/-- What a load of `R` reads of `x`. -/
abbrev rd {s : Shape} (x : Vec F s .f32) (R : LoadRect s) : Vec F R.shape .f32 := fun j => x (R.idx j)

/-- The store of block `n` of the group of residue class one. -/
def block0 (n : Fin 16) : View.Piece (Elt F) S3x2048x128 .f32 :=
  if h : n.val = 0 then
    ⟨slabU 0 0 (by omega) (by omega), fF (rd q (rowsU 0 128 (by omega))) (rd k (rowsU 0 128 (by omega)))
      (rd v (rowsU 0 128 (by omega))) (rd b (biasFirst 0 (by omega)))⟩
  else
    ⟨slabU 0 (n * 128) (by omega) (by omega), fL (rd q (rowsU (n * 128) 128 (by omega)))
      (rd k (rowsU ((n - 1) * 128) 256 (by omega))) (rd v (rowsU ((n - 1) * 128) 256 (by omega)))
      (rd b (biasLater 0 (by omega)))⟩

theorem own_lt {d nb : ℕ} (hd : d * (nb * 128) = 2048) (n : Fin nb) (ρ : Fin d) :
    n * 128 * d + ρ + d * 127 < 2048 := by
  have h : d * ((n + 1) * 128) ≤ d * (nb * 128) :=
    Nat.mul_le_mul_left _ (Nat.mul_le_mul_right _ n.isLt)
  have e : d * ((n + 1) * 128) = n * 128 * d + d * 128 := by ring
  have hρ := ρ.isLt
  omega

theorem first_lt {d nb : ℕ} (hd : d * (nb * 128) = 2048) (n : Fin nb) (ρ : Fin d) : ρ.val + d * 127 < 2048 := by
  have := own_lt hd n ρ
  omega

theorem both_lt {d nb : ℕ} (hd : d * (nb * 128) = 2048) (n : Fin nb) (ρ : Fin d) (h : n.val ≠ 0) :
    (n - 1) * 128 * d + ρ + d * 255 < 2048 := by
  have h1 := own_lt hd n ρ
  obtain ⟨j, hj⟩ : ∃ j, n.val = j + 1 := ⟨n - 1, by omega⟩
  rw [hj] at h1 ⊢
  have e : (j + 1) * 128 * d = j * 128 * d + 128 * d := by ring
  simp only [Nat.add_sub_cancel]
  omega

/-- The store of residue `ρ`'s block `n` of a group of more residue classes. -/
def blockS (g d nb : ℕ) (hg : g < 3) (hd : d * (nb * 128) = 2048) (n : Fin nb) (ρ : Fin d) :
    View.Piece (Elt F) S3x2048x128 .f32 :=
  if h : n.val = 0 then
    ⟨slabS g d ρ hg (Nat.zero_lt_of_lt ρ.isLt) (first_lt hd n ρ), fF (rd q (rowsS d ρ 128 (first_lt hd n ρ)))
      (rd k (rowsS d ρ 128 (first_lt hd n ρ))) (rd v (rowsS d ρ 128 (first_lt hd n ρ))) (rd b (biasFirst g hg))⟩
  else
    ⟨slabS g d (n * 128 * d + ρ) hg (Nat.zero_lt_of_lt ρ.isLt) (own_lt hd n ρ),
      fL (rd q (rowsS d (n * 128 * d + ρ) 128 (own_lt hd n ρ)))
        (rd k (rowsS d ((n - 1) * 128 * d + ρ) 256 (both_lt hd n ρ h)))
        (rd v (rowsS d ((n - 1) * 128 * d + ρ) 256 (both_lt hd n ρ h))) (rd b (biasLater g hg))⟩

end group

/-- All 48 blocks' stores, the last first. -/
def blocks
    (fF : Vec F S1x128x128 .f32 → Vec F S1x128x128 .f32 → Vec F S1x128x128 .f32 → Vec F S1x2x128x128 .f32 →
      FVec F S1x128x128 .f32)
    (fL : Vec F S1x128x128 .f32 → Vec F S1x256x128 .f32 → Vec F S1x256x128 .f32 → Vec F S1x2x128x256 .f32 →
      FVec F S1x128x128 .f32)
    (q0 q1 q2 k0 k1 k2 v0 v1 v2 : Vec F S1x2048x128 .f32) (b : Vec F S3x2x128x256 .f32) :
    List (View.Piece (Elt F) S3x2048x128 .f32) :=
  ([15, 14, 13, 12, 11, 10, 9, 8, 7, 6, 5, 4, 3, 2, 1, 0] : List (Fin 16)).map
      (blockS fF fL q2 k2 v2 b 2 16 1 (by omega) (by omega) 0)
    ++ (([(3, 3), (3, 2), (3, 1), (3, 0), (2, 3), (2, 2), (2, 1), (2, 0), (1, 3), (1, 2), (1, 1), (1, 0),
          (0, 3), (0, 2), (0, 1), (0, 0)] : List (Fin 4 × Fin 4)).map
        (fun p => blockS fF fL q1 k1 v1 b 1 4 4 (by omega) (by omega) p.1 p.2)
    ++ ([15, 14, 13, 12, 11, 10, 9, 8, 7, 6, 5, 4, 3, 2, 1, 0] : List (Fin 16)).map
        (block0 fF fL q0 k0 v0 b))

/-! ## The scratches hold the blocks -/

section scratches

variable (c : Dev nD)
variable (arg2 : Memref sig .tc .vmem S1x2048x128 .f32) (harg2 : arg2.IsWhole) (arg3 : Memref sig .tc .vmem S1x2048x128 .f32) (harg3 : arg3.IsWhole)
variable (arg4 : Memref sig .tc .vmem S1x2048x128 .f32) (harg4 : arg4.IsWhole) (arg5 : Memref sig .tc .vmem S1x2048x128 .f32) (harg5 : arg5.IsWhole)
variable (arg6 : Memref sig .tc .vmem S1x2048x128 .f32) (harg6 : arg6.IsWhole) (arg7 : Memref sig .tc .vmem S1x2048x128 .f32) (harg7 : arg7.IsWhole)
variable (arg8 : Memref sig .tc .vmem S1x2048x128 .f32) (harg8 : arg8.IsWhole) (arg9 : Memref sig .tc .vmem S1x2048x128 .f32) (harg9 : arg9.IsWhole)
variable (arg10 : Memref sig .tc .vmem S1x2048x128 .f32) (harg10 : arg10.IsWhole) (arg11 : Memref sig .tc .vmem S3x2x128x256 .f32) (harg11 : arg11.IsWhole)
variable (x0 x1 x2 x3 x4 x5 x6 x7 x8 : Vec F S1x2048x128 .f32) (x9 : Vec F S3x2x128x256 .f32)

/-- The contents a whole memref holds, read back. -/
abbrev held {s : Shape} (a : Memref sig .tc .vmem s .f32) (h : a.IsWhole) (x : Vec F s .f32) : Vec F s .f32 :=
  a.view.read (Elt F) (h.unread x)

theorem acc_pieces :
    kernelRun0_A.sl.HS0_48 c arg2 harg2 arg3 harg3 arg4 harg4 arg5 harg5 arg6 harg6 arg7 harg7 arg8 harg8 arg9 harg9 arg10 harg10 arg11 harg11 x0 x1 x2 x3 x4 x5 x6 x7 x8 x9
      = blocks accFirst accLater (held arg2 harg2 x0) (held arg3 harg3 x1) (held arg4 harg4 x2)
          (held arg5 harg5 x3) (held arg6 harg6 x4) (held arg7 harg7 x5)
          (held arg8 harg8 x6) (held arg9 harg9 x7) (held arg10 harg10 x8) (held arg11 harg11 x9) := rfl

theorem max_pieces :
    kernelRun0_A.sl.HS1_48 c arg2 harg2 arg3 harg3 arg4 harg4 arg5 harg5 arg6 harg6 arg7 harg7 arg11 harg11 x0 x1 x2 x3 x4 x5 x9
      = blocks maxFirst maxLater (held arg2 harg2 x0) (held arg3 harg3 x1) (held arg4 harg4 x2)
          (held arg5 harg5 x3) (held arg6 harg6 x4) (held arg7 harg7 x5)
          (held arg8 harg8 x6) (held arg9 harg9 x7) (held arg10 harg10 x8) (held arg11 harg11 x9) := rfl

theorem sum_pieces :
    kernelRun0_A.sl.HS2_48 c arg2 harg2 arg3 harg3 arg4 harg4 arg5 harg5 arg6 harg6 arg7 harg7 arg11 harg11 x0 x1 x2 x3 x4 x5 x9
      = blocks sumFirst sumLater (held arg2 harg2 x0) (held arg3 harg3 x1) (held arg4 harg4 x2)
          (held arg5 harg5 x3) (held arg6 harg6 x4) (held arg7 harg7 x5)
          (held arg8 harg8 x6) (held arg9 harg9 x7) (held arg10 harg10 x8) (held arg11 harg11 x9) := rfl

end scratches

end Cert.Attn
-- ==== Proof.AttnSpec.lean ====
/- The softmax quantities the two programs are compared on: the maximum of a row of scores, the sum of the
   exponentials under it, and that sum weighted by values. -/
module

public import Idealize.ShloMosaic.Lib.Pointwise
public import Idealize.ShloMosaic.PureOps.Ideal

@[expose] public section

noncomputable section

namespace Cert.Attn

open Idealize.ShloMosaic

/-- The maximum of a row of scores. -/
def mx {n : ℕ} (s : Fin n → EReal) : EReal := Finset.univ.fold max ⊥ s

/-- The sum of a row's exponentials under its maximum. -/
def den {n : ℕ} (s : Fin n → EReal) : EReal := ∑ j, Ideal.exp (s j - mx s)

/-- The values weighted by a row's exponentials under its maximum. -/
def num {n : ℕ} (s v : Fin n → EReal) : EReal := ∑ j, Ideal.exp (s j - mx s) * v j

theorem mx_eq_sup {n : ℕ} (s : Fin n → EReal) : mx s = Finset.univ.sup s := rfl

theorem le_mx {n : ℕ} (s : Fin n → EReal) (j : Fin n) : s j ≤ mx s := Finset.le_sup (f := s) (Finset.mem_univ j)

/-- A score of minus infinity has the exponential zero under whatever maximum. -/
theorem exp_bot_sub (m : EReal) : Ideal.exp (⊥ - m) = 0 := by
  rw [sub_eq_add_neg, EReal.bot_add]; rfl

/-! ## A row whose first half is masked is the row of its second half -/

section masked

variable (s v : Fin 256 → EReal) (h : ∀ j : Fin 256, j.val < 128 → s j = ⊥)

/-- The second half of a row of 256. -/
abbrev upper (s : Fin 256 → EReal) (j : Fin 128) : EReal := s ⟨128 + j.val, by omega⟩

include h

theorem mx_upper : mx (upper s) = mx s := by
  apply le_antisymm
  · exact Finset.sup_le fun j _ => le_mx s _
  · refine Finset.sup_le fun j _ => ?_
    by_cases hj : j.val < 128
    · rw [h j hj]; exact bot_le
    · have e : j = ⟨128 + (⟨j.val - 128, by omega⟩ : Fin 128).val, by simp; omega⟩ := Fin.ext (by simp; omega)
      rw [e]
      exact le_mx (upper s) _

omit h in
theorem sum_halves (f : Fin 256 → EReal) (h0 : ∀ j : Fin 256, j.val < 128 → f j = 0) :
    ∑ j : Fin 128, f ⟨128 + j.val, by omega⟩ = ∑ j, f j := by
  have e := Fin.sum_univ_add (a := 128) (b := 128) (f : Fin (128 + 128) → EReal)
  have z : ∑ j : Fin 128, f (Fin.castAdd 128 j) = 0 := Finset.sum_eq_zero fun j _ => h0 _ (by simp)
  rw [z, zero_add] at e
  exact e.symm

theorem den_upper : den (upper s) = den s := by
  unfold den
  rw [mx_upper s h]
  exact sum_halves (fun j => Ideal.exp (s j - mx s)) fun j hj => by rw [h j hj, exp_bot_sub]

theorem num_upper : num (upper s) (upper v) = num s v := by
  unfold num
  rw [mx_upper s h]
  exact sum_halves (fun j => Ideal.exp (s j - mx s) * v j) fun j hj => by rw [h j hj, exp_bot_sub, zero_mul]

end masked

end Cert.Attn
-- ==== Proof.AttnBlock.lean ====
/- One block of the kernel at an index: the three results of a block as the softmax quantities of a row of scores. -/
module

public import proofs.«01_k».proof.Proof.AttnPieces
public import proofs.«01_k».proof.Proof.AttnSpec

@[expose] public section

set_option maxRecDepth 16384

noncomputable section

namespace Cert.Attn

open Cert.KernelIdeal Cert.KernelIdeal.Gen Idealize.ShloMosaic Idealize.ShloMosaic.TcCoe

/-- The half of the lanes a lane lies in: the head it belongs to. -/
def half (l : Fin 128) : Fin 2 := ⟨l.val / 64, by omega⟩

/-- The score of a row of queries against a key, for the head the lane `l` belongs to: the products of the other
    head's lanes are left out. -/
def sc {n : ℕ} (q : Vec Ideal S1x128x128 .f32) (k : Vec Ideal (⟨3, ![1, n, 128]⟩ : Shape) .f32)
    (b : Vec Ideal (⟨4, ![1, 2, 128, n]⟩ : Shape) .f32) (r l : Fin 128) (j : Fin n) : EReal :=
  (∑ l' : Fin 128, if half l' = half l then q (ix3 0 r l') * k (ix3 0 j l') else 0) + b (ix4 0 (half l) r j)

theorem sc_row {n : ℕ} (q : Vec Ideal S1x128x128 .f32) (k : Vec Ideal (⟨3, ![1, n, 128]⟩ : Shape) .f32)
    (b : Vec Ideal (⟨4, ![1, 2, 128, n]⟩ : Shape) .f32) (r l : Fin 128) :
    sc q k b r l = fun j => (∑ l' : Fin 128, if half l' = half l then q (ix3 0 r l') * k (ix3 0 j l') else 0)
      + b (ix4 0 (half l) r j) := rfl

theorem ofBits_neg_inf : Ideal.ofBits .f32 0xFF800000#32 = ⊥ := by simp [Ideal.ofBits, Ideal.ieee]

/-- A choice by the lane's number is a choice by its head. -/
theorem lane_select {α : Type} (l : Fin 128) (x y : α) :
    Scalar.select (IntOp.cmpi .slt (BitVec.ofNat 32 l.val) 64#32) x y = if half l = 0 then x else y := by
  have h : ∀ l : Fin 128, (IntOp.cmpi .slt (BitVec.ofNat 32 l.val) 64#32 = 1#1) ↔ half l = 0 := by decide +kernel
  unfold Scalar.select
  exact if_congr (h l) rfl rfl

theorem half_cases (l : Fin 128) : half l = 0 ∨ half l = 1 := by
  have := (half l).isLt; omega

theorem ite_half {α : Type} (l : Fin 128) (x y : α) :
    (if half l = 0 then x else y) = if half l = 1 then y else x := by
  rcases half_cases l with h | h <;> simp [h]

theorem lo_head (r : Fin 128) (h : r.val / 128 < 2) : (⟨r.val / 128, h⟩ : Fin 2) = 0 := Fin.ext (by simp)

theorem lo_row (r : Fin 128) (h : r.val % 128 < 128) : (⟨r.val % 128, h⟩ : Fin 128) = r := Fin.ext (by simp)

theorem hi_head (r : Fin 128) (h : (128 + r.val) / 128 < 2) : (⟨(128 + r.val) / 128, h⟩ : Fin 2) = 1 :=
  Fin.ext (by simp)

theorem hi_row (r : Fin 128) (h : (128 + r.val) % 128 < 128) : (⟨(128 + r.val) % 128, h⟩ : Fin 128) = r :=
  Fin.ext (by simp)

/-- The row maximum of a block that opens its chain. -/
theorem maxFirst_apply (q k v : Vec Ideal S1x128x128 .f32) (b : Vec Ideal S1x2x128x128 .f32)
    (r l : Fin 128) : maxFirst q k v b (ix3 0 r l) = mx (sc q k b r l) := by
  unfold maxFirst
  unfold_payloads
  pointwise
  simp only [lane_select, ofBits_neg_inf, lo_head, lo_row, hi_head, hi_row]
  rcases half_cases l with h | h
  · simp only [h, if_true, mx, sc_row]
  · simp only [h, one_ne_zero, if_false, ite_half, mx, sc_row]

/-- The row sum of a block that opens its chain. -/
theorem sumFirst_apply (q k v : Vec Ideal S1x128x128 .f32) (b : Vec Ideal S1x2x128x128 .f32)
    (r l : Fin 128) : sumFirst q k v b (ix3 0 r l) = den (sc q k b r l) := by
  unfold sumFirst
  unfold_payloads
  pointwise
  simp only [lane_select, ofBits_neg_inf, lo_head, lo_row, hi_head, hi_row]
  rcases half_cases l with h | h
  · simp only [h, if_true, den, mx, sc_row]
  · simp only [h, one_ne_zero, if_false, ite_half, den, mx, sc_row]

/-- The weighted sum of the values of a block that opens its chain. -/
theorem accFirst_apply (q k v : Vec Ideal S1x128x128 .f32) (b : Vec Ideal S1x2x128x128 .f32)
    (r l : Fin 128) : accFirst q k v b (ix3 0 r l) = num (sc q k b r l) (fun j => v (ix3 0 j l)) := by
  unfold accFirst
  unfold_payloads
  pointwise
  simp only [lane_select, ofBits_neg_inf, lo_head, lo_row, hi_head, hi_row]
  rcases half_cases l with h | h
  · simp only [h, if_true, num, mx, sc_row]
  · simp only [h, one_ne_zero, if_false, ite_half, num, mx, sc_row]

/-- The row maximum of a block that sees the block before it. -/
theorem maxLater_apply (q : Vec Ideal S1x128x128 .f32) (k v : Vec Ideal S1x256x128 .f32) (b : Vec Ideal S1x2x128x256 .f32)
    (r l : Fin 128) : maxLater q k v b (ix3 0 r l) = mx (sc q k b r l) := by
  unfold maxLater
  unfold_payloads
  pointwise
  simp only [lane_select, ofBits_neg_inf, lo_head, lo_row, hi_head, hi_row]
  rcases half_cases l with h | h
  · simp only [h, if_true, mx, sc_row]
  · simp only [h, one_ne_zero, if_false, ite_half, mx, sc_row]

/-- The row sum of a block that sees the block before it. -/
theorem sumLater_apply (q : Vec Ideal S1x128x128 .f32) (k v : Vec Ideal S1x256x128 .f32) (b : Vec Ideal S1x2x128x256 .f32)
    (r l : Fin 128) : sumLater q k v b (ix3 0 r l) = den (sc q k b r l) := by
  unfold sumLater
  unfold_payloads
  pointwise
  simp only [lane_select, ofBits_neg_inf, lo_head, lo_row, hi_head, hi_row]
  rcases half_cases l with h | h
  · simp only [h, if_true, den, mx, sc_row]
  · simp only [h, one_ne_zero, if_false, ite_half, den, mx, sc_row]

/-- The weighted sum of the values of a block that sees the block before it. -/
theorem accLater_apply (q : Vec Ideal S1x128x128 .f32) (k v : Vec Ideal S1x256x128 .f32) (b : Vec Ideal S1x2x128x256 .f32)
    (r l : Fin 128) : accLater q k v b (ix3 0 r l) = num (sc q k b r l) (fun j => v (ix3 0 j l)) := by
  unfold accLater
  unfold_payloads
  pointwise
  simp only [lane_select, ofBits_neg_inf, lo_head, lo_row, hi_head, hi_row]
  rcases half_cases l with h | h
  · simp only [h, if_true, num, mx, sc_row]
  · simp only [h, one_ne_zero, if_false, ite_half, num, mx, sc_row]

end Cert.Attn
-- ==== Proof.AttnScratch.lean ====
/- The three scratches at an index: a row of a group's slab is the softmax quantity of that token's row of scores. -/
module

public import proofs.«01_k».proof.Proof.AttnBlock

@[expose] public section

set_option maxRecDepth 16384

noncomputable section

namespace Cert.Attn

open Cert.KernelIdeal Cert.KernelIdeal.Gen Idealize.ShloMosaic Idealize.ShloMosaic.TcCoe

/-- Where one store alone can hold an index, the stores leave there what that store leaves. -/
theorem canon_at {s : Shape} {e : EltTy} (L : List (View.Piece (Elt Ideal) s e)) (p : View.Piece (Elt Ideal) s e)
    (y : s.Idx) (hp : p ∈ L) (hu : ∀ q ∈ L, y ∈ q.1.set → q = p) : View.canon L y = View.canon [p] y := by
  induction L with
  | nil => cases hp
  | cons q L ih =>
    have rest : ∀ L' : List (View.Piece (Elt Ideal) s e), (∀ q' ∈ L', y ∈ q'.1.set → q' = p) → y ∉ p.1.set →
        View.canon L' y = View.canon [p] y := by
      intro L' hL' hy
      induction L' with
      | nil => exact (View.canon_cons_of_not_mem p [] hy).symm
      | cons q' L' ih' =>
        have hq' : y ∉ q'.1.set := fun h => hy (hL' q' List.mem_cons_self h ▸ h)
        rw [View.canon_cons_of_not_mem q' L' hq']
        exact ih' fun a ha => hL' a (List.mem_cons_of_mem _ ha)
    by_cases hy : y ∈ p.1.set
    · by_cases hq : y ∈ q.1.set
      · rw [hu q List.mem_cons_self hq]
        obtain ⟨x, rfl⟩ := p.1.exists_idx_of_mem hy
        rw [show p.1.idx x = p.1.emb x from rfl]
        exact (View.canon_cons_emb p.1 p.2 L x).trans (View.canon_cons_emb p.1 p.2 [] x).symm
      · rw [View.canon_cons_of_not_mem q L hq]
        rcases List.mem_cons.mp hp with rfl | h
        · exact absurd hy hq
        · exact ih h fun q' hq' => hu q' (List.mem_cons_of_mem _ hq')
    · exact rest _ hu hy

/-- One store of the whole of its rectangle, read at the rectangle's `x`. -/
theorem canon_one {s : Shape} {e : EltTy} (p : View.Piece (Elt Ideal) s e) (x : p.1.shape.Idx) (y : s.Idx)
    (hy : p.1.idx x = y) : View.canon [p] y = p.2 x := by
  subst hy; exact View.canon_cons_emb p.1 p.2 [] x

/-! ## The rows of scores -/

/-- Row `t` of an operand. -/
def row (t : ℕ) : Fin 2048 := ⟨t % 2048, Nat.mod_lt _ (by omega)⟩

theorem row_eq {t : ℕ} (h : t < 2048) : row t = ⟨t, h⟩ := Fin.ext (Nat.mod_eq_of_lt h)

/-- The row of scores of the query `r` of residue `ρ`'s block `n`, in a group of `d` residue classes, for the head of
    lane `l`: its 256 keys are those of the block before it and of its own; a first block has none before it. -/
def score (q k : Vec Ideal S1x2048x128 .f32) (b : Vec Ideal S3x2x128x256 .f32) (g : Fin 3) (d n ρ : ℕ)
    (r l : Fin 128) (j : Fin 256) : EReal :=
  if n = 0 ∧ j.val < 128 then ⊥ else
    (∑ l' : Fin 128, if half l' = half l then
      q (ix3 0 (row ((n * 128 + r.val) * d + ρ)) l') * k (ix3 0 (row ((n * 128 + j.val - 128) * d + ρ)) l') else 0)
      + b (ix4 g (half l) r j)

/-- The values those 256 keys go with, on lane `l`. -/
def vals (v : Vec Ideal S1x2048x128 .f32) (d n ρ : ℕ) (l : Fin 128) (j : Fin 256) : EReal :=
  v (ix3 0 (row ((n * 128 + j.val - 128) * d + ρ)) l)

section group

variable (fF : Vec Ideal S1x128x128 .f32 → Vec Ideal S1x128x128 .f32 → Vec Ideal S1x128x128 .f32 →
    Vec Ideal S1x2x128x128 .f32 → FVec Ideal S1x128x128 .f32)
variable (fL : Vec Ideal S1x128x128 .f32 → Vec Ideal S1x256x128 .f32 → Vec Ideal S1x256x128 .f32 →
    Vec Ideal S1x2x128x256 .f32 → FVec Ideal S1x128x128 .f32)
variable (Φ : ∀ n : ℕ, (Fin n → EReal) → (Fin n → EReal) → EReal)

/-- The block functions compute the quantity `Φ` of each row of scores, and `Φ` does not see a masked first half. -/
structure Computes : Prop where
  first : ∀ q k v b (r l : Fin 128), fF q k v b (ix3 0 r l) = Φ 128 (sc q k b r l) (fun j => v (ix3 0 j l))
  later : ∀ q k v b (r l : Fin 128), fL q k v b (ix3 0 r l) = Φ 256 (sc q k b r l) (fun j => v (ix3 0 j l))
  masked : ∀ s v : Fin 256 → EReal, (∀ j, j.val < 128 → s j = ⊥) → Φ 128 (upper s) (upper v) = Φ 256 s v

variable {fF fL} {Φ}
variable (H : Computes fF fL Φ)
variable (q k v : Vec Ideal S1x2048x128 .f32) (b : Vec Ideal S3x2x128x256 .f32)

theorem mem_slabU {g s : ℕ} {hg h} {y : S3x2048x128.Idx} (hy : y ∈ (slabU g s hg h).set) :
    (y 0).val = g ∧ ∃ j < 128, (y 1).val = s + j := by
  have h := (LoadRect.mem_set _).mp hy
  obtain ⟨j0, hj0, e0⟩ := h 0
  obtain ⟨j1, hj1, e1⟩ := h 1
  simp [slabU] at hj0 e0 hj1 e1
  exact ⟨by omega, j1, hj1, e1⟩

theorem mem_slabS {g d s : ℕ} {hg hd h} {y : S3x2048x128.Idx} (hy : y ∈ (slabS g d s hg hd h).set) :
    (y 0).val = g ∧ ∃ j < 128, (y 1).val = s + d * j := by
  have h := (LoadRect.mem_set _).mp hy
  obtain ⟨j0, hj0, e0⟩ := h 0
  obtain ⟨j1, hj1, e1⟩ := h 1
  simp [slabS] at hj0 e0 hj1 e1
  exact ⟨by omega, j1, hj1, e1⟩

theorem mem_block0 {n : Fin 16} {y : S3x2048x128.Idx} (hy : y ∈ (block0 fF fL q k v b n).1.set) :
    (y 0).val = 0 ∧ ∃ j < 128, (y 1).val = n.val * 128 + j := by
  unfold block0 at hy
  split at hy
  · obtain ⟨h0, j, hj, h1⟩ := mem_slabU (hg := by omega) (h := by omega) hy
    exact ⟨h0, j, hj, by omega⟩
  · exact mem_slabU (hg := by omega) (h := by omega) hy

theorem mem_blockS {g d nb : ℕ} {hg hd} {n : Fin nb} {ρ : Fin d} {y : S3x2048x128.Idx}
    (hy : y ∈ (blockS fF fL q k v b g d nb hg hd n ρ).1.set) :
    (y 0).val = g ∧ ∃ j < 128, (y 1).val = n.val * 128 * d + ρ.val + d * j := by
  unfold blockS at hy
  split at hy
  · next h =>
    obtain ⟨h0, j, hj, h1⟩ := mem_slabS (hg := hg) (hd := Nat.zero_lt_of_lt ρ.isLt) (h := first_lt hd n ρ) hy
    exact ⟨h0, j, hj, by rw [h1, h]; omega⟩
  · exact mem_slabS (hg := hg) (hd := Nat.zero_lt_of_lt ρ.isLt) (h := own_lt hd n ρ) hy

theorem rd_rowsU (x : Vec Ideal S1x2048x128 .f32) (s n : ℕ) (h) (r : Fin n) (l : Fin 128) :
    (rd x (rowsU s n h) : Vec Ideal (⟨3, ![1, n, 128]⟩ : Shape) .f32) (ix3 0 r l) = x (ix3 0 (row (s + r.val)) l) := by
  refine congrArg x (funext fun a => Fin.ext ?_)
  have hr := r.isLt
  fin_cases a <;> simp [rowsU, row, LoadRect.idx] <;> omega

theorem rd_rowsS (x : Vec Ideal S1x2048x128 .f32) (d s n : ℕ) (h) (r : Fin n) (l : Fin 128) :
    (rd x (rowsS d s n h) : Vec Ideal (⟨3, ![1, n, 128]⟩ : Shape) .f32) (ix3 0 r l)
      = x (ix3 0 (row (s + d * r.val)) l) := by
  have hr : s + d * r.val < 2048 :=
    Nat.lt_of_le_of_lt (Nat.add_le_add_left (Nat.mul_le_mul_left _ (by have := r.isLt; omega)) _) h
  rw [row_eq hr]
  refine congrArg x (funext fun a => Fin.ext ?_)
  fin_cases a <;> simp [rowsS, LoadRect.idx]

theorem rd_biasFirst (g : Fin 3) (h) (c : Fin 2) (r j : Fin 128) :
    (rd b (biasFirst g.val h) : Vec Ideal S1x2x128x128 .f32) (ix4 0 c r j) = b (ix4 g c r ⟨128 + j.val, by omega⟩) := by
  refine congrArg b (funext fun a => Fin.ext ?_)
  fin_cases a <;> simp [biasFirst, LoadRect.idx]

theorem rd_biasLater (g : Fin 3) (h) (c : Fin 2) (r : Fin 128) (j : Fin 256) :
    (rd b (biasLater g.val h) : Vec Ideal S1x2x128x256 .f32) (ix4 0 c r j) = b (ix4 g c r j) := by
  refine congrArg b (funext fun a => Fin.ext ?_)
  fin_cases a <;> simp [biasLater, LoadRect.idx]

/-- A score from its operands' entries. -/
theorem sc_of {n : ℕ} {q : Vec Ideal S1x128x128 .f32} {k : Vec Ideal (⟨3, ![1, n, 128]⟩ : Shape) .f32}
    {b : Vec Ideal (⟨4, ![1, 2, 128, n]⟩ : Shape) .f32} {r l : Fin 128} {j : Fin n} (q' k' : Fin 128 → EReal) (b' : EReal)
    (hq : ∀ l', q (ix3 0 r l') = q' l') (hk : ∀ l', k (ix3 0 j l') = k' l') (hb : b (ix4 0 (half l) r j) = b') :
    sc q k b r l j = (∑ l' : Fin 128, if half l' = half l then q' l' * k' l' else 0) + b' := by
  unfold sc
  rw [hb]
  simp only [hq, hk]

theorem score_live {q k : Vec Ideal S1x2048x128 .f32} {b : Vec Ideal S3x2x128x256 .f32} {g : Fin 3} {d n ρ : ℕ}
    {r l : Fin 128} {j : Fin 256} (h : ¬(n = 0 ∧ j.val < 128)) : score q k b g d n ρ r l j =
    (∑ l' : Fin 128, if half l' = half l then
      q (ix3 0 (row ((n * 128 + r.val) * d + ρ)) l') * k (ix3 0 (row ((n * 128 + j.val - 128) * d + ρ)) l') else 0)
      + b (ix4 g (half l) r j) := if_neg h

include H

/-- The store of a block of the first group, read at a row of the block. -/
theorem block0_apply (n : Fin 16) (r l : Fin 128) :
    View.canon [block0 fF fL q k v b n] (ix3 0 (row ((n.val * 128 + r.val) * 1 + 0)) l)
      = Φ 256 (score q k b 0 1 n.val 0 r l) (vals v 1 n.val 0 l) := by
  have hr := r.isLt
  have hn := n.isLt
  unfold block0
  split
  · next h =>
    rw [canon_one _ (ix3 0 r l)]
    · refine (H.first _ _ _ _ r l).trans (Eq.trans ?_ (H.masked _ _ (fun j hj => if_pos ⟨h, hj⟩)))
      refine congrArg₂ (Φ 128) (funext fun j => ?_) (funext fun j => ?_)
      · refine Eq.trans ?_ (score_live (by simp)).symm
        refine sc_of _ _ _ (fun l' => (rd_rowsU q 0 128 _ r l').trans ?_)
          (fun l' => (rd_rowsU k 0 128 _ j l').trans ?_) (rd_biasFirst b 0 _ _ r j)
        · rw [h]; congr 3; omega
        · rw [h]; congr 3; simp
      · refine (rd_rowsU v 0 128 _ j l).trans ?_
        unfold upper vals
        rw [h]; congr 3; simp
    · funext a
      refine Fin.ext ?_
      fin_cases a <;> simp [slabU, row, LoadRect.idx, h] <;> omega
  · next h =>
    rw [canon_one _ (ix3 0 r l)]
    · refine (H.later _ _ _ _ r l).trans ?_
      refine congrArg₂ (Φ 256) (funext fun j => ?_) (funext fun j => ?_)
      · refine Eq.trans ?_ (score_live (fun e => h e.1)).symm
        refine sc_of _ _ _ (fun l' => (rd_rowsU q _ 128 _ r l').trans ?_)
          (fun l' => (rd_rowsU k _ 256 _ j l').trans ?_) (rd_biasLater b 0 _ _ r j)
        · congr 3; omega
        · congr 3; omega
      · refine (rd_rowsU v _ 256 _ j l).trans ?_
        unfold vals
        congr 3; omega
    · funext a
      refine Fin.ext ?_
      fin_cases a <;> simp [slabU, row, LoadRect.idx] <;> omega

/-- The store of a block of a later group, read at a row of the block. -/
theorem blockS_apply (g : Fin 3) (d nb : ℕ) (hd : d * (nb * 128) = 2048) (n : Fin nb) (ρ : Fin d) (r l : Fin 128) :
    View.canon [blockS fF fL q k v b g.val d nb g.isLt hd n ρ] (ix3 g (row ((n.val * 128 + r.val) * d + ρ.val)) l)
      = Φ 256 (score q k b g d n.val ρ.val r l) (vals v d n.val ρ.val l) := by
  have hr := r.isLt
  have e : ∀ a c : ℕ, (a * 128 + c) * d + ρ.val = a * 128 * d + ρ.val + d * c := fun a c => by ring
  have ho := own_lt hd n ρ
  have hlt : n.val * 128 * d + ρ.val + d * r.val < 2048 := by
    have := Nat.mul_le_mul_left d (show r.val ≤ 127 by omega)
    omega
  unfold blockS
  split
  · next h =>
    rw [canon_one _ (ix3 0 r l)]
    · refine (H.first _ _ _ _ r l).trans (Eq.trans ?_ (H.masked _ _ (fun j hj => if_pos ⟨h, hj⟩)))
      refine congrArg₂ (Φ 128) (funext fun j => ?_) (funext fun j => ?_)
      · refine Eq.trans ?_ (score_live (by simp)).symm
        refine sc_of _ _ _ (fun l' => (rd_rowsS q d _ 128 _ r l').trans ?_)
          (fun l' => (rd_rowsS k d _ 128 _ j l').trans ?_) (rd_biasFirst b g _ _ r j)
        · rw [e, h]; congr 3; omega
        · rw [h]; congr 3; rw [Nat.zero_mul, Nat.zero_add, Nat.add_sub_cancel_left]; ring
      · refine (rd_rowsS v d _ 128 _ j l).trans ?_
        unfold upper vals
        rw [h]; congr 3; rw [Nat.zero_mul, Nat.zero_add, Nat.add_sub_cancel_left]; ring
    · rw [e, row_eq hlt]
      funext a
      refine Fin.ext ?_
      fin_cases a <;> simp [slabS, LoadRect.idx, h]
  · next h =>
    have e' : ∀ j : Fin 256, (n.val - 1) * 128 * d + ρ.val + d * j.val = (n.val * 128 + j.val - 128) * d + ρ.val :=
      fun j => by
        obtain ⟨i, hi⟩ : ∃ i, n.val = i + 1 := ⟨n.val - 1, by omega⟩
        rw [hi, show (i + 1) * 128 + j.val - 128 = i * 128 + j.val by omega, Nat.add_sub_cancel]; ring
    rw [canon_one _ (ix3 0 r l)]
    · refine (H.later _ _ _ _ r l).trans ?_
      refine congrArg₂ (Φ 256) (funext fun j => ?_) (funext fun j => ?_)
      · refine Eq.trans ?_ (score_live (fun e => h e.1)).symm
        refine sc_of _ _ _ (fun l' => (rd_rowsS q d _ 128 _ r l').trans ?_)
          (fun l' => (rd_rowsS k d _ 256 _ j l').trans ?_) (rd_biasLater b g _ _ r j)
        · rw [e]
        · rw [e']
      · refine (rd_rowsS v d _ 256 _ j l).trans ?_
        unfold vals
        rw [e']
    · rw [e, row_eq hlt]
      funext a
      refine Fin.ext ?_
      fin_cases a <;> simp [slabS, LoadRect.idx]

end group

/-! ## The three slabs -/

section slabs

variable {fF : Vec Ideal S1x128x128 .f32 → Vec Ideal S1x128x128 .f32 → Vec Ideal S1x128x128 .f32 →
    Vec Ideal S1x2x128x128 .f32 → FVec Ideal S1x128x128 .f32}
variable {fL : Vec Ideal S1x128x128 .f32 → Vec Ideal S1x256x128 .f32 → Vec Ideal S1x256x128 .f32 →
    Vec Ideal S1x2x128x256 .f32 → FVec Ideal S1x128x128 .f32}
variable {Φ : ∀ n : ℕ, (Fin n → EReal) → (Fin n → EReal) → EReal}
variable (H : Computes fF fL Φ)
variable (q0 q1 q2 k0 k1 k2 v0 v1 v2 : Vec Ideal S1x2048x128 .f32) (b : Vec Ideal S3x2x128x256 .f32)

/-- Every store is one of the three groups'. -/
theorem mem_blocks {p : View.Piece (Elt Ideal) S3x2048x128 .f32}
    (hp : p ∈ blocks fF fL q0 q1 q2 k0 k1 k2 v0 v1 v2 b) :
    (∃ n : Fin 16, p = block0 fF fL q0 k0 v0 b n)
      ∨ (∃ (n : Fin 4) (ρ : Fin 4), p = blockS fF fL q1 k1 v1 b 1 4 4 (by omega) (by omega) n ρ)
      ∨ ∃ ρ : Fin 16, p = blockS fF fL q2 k2 v2 b 2 16 1 (by omega) (by omega) 0 ρ := by
  unfold blocks at hp
  rcases List.mem_append.mp hp with h | h
  · obtain ⟨ρ, _, rfl⟩ := List.mem_map.mp h
    exact .inr (.inr ⟨ρ, rfl⟩)
  rcases List.mem_append.mp h with h | h
  · obtain ⟨a, _, rfl⟩ := List.mem_map.mp h
    exact .inr (.inl ⟨a.1, a.2, rfl⟩)
  · obtain ⟨n, _, rfl⟩ := List.mem_map.mp h
    exact .inl ⟨n, rfl⟩

include H

theorem slab0_apply (n : Fin 16) (r l : Fin 128) :
    View.canon (blocks fF fL q0 q1 q2 k0 k1 k2 v0 v1 v2 b) (ix3 0 (row ((n.val * 128 + r.val) * 1 + 0)) l)
      = Φ 256 (score q0 k0 b 0 1 n.val 0 r l) (vals v0 1 n.val 0 l) := by
  have hr := r.isLt
  have hn := n.isLt
  rw [← block0_apply H]
  refine canon_at _ _ _ ?_ fun p hp hy => ?_
  · exact List.mem_append_right _ (List.mem_append_right _ (List.mem_map_of_mem
      ((by decide : ∀ n : Fin 16, n ∈ ([15, 14, 13, 12, 11, 10, 9, 8, 7, 6, 5, 4, 3, 2, 1, 0] : List (Fin 16))) n)))
  · rcases mem_blocks q0 q1 q2 k0 k1 k2 v0 v1 v2 b hp with ⟨n', rfl⟩ | ⟨n', ρ', rfl⟩ | ⟨ρ', rfl⟩
    · obtain ⟨_, j, hj, h1⟩ := mem_block0 q0 k0 v0 b hy
      have h1 : ((n.val * 128 + r.val) * 1 + 0) % 2048 = n'.val * 128 + j := h1
      rw [show n' = n from Fin.ext (by omega)]
    · exact absurd (mem_blockS q1 k1 v1 b hy).1 (show ¬(0 = 1) by omega)
    · exact absurd (mem_blockS q2 k2 v2 b hy).1 (show ¬(0 = 2) by omega)

theorem slab1_apply (n : Fin 4) (ρ : Fin 4) (r l : Fin 128) :
    View.canon (blocks fF fL q0 q1 q2 k0 k1 k2 v0 v1 v2 b) (ix3 1 (row ((n.val * 128 + r.val) * 4 + ρ.val)) l)
      = Φ 256 (score q1 k1 b 1 4 n.val ρ.val r l) (vals v1 4 n.val ρ.val l) := by
  have hr := r.isLt
  have hn := n.isLt
  have hρ := ρ.isLt
  rw [← blockS_apply H q1 k1 v1 b 1 4 4 (by omega)]
  refine canon_at _ _ _ ?_ fun p hp hy => ?_
  · exact List.mem_append_right _ (List.mem_append_left _ (List.mem_map_of_mem
      (f := fun p : Fin 4 × Fin 4 => blockS fF fL q1 k1 v1 b 1 4 4 (by omega) (by omega) p.1 p.2)
      ((by decide : ∀ a : Fin 4 × Fin 4, a ∈ ([(3, 3), (3, 2), (3, 1), (3, 0), (2, 3), (2, 2), (2, 1), (2, 0),
        (1, 3), (1, 2), (1, 1), (1, 0), (0, 3), (0, 2), (0, 1), (0, 0)] : List (Fin 4 × Fin 4))) (n, ρ))))
  · rcases mem_blocks q0 q1 q2 k0 k1 k2 v0 v1 v2 b hp with ⟨n', rfl⟩ | ⟨n', ρ', rfl⟩ | ⟨ρ', rfl⟩
    · exact absurd (mem_block0 q0 k0 v0 b hy).1 (show ¬(1 = 0) by omega)
    · obtain ⟨_, j, hj, h1⟩ := mem_blockS q1 k1 v1 b hy
      have hρ' := ρ'.isLt
      have hn' := n'.isLt
      have h1 : ((n.val * 128 + r.val) * 4 + ρ.val) % 2048 = n'.val * 128 * 4 + ρ'.val + 4 * j := h1
      rw [show n' = n from Fin.ext (by omega), show ρ' = ρ from Fin.ext (by omega)]
      rfl
    · exact absurd (mem_blockS q2 k2 v2 b hy).1 (show ¬(1 = 2) by omega)

theorem slab2_apply (n : Fin 1) (ρ : Fin 16) (r l : Fin 128) :
    View.canon (blocks fF fL q0 q1 q2 k0 k1 k2 v0 v1 v2 b) (ix3 2 (row ((n.val * 128 + r.val) * 16 + ρ.val)) l)
      = Φ 256 (score q2 k2 b 2 16 n.val ρ.val r l) (vals v2 16 n.val ρ.val l) := by
  have hr := r.isLt
  have hρ := ρ.isLt
  rw [← blockS_apply H q2 k2 v2 b 2 16 1 (by omega)]
  refine canon_at _ _ _ ?_ fun p hp hy => ?_
  · rw [Subsingleton.elim n 0]
    exact List.mem_append_left _ (List.mem_map_of_mem
      ((by decide : ∀ n : Fin 16, n ∈ ([15, 14, 13, 12, 11, 10, 9, 8, 7, 6, 5, 4, 3, 2, 1, 0] : List (Fin 16))) ρ))
  · rcases mem_blocks q0 q1 q2 k0 k1 k2 v0 v1 v2 b hp with ⟨n', rfl⟩ | ⟨n', ρ', rfl⟩ | ⟨ρ', rfl⟩
    · exact absurd (mem_block0 q0 k0 v0 b hy).1 (show ¬(2 = 0) by omega)
    · exact absurd (mem_blockS q1 k1 v1 b hy).1 (show ¬(2 = 1) by omega)
    · obtain ⟨_, j, hj, h1⟩ := mem_blockS q2 k2 v2 b hy
      have hρ' := ρ'.isLt
      have h1 : ((n.val * 128 + r.val) * 16 + ρ.val) % 2048 = (0 : Fin 1).val * 128 * 16 + ρ'.val + 16 * j := h1
      have hn : n.val = 0 := by omega
      rw [Subsingleton.elim n 0, show ρ' = ρ from Fin.ext (by simp at h1; omega)]
      rfl

end slabs

theorem computes_acc : Computes accFirst accLater (fun _ s v => num s v) :=
  ⟨accFirst_apply, accLater_apply, num_upper⟩

theorem computes_max : Computes maxFirst maxLater (fun _ s _ => mx s) :=
  ⟨maxFirst_apply, maxLater_apply, fun s _ => mx_upper s⟩

theorem computes_sum : Computes sumFirst sumLater (fun _ s _ => den s) :=
  ⟨sumFirst_apply, sumLater_apply, fun s _ => den_upper s⟩

end Cert.Attn
-- ==== Proof.AttnMerge.lean ====
/- The closing loop at an index: a row of the output is the three groups' rows of the scratches, merged by their maxima. -/
module

public import proofs.«01_k».proof.Proof.AttnScratch
public import proofs.«01_k».proof.Proof.Gen.KernelIdeal.Value

@[expose] public section

set_option maxRecDepth 16384

noncomputable section

namespace Cert.Attn

open Cert.KernelIdeal Cert.KernelIdeal.Gen Idealize.ShloMosaic Idealize.ShloMosaic.TcCoe

/-- Three groups' numerators `a`, maxima `m` and denominators `s`, put under one maximum and divided. -/
def merge (a m s : Fin 3 → EReal) : EReal :=
  Ideal.div
    ((Ideal.exp (m 0 - max (max (m 0) (m 1)) (m 2)) * a 0 + Ideal.exp (m 1 - max (max (m 0) (m 1)) (m 2)) * a 1)
      + Ideal.exp (m 2 - max (max (m 0) (m 1)) (m 2)) * a 2)
    ((Ideal.exp (m 0 - max (max (m 0) (m 1)) (m 2)) * s 0 + Ideal.exp (m 1 - max (max (m 0) (m 1)) (m 2)) * s 1)
      + Ideal.exp (m 2 - max (max (m 0) (m 1)) (m 2)) * s 2)

/-- The merged rows: the output as one function of the three scratches. -/
def merged (A M S : Vec Ideal S3x2048x128 .f32) : Vec Ideal S1x2048x128 .f32 := fun y =>
  merge (fun g => A (ix3 g (y 1) (y 2))) (fun g => M (ix3 g (y 1) (y 2))) (fun g => S (ix3 g (y 1) (y 2)))

theorem merge_rows (m0 m1 m2 s0 s1 s2 a0 a1 a2 : Vec Ideal S1x256x128 .f32) (r : Fin 256) (l : Fin 128) :
    k0_pay2 (k0_pay9 m0 m1 m2) (k0_pay10 m0 m1 m2 s0 s1 s2) (k0_pay11 m0 m1 m2 a0 a1) a2 (ix3 0 r l)
      = merge ![a0 (ix3 0 r l), a1 (ix3 0 r l), a2 (ix3 0 r l)] ![m0 (ix3 0 r l), m1 (ix3 0 r l), m2 (ix3 0 r l)]
          ![s0 (ix3 0 r l), s1 (ix3 0 r l), s2 (ix3 0 r l)] := by
  unfold_payloads
  pointwise
  rfl

/-- Where trip `k` loads and stores. -/
theorem trip_off (k : Fin k0_t1_loop.trips) : k0_off1 k = ![0, 256 * k.val, 0] ∧ k0_off2 k = ![1, 256 * k.val, 0] ∧
    k0_off3 k = ![2, 256 * k.val, 0] ∧ k0_off4 k = ![0, 256 * k.val, 0] := by
  revert k; decide +kernel

theorem trips_eq : k0_t1_loop.trips = 8 := by decide +kernel

variable (c : Dev nD) (i : grid0.Coords)
    (arg2 : Memref sig .tc .vmem S1x2048x128 .f32) (harg2 : arg2.IsWhole)
    (arg3 : Memref sig .tc .vmem S1x2048x128 .f32) (harg3 : arg3.IsWhole)
    (arg4 : Memref sig .tc .vmem S1x2048x128 .f32) (harg4 : arg4.IsWhole)
    (arg5 : Memref sig .tc .vmem S1x2048x128 .f32) (harg5 : arg5.IsWhole)
    (arg6 : Memref sig .tc .vmem S1x2048x128 .f32) (harg6 : arg6.IsWhole)
    (arg7 : Memref sig .tc .vmem S1x2048x128 .f32) (harg7 : arg7.IsWhole)
    (arg8 : Memref sig .tc .vmem S1x2048x128 .f32) (harg8 : arg8.IsWhole)
    (arg9 : Memref sig .tc .vmem S1x2048x128 .f32) (harg9 : arg9.IsWhole)
    (arg10 : Memref sig .tc .vmem S1x2048x128 .f32) (harg10 : arg10.IsWhole)
    (arg11 : Memref sig .tc .vmem S3x2x128x256 .f32) (harg11 : arg11.IsWhole)
    (arg12 : Memref sig .tc .vmem S1x2048x128 .f32) (harg12 : arg12.IsWhole)
    (arg13 : Memref sig .tc .vmem S3x2048x128 .f32) (harg13 : arg13.IsWhole)
    (arg14 : Memref sig .tc .vmem S3x2048x128 .f32) (harg14 : arg14.IsWhole)
    (arg15 : Memref sig .tc .vmem S3x2048x128 .f32) (harg15 : arg15.IsWhole)

section
variable (X13 : BufTy.Contents (Elt Ideal) arg13.view.ty) (X14 : BufTy.Contents (Elt Ideal) arg14.view.ty)
    (X15 : BufTy.Contents (Elt Ideal) arg15.view.ty)

unseal trip_k0_t1 in
/-- One trip stores one block of 256 rows of the merged output. -/
theorem trip_piece (k : Fin k0_t1_loop.trips) :
    ∃ p : View.Piece (Elt Ideal) S1x2048x128 .f32,
      (tripL_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 X13 X14 X15 k) = [p] ∧
      (∀ x, p.2 x = merged (arg13.view.read (Elt Ideal) X13) (arg14.view.read (Elt Ideal) X14)
        (arg15.view.read (Elt Ideal) X15) (p.1.idx x)) ∧
      ∀ y : S1x2048x128.Idx, 256 * k.val ≤ (y 1).val → (y 1).val < 256 * k.val + 256 → y ∈ p.1.set := by
  unfold tripL_k0_t1 trip_k0_t1
  refine ⟨_, rfl, ?_, ?_⟩
  · obtain ⟨h1, h2, h3, h4⟩ := trip_off k
    intro x
    obtain ⟨z, r, l, rfl⟩ : ∃ (z : Fin 1) (r : Fin 256) (l : Fin 128), x = ix3 z r l :=
      ⟨x 0, x 1, x 2, funext fun a => by fin_cases a <;> rfl⟩
    obtain rfl : z = 0 := Subsingleton.elim _ _
    refine (merge_rows _ _ _ _ _ _ _ _ _ r l).trans ?_
    unfold merged
    congr 1 <;> funext g <;> fin_cases g <;>
      refine congrArg (View.read (Elt Ideal) _ _) (funext fun a => Fin.ext ?_) <;>
      fin_cases a <;> simp [h1, h2, h3, h4, LoadRect.idx]
  · obtain ⟨h1, h2, h3, h4⟩ := trip_off k
    intro y ha hb
    rw [Rect.mem_set_unit]
    intro a
    have h0 := (y 0).isLt
    have h2' := (y 2).isLt
    fin_cases a <;> simp [h4] at * <;> omega

/-- The first `k` trips store rows of the merged output, and all rows below `256 k`. -/
theorem trips_pieces (k : ℕ) (hk : k ≤ 8) :
    (∀ p ∈ pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 X13 X14 X15 k,
      ∀ x, p.2 x = merged (arg13.view.read (Elt Ideal) X13) (arg14.view.read (Elt Ideal) X14)
        (arg15.view.read (Elt Ideal) X15) (p.1.idx x)) ∧
    ∀ y : S1x2048x128.Idx, (y 1).val < 256 * k →
      ∃ p ∈ pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 X13 X14 X15 k, y ∈ p.1.set := by
  induction k with
  | zero =>
    unfold pb_k0_t1
    refine ⟨fun p hp => (List.not_mem_nil hp).elim, fun y hy => ?_⟩
    omega
  | succ k ih =>
    obtain ⟨ih1, ih2⟩ := ih (by omega)
    have hk' : k < k0_t1_loop.trips := by rw [trips_eq]; omega
    obtain ⟨p, hp, hv, hc⟩ := trip_piece c i arg2 harg2 arg3 harg3 arg4 harg4 arg5 harg5 arg6 harg6 arg7 harg7 arg8 harg8 arg9 harg9 arg10 harg10 arg11 harg11 arg12 harg12 arg13 harg13 arg14 harg14 arg15 harg15 X13 X14 X15 ⟨k, hk'⟩
    have hs := pb_k0_t1_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 X13 X14 X15 ⟨k, hk'⟩
    rw [hp] at hs
    simp only at hs hc
    rw [hs]
    refine ⟨fun q hq => ?_, fun y hy => ?_⟩
    · rcases List.mem_cons.mp hq with rfl | hq
      · exact hv
      · exact ih1 q hq
    · by_cases hlt : (y 1).val < 256 * k
      · obtain ⟨q, hq, hm⟩ := ih2 y hlt
        exact ⟨q, List.mem_cons_of_mem _ hq, hm⟩
      · exact ⟨p, List.mem_cons_self, hc y (by omega) (by omega)⟩

end

/-! ## The scratches are written everywhere -/

section cover

variable {fF : Vec Ideal S1x128x128 .f32 → Vec Ideal S1x128x128 .f32 → Vec Ideal S1x128x128 .f32 →
    Vec Ideal S1x2x128x128 .f32 → FVec Ideal S1x128x128 .f32}
variable {fL : Vec Ideal S1x128x128 .f32 → Vec Ideal S1x256x128 .f32 → Vec Ideal S1x256x128 .f32 →
    Vec Ideal S1x2x128x256 .f32 → FVec Ideal S1x128x128 .f32}
variable (q0 q1 q2 k0 k1 k2 v0 v1 v2 : Vec Ideal S1x2048x128 .f32) (b : Vec Ideal S3x2x128x256 .f32)

theorem mem_block0_of (q k v : Vec Ideal S1x2048x128 .f32) (n : Fin 16) (t : Fin 2048) (l : Fin 128)
    (h : t.val / 128 = n.val) : (ix3 0 t l : S3x2048x128.Idx) ∈ (block0 fF fL q k v b n).1.set := by
  unfold block0
  split <;> refine (LoadRect.mem_set _).mpr fun a => ?_ <;> fin_cases a
  · exact ⟨0, by simp [slabU], by simp [slabU]⟩
  · exact ⟨t.val % 128, by simp [slabU]; omega, by simp [slabU]; omega⟩
  · exact ⟨l.val, by simp [slabU], by simp [slabU]⟩
  · exact ⟨0, by simp [slabU], by simp [slabU]⟩
  · exact ⟨t.val % 128, by simp [slabU]; omega, by simp [slabU]; omega⟩
  · exact ⟨l.val, by simp [slabU], by simp [slabU]⟩

theorem mem_blockS_of (q k v : Vec Ideal S1x2048x128 .f32) (g : Fin 3) (d nb : ℕ) (hd : d * (nb * 128) = 2048)
    (n : Fin nb) (ρ : Fin d) (r : ℕ) (hr : r < 128) (t : Fin 2048) (l : Fin 128)
    (h : t.val = (n.val * 128 + r) * d + ρ.val) :
    (ix3 g t l : S3x2048x128.Idx) ∈ (blockS fF fL q k v b g.val d nb g.isLt hd n ρ).1.set := by
  have e : t.val = n.val * 128 * d + ρ.val + d * r := by rw [h]; ring
  unfold blockS
  split <;> refine (LoadRect.mem_set _).mpr fun a => ?_ <;> fin_cases a
  · exact ⟨0, by simp [slabS], by simp [slabS]⟩
  · next h0 => exact ⟨r, by simpa [slabS] using hr, by rw [h0] at e; simp [slabS, e]⟩
  · exact ⟨l.val, by simp [slabS], by simp [slabS]⟩
  · exact ⟨0, by simp [slabS], by simp [slabS]⟩
  · exact ⟨r, by simpa [slabS] using hr, by simp [slabS, e]⟩
  · exact ⟨l.val, by simp [slabS], by simp [slabS]⟩

theorem covered (y : S3x2048x128.Idx) : ∃ p ∈ blocks fF fL q0 q1 q2 k0 k1 k2 v0 v1 v2 b, y ∈ p.1.set := by
  obtain ⟨g, t, l, rfl⟩ : ∃ (g : Fin 3) (t : Fin 2048) (l : Fin 128), y = ix3 g t l :=
    ⟨y 0, y 1, y 2, funext fun a => by fin_cases a <;> rfl⟩
  have ht := t.isLt
  fin_cases g
  · refine ⟨_, ?_, mem_block0_of (fF := fF) (fL := fL) b q0 k0 v0 ⟨t.val / 128, by omega⟩ t l rfl⟩
    exact List.mem_append_right _ (List.mem_append_right _ (List.mem_map_of_mem
      ((by decide : ∀ n : Fin 16, n ∈ ([15, 14, 13, 12, 11, 10, 9, 8, 7, 6, 5, 4, 3, 2, 1, 0] : List (Fin 16))) _)))
  · refine ⟨_, ?_, mem_blockS_of (fF := fF) (fL := fL) b q1 k1 v1 1 4 4 (by omega) ⟨t.val / 512, by omega⟩ ⟨t.val % 4, by omega⟩
      (t.val / 4 % 128) (by omega) t l (by simp only; omega)⟩
    exact List.mem_append_right _ (List.mem_append_left _ (List.mem_map_of_mem
      (f := fun p : Fin 4 × Fin 4 => blockS fF fL q1 k1 v1 b 1 4 4 (by omega) (by omega) p.1 p.2)
      ((by decide : ∀ a : Fin 4 × Fin 4, a ∈ ([(3, 3), (3, 2), (3, 1), (3, 0), (2, 3), (2, 2), (2, 1), (2, 0),
        (1, 3), (1, 2), (1, 1), (1, 0), (0, 3), (0, 2), (0, 1), (0, 0)] : List (Fin 4 × Fin 4))) (_, _))))
  · refine ⟨_, ?_, mem_blockS_of (fF := fF) (fL := fL) b q2 k2 v2 2 16 1 (by omega) 0 ⟨t.val % 16, by omega⟩
      (t.val / 16) (by omega) t l (by simp only [Fin.val_zero]; omega)⟩
    exact List.mem_append_left _ (List.mem_map_of_mem
      ((by decide : ∀ n : Fin 16, n ∈ ([15, 14, 13, 12, 11, 10, 9, 8, 7, 6, 5, 4, 3, 2, 1, 0] : List (Fin 16))) _))

end cover

/-! ## The output block at an index -/

/-- The three groups' dilations. -/
def dil : Fin 3 → ℕ := ![1, 4, 16]

/-- Token `t`'s row of scores in group `g`, for the head of lane `l`. -/
def scoreAt (q k : Fin 3 → Vec Ideal S1x2048x128 .f32) (b : Vec Ideal S3x2x128x256 .f32) (g : Fin 3) (t : Fin 2048)
    (l : Fin 128) : Fin 256 → EReal :=
  score (q g) (k g) b g (dil g) (t.val / (128 * dil g)) (t.val % dil g) ⟨t.val / dil g % 128, Nat.mod_lt _ (by omega)⟩ l

/-- The values that row goes with, on lane `l`. -/
def valsAt (v : Fin 3 → Vec Ideal S1x2048x128 .f32) (g : Fin 3) (t : Fin 2048) (l : Fin 128) : Fin 256 → EReal :=
  vals (v g) (dil g) (t.val / (128 * dil g)) (t.val % dil g) l

/-- A scratch at a token: the quantity `Φ` of the token's row of scores. -/
theorem canon_blocks {fF fL} {Φ : ∀ n : ℕ, (Fin n → EReal) → (Fin n → EReal) → EReal} (H : Computes fF fL Φ)
    (q0 q1 q2 k0 k1 k2 v0 v1 v2 : Vec Ideal S1x2048x128 .f32) (b : Vec Ideal S3x2x128x256 .f32)
    (g : Fin 3) (t : Fin 2048) (l : Fin 128) :
    View.canon (blocks fF fL q0 q1 q2 k0 k1 k2 v0 v1 v2 b) (ix3 g t l)
      = Φ 256 (scoreAt ![q0, q1, q2] ![k0, k1, k2] b g t l) (valsAt ![v0, v1, v2] g t l) := by
  have ht := t.isLt
  fin_cases g
  · have h := slab0_apply H q0 q1 q2 k0 k1 k2 v0 v1 v2 b ⟨t.val / 128, by omega⟩ ⟨t.val % 128, by omega⟩ l
    rw [show row ((t.val / 128 * 128 + t.val % 128) * 1 + 0) = t from Fin.ext (by simp [row]; omega)] at h
    refine h.trans ?_
    unfold scoreAt valsAt
    simp [dil, Nat.mod_one]
  · have h := slab1_apply H q0 q1 q2 k0 k1 k2 v0 v1 v2 b ⟨t.val / 512, by omega⟩ ⟨t.val % 4, by omega⟩
      ⟨t.val / 4 % 128, by omega⟩ l
    rw [show row ((t.val / 512 * 128 + t.val / 4 % 128) * 4 + t.val % 4) = t from Fin.ext (by simp [row]; omega)] at h
    exact h
  · have h := slab2_apply H q0 q1 q2 k0 k1 k2 v0 v1 v2 b ⟨t.val / 2048, by omega⟩ ⟨t.val % 16, by omega⟩
      ⟨t.val / 16 % 128, by omega⟩ l
    rw [show row ((t.val / 2048 * 128 + t.val / 16 % 128) * 16 + t.val % 16) = t from Fin.ext (by simp [row]; omega)] at h
    exact h

variable (x0 x1 x2 x3 x4 x5 x6 x7 x8 : Vec Ideal S1x2048x128 .f32) (x9 : Vec Ideal S3x2x128x256 .f32)

omit c i in
theorem held_eq {s : Shape} (a : Memref sig .tc .vmem s .f32) (h : a.IsWhole) (x : Vec Ideal s .f32) :
    held (F := Ideal) a h x = x := h.read_unread x

/-- What one grid point stores: the closing loop's pieces over the scratches the blocks leave. -/
theorem run_pieces : (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9).1 = pb_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15
    (arg13.view.writes (Elt Ideal) arg13.view.junk (blocks accFirst accLater x0 x1 x2 x3 x4 x5 x6 x7 x8 x9))
    (arg14.view.writes (Elt Ideal) arg14.view.junk (blocks maxFirst maxLater x0 x1 x2 x3 x4 x5 x6 x7 x8 x9))
    (arg15.view.writes (Elt Ideal) arg15.view.junk (blocks sumFirst sumLater x0 x1 x2 x3 x4 x5 x6 x7 x8 x9)) k0_t1_loop.trips := by
  unfold kernelRun0_A
  dsimp only
  rw [acc_pieces c arg2 harg2 arg3 harg3 arg4 harg4 arg5 harg5 arg6 harg6 arg7 harg7 arg8 harg8 arg9 harg9 arg10 harg10 arg11 harg11 x0 x1 x2 x3 x4 x5 x6 x7 x8 x9, max_pieces c arg2 harg2 arg3 harg3 arg4 harg4 arg5 harg5 arg6 harg6 arg7 harg7 arg8 harg8 arg9 harg9 arg10 harg10 arg11 harg11 x0 x1 x2 x3 x4 x5 x6 x7 x8 x9, sum_pieces c arg2 harg2 arg3 harg3 arg4 harg4 arg5 harg5 arg6 harg6 arg7 harg7 arg8 harg8 arg9 harg9 arg10 harg10 arg11 harg11 x0 x1 x2 x3 x4 x5 x6 x7 x8 x9]
  simp only [held_eq]

/-- The output block of one grid point, at token `t` and lane `l`: the three groups' softmaxes merged. -/
theorem out_apply (t : Fin 2048) (l : Fin 128) :
    out0_A_10 c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 (ix3 0 t l)
      = merge (fun g => num (scoreAt ![x0, x1, x2] ![x3, x4, x5] x9 g t l) (valsAt ![x6, x7, x8] g t l))
          (fun g => mx (scoreAt ![x0, x1, x2] ![x3, x4, x5] x9 g t l))
          (fun g => den (scoreAt ![x0, x1, x2] ![x3, x4, x5] x9 g t l)) := by
  have hm : ∀ A M S, merged A M S (ix3 0 t l)
      = merge (fun g => A (ix3 g t l)) (fun g => M (ix3 g t l)) (fun g => S (ix3 g t l)) := fun _ _ _ => rfl
  unfold out0_A_10
  rw [run_pieces]
  obtain ⟨h1, h2⟩ := trips_pieces c i arg2 harg2 arg3 harg3 arg4 harg4 arg5 harg5 arg6 harg6 arg7 harg7 arg8 harg8 arg9 harg9 arg10 harg10 arg11 harg11 arg12 harg12 arg13 harg13 arg14 harg14 arg15 harg15
    (arg13.view.writes (Elt Ideal) arg13.view.junk (blocks accFirst accLater x0 x1 x2 x3 x4 x5 x6 x7 x8 x9))
    (arg14.view.writes (Elt Ideal) arg14.view.junk (blocks maxFirst maxLater x0 x1 x2 x3 x4 x5 x6 x7 x8 x9))
    (arg15.view.writes (Elt Ideal) arg15.view.junk (blocks sumFirst sumLater x0 x1 x2 x3 x4 x5 x6 x7 x8 x9)) k0_t1_loop.trips (le_of_eq trips_eq)
  have ht := t.isLt
  have hc := h2 (ix3 0 t l) (by rw [trips_eq]; exact ht)
  refine (View.read_writes_apply_eq_canon _ _ _ _ hc).trans ?_
  refine (View.canon_apply_of_pieces _ _ h1 _ hc).trans ?_
  rw [View.read_writes_eq_canon _ _ _ (covered _ _ _ _ _ _ _ _ _ _), View.read_writes_eq_canon _ _ _ (covered _ _ _ _ _ _ _ _ _ _),
    View.read_writes_eq_canon _ _ _ (covered _ _ _ _ _ _ _ _ _ _), hm]
  simp only [canon_blocks computes_acc, canon_blocks computes_max, canon_blocks computes_sum]

end Cert.Attn
-- ==== Proof.AttnWhole.lean ====
/-
  The attention as one function of the queries and the keys-and-values, index by index: what both programs are shown to
  compute. Group `g` reads every `dil g`-th token, in blocks of 128; a query attends to the block before its own and to its
  own block. The queries are taken as they come; their scale 1/8 is part of the score.
-/
module

public import proofs.«01_k».proof.Proof.AttnMerge

@[expose] public section

noncomputable section

namespace Cert.Attn

open Cert.KernelIdeal Cert.KernelIdeal.Gen Idealize.ShloMosaic Idealize.ShloMosaic.TcCoe

/-- How steeply head `h` of group `g` falls off with distance. -/
def slope (g : Fin 3) (h : Fin 8) : EReal :=
  Ideal.exp (Ideal.ofBits FTy.f32 1060205080#32 *
    Ideal.div (Ideal.ofBits FTy.f32 3238002688#32 * (1 + FloatOps.sitofp (F := Ideal) FTy.f32 (BitVec.ofNat 32 (g.val * 8 + h.val))))
      (Ideal.ofBits FTy.f32 1103101952#32))

/-- The distance from key `j` of a block of 256 to query `r`, in steps of the group's rate. -/
def gap (r : Fin 128) (j : Fin 256) : BitVec 32 :=
  IntOp.subi (IntOp.addi (128#32) (BitVec.ofNat 32 r.val)) (BitVec.ofNat 32 j.val)

/-- Whether key `j` is within the window of query `r`. -/
def near (r : Fin 128) (j : Fin 256) : BitVec 1 :=
  IntOp.andi (IntOp.cmpi CmpIPredicate.sge (gap r j) 0#32) (IntOp.cmpi CmpIPredicate.sle (gap r j) 128#32)

/-- The term a key's distance adds to its score, minus infinity outside the window. -/
def tilt (g : Fin 3) (h : Fin 8) (r : Fin 128) (j : Fin 256) : EReal :=
  Scalar.select (near r j)
    (-slope g h * FloatOps.sitofp (F := Ideal) FTy.f32 (IntOp.muli (lit0 (S3.rowMajor (ix1 g))) (gap r j))) ⊥

/-- Column of lane `e` of head `h` in a block of columns starting at `off`. -/
abbrev column {w : ℕ} (off : ℕ) (h : Fin 8) (e : Fin 64) (hw : off + 512 ≤ w) : Fin w := ⟨off + (h.val * 64 + e.val), by omega⟩

variable (Q : Vec Ideal S8x2048x1536 .f32) (KV : Vec Ideal S8x2048x3072 .f32)

/-- The score of key `j` for query row `r` of block `n` of residue class `ρ`, in group `g` at rate `d`. -/
def rowScore (b : Fin 8) (g : Fin 3) (d n ρ : ℕ) (r : Fin 128) (h : Fin 8) (j : Fin 256) : EReal :=
  if n = 0 ∧ j.val < 128 then ⊥ else
    (∑ e : Fin 64, Q (ix3 b (row ((n * 128 + r.val) * d + ρ)) (column (g.val * 512) h e (by omega))) * Ideal.ofBits FTy.f32 1040187392#32
        * KV (ix3 b (row ((n * 128 + j.val - 128) * d + ρ)) (column (g.val * 1024) h e (by omega)))) + tilt g h r j

/-- The value beside key `j`. -/
def rowValue (b : Fin 8) (g : Fin 3) (d n ρ : ℕ) (h : Fin 8) (e : Fin 64) (j : Fin 256) : EReal :=
  KV (ix3 b (row ((n * 128 + j.val - 128) * d + ρ)) (column (g.val * 1024 + 512) h e (by omega)))

/-- The scores of token `t`'s row in group `g`. -/
abbrev tokScore (b : Fin 8) (t : Fin 2048) (h : Fin 8) (g : Fin 3) : Fin 256 → EReal :=
  rowScore Q KV b g (dil g) (t.val / (128 * dil g)) (t.val % dil g) ⟨t.val / dil g % 128, Nat.mod_lt _ (by omega)⟩ h

/-- The attention at batch `b`, token `t`, head `h`, lane `e`: the three groups' sums merged under their joint maximum. -/
def attend (b : Fin 8) (t : Fin 2048) (h : Fin 8) (e : Fin 64) : EReal :=
  merge
    (fun g => num (tokScore Q KV b t h g) (rowValue KV b g (dil g) (t.val / (128 * dil g)) (t.val % dil g) h e))
    (fun g => mx (tokScore Q KV b t h g)) (fun g => den (tokScore Q KV b t h g))

/-- The attention as an array. -/
def attention : Vec Ideal S8x2048x512 .f32 := fun i =>
  attend Q KV (i 0) (i 1) ⟨(i 2).val / 64, by have := (i 2).isLt; simp [S8x2048x512] at this; omega⟩
    ⟨(i 2).val % 64, Nat.mod_lt _ (by omega)⟩

/-! ## A sum over a pair of heads' 128 lanes of which only one head's count -/

theorem half_sum (f : Fin 128 → EReal) (l : Fin 128) :
    (∑ l' : Fin 128, if half l' = half l then f l' else 0)
      = ∑ e : Fin 64, f ⟨(l.val / 64) * 64 + e.val, by omega⟩ := by
  have e := Fin.sum_univ_add (a := 64) (b := 64) (f := fun l' : Fin (64 + 64) => if half l' = half l then f l' else 0)
  refine e.trans ?_
  have h1 : ∀ i : Fin 64, (half (Fin.castAdd 64 i : Fin 128)).val = 0 := fun i => by
    show (Fin.castAdd 64 i).val / 64 = 0; simp
  have h2 : ∀ i : Fin 64, (half (Fin.natAdd 64 i : Fin 128)).val = 1 := fun i => by
    show (Fin.natAdd 64 i).val / 64 = 1; simp
  have hl : (half l).val = l.val / 64 := rfl
  have hlt := l.isLt
  rcases (by omega : l.val / 64 = 0 ∨ l.val / 64 = 1) with h | h
  · rw [Finset.sum_congr rfl (fun i _ => if_pos (Fin.ext (by rw [h1, hl, h]))),
      Finset.sum_congr rfl (g := fun _ => (0 : EReal)) (s₁ := Finset.univ (α := Fin 64)) (fun i _ => if_neg (fun q => by
        have := congrArg Fin.val q; rw [h2, hl, h] at this; omega)), Finset.sum_const_zero, add_zero]
    exact Finset.sum_congr rfl fun i _ => congrArg f (Fin.ext (by simp [h]))
  · rw [Finset.sum_congr rfl (g := fun _ => (0 : EReal)) (s₁ := Finset.univ (α := Fin 64)) (fun i _ => if_neg (fun q => by
        have := congrArg Fin.val q; rw [h1, hl, h] at this; omega)), Finset.sum_const_zero, zero_add,
      Finset.sum_congr rfl (fun i _ => if_pos (Fin.ext (by rw [h2, hl, h])))]
    exact Finset.sum_congr rfl fun i _ => congrArg f (Fin.ext (by simp [h]; omega))

end Cert.Attn

end
-- ==== Proof.AttnHost.lean ====
/-
  The two arrays the program computes before its kernel starts: the scaled queries and the distance term of the scores.
-/
module

public import proofs.«01_k».proof.Proof.AttnWhole
public import Idealize.ShloMosaic.Lib.StableHlo.Run

@[expose] public section

set_option maxRecDepth 16384

noncomputable section

namespace Cert.Attn

open Cert.KernelIdeal Cert.KernelIdeal.Gen Idealize.ShloMosaic Idealize.ShloMosaic.TcCoe

variable (m : (ℓ : Loc nD τ sig) → Buf (Elt Ideal) ℓ) (c : Dev nD)

theorem scaled_apply (i : S8x2048x1536.Idx) : (V m c main_v1 : Vec Ideal S8x2048x1536 .f32) i
    = @id (Vec Ideal S8x2048x1536 .f32) (m (c, Proc.tc.devRef main_arg0)) i * Ideal.ofBits FTy.f32 1040187392#32 := by
  show (V m c main_v1 : Vec Ideal S8x2048x1536 .f32) i = (_ : EReal)
  unfold V
  simp only [hostOps0, hostOps0_1, List.flatten_cons, List.flatten_nil, List.append_nil, List.cons_append, List.nil_append]
  after_results_simp
  pointwise
  rfl

theorem lowest : Ideal.ofBits FTy.f32 4286578688#32 = ⊥ := by simp [Ideal.ofBits, Ideal.ieee]

theorem tilt_apply (g : Fin 3) (h : Fin 8) (r : Fin 128) (j : Fin 256) :
    (V m c main_v40 : Vec Ideal S3x8x128x256 .f32) (ix4 g h r j) = tilt g h r j := by
  show (V m c main_v40 : Vec Ideal S3x8x128x256 .f32) (ix4 g h r j) = (_ : EReal)
  unfold V tilt near slope gap
  rw [← lowest]
  simp only [hostOps0, hostOps0_1, List.flatten_cons, List.flatten_nil, List.append_nil, List.cons_append, List.nil_append]
  after_results_simp
  simp only [StableHlo.TRef.ofBuf, StableHlo.TRef.toBuf, cast_eq, id]
  pointwise

end Cert.Attn

end
-- ==== Proof.AttnKernel.lean ====
/-
  The array the program returns: the attention of the queries and the keys-and-values it was given. A grid point is one
  batch and one pair of heads, and what it writes back is its block of the whole array.
-/
module

public import proofs.«01_k».proof.Proof.AttnHost
public import proofs.«01_k».proof.Proof.Gen.KernelIdeal.Value
public import Idealize.ShloMosaic.Lib.Pipeline.ValueKit.Geometry

@[expose] public section

set_option maxRecDepth 16384

noncomputable section

namespace Cert.Attn

open Cert.KernelIdeal Cert.KernelIdeal.Gen Idealize.ShloMosaic Idealize.ShloMosaic.TcCoe Idealize.SL.Sem

variable (m : (ℓ : Loc nD τ sig) → Buf (Elt Ideal) ℓ) (c : Dev nD)

/-- The batch of a grid point. -/
def bat (t : Fin cfg0.N) : Fin 8 := ⟨(grid0.coords t 0).val, (grid0.coords t 0).isLt⟩

/-- The pair of heads of a grid point. -/
def pair (t : Fin cfg0.N) : Fin 4 := ⟨(grid0.coords t 1).val, (grid0.coords t 1).isLt⟩

theorem i0 : ∀ t : Fin cfg0.N, win0_0.index t = ![(bat t).val, 0, (pair t).val] := (by decide +kernel : ∀ t : Fin grid0.N, _)
theorem i1 : ∀ t : Fin cfg0.N, win0_1.index t = ![(bat t).val, 0, 4 + (pair t).val] := (by decide +kernel : ∀ t : Fin grid0.N, _)
theorem i2 : ∀ t : Fin cfg0.N, win0_2.index t = ![(bat t).val, 0, 8 + (pair t).val] := (by decide +kernel : ∀ t : Fin grid0.N, _)
theorem i3 : ∀ t : Fin cfg0.N, win0_3.index t = ![(bat t).val, 0, (pair t).val] := (by decide +kernel : ∀ t : Fin grid0.N, _)
theorem i4 : ∀ t : Fin cfg0.N, win0_4.index t = ![(bat t).val, 0, 8 + (pair t).val] := (by decide +kernel : ∀ t : Fin grid0.N, _)
theorem i5 : ∀ t : Fin cfg0.N, win0_5.index t = ![(bat t).val, 0, 16 + (pair t).val] := (by decide +kernel : ∀ t : Fin grid0.N, _)
theorem i6 : ∀ t : Fin cfg0.N, win0_6.index t = ![(bat t).val, 0, 4 + (pair t).val] := (by decide +kernel : ∀ t : Fin grid0.N, _)
theorem i7 : ∀ t : Fin cfg0.N, win0_7.index t = ![(bat t).val, 0, 12 + (pair t).val] := (by decide +kernel : ∀ t : Fin grid0.N, _)
theorem i8 : ∀ t : Fin cfg0.N, win0_8.index t = ![(bat t).val, 0, 20 + (pair t).val] := (by decide +kernel : ∀ t : Fin grid0.N, _)
theorem i9 : ∀ t : Fin cfg0.N, win0_9.index t = ![0, (pair t).val, 0, 0] := (by decide +kernel : ∀ t : Fin grid0.N, _)
theorem i10 : ∀ t : Fin cfg0.N, win0_10.index t = ![(bat t).val, 0, (pair t).val] := (by decide +kernel : ∀ t : Fin grid0.N, _)

/-- The queries as given. -/
abbrev given0 : Vec Ideal S8x2048x1536 .f32 := m (c, Proc.tc.devRef main_arg0)
/-- The keys and values as given. -/
abbrev given1 : Vec Ideal S8x2048x3072 .f32 := m (c, Proc.tc.devRef main_arg1)

/-- Column `off + pair * 128 + l` of an array as wide as `w`. -/
abbrev pairColumn {w : ℕ} (off : ℕ) (t : Fin cfg0.N) (l : Fin 128) (hw : off + 512 ≤ w) : Fin w :=
  ⟨off + ((pair t).val * 128 + l.val), by have := (pair t).isLt; omega⟩

/-- The query blocks of a point, group by group. -/
abbrev qBlocks (t : Fin cfg0.N) : Fin 3 → Vec Ideal S1x2048x128 .f32 := ![iblk m c 0 t, iblk m c 1 t, iblk m c 2 t]
/-- The key blocks of a point. -/
abbrev kBlocks (t : Fin cfg0.N) : Fin 3 → Vec Ideal S1x2048x128 .f32 := ![iblk m c 3 t, iblk m c 4 t, iblk m c 5 t]
/-- The value blocks of a point. -/
abbrev vBlocks (t : Fin cfg0.N) : Fin 3 → Vec Ideal S1x2048x128 .f32 := ![iblk m c 6 t, iblk m c 7 t, iblk m c 8 t]

theorem window0 (t : Fin cfg0.N) (x : Fin 2048) (l : Fin 128) : (iblk m c 0 t : Vec Ideal S1x2048x128 .f32) (ix3 0 x l)
    = given0 m c (ix3 (bat t) x (pairColumn 0 t l (by omega))) * Ideal.ofBits FTy.f32 1040187392#32 := by
  refine Eq.trans ?_ (scaled_apply m c (ix3 (bat t) x (pairColumn 0 t l (by omega))))
  show (V m c main_v1 : Vec Ideal S8x2048x1536 .f32) ((win0_0.blk t).view.emb (ix3 0 x l)) = _
  congr 1
  blk_ext [i0, ix3]

theorem window1 (t : Fin cfg0.N) (x : Fin 2048) (l : Fin 128) : (iblk m c 1 t : Vec Ideal S1x2048x128 .f32) (ix3 0 x l)
    = given0 m c (ix3 (bat t) x (pairColumn 512 t l (by omega))) * Ideal.ofBits FTy.f32 1040187392#32 := by
  refine Eq.trans ?_ (scaled_apply m c (ix3 (bat t) x (pairColumn 512 t l (by omega))))
  show (V m c main_v1 : Vec Ideal S8x2048x1536 .f32) ((win0_1.blk t).view.emb (ix3 0 x l)) = _
  congr 1
  blk_ext [i1, ix3]

theorem window2 (t : Fin cfg0.N) (x : Fin 2048) (l : Fin 128) : (iblk m c 2 t : Vec Ideal S1x2048x128 .f32) (ix3 0 x l)
    = given0 m c (ix3 (bat t) x (pairColumn 1024 t l (by omega))) * Ideal.ofBits FTy.f32 1040187392#32 := by
  refine Eq.trans ?_ (scaled_apply m c (ix3 (bat t) x (pairColumn 1024 t l (by omega))))
  show (V m c main_v1 : Vec Ideal S8x2048x1536 .f32) ((win0_2.blk t).view.emb (ix3 0 x l)) = _
  congr 1
  blk_ext [i2, ix3]

theorem window3 (t : Fin cfg0.N) (x : Fin 2048) (l : Fin 128) : (iblk m c 3 t : Vec Ideal S1x2048x128 .f32) (ix3 0 x l)
    = given1 m c (ix3 (bat t) x (pairColumn 0 t l (by omega))) := by
  refine Eq.trans ?_ (congrFun (V_main_arg1 m c) (ix3 (bat t) x (pairColumn 0 t l (by omega))))
  show (V m c main_arg1 : Vec Ideal S8x2048x3072 .f32) ((win0_3.blk t).view.emb (ix3 0 x l)) = _
  congr 1
  blk_ext [i3, ix3]

theorem window4 (t : Fin cfg0.N) (x : Fin 2048) (l : Fin 128) : (iblk m c 4 t : Vec Ideal S1x2048x128 .f32) (ix3 0 x l)
    = given1 m c (ix3 (bat t) x (pairColumn 1024 t l (by omega))) := by
  refine Eq.trans ?_ (congrFun (V_main_arg1 m c) (ix3 (bat t) x (pairColumn 1024 t l (by omega))))
  show (V m c main_arg1 : Vec Ideal S8x2048x3072 .f32) ((win0_4.blk t).view.emb (ix3 0 x l)) = _
  congr 1
  blk_ext [i4, ix3]

theorem window5 (t : Fin cfg0.N) (x : Fin 2048) (l : Fin 128) : (iblk m c 5 t : Vec Ideal S1x2048x128 .f32) (ix3 0 x l)
    = given1 m c (ix3 (bat t) x (pairColumn 2048 t l (by omega))) := by
  refine Eq.trans ?_ (congrFun (V_main_arg1 m c) (ix3 (bat t) x (pairColumn 2048 t l (by omega))))
  show (V m c main_arg1 : Vec Ideal S8x2048x3072 .f32) ((win0_5.blk t).view.emb (ix3 0 x l)) = _
  congr 1
  blk_ext [i5, ix3]

theorem window6 (t : Fin cfg0.N) (x : Fin 2048) (l : Fin 128) : (iblk m c 6 t : Vec Ideal S1x2048x128 .f32) (ix3 0 x l)
    = given1 m c (ix3 (bat t) x (pairColumn 512 t l (by omega))) := by
  refine Eq.trans ?_ (congrFun (V_main_arg1 m c) (ix3 (bat t) x (pairColumn 512 t l (by omega))))
  show (V m c main_arg1 : Vec Ideal S8x2048x3072 .f32) ((win0_6.blk t).view.emb (ix3 0 x l)) = _
  congr 1
  blk_ext [i6, ix3]

theorem window7 (t : Fin cfg0.N) (x : Fin 2048) (l : Fin 128) : (iblk m c 7 t : Vec Ideal S1x2048x128 .f32) (ix3 0 x l)
    = given1 m c (ix3 (bat t) x (pairColumn 1536 t l (by omega))) := by
  refine Eq.trans ?_ (congrFun (V_main_arg1 m c) (ix3 (bat t) x (pairColumn 1536 t l (by omega))))
  show (V m c main_arg1 : Vec Ideal S8x2048x3072 .f32) ((win0_7.blk t).view.emb (ix3 0 x l)) = _
  congr 1
  blk_ext [i7, ix3]

theorem window8 (t : Fin cfg0.N) (x : Fin 2048) (l : Fin 128) : (iblk m c 8 t : Vec Ideal S1x2048x128 .f32) (ix3 0 x l)
    = given1 m c (ix3 (bat t) x (pairColumn 2560 t l (by omega))) := by
  refine Eq.trans ?_ (congrFun (V_main_arg1 m c) (ix3 (bat t) x (pairColumn 2560 t l (by omega))))
  show (V m c main_arg1 : Vec Ideal S8x2048x3072 .f32) ((win0_8.blk t).view.emb (ix3 0 x l)) = _
  congr 1
  blk_ext [i8, ix3]

theorem q_block (t : Fin cfg0.N) (g : Fin 3) (x : Fin 2048) (l : Fin 128) :
    qBlocks m c t g (ix3 0 x l) = given0 m c (ix3 (bat t) x (pairColumn (g.val * 512) t l (by omega))) * Ideal.ofBits FTy.f32 1040187392#32 :=
  match g with
  | ⟨0, _⟩ => window0 m c t x l
  | ⟨1, _⟩ => window1 m c t x l
  | ⟨2, _⟩ => window2 m c t x l

theorem k_block (t : Fin cfg0.N) (g : Fin 3) (x : Fin 2048) (l : Fin 128) :
    kBlocks m c t g (ix3 0 x l) = given1 m c (ix3 (bat t) x (pairColumn (g.val * 1024) t l (by omega))) :=
  match g with
  | ⟨0, _⟩ => window3 m c t x l
  | ⟨1, _⟩ => window4 m c t x l
  | ⟨2, _⟩ => window5 m c t x l

theorem v_block (t : Fin cfg0.N) (g : Fin 3) (x : Fin 2048) (l : Fin 128) :
    vBlocks m c t g (ix3 0 x l) = given1 m c (ix3 (bat t) x (pairColumn (g.val * 1024 + 512) t l (by omega))) :=
  match g with
  | ⟨0, _⟩ => window6 m c t x l
  | ⟨1, _⟩ => window7 m c t x l
  | ⟨2, _⟩ => window8 m c t x l

/-- The head of lane `l` of a point's pair. -/
abbrev headOf (t : Fin cfg0.N) (l : Fin 128) : Fin 8 := ⟨((pair t).val * 128 + l.val) / 64, by have := (pair t).isLt; omega⟩
/-- The place of lane `l` of a point's pair in its head. -/
abbrev placeOf (t : Fin cfg0.N) (l : Fin 128) : Fin 64 := ⟨((pair t).val * 128 + l.val) % 64, Nat.mod_lt _ (by omega)⟩

theorem tilt_block (t : Fin cfg0.N) (g : Fin 3) (l : Fin 128) (r : Fin 128) (j : Fin 256) :
    (iblk m c 9 t : Vec Ideal S3x2x128x256 .f32) (ix4 g (half l) r j) = tilt g (headOf t l) r j := by
  refine Eq.trans ?_ (tilt_apply m c g (headOf t l) r j)
  show (V m c main_v40 : Vec Ideal S3x8x128x256 .f32) ((win0_9.blk t).view.emb (ix4 g (half l) r j)) = _
  congr 1
  blk_ext [i9, ix4, half]

theorem score_block (t : Fin cfg0.N) (g : Fin 3) (d n ρ : ℕ) (r : Fin 128) (l : Fin 128) :
    score (qBlocks m c t g) (kBlocks m c t g) (iblk m c 9 t) g d n ρ r l
      = rowScore (given0 m c) (given1 m c) (bat t) g d n ρ r (headOf t l) := by
  funext j
  unfold score rowScore
  by_cases h : n = 0 ∧ j.val < 128
  · rw [if_pos h, if_pos h]
  · rw [if_neg h, if_neg h, tilt_block]
    refine congrArg (· + _) ?_
    rw [half_sum (fun l' => qBlocks m c t g (ix3 0 (row ((n * 128 + r.val) * d + ρ)) l')
      * kBlocks m c t g (ix3 0 (row ((n * 128 + j.val - 128) * d + ρ)) l'))]
    refine Finset.sum_congr rfl fun e _ => ?_
    rw [q_block, k_block]
    have hc : ∀ (w off : ℕ) (hw : off + 512 ≤ w), (pairColumn off t ⟨(l.val / 64) * 64 + e.val, by omega⟩ hw : Fin w)
        = column off (headOf t l) e hw := fun w off hw => Fin.ext (by
      show off + ((pair t).val * 128 + (l.val / 64 * 64 + e.val)) = off + (((pair t).val * 128 + l.val) / 64 * 64 + e.val)
      omega)
    rw [hc, hc]

theorem value_block (t : Fin cfg0.N) (g : Fin 3) (d n ρ : ℕ) (l : Fin 128) :
    vals (vBlocks m c t g) d n ρ l = rowValue (given1 m c) (bat t) g d n ρ (headOf t l) (placeOf t l) := by
  funext j
  unfold vals rowValue
  rw [v_block]
  refine congrArg (fun x => given1 m c (ix3 _ _ x)) (Fin.ext ?_)
  show g.val * 1024 + 512 + ((pair t).val * 128 + l.val)
    = g.val * 1024 + 512 + (((pair t).val * 128 + l.val) / 64 * 64 + ((pair t).val * 128 + l.val) % 64)
  omega

theorem final_attention : (dats m 0 c).arrAt 10 cfg0.N = attention (given0 m c) (given1 m c) := by
  refine (dats m 0 c).arrAt_eq_of_covers 10 _ (by decide +kernel) fun t hf y => ?_
  blk_simp
  rw [after0_10]
  obtain ⟨x, l, rfl⟩ : ∃ (x : Fin 2048) (l : Fin 128), y = ix3 (0 : Fin 1) x l :=
    ⟨y 1, y 2, by
      funext a
      match a with
      | ⟨0, _⟩ => exact Subsingleton.elim (α := Fin 1) _ _
      | ⟨1, _⟩ => rfl
      | ⟨2, _⟩ => rfl⟩
  unfold outsAt0
  rw [out_apply]
  have hi : (win0_10.blk t).view.emb (ix3 (0 : Fin 1) x l)
      = ix3 (bat t) x (⟨(pair t).val * 128 + l.val, by have := (pair t).isLt; omega⟩ : Fin 512) := by blk_ext [i10, ix3]
  rw [hi]
  show _ = attend (given0 m c) (given1 m c) (bat t) x (headOf t l) (placeOf t l)
  unfold attend
  congr 1 <;> funext g
  · exact congrArg₂ num (score_block m c t g _ _ _ _ l) (value_block m c t g _ _ _ l)
  · exact congrArg mx (score_block m c t g _ _ _ _ l)
  · exact congrArg den (score_block m c t g _ _ _ _ l)

/-- The run of the program with its result as the attention of its arguments. -/
theorem run_attention (ρ : Dev nD → PrngReg) : θ_run defs (onTc (τ := τ) (main (F := Ideal))) ⟨m, fun _ => 0, ρ⟩ fun r => ∀ c : Dev nD,
      r.2.mem ((c : Thread nD τ).loc main_v41) = attention (given0 m c) (given1 m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final_attention m c), (h c).2⟩) (Cert.KernelIdeal.Value.run_blocks m ρ)

end Cert.Attn

end
-- ==== Proof.AttnLayout.lean ====
/-
  The layout steps of the reference's dilated attention, each read at an index given by its coordinates. A sequence of
  2048 tokens is cut into `d` residue classes of `nr` tokens, and a class into `nb` blocks of 128 rows: token
  `(n * 128 + r) * d + ρ` is row `r` of block `n` of class `ρ`. Nothing here depends on which of the three groups it is.
-/
module

public import proofs.«01_k».proof.Proof.AttnWhole
public import Idealize.ShloMosaic.Lib.Pointwise
public import Idealize.ShloMosaic.Lib.ValueIdxRank6
public import Idealize.ShloMosaic.Lib.KernelVsHost
public import Idealize.ShloMosaic.Lib.Pipeline.Value

@[expose] public section

noncomputable section

namespace Cert.Attn

open Idealize.ShloMosaic

variable {α : Type} {d nr nb : ℕ}

/-- The token at row `r` of block `n` of residue class `ρ`. -/
abbrev tok (d n r ρ : ℕ) : ℕ := (n * 128 + r) * d + ρ

theorem tok_lt (hd : nr * d = 2048) (hb : nb * 128 = nr) {n r ρ : ℕ} (hn : n < nb) (hr : r < 128) (hρ : ρ < d) :
    tok d n r ρ < 2048 := by
  have h1 : n * 128 + r + 1 ≤ nr := by omega
  have h2 : (n * 128 + r + 1) * d ≤ nr * d := Nat.mul_le_mul_right d h1
  rw [Nat.add_mul, Nat.one_mul] at h2
  unfold tok; omega

/-- Cutting the tokens into residue classes and blocks: element `(b, ρ, n, r, h, e)` is the token `(n * 128 + r) * d + ρ`. -/
theorem strided_apply (hd : nr * d = 2048) (hb : nb * 128 = nr) (x : (⟨4, ![8, 2048, 8, 64]⟩ : Shape).Idx → α)
    (hc : (⟨4, ![8, 2048, 8, 64]⟩ : Shape).ShapeCasts ⟨6, ![8, nb, 128, d, 8, 64]⟩)
    (ht : (⟨6, ![8, nb, 128, d, 8, 64]⟩ : Shape).Transposes [0, 3, 1, 2, 4, 5] ⟨6, ![8, d, nb, 128, 8, 64]⟩)
    (b : Fin 8) (ρ : Fin d) (n : Fin nb) (r : Fin 128) (h : Fin 8) (e : Fin 64) :
    transpose ⟨6, ![8, d, nb, 128, 8, 64]⟩ [0, 3, 1, 2, 4, 5] (shapeCast ⟨6, ![8, nb, 128, d, 8, 64]⟩ x hc) ht
      (ValueIdx.ix6 b ρ n r h e)
      = x (ValueIdx.ix4 b ⟨tok d n r ρ, tok_lt hd hb n.isLt r.isLt ρ.isLt⟩ h e) := by
  rw [transpose_apply _ _ ht _ (ValueIdx.ix6 b n r ρ h e) (fun a => by
    match a with
    | ⟨0, _⟩ => rfl
    | ⟨1, _⟩ => rfl
    | ⟨2, _⟩ => rfl
    | ⟨3, _⟩ => rfl
    | ⟨4, _⟩ => rfl
    | ⟨5, _⟩ => rfl)]
  exact shapeCast_apply _ hc _ _ (by
    rw [Shape.rowMajor_val_six, Shape.rowMajor_val_four]
    show ((b.val * 2048 + ((n.val * 128 + r.val) * d + ρ.val)) * 8 + h.val) * 64 + e.val
      = ((((b.val * nb + n.val) * 128 + r.val) * d + ρ.val) * 8 + h.val) * 64 + e.val
    rw [← hd, ← hb]; ring)

/-- A block of 256 keys: the block before (zeros before the first) and the block itself, side by side. Key `j` of block
    `n` is position `n * 128 + j - 128` of the class. -/
theorem withPrev_apply (t : (⟨6, ![8, d, nb, 128, 8, 64]⟩ : Shape).Idx → α) {u : Shape} (z : u.Idx → α) (hu : 0 < u.numel)
    (hp : (⟨6, ![8, d, nb, 128, 8, 64]⟩ : Shape).Pads (![0, 0, 1, 0, 0, 0] : Fin 6 → ℕ) ![0, 0, 0, 0, 0, 0] ![0, 0, 0, 0, 0, 0]
      ⟨6, ![8, d, nb + 1, 128, 8, 64]⟩)
    (hs : (⟨6, ![8, d, nb + 1, 128, 8, 64]⟩ : Shape).Slices (![0, 0, 0, 0, 0, 0] : Fin 6 → ℕ) ⟨6, ![8, d, nb, 128, 8, 64]⟩)
    (hc : Shape.Concatenates [(⟨6, ![8, d, nb, 128, 8, 64]⟩ : Shape), ⟨6, ![8, d, nb, 128, 8, 64]⟩] ⟨6, ![8, d, nb, 256, 8, 64]⟩ 3)
    (b : Fin 8) (ρ : Fin d) (n : Fin nb) (j : Fin 256) (h : Fin 8) (e : Fin 64) :
    concatenate ⟨6, ![8, d, nb, 256, 8, 64]⟩ 3 [⟨⟨6, ![8, d, nb, 128, 8, 64]⟩,
        extractStridedSlice ⟨6, ![8, d, nb, 128, 8, 64]⟩ ![0, 0, 0, 0, 0, 0]
          (pad ⟨6, ![8, d, nb + 1, 128, 8, 64]⟩ ![0, 0, 1, 0, 0, 0] ![0, 0, 0, 0, 0, 0] ![0, 0, 0, 0, 0, 0] t z hp hu) hs⟩,
        ⟨⟨6, ![8, d, nb, 128, 8, 64]⟩, t⟩] hc (ValueIdx.ix6 b ρ n j h e)
      = if hj : j.val < 128 then
          if hn : n.val = 0 then z (Shape.Idx.first hu)
          else t (ValueIdx.ix6 b ρ (⟨n.val - 1, by omega⟩ : Fin nb) (⟨j.val, hj⟩ : Fin 128) h e)
        else t (ValueIdx.ix6 b ρ n (⟨j.val - 128, by omega⟩ : Fin 128) h e) := by
  by_cases hj : j.val < 128
  · rw [dif_pos hj]
    rw [concatenate_pair_apply_left _ _ _ hc _ rfl (ValueIdx.ix6 b ρ n (⟨j.val, hj⟩ : Fin 128) h e) (fun a => by
      match a with
      | ⟨0, _⟩ => rfl
      | ⟨1, _⟩ => rfl
      | ⟨2, _⟩ => rfl
      | ⟨3, _⟩ => rfl
      | ⟨4, _⟩ => rfl
      | ⟨5, _⟩ => rfl)]
    rw [extractStridedSlice_apply _ _ hs _ (ValueIdx.ix6 b ρ (⟨n.val, by omega⟩ : Fin (nb + 1)) (⟨j.val, hj⟩ : Fin 128) h e) (fun a => by
      match a with
      | ⟨0, _⟩ => show b.val = 0 + b.val; omega
      | ⟨1, _⟩ => show ρ.val = 0 + ρ.val; omega
      | ⟨2, _⟩ => show n.val = 0 + n.val; omega
      | ⟨3, _⟩ => show j.val = 0 + j.val; omega
      | ⟨4, _⟩ => show h.val = 0 + h.val; omega
      | ⟨5, _⟩ => show e.val = 0 + e.val; omega)]
    by_cases hn : n.val = 0
    · rw [dif_pos hn]
      exact pad_apply_of_not_inside _ _ _ _ _ hp hu _ 2 (by
        rintro ⟨h1, -⟩
        have h1 : 1 ≤ n.val := h1
        omega)
    · rw [dif_neg hn]
      exact pad_apply_of_inside _ _ _ _ _ hp hu _ _ (fun a => by
        match a with
        | ⟨0, _⟩ => show b.val = 0 + b.val * (0 + 1); omega
        | ⟨1, _⟩ => show ρ.val = 0 + ρ.val * (0 + 1); omega
        | ⟨2, _⟩ => show n.val = 1 + (n.val - 1) * (0 + 1); omega
        | ⟨3, _⟩ => show j.val = 0 + j.val * (0 + 1); omega
        | ⟨4, _⟩ => show h.val = 0 + h.val * (0 + 1); omega
        | ⟨5, _⟩ => show e.val = 0 + e.val * (0 + 1); omega)
  · rw [dif_neg hj]
    exact concatenate_pair_apply_right _ _ _ hc _ rfl rfl _ (fun a ha => by
      match a with
      | ⟨0, _⟩ => rfl
      | ⟨1, _⟩ => rfl
      | ⟨2, _⟩ => rfl
      | ⟨3, _⟩ => exact absurd rfl ha
      | ⟨4, _⟩ => rfl
      | ⟨5, _⟩ => rfl) (by show (j.val - 128) + 128 = j.val; omega)

/-- The block of 256 keys over tokens: key `j` of block `n` is the token at position `n * 128 + j - 128` of the class. -/
theorem withPrev_strided (hd : nr * d = 2048) (hb : nb * 128 = nr) (x : (⟨4, ![8, 2048, 8, 64]⟩ : Shape).Idx → α)
    (hc₀ : (⟨4, ![8, 2048, 8, 64]⟩ : Shape).ShapeCasts ⟨6, ![8, nb, 128, d, 8, 64]⟩)
    (ht : (⟨6, ![8, nb, 128, d, 8, 64]⟩ : Shape).Transposes [0, 3, 1, 2, 4, 5] ⟨6, ![8, d, nb, 128, 8, 64]⟩)
    {u : Shape} (z : u.Idx → α) (hu : 0 < u.numel)
    (hp : (⟨6, ![8, d, nb, 128, 8, 64]⟩ : Shape).Pads (![0, 0, 1, 0, 0, 0] : Fin 6 → ℕ) ![0, 0, 0, 0, 0, 0] ![0, 0, 0, 0, 0, 0]
      ⟨6, ![8, d, nb + 1, 128, 8, 64]⟩)
    (hs : (⟨6, ![8, d, nb + 1, 128, 8, 64]⟩ : Shape).Slices (![0, 0, 0, 0, 0, 0] : Fin 6 → ℕ) ⟨6, ![8, d, nb, 128, 8, 64]⟩)
    (hc : Shape.Concatenates [(⟨6, ![8, d, nb, 128, 8, 64]⟩ : Shape), ⟨6, ![8, d, nb, 128, 8, 64]⟩] ⟨6, ![8, d, nb, 256, 8, 64]⟩ 3)
    (t : (⟨6, ![8, d, nb, 128, 8, 64]⟩ : Shape).Idx → α)
    (et : t = transpose ⟨6, ![8, d, nb, 128, 8, 64]⟩ [0, 3, 1, 2, 4, 5] (shapeCast ⟨6, ![8, nb, 128, d, 8, 64]⟩ x hc₀) ht)
    (b : Fin 8) (ρ : Fin d) (n : Fin nb) (j : Fin 256) (h : Fin 8) (e : Fin 64) (hj : ¬(n.val = 0 ∧ j.val < 128)) :
    concatenate ⟨6, ![8, d, nb, 256, 8, 64]⟩ 3 [⟨⟨6, ![8, d, nb, 128, 8, 64]⟩,
        extractStridedSlice ⟨6, ![8, d, nb, 128, 8, 64]⟩ ![0, 0, 0, 0, 0, 0]
          (pad ⟨6, ![8, d, nb + 1, 128, 8, 64]⟩ ![0, 0, 1, 0, 0, 0] ![0, 0, 0, 0, 0, 0] ![0, 0, 0, 0, 0, 0] t z hp hu) hs⟩,
        ⟨⟨6, ![8, d, nb, 128, 8, 64]⟩, t⟩] hc (ValueIdx.ix6 b ρ n j h e)
      = x (ValueIdx.ix4 b (row ((n.val * 128 + j.val - 128) * d + ρ.val)) h e) := by
  subst et
  rw [withPrev_apply]
  by_cases h1 : j.val < 128
  · have hn : ¬ n.val = 0 := fun h0 => hj ⟨h0, h1⟩
    rw [dif_pos h1, dif_neg hn, strided_apply hd hb]
    congr 2
    have := tok_lt hd hb (n := n.val - 1) (by omega) h1 ρ.isLt
    refine Fin.ext ?_
    show tok d (n.val - 1) j.val ρ.val = ((n.val * 128 + j.val - 128) * d + ρ.val) % 2048
    have he : n.val * 128 + j.val - 128 = (n.val - 1) * 128 + j.val := by omega
    rw [he, Nat.mod_eq_of_lt this]
  · rw [dif_neg h1, strided_apply hd hb]
    congr 2
    have := tok_lt hd hb n.isLt (r := j.val - 128) (by omega) ρ.isLt
    refine Fin.ext ?_
    show tok d n.val (j.val - 128) ρ.val = ((n.val * 128 + j.val - 128) * d + ρ.val) % 2048
    have he : n.val * 128 + j.val - 128 = n.val * 128 + (j.val - 128) := by omega
    rw [he, Nat.mod_eq_of_lt this]

/-- The queries of one group, cut from the columns of all three: head `h`'s lane `e` is column `off + h * 64 + e`. -/
theorem q_part (off : ℕ) (hoff : off + 512 ≤ 1536) (x : (⟨3, ![8, 2048, 1536]⟩ : Shape).Idx → α)
    (hs : (⟨3, ![8, 2048, 1536]⟩ : Shape).Slices (![0, 0, off] : Fin 3 → ℕ) ⟨3, ![8, 2048, 512]⟩)
    (hc : (⟨3, ![8, 2048, 512]⟩ : Shape).ShapeCasts ⟨4, ![8, 2048, 8, 64]⟩)
    (b : Fin 8) (t : Fin 2048) (h : Fin 8) (e : Fin 64) :
    shapeCast ⟨4, ![8, 2048, 8, 64]⟩ (extractStridedSlice ⟨3, ![8, 2048, 512]⟩ ![0, 0, off] x hs) hc (ValueIdx.ix4 b t h e)
      = x (ix3 b t (column off h e hoff)) := by
  rw [shapeCast_apply _ hc _ (ValueIdx.ix3 b t (⟨h.val * 64 + e.val, by omega⟩ : Fin 512)) (by
    rw [Shape.rowMajor_val_four, Shape.rowMajor_val_three]
    show (b.val * 2048 + t.val) * 512 + (h.val * 64 + e.val) = ((b.val * 2048 + t.val) * 8 + h.val) * 64 + e.val
    ring)]
  exact extractStridedSlice_apply _ _ hs _ _ (fun a => by
    match a with
    | ⟨0, _⟩ => show b.val = 0 + b.val; omega
    | ⟨1, _⟩ => show t.val = 0 + t.val; omega
    | ⟨2, _⟩ => rfl)

/-- The keys (`s = 0`) or values (`s = 1`) of group `g`, cut from the columns of all: head `h`'s lane `e` is column
    `g * 1024 + s * 512 + h * 64 + e`. -/
theorem kv_part (g s : ℕ) (hg : g < 3) (hs2 : s < 2) (x : (⟨3, ![8, 2048, 3072]⟩ : Shape).Idx → α)
    (h1 : (⟨3, ![8, 2048, 3072]⟩ : Shape).ShapeCasts ⟨6, ![8, 2048, 3, 2, 8, 64]⟩)
    (h2 : (⟨6, ![8, 2048, 3, 2, 8, 64]⟩ : Shape).Slices (![0, 0, g, 0, 0, 0] : Fin 6 → ℕ) ⟨6, ![8, 2048, 1, 2, 8, 64]⟩)
    (h3 : (⟨6, ![8, 2048, 1, 2, 8, 64]⟩ : Shape).ShapeCasts ⟨5, ![8, 2048, 2, 8, 64]⟩)
    (h4 : (⟨5, ![8, 2048, 2, 8, 64]⟩ : Shape).Slices (![0, 0, s, 0, 0] : Fin 5 → ℕ) ⟨5, ![8, 2048, 1, 8, 64]⟩)
    (h5 : (⟨5, ![8, 2048, 1, 8, 64]⟩ : Shape).ShapeCasts ⟨4, ![8, 2048, 8, 64]⟩)
    (b : Fin 8) (t : Fin 2048) (h : Fin 8) (e : Fin 64) :
    shapeCast ⟨4, ![8, 2048, 8, 64]⟩ (extractStridedSlice ⟨5, ![8, 2048, 1, 8, 64]⟩ ![0, 0, s, 0, 0]
      (shapeCast ⟨5, ![8, 2048, 2, 8, 64]⟩ (extractStridedSlice ⟨6, ![8, 2048, 1, 2, 8, 64]⟩ ![0, 0, g, 0, 0, 0]
        (shapeCast ⟨6, ![8, 2048, 3, 2, 8, 64]⟩ x h1) h2) h3) h4) h5 (ValueIdx.ix4 b t h e)
      = x (ix3 b t (column (g * 1024 + s * 512) h e (by omega))) := by
  rw [shapeCast_apply _ h5 _ (ValueIdx.ix5 b t (0 : Fin 1) h e) (by
    rw [Shape.rowMajor_val_four, Shape.rowMajor_val_five]
    show (((b.val * 2048 + t.val) * 1 + 0) * 8 + h.val) * 64 + e.val = ((b.val * 2048 + t.val) * 8 + h.val) * 64 + e.val
    ring)]
  rw [extractStridedSlice_apply _ _ h4 _ (ValueIdx.ix5 b t (⟨s, hs2⟩ : Fin 2) h e) (fun a => by
    match a with
    | ⟨0, _⟩ => show b.val = 0 + b.val; omega
    | ⟨1, _⟩ => show t.val = 0 + t.val; omega
    | ⟨2, _⟩ => rfl
    | ⟨3, _⟩ => show h.val = 0 + h.val; omega
    | ⟨4, _⟩ => show e.val = 0 + e.val; omega)]
  rw [shapeCast_apply _ h3 _ (ValueIdx.ix6 b t (0 : Fin 1) (⟨s, hs2⟩ : Fin 2) h e) (by
    rw [Shape.rowMajor_val_six, Shape.rowMajor_val_five]
    show ((((b.val * 2048 + t.val) * 1 + 0) * 2 + s) * 8 + h.val) * 64 + e.val
      = (((b.val * 2048 + t.val) * 2 + s) * 8 + h.val) * 64 + e.val
    ring)]
  rw [extractStridedSlice_apply _ _ h2 _ (ValueIdx.ix6 b t (⟨g, hg⟩ : Fin 3) (⟨s, hs2⟩ : Fin 2) h e) (fun a => by
    match a with
    | ⟨0, _⟩ => show b.val = 0 + b.val; omega
    | ⟨1, _⟩ => show t.val = 0 + t.val; omega
    | ⟨2, _⟩ => rfl
    | ⟨3, _⟩ => show s = 0 + s; omega
    | ⟨4, _⟩ => show h.val = 0 + h.val; omega
    | ⟨5, _⟩ => show e.val = 0 + e.val; omega)]
  exact shapeCast_apply _ h1 _ _ (by
    rw [Shape.rowMajor_val_six, Shape.rowMajor_val_three]
    show (b.val * 2048 + t.val) * 3072 + (g * 1024 + s * 512 + (h.val * 64 + e.val))
      = ((((b.val * 2048 + t.val) * 3 + g) * 2 + s) * 8 + h.val) * 64 + e.val
    ring)

/-- The largest entry of each row of the last axis. -/
theorem rowMax_apply (x : (⟨6, ![8, d, nb, 128, 8, 256]⟩ : Shape).Idx → EReal) {u : Shape} (z : u.Idx → EReal) (hu : 0 < u.numel)
    (h' : (⟨6, ![8, d, nb, 128, 8, 256]⟩ : Shape).ReducesTo [5] ⟨5, ![8, d, nb, 128, 8]⟩)
    (hr : (⟨6, ![8, d, nb, 128, 8, 256]⟩ : Shape).Reduces [5] ⟨5, ![8, d, nb, 128, 8]⟩)
    (hz : z (Shape.Idx.first hu) = ⊥)
    (b : Fin 8) (ρ : Fin d) (n : Fin nb) (r : Fin 128) (h : Fin 8) :
    Host.reduce (FloatOps.maximumf (F := Ideal) (φ := .f32)) x z h' hu (ValueIdx.ix5 b ρ n r h)
      = mx fun j => x (ValueIdx.ix6 b ρ n r h j) := by
  refine (Host.reduce_eq_fold_single (α := EReal) max x z h' hr hu _).trans ?_
  rw [hz]
  unfold mx
  refine congrArg (Finset.fold max ⊥ · Finset.univ) (funext fun j => congrArg x (funext fun a => Fin.ext ?_))
  match a with
  | ⟨0, _⟩ => rfl
  | ⟨1, _⟩ => rfl
  | ⟨2, _⟩ => rfl
  | ⟨3, _⟩ => rfl
  | ⟨4, _⟩ => rfl
  | ⟨5, _⟩ => rfl

/-- The sum of each row of the last axis. -/
theorem rowSum_apply (x : (⟨6, ![8, d, nb, 128, 8, 256]⟩ : Shape).Idx → EReal) {u : Shape} (z : u.Idx → EReal) (hu : 0 < u.numel)
    (h' : (⟨6, ![8, d, nb, 128, 8, 256]⟩ : Shape).ReducesTo [5] ⟨5, ![8, d, nb, 128, 8]⟩)
    (hr : (⟨6, ![8, d, nb, 128, 8, 256]⟩ : Shape).Reduces [5] ⟨5, ![8, d, nb, 128, 8]⟩)
    (hz : z (Shape.Idx.first hu) = 0)
    (b : Fin 8) (ρ : Fin d) (n : Fin nb) (r : Fin 128) (h : Fin 8) :
    Host.reduceAdd (F := Ideal) (φ := .f32) x z h' hu (ValueIdx.ix5 b ρ n r h) = ∑ j, x (ValueIdx.ix6 b ρ n r h j) := by
  simp only [Host.reduceAdd, Ideal.hostReduceAdd_def]
  rw [Ideal.hostReduceAdd_single h' hr, hz, zero_add]
  refine Finset.sum_congr rfl fun j _ => congrArg x (funext fun a => Fin.ext ?_)
  match a with
  | ⟨0, _⟩ => rfl
  | ⟨1, _⟩ => rfl
  | ⟨2, _⟩ => rfl
  | ⟨3, _⟩ => rfl
  | ⟨4, _⟩ => rfl
  | ⟨5, _⟩ => rfl

/-- Back from residue classes to tokens, for an array with a head axis and a lane axis. -/
theorem unstrided5_apply (hd : nr * d = 2048) (hb : nb * 128 = nr) (x : (⟨6, ![8, d, nb, 128, 8, 64]⟩ : Shape).Idx → α)
    (hc : (⟨6, ![8, d, nb, 128, 8, 64]⟩ : Shape).ShapeCasts ⟨5, ![8, d, nr, 8, 64]⟩)
    (ht : (⟨5, ![8, d, nr, 8, 64]⟩ : Shape).Transposes [0, 2, 1, 3, 4] ⟨5, ![8, nr, d, 8, 64]⟩)
    (hc' : (⟨5, ![8, nr, d, 8, 64]⟩ : Shape).ShapeCasts ⟨4, ![8, 2048, 8, 64]⟩)
    (b : Fin 8) (ρ : Fin d) (n : Fin nb) (r : Fin 128) (h : Fin 8) (e : Fin 64) :
    shapeCast ⟨4, ![8, 2048, 8, 64]⟩ (transpose ⟨5, ![8, nr, d, 8, 64]⟩ [0, 2, 1, 3, 4]
      (shapeCast ⟨5, ![8, d, nr, 8, 64]⟩ x hc) ht) hc'
      (ValueIdx.ix4 b (⟨tok d n r ρ, tok_lt hd hb n.isLt r.isLt ρ.isLt⟩ : Fin 2048) h e) = x (ValueIdx.ix6 b ρ n r h e) := by
  have hnr : n.val * 128 + r.val < nr := by have := n.isLt; have := r.isLt; omega
  rw [shapeCast_apply _ hc' _ (ValueIdx.ix5 b (⟨n.val * 128 + r.val, hnr⟩ : Fin nr) ρ h e) (by
    rw [Shape.rowMajor_val_five, Shape.rowMajor_val_four]
    show (((b.val * nr + (n.val * 128 + r.val)) * d + ρ.val) * 8 + h.val) * 64 + e.val
      = ((b.val * 2048 + ((n.val * 128 + r.val) * d + ρ.val)) * 8 + h.val) * 64 + e.val
    rw [← hd]; ring)]
  rw [transpose_apply _ _ ht _ (ValueIdx.ix5 b ρ (⟨n.val * 128 + r.val, hnr⟩ : Fin nr) h e) (fun a => by
    match a with
    | ⟨0, _⟩ => rfl
    | ⟨1, _⟩ => rfl
    | ⟨2, _⟩ => rfl
    | ⟨3, _⟩ => rfl
    | ⟨4, _⟩ => rfl)]
  exact shapeCast_apply _ hc _ (ValueIdx.ix6 b ρ n r h e) (by
    rw [Shape.rowMajor_val_five, Shape.rowMajor_val_six]
    show ((((b.val * d + ρ.val) * nb + n.val) * 128 + r.val) * 8 + h.val) * 64 + e.val
      = (((b.val * d + ρ.val) * nr + (n.val * 128 + r.val)) * 8 + h.val) * 64 + e.val
    subst hb; ring)

/-- Back from residue classes to tokens, for an array with a head axis only. -/
theorem unstrided4_apply (hd : nr * d = 2048) (hb : nb * 128 = nr) (x : (⟨5, ![8, d, nb, 128, 8]⟩ : Shape).Idx → α)
    (hc : (⟨5, ![8, d, nb, 128, 8]⟩ : Shape).ShapeCasts ⟨4, ![8, d, nr, 8]⟩)
    (ht : (⟨4, ![8, d, nr, 8]⟩ : Shape).Transposes [0, 2, 1, 3] ⟨4, ![8, nr, d, 8]⟩)
    (hc' : (⟨4, ![8, nr, d, 8]⟩ : Shape).ShapeCasts ⟨3, ![8, 2048, 8]⟩)
    (b : Fin 8) (ρ : Fin d) (n : Fin nb) (r : Fin 128) (h : Fin 8) :
    shapeCast ⟨3, ![8, 2048, 8]⟩ (transpose ⟨4, ![8, nr, d, 8]⟩ [0, 2, 1, 3]
      (shapeCast ⟨4, ![8, d, nr, 8]⟩ x hc) ht) hc'
      (ValueIdx.ix3 b (⟨tok d n r ρ, tok_lt hd hb n.isLt r.isLt ρ.isLt⟩ : Fin 2048) h) = x (ValueIdx.ix5 b ρ n r h) := by
  have hnr : n.val * 128 + r.val < nr := by have := n.isLt; have := r.isLt; omega
  rw [shapeCast_apply _ hc' _ (ValueIdx.ix4 b (⟨n.val * 128 + r.val, hnr⟩ : Fin nr) ρ h) (by
    rw [Shape.rowMajor_val_three, Shape.rowMajor_val_four]
    show ((b.val * nr + (n.val * 128 + r.val)) * d + ρ.val) * 8 + h.val
      = (b.val * 2048 + ((n.val * 128 + r.val) * d + ρ.val)) * 8 + h.val
    rw [← hd]; ring)]
  rw [transpose_apply _ _ ht _ (ValueIdx.ix4 b ρ (⟨n.val * 128 + r.val, hnr⟩ : Fin nr) h) (fun a => by
    match a with
    | ⟨0, _⟩ => rfl
    | ⟨1, _⟩ => rfl
    | ⟨2, _⟩ => rfl
    | ⟨3, _⟩ => rfl)]
  exact shapeCast_apply _ hc _ (ValueIdx.ix5 b ρ n r h) (by
    rw [Shape.rowMajor_val_five, Shape.rowMajor_val_four]
    show (((b.val * d + ρ.val) * nb + n.val) * 128 + r.val) * 8 + h.val
      = ((b.val * d + ρ.val) * nr + (n.val * 128 + r.val)) * 8 + h.val
    subst hb; ring)

end Cert.Attn

end
-- ==== Proof.AttnRef.lean ====
/-
  The three groups of the reference, each read at an index: its scores are the scores of the attention's rows, and its
  maxima, sums and weighted values are those rows'.
-/
module

public import proofs.«01_k».proof.Proof.AttnLayout
public import proofs.«01_k».proof.Proof.Gen.ReferenceIdeal.Run
public import Idealize.ShloMosaic.Lib.Pointwise

@[expose] public section

set_option maxRecDepth 16384

noncomputable section

namespace Cert.Attn

open Cert.ReferenceIdeal Cert.ReferenceIdeal.Value Idealize.ShloMosaic Idealize.ShloMosaic.TcCoe

/-! ## One score -/

/-- A sum scaled by a real number that is not negative is the sum of the scaled terms. -/
theorem sum_scaled {n : ℕ} (c : ℝ) (hc : 0 ≤ c) (f : Fin n → EReal) : (∑ i, f i) * (c : EReal) = ∑ i, f i * (c : EReal) := by
  induction n with
  | zero => simp
  | succ n ih =>
    rw [Fin.sum_univ_succ, Fin.sum_univ_succ, ← ih, mul_comm, EReal.left_distrib_of_nonneg_of_ne_top
      (EReal.coe_nonneg.mpr hc) (EReal.coe_ne_top c), mul_comm, mul_comm (c : EReal)]

theorem eighth : Ideal.ofBits FTy.f32 1040187392#32 = ((1 / 8 : ℝ) : EReal) := by
  simp [Ideal.ofBits, Ideal.ieee, -EReal.coe_mul]; norm_num

/-- The third condition of the mask fails for exactly the keys before the first block. -/
theorem before_first : ∀ (n : Fin 16) (j : Fin 256), IntOp.cmpi CmpIPredicate.sge
    (IntOp.addi (IntOp.muli (IntOp.subi (BitVec.ofNat 32 n.val) 1#32) 128#32) (BitVec.ofNat 32 j.val)) 0#32
      = if n.val = 0 ∧ j.val < 128 then 0#1 else 1#1 := by decide +kernel

/-- A score of the reference: masked, scaled after the sum. -/
theorem masked_score {n : ℕ} (hn : n < 16) (r : Fin 128) (j : Fin 256) (g : Fin 3) (h : Fin 8) (k q : Fin 64 → EReal)
    (D : BitVec 32) (hD : D = KernelIdeal.lit0 (KernelIdeal.S3.rowMajor (ix1 g))) (N : ℕ) (hN : N = g.val * 8 + h.val) :
    Scalar.select (IntOp.andi (near r j) (IntOp.cmpi CmpIPredicate.sge
        (IntOp.addi (IntOp.muli (IntOp.subi (BitVec.ofNat 32 n) 1#32) 128#32) (BitVec.ofNat 32 j.val)) 0#32))
      ((∑ e, k e * q e) * Ideal.ofBits FTy.f32 1040187392#32 +
        -Ideal.exp (Ideal.ofBits FTy.f32 1060205080#32 *
            Ideal.div (Ideal.ofBits FTy.f32 3238002688#32 * (1 + FloatOps.sitofp (F := Ideal) FTy.f32 (BitVec.ofNat 32 N)))
              (Ideal.ofBits FTy.f32 1103101952#32))
          * FloatOps.sitofp (F := Ideal) FTy.f32 (IntOp.muli D (gap r j)))
      (Ideal.ofBits FTy.f32 4286578688#32)
      = if n = 0 ∧ j.val < 128 then ⊥
        else (∑ e, q e * Ideal.ofBits FTy.f32 1040187392#32 * k e) + tilt g h r j := by
  subst hD hN
  rw [before_first ⟨n, hn⟩ j]
  have lowest : Ideal.ofBits FTy.f32 4286578688#32 = ⊥ := by simp [Ideal.ofBits, Ideal.ieee]
  have hs : (∑ e, k e * q e) * Ideal.ofBits FTy.f32 1040187392#32
      = ∑ e, q e * Ideal.ofBits FTy.f32 1040187392#32 * k e := by
    rw [eighth, sum_scaled _ (by norm_num)]
    exact Finset.sum_congr rfl fun e _ => by rw [mul_comm (k e), mul_assoc, mul_comm (k e), mul_assoc]
  rw [hs, lowest]
  unfold tilt slope
  by_cases hj : n = 0 ∧ j.val < 128
  · rw [if_pos hj, if_pos hj]
    generalize near r j = x
    have : IntOp.andi x 0#1 = 0#1 := by revert x; decide
    rw [this]; rfl
  · rw [if_neg hj, if_neg hj]
    generalize near r j = x
    have : IntOp.andi x 1#1 = x := by revert x; decide
    rw [this]
    rcases (by revert x; decide : x = 0#1 ∨ x = 1#1) with rfl | rfl
    · exact (EReal.add_bot _).symm
    · rfl

variable (W : Valuation τ sig (Elt Ideal))

/-- The queries as the reference is given them. -/
abbrev Q : Vec Ideal KernelIdeal.S8x2048x1536 .f32 := W (Proc.devRef .tc main_arg0)
/-- The keys and values as the reference is given them. -/
abbrev KV : Vec Ideal KernelIdeal.S8x2048x3072 .f32 := W (Proc.devRef .tc main_arg1)

/-- A token of a block, counted as its position. -/
theorem tok_eq_row {d nr nb : ℕ} (hd : nr * d = 2048) (hb : nb * 128 = nr) {n r ρ : ℕ} (hn : n < nb) (hr : r < 128) (hρ : ρ < d) :
    (⟨tok d n r ρ, tok_lt hd hb hn hr hρ⟩ : Fin 2048) = row ((n * 128 + r) * d + ρ) :=
  Fin.ext (Nat.mod_eq_of_lt (tok_lt hd hb hn hr hρ)).symm

/-! ## What follows from a group's scores, at any rate -/

section group

variable {d nr nb : ℕ} (hd : nr * d = 2048) (hb : nb * 128 = nr)

include hd hb

theorem rate_pos : 0 < d := Nat.pos_of_ne_zero fun h => by subst h; omega

theorem block_lt (t : Fin 2048) : t.val / (128 * d) < nb := by
  have : nb * (128 * d) = 2048 := by rw [← hd, ← hb]; ring
  exact Nat.div_lt_of_lt_mul (by rw [Nat.mul_comm, this]; exact t.isLt)

/-- Every token is a row of a block of a residue class. -/
theorem token_eq (t : Fin 2048) : t = ⟨tok d (t.val / (128 * d)) (t.val / d % 128) (t.val % d),
    tok_lt hd hb (block_lt hd hb t) (Nat.mod_lt _ (by omega)) (Nat.mod_lt _ (rate_pos hd hb))⟩ := by
  refine Fin.ext ?_
  show t.val = (t.val / (128 * d) * 128 + t.val / d % 128) * d + t.val % d
  have h1 : t.val / (128 * d) = t.val / d / 128 := by rw [Nat.div_div_eq_div_mul, Nat.mul_comm]
  have h2 : t.val / d / 128 * 128 + t.val / d % 128 = t.val / d := by omega
  rw [h1, h2, Nat.mul_comm]
  exact (Nat.div_add_mod t.val d).symm

variable (s : Fin 8 → Fin d → Fin nb → Fin 128 → Fin 8 → Fin 256 → EReal)

/-- The row of a token. -/
abbrev atTok {β : Type} (f : Fin d → Fin nb → Fin 128 → β) (t : Fin 2048) : β :=
  f ⟨t.val % d, Nat.mod_lt _ (rate_pos hd hb)⟩ ⟨t.val / (128 * d), block_lt hd hb t⟩ ⟨t.val / d % 128, Nat.mod_lt _ (by omega)⟩

/-- An array with a head axis, back from residue classes to tokens. -/
theorem at_token4 (x : (⟨5, ![8, d, nb, 128, 8]⟩ : Shape).Idx → EReal)
    (hc : (⟨5, ![8, d, nb, 128, 8]⟩ : Shape).ShapeCasts ⟨4, ![8, d, nr, 8]⟩)
    (ht : (⟨4, ![8, d, nr, 8]⟩ : Shape).Transposes [0, 2, 1, 3] ⟨4, ![8, nr, d, 8]⟩)
    (hc' : (⟨4, ![8, nr, d, 8]⟩ : Shape).ShapeCasts ⟨3, ![8, 2048, 8]⟩) (b : Fin 8) (t : Fin 2048) (h : Fin 8) :
    shapeCast ⟨3, ![8, 2048, 8]⟩ (transpose ⟨4, ![8, nr, d, 8]⟩ [0, 2, 1, 3] (shapeCast ⟨4, ![8, d, nr, 8]⟩ x hc) ht) hc'
      (ValueIdx.ix3 b t h) = atTok hd hb (fun ρ n r => x (ValueIdx.ix5 b ρ n r h)) t :=
  (congrArg _ (congrArg (ValueIdx.ix3 b · h) (token_eq hd hb t))).trans
    (unstrided4_apply hd hb x hc ht hc' b ⟨_, Nat.mod_lt _ (rate_pos hd hb)⟩ ⟨_, block_lt hd hb t⟩ ⟨_, Nat.mod_lt _ (by omega)⟩ h)

/-- An array with a head axis and a lane axis, back from residue classes to tokens. -/
theorem at_token5 (x : (⟨6, ![8, d, nb, 128, 8, 64]⟩ : Shape).Idx → EReal)
    (hc : (⟨6, ![8, d, nb, 128, 8, 64]⟩ : Shape).ShapeCasts ⟨5, ![8, d, nr, 8, 64]⟩)
    (ht : (⟨5, ![8, d, nr, 8, 64]⟩ : Shape).Transposes [0, 2, 1, 3, 4] ⟨5, ![8, nr, d, 8, 64]⟩)
    (hc' : (⟨5, ![8, nr, d, 8, 64]⟩ : Shape).ShapeCasts ⟨4, ![8, 2048, 8, 64]⟩) (b : Fin 8) (t : Fin 2048) (h : Fin 8) (e : Fin 64) :
    shapeCast ⟨4, ![8, 2048, 8, 64]⟩ (transpose ⟨5, ![8, nr, d, 8, 64]⟩ [0, 2, 1, 3, 4] (shapeCast ⟨5, ![8, d, nr, 8, 64]⟩ x hc) ht) hc'
      (ValueIdx.ix4 b t h e) = atTok hd hb (fun ρ n r => x (ValueIdx.ix6 b ρ n r h e)) t :=
  (congrArg _ (congrArg (ValueIdx.ix4 b · h e) (token_eq hd hb t))).trans
    (unstrided5_apply hd hb x hc ht hc' b ⟨_, Nat.mod_lt _ (rate_pos hd hb)⟩ ⟨_, block_lt hd hb t⟩ ⟨_, Nat.mod_lt _ (by omega)⟩ h e)

end group

/-- A weighted sum of values does not see the values whose weight is that of a score of minus infinity. -/
theorem num_congr {n : ℕ} (s v w : Fin n → EReal) (h : ∀ j, s j ≠ ⊥ → v j = w j) : num s v = num s w :=
  Finset.sum_congr rfl fun j _ => by
    by_cases hj : s j = ⊥
    · rw [hj, exp_bot_sub, zero_mul, zero_mul]
    · rw [h j hj]

theorem least : Ideal.ofBits FTy.f32 4286578688#32 = ⊥ := by simp [Ideal.ofBits, Ideal.ieee]

theorem nought : Ideal.ofBits FTy.f32 0#32 = 0 := by simp [Ideal.ofBits, Ideal.ieee]

/-! ## Group 0: rate 1, 16 blocks of each residue class -/

theorem scores0 (b : Fin 8) (ρ : Fin 1) (n : Fin 16) (r : Fin 128) (h : Fin 8) (j : Fin 256) :
    (res_main_v83 (F := Ideal) W : Vec Ideal S8x1x16x128x8x256 .f32) (ix6 b ρ n r h j)
      = rowScore (Q W) (KV W) b 0 1 n.val ρ.val r h j := by
  show _ = (_ : EReal)
  unfold res_main_v83
  generalize hk : concatenate S8x1x16x256x8x64 3 _ _ = kb
  generalize hq : transpose S8x1x16x128x8x64 _ _ _ = qs
  unfold res_main_v48 res_main_v43 res_main_v11
  pointwise
  obtain rfl : ρ = 0 := Subsingleton.elim _ _
  refine (masked_score (n := n.val) (lt_of_lt_of_le n.isLt (by decide)) r j 0 h _ _ _ rfl _ (by simp)).trans ?_
  unfold rowScore
  by_cases hj : n.val = 0 ∧ j.val < 128
  · exact (if_pos hj).trans (if_pos hj).symm
  · refine (if_neg hj).trans (Eq.trans ?_ (if_neg hj).symm)
    refine congrArg (· + _) (Finset.sum_congr rfl fun e _ => congrArg₂ (fun x y => x * _ * y) ?_ ?_)
    · rw [← hq]
      refine (strided_apply (d := 1) (nr := 2048) (nb := 16) rfl rfl _ _ _ b 0 n r h e).trans ?_
      rw [tok_eq_row (d := 1) (nr := 2048) (nb := 16) rfl rfl (Fin.isLt _) r.isLt (Fin.isLt _)]
      exact q_part 0 (by omega) (Q W) _ _ b _ h e
    · rw [← hk]
      refine (withPrev_strided (d := 1) (nr := 2048) (nb := 16) rfl rfl _ _ _ _ _ _ _ _ _ rfl b 0 n j h e hj).trans ?_
      exact kv_part 0 0 (by omega) (by omega) (KV W) _ _ _ _ _ b _ h e

theorem maxima0 (b : Fin 8) (ρ : Fin 1) (n : Fin 16) (r : Fin 128) (h : Fin 8) :
    (res_main_v84 (F := Ideal) W : Vec Ideal S8x1x16x128x8 .f32) (ix5 b ρ n r h)
      = mx (rowScore (Q W) (KV W) b 0 1 n.val ρ.val r h) :=
  (rowMax_apply (d := 1) (nb := 16) (res_main_v83 (F := Ideal) W) _ _ _ (by decide) least b ρ n r h).trans
    (congrArg mx (funext fun j => scores0 W b ρ n r h j))

theorem weights0 (b : Fin 8) (ρ : Fin 1) (n : Fin 16) (r : Fin 128) (h : Fin 8) (j : Fin 256) :
    (res_main_v88 (F := Ideal) W : Vec Ideal S8x1x16x128x8x256 .f32) (ix6 b ρ n r h j)
      = Ideal.exp (rowScore (Q W) (KV W) b 0 1 n.val ρ.val r h j - mx (rowScore (Q W) (KV W) b 0 1 n.val ρ.val r h)) := by
  rw [← scores0, ← maxima0]
  unfold res_main_v88
  obtain rfl : ρ = 0 := Subsingleton.elim _ _
  pointwise

theorem sums0 (b : Fin 8) (ρ : Fin 1) (n : Fin 16) (r : Fin 128) (h : Fin 8) :
    (Host.reduceAdd (F := Ideal) (res_main_v88 (F := Ideal) W : Vec Ideal S8x1x16x128x8x256 .f32) (constant S_ .f32 0x00000000#32)
      Gen.reducesTo_S8x1x16x128x8x256_S8x1x16x128x8_d5 Gen.h_S_) (ix5 b ρ n r h)
      = den (rowScore (Q W) (KV W) b 0 1 n.val ρ.val r h) :=
  (rowSum_apply (d := 1) (nb := 16) (res_main_v88 (F := Ideal) W) _ _ _ (by decide) nought b ρ n r h).trans
    (Finset.sum_congr rfl fun j _ => weights0 W b ρ n r h j)

theorem weighted0 (b : Fin 8) (ρ : Fin 1) (n : Fin 16) (r : Fin 128) (h : Fin 8) (e : Fin 64)
    (vb : Vec Ideal S8x1x16x256x8x64 .f32)
    (hv : ∀ j : Fin 256, ¬(n.val = 0 ∧ j.val < 128) → vb (ix6 b ρ n j h e) = rowValue (KV W) b 0 1 n.val ρ.val h e j) :
    (transpose S8x1x16x128x8x64 [0, 1, 2, 5, 3, 4] (Host.dotGeneral (F := Ideal) (φ₁ := .f32) (φ₂ := .f32) dot_S8x1x16x256x8x64_S8x1x16x128x8x256_S8x1x16x8x64x128_3_5_5_3_0124_0124 none
        vb (res_main_v88 (F := Ideal) W : Vec Ideal S8x1x16x128x8x256 .f32))
      Gen.transposes_S8x1x16x8x64x128_S8x1x16x128x8x64_0_1_2_5_3_4 : Vec Ideal S8x1x16x128x8x64 .f32) (ix6 b ρ n r h e)
      = num (rowScore (Q W) (KV W) b 0 1 n.val ρ.val r h) (rowValue (KV W) b 0 1 n.val ρ.val h e) := by
  have hw := fun j => weights0 W b ρ n r h j
  show _ = (_ : EReal)
  generalize (res_main_v88 (F := Ideal) W : Vec Ideal S8x1x16x128x8x256 .f32) = x at hw ⊢
  refine Eq.trans ?_ (num_congr (rowScore (Q W) (KV W) b 0 1 n.val ρ.val r h) (fun j => vb (ix6 b ρ n j h e)) _
    fun j hj => hv j fun c => hj (if_pos c))
  unfold num
  obtain rfl : ρ = 0 := Subsingleton.elim _ _
  pointwise
  exact Finset.sum_congr rfl fun j _ => (mul_comm _ _).trans (congrArg (· * _) (hw j))

/-! ## Group 1: rate 4, 4 blocks of each residue class -/

theorem scores1 (b : Fin 8) (ρ : Fin 4) (n : Fin 4) (r : Fin 128) (h : Fin 8) (j : Fin 256) :
    (res_main_v172 (F := Ideal) W : Vec Ideal S8x4x4x128x8x256 .f32) (ix6 b ρ n r h j)
      = rowScore (Q W) (KV W) b 1 4 n.val ρ.val r h j := by
  show _ = (_ : EReal)
  unfold res_main_v172
  generalize hk : concatenate S8x4x4x256x8x64 3 _ _ = kb
  generalize hq : transpose S8x4x4x128x8x64 _ _ _ = qs
  unfold res_main_v137 res_main_v132 res_main_v11
  pointwise
  refine (masked_score (n := n.val) (lt_of_lt_of_le n.isLt (by decide)) r j 1 h _ _ _ rfl _ (by simp)).trans ?_
  unfold rowScore
  by_cases hj : n.val = 0 ∧ j.val < 128
  · exact (if_pos hj).trans (if_pos hj).symm
  · refine (if_neg hj).trans (Eq.trans ?_ (if_neg hj).symm)
    refine congrArg (· + _) (Finset.sum_congr rfl fun e _ => congrArg₂ (fun x y => x * _ * y) ?_ ?_)
    · rw [← hq]
      refine (strided_apply (d := 4) (nr := 512) (nb := 4) rfl rfl _ _ _ b ρ n r h e).trans ?_
      rw [tok_eq_row (d := 4) (nr := 512) (nb := 4) rfl rfl (Fin.isLt _) r.isLt (Fin.isLt _)]
      exact q_part 512 (by omega) (Q W) _ _ b _ h e
    · rw [← hk]
      refine (withPrev_strided (d := 4) (nr := 512) (nb := 4) rfl rfl _ _ _ _ _ _ _ _ _ rfl b ρ n j h e hj).trans ?_
      exact kv_part 1 0 (by omega) (by omega) (KV W) _ _ _ _ _ b _ h e

theorem maxima1 (b : Fin 8) (ρ : Fin 4) (n : Fin 4) (r : Fin 128) (h : Fin 8) :
    (res_main_v173 (F := Ideal) W : Vec Ideal S8x4x4x128x8 .f32) (ix5 b ρ n r h)
      = mx (rowScore (Q W) (KV W) b 1 4 n.val ρ.val r h) :=
  (rowMax_apply (d := 4) (nb := 4) (res_main_v172 (F := Ideal) W) _ _ _ (by decide) least b ρ n r h).trans
    (congrArg mx (funext fun j => scores1 W b ρ n r h j))

theorem weights1 (b : Fin 8) (ρ : Fin 4) (n : Fin 4) (r : Fin 128) (h : Fin 8) (j : Fin 256) :
    (res_main_v177 (F := Ideal) W : Vec Ideal S8x4x4x128x8x256 .f32) (ix6 b ρ n r h j)
      = Ideal.exp (rowScore (Q W) (KV W) b 1 4 n.val ρ.val r h j - mx (rowScore (Q W) (KV W) b 1 4 n.val ρ.val r h)) := by
  rw [← scores1, ← maxima1]
  unfold res_main_v177
  pointwise

theorem sums1 (b : Fin 8) (ρ : Fin 4) (n : Fin 4) (r : Fin 128) (h : Fin 8) :
    (Host.reduceAdd (F := Ideal) (res_main_v177 (F := Ideal) W : Vec Ideal S8x4x4x128x8x256 .f32) (constant S_ .f32 0x00000000#32)
      Gen.reducesTo_S8x4x4x128x8x256_S8x4x4x128x8_d5 Gen.h_S_) (ix5 b ρ n r h)
      = den (rowScore (Q W) (KV W) b 1 4 n.val ρ.val r h) :=
  (rowSum_apply (d := 4) (nb := 4) (res_main_v177 (F := Ideal) W) _ _ _ (by decide) nought b ρ n r h).trans
    (Finset.sum_congr rfl fun j _ => weights1 W b ρ n r h j)

theorem weighted1 (b : Fin 8) (ρ : Fin 4) (n : Fin 4) (r : Fin 128) (h : Fin 8) (e : Fin 64)
    (vb : Vec Ideal S8x4x4x256x8x64 .f32)
    (hv : ∀ j : Fin 256, ¬(n.val = 0 ∧ j.val < 128) → vb (ix6 b ρ n j h e) = rowValue (KV W) b 1 4 n.val ρ.val h e j) :
    (transpose S8x4x4x128x8x64 [0, 1, 2, 5, 3, 4] (Host.dotGeneral (F := Ideal) (φ₁ := .f32) (φ₂ := .f32) dot_S8x4x4x256x8x64_S8x4x4x128x8x256_S8x4x4x8x64x128_3_5_5_3_0124_0124 none
        vb (res_main_v177 (F := Ideal) W : Vec Ideal S8x4x4x128x8x256 .f32))
      Gen.transposes_S8x4x4x8x64x128_S8x4x4x128x8x64_0_1_2_5_3_4 : Vec Ideal S8x4x4x128x8x64 .f32) (ix6 b ρ n r h e)
      = num (rowScore (Q W) (KV W) b 1 4 n.val ρ.val r h) (rowValue (KV W) b 1 4 n.val ρ.val h e) := by
  have hw := fun j => weights1 W b ρ n r h j
  show _ = (_ : EReal)
  generalize (res_main_v177 (F := Ideal) W : Vec Ideal S8x4x4x128x8x256 .f32) = x at hw ⊢
  refine Eq.trans ?_ (num_congr (rowScore (Q W) (KV W) b 1 4 n.val ρ.val r h) (fun j => vb (ix6 b ρ n j h e)) _
    fun j hj => hv j fun c => hj (if_pos c))
  unfold num
  pointwise
  exact Finset.sum_congr rfl fun j _ => (mul_comm _ _).trans (congrArg (· * _) (hw j))

/-! ## Group 2: rate 16, 1 block of each residue class -/

theorem scores2 (b : Fin 8) (ρ : Fin 16) (n : Fin 1) (r : Fin 128) (h : Fin 8) (j : Fin 256) :
    (res_main_v259 (F := Ideal) W : Vec Ideal S8x16x1x128x8x256 .f32) (ix6 b ρ n r h j)
      = rowScore (Q W) (KV W) b 2 16 n.val ρ.val r h j := by
  show _ = (_ : EReal)
  unfold res_main_v259
  generalize hk : concatenate S8x16x1x256x8x64 3 _ _ = kb
  generalize hq : transpose S8x16x1x128x8x64 _ _ _ = qs
  unfold res_main_v226 res_main_v221 res_main_v11
  pointwise
  obtain rfl : n = 0 := Subsingleton.elim _ _
  refine (masked_score (n := 0) (by decide) r j 2 h _ _ _ rfl _ (by simp)).trans ?_
  unfold rowScore
  by_cases hj : 0 = 0 ∧ j.val < 128
  · exact (if_pos hj).trans (if_pos hj).symm
  · refine (if_neg hj).trans (Eq.trans ?_ (if_neg hj).symm)
    refine congrArg (· + _) (Finset.sum_congr rfl fun e _ => congrArg₂ (fun x y => x * _ * y) ?_ ?_)
    · rw [← hq]
      refine (strided_apply (d := 16) (nr := 128) (nb := 1) rfl rfl _ _ _ b ρ 0 r h e).trans ?_
      rw [tok_eq_row (d := 16) (nr := 128) (nb := 1) rfl rfl (Fin.isLt _) r.isLt (Fin.isLt _)]
      exact q_part 1024 (by omega) (Q W) _ _ b _ h e
    · rw [← hk]
      refine (withPrev_strided (d := 16) (nr := 128) (nb := 1) rfl rfl _ _ _ _ _ _ _ _ _ rfl b ρ 0 j h e hj).trans ?_
      exact kv_part 2 0 (by omega) (by omega) (KV W) _ _ _ _ _ b _ h e

theorem maxima2 (b : Fin 8) (ρ : Fin 16) (n : Fin 1) (r : Fin 128) (h : Fin 8) :
    (res_main_v260 (F := Ideal) W : Vec Ideal S8x16x1x128x8 .f32) (ix5 b ρ n r h)
      = mx (rowScore (Q W) (KV W) b 2 16 n.val ρ.val r h) :=
  (rowMax_apply (d := 16) (nb := 1) (res_main_v259 (F := Ideal) W) _ _ _ (by decide) least b ρ n r h).trans
    (congrArg mx (funext fun j => scores2 W b ρ n r h j))

theorem weights2 (b : Fin 8) (ρ : Fin 16) (n : Fin 1) (r : Fin 128) (h : Fin 8) (j : Fin 256) :
    (res_main_v264 (F := Ideal) W : Vec Ideal S8x16x1x128x8x256 .f32) (ix6 b ρ n r h j)
      = Ideal.exp (rowScore (Q W) (KV W) b 2 16 n.val ρ.val r h j - mx (rowScore (Q W) (KV W) b 2 16 n.val ρ.val r h)) := by
  rw [← scores2, ← maxima2]
  unfold res_main_v264
  obtain rfl : n = 0 := Subsingleton.elim _ _
  pointwise

theorem sums2 (b : Fin 8) (ρ : Fin 16) (n : Fin 1) (r : Fin 128) (h : Fin 8) :
    (Host.reduceAdd (F := Ideal) (res_main_v264 (F := Ideal) W : Vec Ideal S8x16x1x128x8x256 .f32) (constant S_ .f32 0x00000000#32)
      Gen.reducesTo_S8x16x1x128x8x256_S8x16x1x128x8_d5 Gen.h_S_) (ix5 b ρ n r h)
      = den (rowScore (Q W) (KV W) b 2 16 n.val ρ.val r h) :=
  (rowSum_apply (d := 16) (nb := 1) (res_main_v264 (F := Ideal) W) _ _ _ (by decide) nought b ρ n r h).trans
    (Finset.sum_congr rfl fun j _ => weights2 W b ρ n r h j)

theorem weighted2 (b : Fin 8) (ρ : Fin 16) (n : Fin 1) (r : Fin 128) (h : Fin 8) (e : Fin 64)
    (vb : Vec Ideal S8x16x1x256x8x64 .f32)
    (hv : ∀ j : Fin 256, ¬(n.val = 0 ∧ j.val < 128) → vb (ix6 b ρ n j h e) = rowValue (KV W) b 2 16 n.val ρ.val h e j) :
    (transpose S8x16x1x128x8x64 [0, 1, 2, 5, 3, 4] (Host.dotGeneral (F := Ideal) (φ₁ := .f32) (φ₂ := .f32) dot_S8x16x1x256x8x64_S8x16x1x128x8x256_S8x16x1x8x64x128_3_5_5_3_0124_0124 none
        vb (res_main_v264 (F := Ideal) W : Vec Ideal S8x16x1x128x8x256 .f32))
      Gen.transposes_S8x16x1x8x64x128_S8x16x1x128x8x64_0_1_2_5_3_4 : Vec Ideal S8x16x1x128x8x64 .f32) (ix6 b ρ n r h e)
      = num (rowScore (Q W) (KV W) b 2 16 n.val ρ.val r h) (rowValue (KV W) b 2 16 n.val ρ.val h e) := by
  have hw := fun j => weights2 W b ρ n r h j
  show _ = (_ : EReal)
  generalize (res_main_v264 (F := Ideal) W : Vec Ideal S8x16x1x128x8x256 .f32) = x at hw ⊢
  refine Eq.trans ?_ (num_congr (rowScore (Q W) (KV W) b 2 16 n.val ρ.val r h) (fun j => vb (ix6 b ρ n j h e)) _
    fun j hj => hv j fun c => hj (if_pos c))
  unfold num
  obtain rfl : n = 0 := Subsingleton.elim _ _
  pointwise
  exact Finset.sum_congr rfl fun j _ => (mul_comm _ _).trans (congrArg (· * _) (hw j))

end Cert.Attn

end
-- ==== Proof.AttnRefMerge.lean ====
/-
  The reference's result at an index: its three groups back at their tokens, stacked, and merged under their joint
  maximum. It is the attention.
-/
module

public import proofs.«01_k».proof.Proof.AttnRef

@[expose] public section

set_option maxRecDepth 16384

noncomputable section

namespace Cert.Attn

open Cert.ReferenceIdeal Cert.ReferenceIdeal.Value Idealize.ShloMosaic Idealize.ShloMosaic.TcCoe

/-- Three arrays stacked along a new first axis, read at one place of each. -/
theorem stacked3 (A B C : S8x2048x8.Idx → EReal) (f : Fin 3 → EReal) (b : Fin 8) (t : Fin 2048) (h : Fin 8)
    (h0 : A (ix3 b t h) = f 0) (h1 : B (ix3 b t h) = f 1)
    (h2 : C (ix3 b t h) = f 2) (g : Fin 3) :
    (concatenate S3x8x2048x8 0 [
      ⟨S1x8x2048x8, (broadcastInDim S1x8x2048x8 ![1, 2, 3] Gen.bcast_S8x2048x8_S1x8x2048x8_1_2_3 A : Vec Ideal S1x8x2048x8 .f32)⟩,
      ⟨S1x8x2048x8, (broadcastInDim S1x8x2048x8 ![1, 2, 3] Gen.bcast_S8x2048x8_S1x8x2048x8_1_2_3 B : Vec Ideal S1x8x2048x8 .f32)⟩,
      ⟨S1x8x2048x8, (broadcastInDim S1x8x2048x8 ![1, 2, 3] Gen.bcast_S8x2048x8_S1x8x2048x8_1_2_3 C : Vec Ideal S1x8x2048x8 .f32)⟩]
      Gen.concatenates_S1x8x2048x8_S1x8x2048x8_S1x8x2048x8_S3x8x2048x8_d0 : Vec Ideal S3x8x2048x8 .f32) (ix4 g b t h) = f g := by
  show _ = (_ : EReal)
  pointwise
  match g with
  | ⟨0, _⟩ => exact h0
  | ⟨1, _⟩ => exact h1
  | ⟨2, _⟩ => exact h2

/-- Three arrays with a lane axis stacked along a new first axis, read at one place of each. -/
theorem stacked4 (A B C : S8x2048x8x64.Idx → EReal) (f : Fin 3 → EReal) (b : Fin 8) (t : Fin 2048) (h : Fin 8) (e : Fin 64)
    (h0 : A (ix4 b t h e) = f 0) (h1 : B (ix4 b t h e) = f 1)
    (h2 : C (ix4 b t h e) = f 2) (g : Fin 3) :
    (concatenate S3x8x2048x8x64 0 [
      ⟨S1x8x2048x8x64, (broadcastInDim S1x8x2048x8x64 ![1, 2, 3, 4] Gen.bcast_S8x2048x8x64_S1x8x2048x8x64_1_2_3_4 A : Vec Ideal S1x8x2048x8x64 .f32)⟩,
      ⟨S1x8x2048x8x64, (broadcastInDim S1x8x2048x8x64 ![1, 2, 3, 4] Gen.bcast_S8x2048x8x64_S1x8x2048x8x64_1_2_3_4 B : Vec Ideal S1x8x2048x8x64 .f32)⟩,
      ⟨S1x8x2048x8x64, (broadcastInDim S1x8x2048x8x64 ![1, 2, 3, 4] Gen.bcast_S8x2048x8x64_S1x8x2048x8x64_1_2_3_4 C : Vec Ideal S1x8x2048x8x64 .f32)⟩]
      Gen.concatenates_S1x8x2048x8x64_S1x8x2048x8x64_S1x8x2048x8x64_S3x8x2048x8x64_d0 : Vec Ideal S3x8x2048x8x64 .f32) (ix5 g b t h e) = f g := by
  show _ = (_ : EReal)
  pointwise
  match g with
  | ⟨0, _⟩ => exact h0
  | ⟨1, _⟩ => exact h1
  | ⟨2, _⟩ => exact h2

/-- The greatest of the three stacked entries at a place. -/
theorem stackMax_apply (x : S3x8x2048x8.Idx → EReal) (z : S_.Idx → EReal) (h' : S3x8x2048x8.ReducesTo [0] S8x2048x8)
    (hu : 0 < S_.numel) (hz : z (Shape.Idx.first hu) = ⊥) (b : Fin 8) (t : Fin 2048) (h : Fin 8) :
    Host.reduce (FloatOps.maximumf (F := Ideal) (φ := .f32)) x z h' hu (ix3 b t h)
      = max (max (x (ix4 0 b t h)) (x (ix4 1 b t h))) (x (ix4 2 b t h)) := by
  refine (Host.reduce_eq_fold_single (α := EReal) max x z h' (by decide) hu _).trans ?_
  rw [hz]
  have e : ∀ f : Fin 3 → EReal, Finset.fold max ⊥ f Finset.univ = max (max (f 0) (f 1)) (f 2) := fun f => by
    have : (Finset.univ : Finset (Fin 3)) = {0, 1, 2} := rfl
    rw [this, Finset.fold_insert (by decide), Finset.fold_insert (by decide), Finset.fold_singleton, max_bot_right, max_assoc]
  refine (e _).trans (congr (congrArg max (congr (congrArg max (congrArg x ?_)) (congrArg x ?_))) (congrArg x ?_)) <;>
  · refine funext fun a => Fin.ext ?_
    match a with
    | ⟨0, _⟩ => rfl
    | ⟨1, _⟩ => rfl
    | ⟨2, _⟩ => rfl
    | ⟨3, _⟩ => rfl

variable (W : Valuation τ sig (Elt Ideal))

/-- The row maximum of a token in group 0. -/
theorem tokMax0 (b : Fin 8) (t : Fin 2048) (h : Fin 8) :
    (shapeCast S8x2048x8 (transpose S8x2048x1x8 [0, 2, 1, 3] (shapeCast S8x1x2048x8 (res_main_v84 (F := Ideal) W : Vec Ideal S8x1x16x128x8 .f32)
      Gen.shapeCasts_S8x1x16x128x8_S8x1x2048x8) Gen.transposes_S8x1x2048x8_S8x2048x1x8_0_2_1_3) Gen.shapeCasts_S8x2048x1x8_S8x2048x8 : Vec Ideal S8x2048x8 .f32) (ix3 b t h)
      = mx (tokScore (Q W) (KV W) b t h 0) := by
  have k := (at_token4 (d := 1) (nr := 2048) (nb := 16) rfl rfl (res_main_v84 (F := Ideal) W : Vec Ideal S8x1x16x128x8 .f32)
    Gen.shapeCasts_S8x1x16x128x8_S8x1x2048x8 Gen.transposes_S8x1x2048x8_S8x2048x1x8_0_2_1_3 Gen.shapeCasts_S8x2048x1x8_S8x2048x8 b t h).trans (maxima0 W b _ _ _ h)
  exact k

/-- The sum of weights of a token in group 0. -/
theorem tokSum0 (b : Fin 8) (t : Fin 2048) (h : Fin 8) :
    (shapeCast S8x2048x8 (transpose S8x2048x1x8 [0, 2, 1, 3] (shapeCast S8x1x2048x8 (Host.reduceAdd (F := Ideal) (res_main_v88 (F := Ideal) W : Vec Ideal S8x1x16x128x8x256 .f32)
      (constant S_ .f32 0x00000000#32) Gen.reducesTo_S8x1x16x128x8x256_S8x1x16x128x8_d5 Gen.h_S_)
      Gen.shapeCasts_S8x1x16x128x8_S8x1x2048x8) Gen.transposes_S8x1x2048x8_S8x2048x1x8_0_2_1_3) Gen.shapeCasts_S8x2048x1x8_S8x2048x8 : Vec Ideal S8x2048x8 .f32) (ix3 b t h)
      = den (tokScore (Q W) (KV W) b t h 0) := by
  have k := (at_token4 (d := 1) (nr := 2048) (nb := 16) rfl rfl (Host.reduceAdd (F := Ideal) (res_main_v88 (F := Ideal) W : Vec Ideal S8x1x16x128x8x256 .f32)
      (constant S_ .f32 0x00000000#32) Gen.reducesTo_S8x1x16x128x8x256_S8x1x16x128x8_d5 Gen.h_S_)
    Gen.shapeCasts_S8x1x16x128x8_S8x1x2048x8 Gen.transposes_S8x1x2048x8_S8x2048x1x8_0_2_1_3 Gen.shapeCasts_S8x2048x1x8_S8x2048x8 b t h).trans (sums0 W b _ _ _ h)
  exact k

/-- The values of group 0, each block behind the one before it. -/
abbrev valueBlocks0 : Vec Ideal S8x1x16x256x8x64 .f32 :=
  (concatenate S8x1x16x256x8x64 3 [
      ⟨S8x1x16x128x8x64, (extractStridedSlice S8x1x16x128x8x64 ![0, 0, 0, 0, 0, 0] (pad S8x1x17x128x8x64 ![0, 0, 1, 0, 0, 0] ![0, 0, 0, 0, 0, 0] ![0, 0, 0, 0, 0, 0]
        (res_main_v29 (F := Ideal) W) (sitofp (F := Ideal) .f32 (constantI S_ 32 0#32)) Gen.pads_S8x1x16x128x8x64_S8x1x17x128x8x64_000_000_100_000_000_000 Gen.h_S_)
        Gen.slices_S8x1x17x128x8x64_S8x1x16x128x8x64_0_0_0_0_0_0)⟩,
      ⟨S8x1x16x128x8x64, res_main_v29 (F := Ideal) W⟩] Gen.concatenates_S8x1x16x128x8x64_S8x1x16x128x8x64_S8x1x16x256x8x64_d3 : Vec Ideal S8x1x16x256x8x64 .f32)

theorem valueBlocks0_apply (b : Fin 8) (ρ : Fin 1) (n : Fin 16) (h : Fin 8) (e : Fin 64) (j : Fin 256) (hj : ¬(n.val = 0 ∧ j.val < 128)) :
    valueBlocks0 W (ix6 b ρ n j h e) = rowValue (KV W) b 0 1 n.val ρ.val h e j := by
  refine (withPrev_strided (d := 1) (nr := 2048) (nb := 16) rfl rfl _ _ _ _ _ _ _ _ _ rfl b ρ n j h e hj).trans ?_
  exact kv_part 0 1 (by omega) (by omega) (KV W) _ _ _ _ _ b _ h e

/-- The weighted sum of values of a token in group 0. -/
theorem tokNum0 (b : Fin 8) (t : Fin 2048) (h : Fin 8) (e : Fin 64) :
    (shapeCast S8x2048x8x64 (transpose S8x2048x1x8x64 [0, 2, 1, 3, 4] (shapeCast S8x1x2048x8x64
      (transpose S8x1x16x128x8x64 [0, 1, 2, 5, 3, 4] (Host.dotGeneral (F := Ideal) (φ₁ := .f32) (φ₂ := .f32)
        dot_S8x1x16x256x8x64_S8x1x16x128x8x256_S8x1x16x8x64x128_3_5_5_3_0124_0124 none
        (valueBlocks0 W) (res_main_v88 (F := Ideal) W : Vec Ideal S8x1x16x128x8x256 .f32))
        Gen.transposes_S8x1x16x8x64x128_S8x1x16x128x8x64_0_1_2_5_3_4)
      Gen.shapeCasts_S8x1x16x128x8x64_S8x1x2048x8x64) Gen.transposes_S8x1x2048x8x64_S8x2048x1x8x64_0_2_1_3_4) Gen.shapeCasts_S8x2048x1x8x64_S8x2048x8x64 : Vec Ideal S8x2048x8x64 .f32) (ix4 b t h e)
      = num (tokScore (Q W) (KV W) b t h 0) (rowValue (KV W) b 0 (dil 0) (t.val / (128 * dil 0)) (t.val % dil 0) h e) := by
  have k := fun ρ n r => weighted0 W b ρ n r h e (valueBlocks0 W) fun j hj => valueBlocks0_apply W b ρ n h e j hj
  generalize valueBlocks0 W = vs at k ⊢
  have k' := (at_token5 (d := 1) (nr := 2048) (nb := 16) rfl rfl _
    Gen.shapeCasts_S8x1x16x128x8x64_S8x1x2048x8x64 Gen.transposes_S8x1x2048x8x64_S8x2048x1x8x64_0_2_1_3_4 Gen.shapeCasts_S8x2048x1x8x64_S8x2048x8x64 b t h e).trans (k _ _ _)
  exact k'

/-- The row maximum of a token in group 1. -/
theorem tokMax1 (b : Fin 8) (t : Fin 2048) (h : Fin 8) :
    (shapeCast S8x2048x8 (transpose S8x512x4x8 [0, 2, 1, 3] (shapeCast S8x4x512x8 (res_main_v173 (F := Ideal) W : Vec Ideal S8x4x4x128x8 .f32)
      Gen.shapeCasts_S8x4x4x128x8_S8x4x512x8) Gen.transposes_S8x4x512x8_S8x512x4x8_0_2_1_3) Gen.shapeCasts_S8x512x4x8_S8x2048x8 : Vec Ideal S8x2048x8 .f32) (ix3 b t h)
      = mx (tokScore (Q W) (KV W) b t h 1) := by
  have k := (at_token4 (d := 4) (nr := 512) (nb := 4) rfl rfl (res_main_v173 (F := Ideal) W : Vec Ideal S8x4x4x128x8 .f32)
    Gen.shapeCasts_S8x4x4x128x8_S8x4x512x8 Gen.transposes_S8x4x512x8_S8x512x4x8_0_2_1_3 Gen.shapeCasts_S8x512x4x8_S8x2048x8 b t h).trans (maxima1 W b _ _ _ h)
  exact k

/-- The sum of weights of a token in group 1. -/
theorem tokSum1 (b : Fin 8) (t : Fin 2048) (h : Fin 8) :
    (shapeCast S8x2048x8 (transpose S8x512x4x8 [0, 2, 1, 3] (shapeCast S8x4x512x8 (Host.reduceAdd (F := Ideal) (res_main_v177 (F := Ideal) W : Vec Ideal S8x4x4x128x8x256 .f32)
      (constant S_ .f32 0x00000000#32) Gen.reducesTo_S8x4x4x128x8x256_S8x4x4x128x8_d5 Gen.h_S_)
      Gen.shapeCasts_S8x4x4x128x8_S8x4x512x8) Gen.transposes_S8x4x512x8_S8x512x4x8_0_2_1_3) Gen.shapeCasts_S8x512x4x8_S8x2048x8 : Vec Ideal S8x2048x8 .f32) (ix3 b t h)
      = den (tokScore (Q W) (KV W) b t h 1) := by
  have k := (at_token4 (d := 4) (nr := 512) (nb := 4) rfl rfl (Host.reduceAdd (F := Ideal) (res_main_v177 (F := Ideal) W : Vec Ideal S8x4x4x128x8x256 .f32)
      (constant S_ .f32 0x00000000#32) Gen.reducesTo_S8x4x4x128x8x256_S8x4x4x128x8_d5 Gen.h_S_)
    Gen.shapeCasts_S8x4x4x128x8_S8x4x512x8 Gen.transposes_S8x4x512x8_S8x512x4x8_0_2_1_3 Gen.shapeCasts_S8x512x4x8_S8x2048x8 b t h).trans (sums1 W b _ _ _ h)
  exact k

/-- The values of group 1, each block behind the one before it. -/
abbrev valueBlocks1 : Vec Ideal S8x4x4x256x8x64 .f32 :=
  (concatenate S8x4x4x256x8x64 3 [
      ⟨S8x4x4x128x8x64, (extractStridedSlice S8x4x4x128x8x64 ![0, 0, 0, 0, 0, 0] (pad S8x4x5x128x8x64 ![0, 0, 1, 0, 0, 0] ![0, 0, 0, 0, 0, 0] ![0, 0, 0, 0, 0, 0]
        (res_main_v118 (F := Ideal) W) (sitofp (F := Ideal) .f32 (constantI S_ 32 0#32)) Gen.pads_S8x4x4x128x8x64_S8x4x5x128x8x64_000_000_100_000_000_000 Gen.h_S_)
        Gen.slices_S8x4x5x128x8x64_S8x4x4x128x8x64_0_0_0_0_0_0)⟩,
      ⟨S8x4x4x128x8x64, res_main_v118 (F := Ideal) W⟩] Gen.concatenates_S8x4x4x128x8x64_S8x4x4x128x8x64_S8x4x4x256x8x64_d3 : Vec Ideal S8x4x4x256x8x64 .f32)

theorem valueBlocks1_apply (b : Fin 8) (ρ : Fin 4) (n : Fin 4) (h : Fin 8) (e : Fin 64) (j : Fin 256) (hj : ¬(n.val = 0 ∧ j.val < 128)) :
    valueBlocks1 W (ix6 b ρ n j h e) = rowValue (KV W) b 1 4 n.val ρ.val h e j := by
  refine (withPrev_strided (d := 4) (nr := 512) (nb := 4) rfl rfl _ _ _ _ _ _ _ _ _ rfl b ρ n j h e hj).trans ?_
  exact kv_part 1 1 (by omega) (by omega) (KV W) _ _ _ _ _ b _ h e

/-- The weighted sum of values of a token in group 1. -/
theorem tokNum1 (b : Fin 8) (t : Fin 2048) (h : Fin 8) (e : Fin 64) :
    (shapeCast S8x2048x8x64 (transpose S8x512x4x8x64 [0, 2, 1, 3, 4] (shapeCast S8x4x512x8x64
      (transpose S8x4x4x128x8x64 [0, 1, 2, 5, 3, 4] (Host.dotGeneral (F := Ideal) (φ₁ := .f32) (φ₂ := .f32)
        dot_S8x4x4x256x8x64_S8x4x4x128x8x256_S8x4x4x8x64x128_3_5_5_3_0124_0124 none
        (valueBlocks1 W) (res_main_v177 (F := Ideal) W : Vec Ideal S8x4x4x128x8x256 .f32))
        Gen.transposes_S8x4x4x8x64x128_S8x4x4x128x8x64_0_1_2_5_3_4)
      Gen.shapeCasts_S8x4x4x128x8x64_S8x4x512x8x64) Gen.transposes_S8x4x512x8x64_S8x512x4x8x64_0_2_1_3_4) Gen.shapeCasts_S8x512x4x8x64_S8x2048x8x64 : Vec Ideal S8x2048x8x64 .f32) (ix4 b t h e)
      = num (tokScore (Q W) (KV W) b t h 1) (rowValue (KV W) b 1 (dil 1) (t.val / (128 * dil 1)) (t.val % dil 1) h e) := by
  have k := fun ρ n r => weighted1 W b ρ n r h e (valueBlocks1 W) fun j hj => valueBlocks1_apply W b ρ n h e j hj
  generalize valueBlocks1 W = vs at k ⊢
  have k' := (at_token5 (d := 4) (nr := 512) (nb := 4) rfl rfl _
    Gen.shapeCasts_S8x4x4x128x8x64_S8x4x512x8x64 Gen.transposes_S8x4x512x8x64_S8x512x4x8x64_0_2_1_3_4 Gen.shapeCasts_S8x512x4x8x64_S8x2048x8x64 b t h e).trans (k _ _ _)
  exact k'

/-- The row maximum of a token in group 2. -/
theorem tokMax2 (b : Fin 8) (t : Fin 2048) (h : Fin 8) :
    (shapeCast S8x2048x8 (transpose S8x128x16x8 [0, 2, 1, 3] (shapeCast S8x16x128x8 (res_main_v260 (F := Ideal) W : Vec Ideal S8x16x1x128x8 .f32)
      Gen.shapeCasts_S8x16x1x128x8_S8x16x128x8) Gen.transposes_S8x16x128x8_S8x128x16x8_0_2_1_3) Gen.shapeCasts_S8x128x16x8_S8x2048x8 : Vec Ideal S8x2048x8 .f32) (ix3 b t h)
      = mx (tokScore (Q W) (KV W) b t h 2) := by
  have k := (at_token4 (d := 16) (nr := 128) (nb := 1) rfl rfl (res_main_v260 (F := Ideal) W : Vec Ideal S8x16x1x128x8 .f32)
    Gen.shapeCasts_S8x16x1x128x8_S8x16x128x8 Gen.transposes_S8x16x128x8_S8x128x16x8_0_2_1_3 Gen.shapeCasts_S8x128x16x8_S8x2048x8 b t h).trans (maxima2 W b _ _ _ h)
  exact k

/-- The sum of weights of a token in group 2. -/
theorem tokSum2 (b : Fin 8) (t : Fin 2048) (h : Fin 8) :
    (shapeCast S8x2048x8 (transpose S8x128x16x8 [0, 2, 1, 3] (shapeCast S8x16x128x8 (Host.reduceAdd (F := Ideal) (res_main_v264 (F := Ideal) W : Vec Ideal S8x16x1x128x8x256 .f32)
      (constant S_ .f32 0x00000000#32) Gen.reducesTo_S8x16x1x128x8x256_S8x16x1x128x8_d5 Gen.h_S_)
      Gen.shapeCasts_S8x16x1x128x8_S8x16x128x8) Gen.transposes_S8x16x128x8_S8x128x16x8_0_2_1_3) Gen.shapeCasts_S8x128x16x8_S8x2048x8 : Vec Ideal S8x2048x8 .f32) (ix3 b t h)
      = den (tokScore (Q W) (KV W) b t h 2) := by
  have k := (at_token4 (d := 16) (nr := 128) (nb := 1) rfl rfl (Host.reduceAdd (F := Ideal) (res_main_v264 (F := Ideal) W : Vec Ideal S8x16x1x128x8x256 .f32)
      (constant S_ .f32 0x00000000#32) Gen.reducesTo_S8x16x1x128x8x256_S8x16x1x128x8_d5 Gen.h_S_)
    Gen.shapeCasts_S8x16x1x128x8_S8x16x128x8 Gen.transposes_S8x16x128x8_S8x128x16x8_0_2_1_3 Gen.shapeCasts_S8x128x16x8_S8x2048x8 b t h).trans (sums2 W b _ _ _ h)
  exact k

/-- The values of group 2, each block behind the one before it. -/
abbrev valueBlocks2 : Vec Ideal S8x16x1x256x8x64 .f32 :=
  (concatenate S8x16x1x256x8x64 3 [
      ⟨S8x16x1x128x8x64, (extractStridedSlice S8x16x1x128x8x64 ![0, 0, 0, 0, 0, 0] (pad S8x16x2x128x8x64 ![0, 0, 1, 0, 0, 0] ![0, 0, 0, 0, 0, 0] ![0, 0, 0, 0, 0, 0]
        (res_main_v207 (F := Ideal) W) (sitofp (F := Ideal) .f32 (constantI S_ 32 0#32)) Gen.pads_S8x16x1x128x8x64_S8x16x2x128x8x64_000_000_100_000_000_000 Gen.h_S_)
        Gen.slices_S8x16x2x128x8x64_S8x16x1x128x8x64_0_0_0_0_0_0)⟩,
      ⟨S8x16x1x128x8x64, res_main_v207 (F := Ideal) W⟩] Gen.concatenates_S8x16x1x128x8x64_S8x16x1x128x8x64_S8x16x1x256x8x64_d3 : Vec Ideal S8x16x1x256x8x64 .f32)

theorem valueBlocks2_apply (b : Fin 8) (ρ : Fin 16) (n : Fin 1) (h : Fin 8) (e : Fin 64) (j : Fin 256) (hj : ¬(n.val = 0 ∧ j.val < 128)) :
    valueBlocks2 W (ix6 b ρ n j h e) = rowValue (KV W) b 2 16 n.val ρ.val h e j := by
  refine (withPrev_strided (d := 16) (nr := 128) (nb := 1) rfl rfl _ _ _ _ _ _ _ _ _ rfl b ρ n j h e hj).trans ?_
  exact kv_part 2 1 (by omega) (by omega) (KV W) _ _ _ _ _ b _ h e

/-- The weighted sum of values of a token in group 2. -/
theorem tokNum2 (b : Fin 8) (t : Fin 2048) (h : Fin 8) (e : Fin 64) :
    (shapeCast S8x2048x8x64 (transpose S8x128x16x8x64 [0, 2, 1, 3, 4] (shapeCast S8x16x128x8x64
      (transpose S8x16x1x128x8x64 [0, 1, 2, 5, 3, 4] (Host.dotGeneral (F := Ideal) (φ₁ := .f32) (φ₂ := .f32)
        dot_S8x16x1x256x8x64_S8x16x1x128x8x256_S8x16x1x8x64x128_3_5_5_3_0124_0124 none
        (valueBlocks2 W) (res_main_v264 (F := Ideal) W : Vec Ideal S8x16x1x128x8x256 .f32))
        Gen.transposes_S8x16x1x8x64x128_S8x16x1x128x8x64_0_1_2_5_3_4)
      Gen.shapeCasts_S8x16x1x128x8x64_S8x16x128x8x64) Gen.transposes_S8x16x128x8x64_S8x128x16x8x64_0_2_1_3_4) Gen.shapeCasts_S8x128x16x8x64_S8x2048x8x64 : Vec Ideal S8x2048x8x64 .f32) (ix4 b t h e)
      = num (tokScore (Q W) (KV W) b t h 2) (rowValue (KV W) b 2 (dil 2) (t.val / (128 * dil 2)) (t.val % dil 2) h e) := by
  have k := fun ρ n r => weighted2 W b ρ n r h e (valueBlocks2 W) fun j hj => valueBlocks2_apply W b ρ n h e j hj
  generalize valueBlocks2 W = vs at k ⊢
  have k' := (at_token5 (d := 16) (nr := 128) (nb := 1) rfl rfl _
    Gen.shapeCasts_S8x16x1x128x8x64_S8x16x128x8x64 Gen.transposes_S8x16x128x8x64_S8x128x16x8x64_0_2_1_3_4 Gen.shapeCasts_S8x128x16x8x64_S8x2048x8x64 b t h e).trans (k _ _ _)
  exact k'

/-- The row maxima of the three groups, stacked. -/
theorem stacked_max (g : Fin 3) (b : Fin 8) (t : Fin 2048) (h : Fin 8) :
    (res_main_v280 (F := Ideal) W : Vec Ideal S3x8x2048x8 .f32) (ix4 g b t h) = mx (tokScore (Q W) (KV W) b t h g) :=
  stacked3 _ _ _ (fun g => mx (tokScore (Q W) (KV W) b t h g)) b t h (tokMax0 W b t h) (tokMax1 W b t h) (tokMax2 W b t h) g

/-- The weights with which the three groups count, from their stacked row maxima. -/
abbrev shares (M : S3x8x2048x8.Idx → EReal) : Vec Ideal S3x8x2048x8 .f32 :=
  Host.exp (F := Ideal) (subf (F := Ideal) (φ := .f32) M (broadcastInDim S3x8x2048x8 ![0, 1, 2, 3] Gen.bcast_S1x8x2048x8_S3x8x2048x8_0_1_2_3
    (broadcastInDim S1x8x2048x8 ![1, 2, 3] Gen.bcast_S8x2048x8_S1x8x2048x8_1_2_3
      (Host.reduce (FloatOps.maximumf (F := Ideal) (φ := .f32)) M (constant S_ .f32 0xFF800000#32) Gen.reducesTo_S3x8x2048x8_S8x2048x8_d0 Gen.h_S_))))

theorem shares_apply (M : S3x8x2048x8.Idx → EReal) (m : Fin 3 → EReal) (b : Fin 8) (t : Fin 2048) (h : Fin 8)
    (hm : ∀ g, M (ix4 g b t h) = m g) (g : Fin 3) :
    shares M (ix4 g b t h) = Ideal.exp (m g - max (max (m 0) (m 1)) (m 2)) := by
  show _ = (_ : EReal)
  rw [← hm, ← hm, ← hm, ← hm]
  have e := stackMax_apply M (constant (F := Ideal) S_ .f32 0xFF800000#32) Gen.reducesTo_S3x8x2048x8_S8x2048x8_d0 Gen.h_S_ least b t h
  unfold shares
  generalize Host.reduce (FloatOps.maximumf (F := Ideal) (φ := .f32)) M _ _ _ = y at e ⊢
  pointwise
  exact congrArg (fun z : EReal => Ideal.exp (M (ix4 g b t h) - z)) e

/-- A sum over the three groups, of an array without a lane axis. -/
theorem stackSum3_apply (x : S3x8x2048x8.Idx → EReal) (z : S_.Idx → EReal) (h' : S3x8x2048x8.ReducesTo [0] S8x2048x8)
    (hu : 0 < S_.numel) (hz : z (Shape.Idx.first hu) = 0) (b : Fin 8) (t : Fin 2048) (h : Fin 8) :
    Host.reduceAdd (F := Ideal) (φ := .f32) x z h' hu (ix3 b t h) = ∑ g : Fin 3, x (ix4 g b t h) := by
  simp only [Host.reduceAdd, Ideal.hostReduceAdd_def]
  rw [Ideal.hostReduceAdd_single h' (by decide), hz, zero_add]
  refine Finset.sum_congr rfl fun j _ => congrArg x (funext fun a => Fin.ext ?_)
  match a with
  | ⟨0, _⟩ => rfl
  | ⟨1, _⟩ => rfl
  | ⟨2, _⟩ => rfl
  | ⟨3, _⟩ => rfl

/-- A sum over the three groups, of an array with a lane axis. -/
theorem stackSum4_apply (x : S3x8x2048x8x64.Idx → EReal) (z : S_.Idx → EReal) (h' : S3x8x2048x8x64.ReducesTo [0] S8x2048x8x64)
    (hu : 0 < S_.numel) (hz : z (Shape.Idx.first hu) = 0) (b : Fin 8) (t : Fin 2048) (h : Fin 8) (e : Fin 64) :
    Host.reduceAdd (F := Ideal) (φ := .f32) x z h' hu (ix4 b t h e) = ∑ g : Fin 3, x (ix5 g b t h e) := by
  simp only [Host.reduceAdd, Ideal.hostReduceAdd_def]
  rw [Ideal.hostReduceAdd_single h' (by decide), hz, zero_add]
  refine Finset.sum_congr rfl fun j _ => congrArg x (funext fun a => Fin.ext ?_)
  match a with
  | ⟨0, _⟩ => rfl
  | ⟨1, _⟩ => rfl
  | ⟨2, _⟩ => rfl
  | ⟨3, _⟩ => rfl
  | ⟨4, _⟩ => rfl

/-- The merge of the stacked groups at an index. -/
theorem merge_apply (M L : S3x8x2048x8.Idx → EReal) (A : S3x8x2048x8x64.Idx → EReal) (a m s : Fin 3 → EReal)
    (b : Fin 8) (t : Fin 2048) (h : Fin 8) (e : Fin 64)
    (hm : ∀ g, M (ix4 g b t h) = m g) (hs : ∀ g, L (ix4 g b t h) = s g)
    (ha : ∀ g, A (ix5 g b t h e) = a g) :
    (Host.divf (F := Ideal) (φ := .f32) (Host.reduceAdd (F := Ideal) (φ := .f32) (mulf (F := Ideal) (φ := .f32) (broadcastInDim S3x8x2048x8x64 ![0, 1, 2, 3, 4] Gen.bcast_S3x8x2048x8x1_S3x8x2048x8x64_0_1_2_3_4
        (broadcastInDim S3x8x2048x8x1 ![0, 1, 2, 3] Gen.bcast_S3x8x2048x8_S3x8x2048x8x1_0_1_2_3 (shares M))) A)
        (constant S_ .f32 0x00000000#32) Gen.reducesTo_S3x8x2048x8x64_S8x2048x8x64_d0 Gen.h_S_)
      (broadcastInDim S8x2048x8x64 ![0, 1, 2, 3] Gen.bcast_S8x2048x8x1_S8x2048x8x64_0_1_2_3
        (broadcastInDim S8x2048x8x1 ![0, 1, 2] Gen.bcast_S8x2048x8_S8x2048x8x1_0_1_2
          (Host.reduceAdd (F := Ideal) (φ := .f32) (mulf (F := Ideal) (φ := .f32) (shares M) L) (constant S_ .f32 0x00000000#32) Gen.reducesTo_S3x8x2048x8_S8x2048x8_d0 Gen.h_S_)))
      : Vec Ideal S8x2048x8x64 .f32) (ix4 b t h e) = merge a m s := by
  have hw := shares_apply M m b t h hm
  generalize shares M = w at hw ⊢
  have e1 := stackSum4_apply (mulf (F := Ideal) (φ := .f32) (broadcastInDim S3x8x2048x8x64 ![0, 1, 2, 3, 4] Gen.bcast_S3x8x2048x8x1_S3x8x2048x8x64_0_1_2_3_4
        (broadcastInDim S3x8x2048x8x1 ![0, 1, 2, 3] Gen.bcast_S3x8x2048x8_S3x8x2048x8x1_0_1_2_3 w)) A)
        (constant (F := Ideal) S_ .f32 0x00000000#32) Gen.reducesTo_S3x8x2048x8x64_S8x2048x8x64_d0 Gen.h_S_ nought b t h e
  have e2 := stackSum3_apply (mulf (F := Ideal) (φ := .f32) w L) (constant (F := Ideal) S_ .f32 0x00000000#32)
    Gen.reducesTo_S3x8x2048x8_S8x2048x8_d0 Gen.h_S_ nought b t h
  rw [Fin.sum_univ_three] at e1 e2
  refine (congrArg₂ Ideal.div (e1.trans ?_) ((?_ : _ = _).trans (e2.trans ?_)) : _ = Ideal.div _ _)
  · pointwise
    rw [hw, hw, hw]
    exact congr (congrArg _ (congr (congrArg _ (congrArg _ (ha 0))) (congrArg _ (ha 1)))) (congrArg _ (ha 2))
  · generalize Host.reduceAdd (F := Ideal) (φ := .f32) _ _ _ _ = y
    pointwise
  · pointwise
    rw [hw, hw, hw]
    exact congr (congrArg _ (congr (congrArg _ (congrArg _ (hs 0))) (congrArg _ (hs 1)))) (congrArg _ (hs 2))

/-- The reference's result before its last reshape, at an index, is the attention there. -/
theorem reference_attend (b : Fin 8) (t : Fin 2048) (h : Fin 8) (e : Fin 64) :
    (res_main_v302 (F := Ideal) W : Vec Ideal S8x2048x8x64 .f32) (ix4 b t h e) = attend (Q W) (KV W) b t h e :=
  merge_apply (res_main_v280 (F := Ideal) W) _ _ _ _ _ b t h e (fun g => stacked_max W g b t h)
    (stacked3 _ _ _ (fun g => den (tokScore (Q W) (KV W) b t h g)) b t h (tokSum0 W b t h) (tokSum1 W b t h) (tokSum2 W b t h))
    (stacked4 _ _ _ (fun g => num (tokScore (Q W) (KV W) b t h g) (rowValue (KV W) b g (dil g) (t.val / (128 * dil g)) (t.val % dil g) h e)) b t h e
      (tokNum0 W b t h e) (tokNum1 W b t h e) (tokNum2 W b t h e))

/-- An array with heads and lanes apart, joined into columns, is the attention if it is so at every index. -/
theorem joined_attention (q : Vec Ideal KernelIdeal.S8x2048x1536 .f32) (kv : Vec Ideal KernelIdeal.S8x2048x3072 .f32)
    (x : S8x2048x8x64.Idx → EReal) (hx : ∀ b t h e, x (ix4 b t h e) = attend q kv b t h e) :
    shapeCast S8x2048x512 x Gen.shapeCasts_S8x2048x8x64_S8x2048x512 = attention q kv := by
  refine funext fun i => ?_
  have h2 : (i 2).val < 512 := (i 2).isLt
  refine (shapeCast_apply _ Gen.shapeCasts_S8x2048x8x64_S8x2048x512 i
    (ix4 (i 0 : Fin 8) (i 1 : Fin 2048) (⟨(i 2).val / 64, by omega⟩ : Fin 8) (⟨(i 2).val % 64, by omega⟩ : Fin 64)) ?_).trans (hx _ _ _ _)
  rw [Shape.rowMajor_val_four, Shape.rowMajor_val_three]
  show (((i 0).val * 2048 + (i 1).val) * 8 + (i 2).val / 64) * 64 + (i 2).val % 64 = ((i 0).val * 2048 + (i 1).val) * 512 + (i 2).val
  omega

/-- The reference's result is the attention. -/
theorem reference_attention :
    shapeCast S8x2048x512 (res_main_v302 (F := Ideal) W) Gen.shapeCasts_S8x2048x8x64_S8x2048x512 = attention (Q W) (KV W) :=
  joined_attention (Q W) (KV W) _ fun b t h e => reference_attend W b t h e

end Cert.Attn

end
-- ==== Proof.AttnEqual.lean ====
/-
  The kernel and the reference compute one array: the attention.
-/
module

public import proofs.«01_k».proof.Defs
public import proofs.«01_k».proof.Proof.AttnKernel
public import proofs.«01_k».proof.Proof.AttnRefMerge

@[expose] public section

noncomputable section

namespace Cert.Attn

open Idealize.ShloMosaic Idealize.ShloMosaic.TcCoe Idealize.SL.Sem Idealize.ShloMosaic.StableHlo

/-- The reference leaves the attention of what it is given, and what it is given as it was. -/
theorem run_reference (m : (ℓ : Loc ReferenceIdeal.nD ReferenceIdeal.τ ReferenceIdeal.sig) → Buf (Elt Ideal) ℓ)
    (ρ : Dev ReferenceIdeal.nD → PrngReg) :
    θ_run ReferenceIdeal.defs (onTc (τ := ReferenceIdeal.τ) (ReferenceIdeal.main (F := Ideal))) ⟨m, fun _ => 0, ρ⟩ fun r => ∀ c : Dev ReferenceIdeal.nD,
      r.2.mem ((c.tc : Thread ReferenceIdeal.nD ReferenceIdeal.τ).loc ReferenceIdeal.main_v303)
        = attention (Q (launchContents m c)) (KV (launchContents m c))
      ∧ r.2.mem ((c.tc : Thread ReferenceIdeal.nD ReferenceIdeal.τ).loc ReferenceIdeal.main_arg0)
        = m ((c.tc : Thread ReferenceIdeal.nD ReferenceIdeal.τ).loc ReferenceIdeal.main_arg0)
      ∧ r.2.mem ((c.tc : Thread ReferenceIdeal.nD ReferenceIdeal.τ).loc ReferenceIdeal.main_arg1)
        = m ((c.tc : Thread ReferenceIdeal.nD ReferenceIdeal.τ).loc ReferenceIdeal.main_arg1) :=
  (θ_run ReferenceIdeal.defs _ _).mono (fun _ h c => ⟨(h c).1.trans (reference_attention (launchContents m c)), (h c).2⟩)
    (ReferenceIdeal.Value.run (F := Ideal) m ρ)

/-- Over the extended reals the kernel and the reference leave the same array. -/
theorem equal : Cert.algebraic_KernelIdeal_ReferenceIdeal := fun m g m' g' _ h =>
  ⟨fun c => attention (given0 m c) (given1 m c), run_attention m g,
    (θ_run ReferenceIdeal.defs _ _).mono (fun _ k c => ⟨(k c).1.trans (congrArg₂ attention (h c).1 (h c).2), (k c).2⟩)
      (run_reference m' g')⟩

/-- The reference runs to its end, changes neither argument and leaves every counter at zero: it has none. -/
theorem frame_reference : Cert.quiescent_ReferenceIdeal := fun m ρ _ =>
  (θ_run ReferenceIdeal.defs _ _).mono (fun r h => ⟨fun c => (h c).2, sem_eq_zero_of_no_sems (by decide) r.2⟩)
    (run_reference m ρ)

end Cert.Attn

end
-- ==== Proof.FfnRow.lean ====
/-
  The layer's parts outside the attention, on one row of 1024 values: the normalisation, the feed-forward part with its
  gate, and the projections. Every program of these parts is shown to compute these functions of its rows.
-/
module

public import Idealize.ShloMosaic.Lib.Pointwise

@[expose] public section

noncomputable section

namespace Cert.Ffn

open Idealize.ShloMosaic

/-- A row over its root mean square, times the gains. -/
def normed (x g : Fin 1024 → EReal) (j : Fin 1024) : EReal :=
  x j * Ideal.rsqrt (Ideal.div (∑ k, x k * x k) (Ideal.ofBits FTy.f32 1149239296#32) + Ideal.ofBits FTy.f32 897988541#32) * g j

/-- A row through a matrix. -/
def through {n p : ℕ} (x : Fin n → EReal) (w : Fin n → Fin p → EReal) (j : Fin p) : EReal := ∑ k, x k * w k j

/-- The gated product of two columns. -/
def gate (a b : EReal) : EReal := a * Ideal.logistic a * b

/-- The left half of a matrix's columns. -/
abbrev left (w : Fin 1024 → Fin 5632 → EReal) (k : Fin 1024) (n : Fin 2816) : EReal := w k ⟨n.val, by omega⟩

/-- The right half of a matrix's columns. -/
abbrev right (w : Fin 1024 → Fin 5632 → EReal) (k : Fin 1024) (n : Fin 2816) : EReal := w k ⟨2816 + n.val, by omega⟩

/-- The gated hidden values of a normalised row. -/
def hidden (y : Fin 1024 → EReal) (wa wb : Fin 1024 → Fin 2816 → EReal) (n : Fin 2816) : EReal :=
  gate (through y wa n) (through y wb n)

/-- A row plus half of its feed-forward part. -/
def fed (x g : Fin 1024 → EReal) (wa wb : Fin 1024 → Fin 2816 → EReal) (wo : Fin 2816 → Fin 1024 → EReal) (j : Fin 1024) : EReal :=
  x j + Ideal.ofBits FTy.f32 1056964608#32 * through (hidden (normed x g) wa wb) wo j

/-- A row plus another row through a matrix. -/
def mixed (x : Fin 1024 → EReal) (a : Fin 512 → EReal) (w : Fin 512 → Fin 1024 → EReal) (j : Fin 1024) : EReal :=
  x j + through a w j

/-- A row of the 8 times 2048 tokens. -/
abbrev token {n : ℕ} (X : (⟨3, ![8, 2048, n]⟩ : Shape).Idx → EReal) (R : Fin 16384) (k : Fin n) : EReal :=
  X (ix3 ⟨R.val / 2048, by omega⟩ ⟨R.val % 2048, by omega⟩ k)

/-- A matrix by its rows and columns. -/
abbrev mat {n p : ℕ} (W : (⟨2, ![n, p]⟩ : Shape).Idx → EReal) (k : Fin n) (j : Fin p) : EReal := W (ix2 k j)

/-- A matrix of a stack of them. -/
abbrev layerMat {d n p : ℕ} (W : (⟨3, ![d, n, p]⟩ : Shape).Idx → EReal) (l : Fin d) (k : Fin n) (j : Fin p) : EReal := W (ix3 l k j)

/-- A vector by its places. -/
abbrev vec {n : ℕ} (g : (⟨1, ![n]⟩ : Shape).Idx → EReal) (k : Fin n) : EReal := g (ix1 k)

/-- A row of the 32 samples. -/
abbrev single {n : ℕ} (X : (⟨3, ![32, 1, n]⟩ : Shape).Idx → EReal) (R : Fin 32) (k : Fin n) : EReal := X (ix3 R 0 k)

/-- A row plus half of its feed-forward part, with the gains and the weights as they are given. -/
def fedBy (x : Fin 1024 → EReal) (G : (⟨1, ![1024]⟩ : Shape).Idx → EReal) (Wi : (⟨2, ![1024, 5632]⟩ : Shape).Idx → EReal)
    (Wo : (⟨2, ![2816, 1024]⟩ : Shape).Idx → EReal) : Fin 1024 → EReal :=
  fed x (vec G) (left (mat Wi)) (right (mat Wi)) (mat Wo)

/-- The array whose rows are given. -/
abbrev rows {n p : ℕ} (f : Fin n → Fin p → EReal) : (⟨2, ![n, p]⟩ : Shape).Idx → EReal := fun i => f (i 0) (i 1)

/-- Two arrays of rows are one if they have the same rows. -/
theorem eq_rows {n p : ℕ} {A : (⟨2, ![n, p]⟩ : Shape).Idx → EReal} {f : Fin n → Fin p → EReal} (h : ∀ R j, A (ix2 R j) = f R j) :
    A = rows f := by
  funext i
  have hi : i = ix2 (i 0) (i 1) := by funext a; match a with | ⟨0, _⟩ => rfl | ⟨1, _⟩ => rfl
  rw [hi]; exact h _ _

/-- An index of an array of rows is its row and its column. -/
theorem exists_ix2 {n p : ℕ} (i : (⟨2, ![n, p]⟩ : Shape).Idx) : ∃ R j, i = ix2 R j :=
  ⟨i 0, i 1, by funext a; match a with | ⟨0, _⟩ => rfl | ⟨1, _⟩ => rfl⟩

/-- The offset of the whole rectangle. -/
theorem no_offset : (![0, 0] : Fin 2 → ℕ) = fun _ => 0 := by funext a; match a with | ⟨0, _⟩ => rfl | ⟨1, _⟩ => rfl

/-- A sum over the 2816 hidden columns is the sum over the first 1536 plus the sum over the other 1280. -/
theorem sum_chunks (f : Fin 2816 → EReal) :
    (∑ n : Fin 1536, f ⟨n.val, by omega⟩) + (∑ n : Fin 1280, f ⟨1536 + n.val, by omega⟩) = ∑ n, f n :=
  (Fin.sum_univ_add (a := 1536) (b := 1280) f).symm

/-- The logistic function as it is written with the exponential. -/
theorem logistic_eq (x : EReal) : Ideal.div (Ideal.ofBits FTy.f32 1065353216#32) (Ideal.ofBits FTy.f32 1065353216#32 + Ideal.exp (-x))
    = Ideal.logistic x := by
  have h : Ideal.ofBits FTy.f32 1065353216#32 = 1 := by simp [Ideal.ofBits, Ideal.ieee, -EReal.coe_mul]; norm_num
  rw [h]; rfl

end Cert.Ffn

end
-- ==== Proof.FfnRefTokens.lean ====
/-
  The reference's parts on the 8 times 2048 tokens, each read at an index: they are the functions of the rows.
-/
module

public import proofs.«01_k».proof.Proof.FfnRow
public import proofs.«01_k».proof.Proof.Gen.Reference2Ideal
public import Idealize.ShloMosaic.Lib.Pointwise

@[expose] public section

set_option maxRecDepth 16384

noncomputable section

namespace Cert.Ffn.RefTokens

open Cert.Reference2Ideal Cert.Reference2Ideal.Gen Idealize.ShloMosaic Idealize.ShloMosaic.TcCoe

/-- The reference's normalisation. -/
def norm (x : FVec Ideal S8x2048x1024 .f32) (g : FVec Ideal S1024 .f32) : FVec Ideal S8x2048x1024 .f32 :=
  mulf (mulf x (broadcastInDim S8x2048x1024 ![0, 1, 2] bcast_S8x2048x1_S8x2048x1024_0_1_2 (Host.rsqrt (addf (Host.divf
    (broadcastInDim S8x2048x1 ![0, 1] bcast_S8x2048_S8x2048x1_0_1 (Host.reduceAdd (mulf x x) (constant S_ .f32 0x00000000#32) reducesTo_S8x2048x1024_S8x2048_d2 h_S_))
    (broadcastInDim S8x2048x1 ![] bcast_S_S8x2048x1 (constant S_ .f32 0x44800000#32))) (broadcastInDim S8x2048x1 ![] bcast_S_S8x2048x1 (constant S_ .f32 0x358637BD#32))))))
    (broadcastInDim S8x2048x1024 ![0, 1, 2] bcast_S1x1x1024_S8x2048x1024_0_1_2 (broadcastInDim S1x1x1024 ![2] bcast_S1024_S1x1x1024_2 g))

/-- The reference's gated hidden values, of the row through the first matrix. -/
def gated (u : FVec Ideal S8x2048x5632 .f32) : FVec Ideal S8x2048x2816 .f32 :=
  mulf (mulf (extractStridedSlice S8x2048x2816 ![0, 0, 0] u slices_S8x2048x5632_S8x2048x2816_0_0_0)
    (Host.divf (broadcastInDim S8x2048x2816 ![] bcast_S_S8x2048x2816 (constant S_ .f32 0x3F800000#32))
      (addf (broadcastInDim S8x2048x2816 ![] bcast_S_S8x2048x2816 (constant S_ .f32 0x3F800000#32))
        (Host.exp (Host.negf (extractStridedSlice S8x2048x2816 ![0, 0, 0] u slices_S8x2048x5632_S8x2048x2816_0_0_0))))))
    (extractStridedSlice S8x2048x2816 ![0, 0, 2816] u slices_S8x2048x5632_S8x2048x2816_0_0_2816)

/-- The reference's rows plus half of their feed-forward part. -/
def feed (x : FVec Ideal S8x2048x1024 .f32) (g : FVec Ideal S1024 .f32) (wi : FVec Ideal S1024x5632 .f32) (wo : FVec Ideal S2816x1024 .f32) :
    FVec Ideal S8x2048x1024 .f32 :=
  addf x (mulf (broadcastInDim S8x2048x1024 ![] bcast_S_S8x2048x1024 (constant S_ .f32 0x3F000000#32))
    (Host.dotGeneral dot_S8x2048x2816_S2816x1024_S8x2048x1024_2_0_01_1_n_n none
      (gated (Host.dotGeneral dot_S8x2048x1024_S1024x5632_S8x2048x5632_2_0_01_1_n_n none (norm x g) wi)) wo))

theorem norm_apply (x : FVec Ideal S8x2048x1024 .f32) (g : FVec Ideal S1024 .f32) (b : Fin 8) (t : Fin 2048) (k : Fin 1024) :
    norm x g (ix3 b t k) = normed (fun k => x (ix3 b t k)) (vec g) k := by
  unfold norm; pointwise; rfl

theorem gated_apply (u : FVec Ideal S8x2048x5632 .f32) (b : Fin 8) (t : Fin 2048) (n : Fin 2816) :
    gated u (ix3 b t n) = gate (u (ix3 b t ⟨n.val, by omega⟩)) (u (ix3 b t ⟨2816 + n.val, by omega⟩)) := by
  unfold gate; rw [← logistic_eq]; unfold gated; pointwise

theorem feed_apply (x : FVec Ideal S8x2048x1024 .f32) (g : FVec Ideal S1024 .f32) (wi : FVec Ideal S1024x5632 .f32) (wo : FVec Ideal S2816x1024 .f32)
    (b : Fin 8) (t : Fin 2048) (k : Fin 1024) :
    feed x g wi wo (ix3 b t k) = fedBy (fun k => x (ix3 b t k)) g wi wo k := by
  unfold feed
  generalize hy : norm x g = y
  pointwise
  simp only [gated_apply]
  pointwise
  subst hy
  simp only [norm_apply]
  rfl

/-- The reference's output projection, added. -/
def mix (x : FVec Ideal S8x2048x1024 .f32) (a : FVec Ideal S8x2048x512 .f32) (w : FVec Ideal S512x1024 .f32) : FVec Ideal S8x2048x1024 .f32 :=
  addf x (Host.dotGeneral dot_S8x2048x512_S512x1024_S8x2048x1024_2_0_01_1_n_n none a w)

theorem mix_apply (x : FVec Ideal S8x2048x1024 .f32) (a : FVec Ideal S8x2048x512 .f32) (w : FVec Ideal S512x1024 .f32)
    (b : Fin 8) (t : Fin 2048) (k : Fin 1024) :
    mix x a w (ix3 b t k) = mixed (fun k => x (ix3 b t k)) (fun k => a (ix3 b t k)) (mat w) k := by
  unfold mix; pointwise; rfl

end Cert.Ffn.RefTokens

end
-- ==== Proof.FfnLast.lean ====
/-
  The last layer of the prompt: the attention's output projection, the feed-forward part and the final normalisation. A grid
  point holds 512 rows, and what it writes back is those rows of the whole array.
-/
module

public import proofs.«01_k».proof.Proof.FfnRow
public import proofs.«01_k».proof.Proof.Gen.Kernel2Ideal.Value
public import Idealize.ShloMosaic.Lib.Pipeline.ValueKit.Geometry
public import Idealize.ShloMosaic.Lib.Pipeline.ValueKit.Basic
public import Idealize.ShloMosaic.Lib.StableHlo.Run

@[expose] public section

set_option maxRecDepth 16384

noncomputable section

namespace Cert.Ffn.Last

open Cert.Kernel2Ideal Cert.Kernel2Ideal.Gen Idealize.ShloMosaic Idealize.ShloMosaic.TcCoe Idealize.SL.Sem

/-- What a point computes of its blocks, at a row and a column. -/
theorem block (x0 : Vec Ideal S512x1024 .f32) (x1 : Vec Ideal S512x512 .f32) (x2 : Vec Ideal S1x512x1024 .bf16) (x3 : Vec Ideal S1x1024 .f32)
    (x4 x5 : Vec Ideal S1024x2816 .bf16) (x6 : Vec Ideal S2816x1024 .bf16) (x7 : Vec Ideal S1x1024 .f32) (r : Fin 512) (j : Fin 1024) :
    out0_8 x0 x1 x2 x3 x4 x5 x6 x7 (ix2 r j)
      = normed (fed (mixed (mat x0 r) (mat x1 r) (layerMat x2 0)) (mat x3 0) (mat x4) (mat x5) (mat x6)) (mat x7 0) j := by
  unfold out0_8
  rw [View.canon_unit_zero no_offset]
  unfold k0_pay1 k0_pay4 k0_pay3 k0_pay2
  pointwise
  simp only [normed, fed, mixed, hidden, gate, through, ← sum_chunks]

variable (m : (ℓ : Loc nD τ sig) → Buf (Elt Ideal) ℓ) (c : Dev nD)

abbrev given0 : Vec Ideal S8x2048x1024 .f32 := m (c, Proc.tc.devRef main_arg0)
abbrev given1 : Vec Ideal S8x2048x512 .f32 := m (c, Proc.tc.devRef main_arg1)
abbrev given2 : Vec Ideal S1024 .f32 := m (c, Proc.tc.devRef main_arg2)
abbrev given3 : Vec Ideal S1024x5632 .f32 := m (c, Proc.tc.devRef main_arg3)
abbrev given4 : Vec Ideal S2816x1024 .f32 := m (c, Proc.tc.devRef main_arg4)
abbrev given5 : Vec Ideal S1024 .f32 := m (c, Proc.tc.devRef main_arg5)
abbrev given6 : Vec Ideal S2x512x1024 .f32 := m (c, Proc.tc.devRef main_arg6)

theorem i0 : ∀ t : Fin cfg0.N, win0_0.index t = ![t.val, 0] := (by decide +kernel : ∀ t : Fin grid0.N, _)
theorem i1 : ∀ t : Fin cfg0.N, win0_1.index t = ![t.val, 0] := (by decide +kernel : ∀ t : Fin grid0.N, _)
theorem i2 : ∀ t : Fin cfg0.N, win0_2.index t = ![1, 0, 0] := (by decide +kernel : ∀ t : Fin grid0.N, _)
theorem i3 : ∀ t : Fin cfg0.N, win0_3.index t = ![0, 0] := (by decide +kernel : ∀ t : Fin grid0.N, _)
theorem i4 : ∀ t : Fin cfg0.N, win0_4.index t = ![0, 0] := (by decide +kernel : ∀ t : Fin grid0.N, _)
theorem i5 : ∀ t : Fin cfg0.N, win0_5.index t = ![0, 0] := (by decide +kernel : ∀ t : Fin grid0.N, _)
theorem i6 : ∀ t : Fin cfg0.N, win0_6.index t = ![0, 0] := (by decide +kernel : ∀ t : Fin grid0.N, _)
theorem i7 : ∀ t : Fin cfg0.N, win0_7.index t = ![0, 0] := (by decide +kernel : ∀ t : Fin grid0.N, _)
theorem i8 : ∀ t : Fin cfg0.N, win0_8.index t = ![t.val, 0] := (by decide +kernel : ∀ t : Fin grid0.N, _)

/-- The row of the whole array that a point's block holds at `r`. -/
abbrev row (t : Fin cfg0.N) (r : Fin 512) : Fin 16384 := ⟨t.val * 512 + r.val, by have h : t.val < 32 := t.isLt; omega⟩

theorem window0 (t : Fin cfg0.N) (r : Fin 512) : mat (iblk m c 0 t : Vec Ideal S512x1024 .f32) r = token (given0 m c) (row t r) := by
  funext j
  show (V m c main_v0 : Vec Ideal S16384x1024 .f32) ((win0_0.blk t).view.emb (ix2 r j)) = _
  rw [show (win0_0.blk t).view.emb (ix2 r j) = ix2 (row t r) j by blk_ext [i0, ix2]]
  unfold V; after_results_simp; pointwise
theorem window1 (t : Fin cfg0.N) (r : Fin 512) : mat (iblk m c 1 t : Vec Ideal S512x512 .f32) r = token (given1 m c) (row t r) := by
  funext j
  show (V m c main_v6 : Vec Ideal S16384x512 .f32) ((win0_1.blk t).view.emb (ix2 r j)) = _
  rw [show (win0_1.blk t).view.emb (ix2 r j) = ix2 (row t r) j by blk_ext [i1, ix2]]
  unfold V; after_results_simp; pointwise
theorem window2 (t : Fin cfg0.N) : layerMat (iblk m c 2 t : Vec Ideal S1x512x1024 .bf16) 0 = layerMat (given6 m c) 1 := by
  funext k n
  show (V m c main_v7 : Vec Ideal S2x512x1024 .bf16) ((win0_2.blk t).view.emb (ix3 0 k n)) = _
  rw [show (win0_2.blk t).view.emb (ix3 0 k n) = ix3 1 k n by blk_ext [i2, ix3]]
  unfold V; after_results_simp; pointwise
theorem window3 (t : Fin cfg0.N) : mat (iblk m c 3 t : Vec Ideal S1x1024 .f32) 0 = vec (given2 m c) := by
  funext j
  show (V m c main_v8 : Vec Ideal S1x1024 .f32) ((win0_3.blk t).view.emb (ix2 0 j)) = _
  rw [show (win0_3.blk t).view.emb (ix2 0 j) = ix2 0 j by blk_ext [i3, ix2]]
  unfold V; after_results_simp; pointwise
theorem window4 (t : Fin cfg0.N) : mat (iblk m c 4 t : Vec Ideal S1024x2816 .bf16) = left (mat (given3 m c)) := by
  funext k n
  show (V m c main_v2 : Vec Ideal S1024x2816 .bf16) ((win0_4.blk t).view.emb (ix2 k n)) = _
  rw [show (win0_4.blk t).view.emb (ix2 k n) = ix2 k n by blk_ext [i4, ix2]]
  unfold V; after_results_simp; pointwise
theorem window5 (t : Fin cfg0.N) : mat (iblk m c 5 t : Vec Ideal S1024x2816 .bf16) = right (mat (given3 m c)) := by
  funext k n
  show (V m c main_v4 : Vec Ideal S1024x2816 .bf16) ((win0_5.blk t).view.emb (ix2 k n)) = _
  rw [show (win0_5.blk t).view.emb (ix2 k n) = ix2 k n by blk_ext [i5, ix2]]
  unfold V; after_results_simp; pointwise
theorem window6 (t : Fin cfg0.N) : mat (iblk m c 6 t : Vec Ideal S2816x1024 .bf16) = mat (given4 m c) := by
  funext k n
  show (V m c main_v5 : Vec Ideal S2816x1024 .bf16) ((win0_6.blk t).view.emb (ix2 k n)) = _
  rw [show (win0_6.blk t).view.emb (ix2 k n) = ix2 k n by blk_ext [i6, ix2]]
  unfold V; after_results_simp; pointwise
theorem window7 (t : Fin cfg0.N) : mat (iblk m c 7 t : Vec Ideal S1x1024 .f32) 0 = vec (given5 m c) := by
  funext j
  show (V m c main_v9 : Vec Ideal S1x1024 .f32) ((win0_7.blk t).view.emb (ix2 0 j)) = _
  rw [show (win0_7.blk t).view.emb (ix2 0 j) = ix2 0 j by blk_ext [i7, ix2]]
  unfold V; after_results_simp; pointwise

/-- The rows the program returns, of what it is given. -/
abbrev result (H : Vec Ideal S8x2048x1024 .f32) (A : Vec Ideal S8x2048x512 .f32) (G : Vec Ideal S1024 .f32) (Wi : Vec Ideal S1024x5632 .f32)
    (Wo : Vec Ideal S2816x1024 .f32) (Gf : Vec Ideal S1024 .f32) (P : Vec Ideal S2x512x1024 .f32) : Vec Ideal S16384x1024 .f32 :=
  rows fun R => normed (fedBy (mixed (token H R) (token A R) (layerMat P 1)) G Wi Wo) (vec Gf)

theorem array : (dats m 0 c).arrAt 8 cfg0.N
    = result (given0 m c) (given1 m c) (given2 m c) (given3 m c) (given4 m c) (given5 m c) (given6 m c) := by
  refine (dats m 0 c).arrAt_eq_of_covers 8 _ (by decide +kernel) fun t hf y => ?_
  blk_simp
  rw [after0_8]
  obtain ⟨r, j, rfl⟩ := exists_ix2 (n := 512) (p := 1024) y
  rw [show (win0_8.blk t).view.emb (ix2 r j) = ix2 (row t r) j by blk_ext [i8, ix2]]
  refine (block _ _ _ _ _ _ _ _ r j).trans ?_
  rw [window0, window1, window2, window3, window4, window5, window6, window7]
  rfl

end Cert.Ffn.Last

end
-- ==== Proof.FfnFirst.lean ====
/-
  A feed-forward part of the prompt, with the next part's weights brought into the form that part reads. A grid point holds
  512 rows and a block of the next weights, and what it writes back is those rows and that block of the whole arrays.
-/
module

public import proofs.«01_k».proof.Proof.FfnRow
public import proofs.«01_k».proof.Proof.Gen.Kernel4Ideal.Value
public import Idealize.ShloMosaic.Lib.Pipeline.ValueKit.Geometry
public import Idealize.ShloMosaic.Lib.Pipeline.ValueKit.Basic
public import Idealize.ShloMosaic.Lib.StableHlo.Run

@[expose] public section

set_option maxRecDepth 16384

noncomputable section

namespace Cert.Ffn.First

open Cert.Kernel4Ideal Cert.Kernel4Ideal.Gen Idealize.ShloMosaic Idealize.ShloMosaic.TcCoe Idealize.SL.Sem

/-- What a point computes of its blocks, at a row and a column. -/
theorem block (x0 : Vec Ideal S512x1024 .f32) (x1 : Vec Ideal S1x1024 .f32) (x2 x3 : Vec Ideal S1024x2816 .bf16) (x4 : Vec Ideal S2816x1024 .bf16)
    (x5 x6 : Vec Ideal S1x32x2816 .f32) (x7 : Vec Ideal S1x176x1024 .f32) (r : Fin 512) (j : Fin 1024) :
    out0_8 x0 x1 x2 x3 x4 x5 x6 x7 (ix2 r j) = fed (mat x0 r) (mat x1 0) (mat x2) (mat x3) (mat x4) j := by
  unfold out0_8
  rw [View.canon_unit_zero no_offset]
  unfold k0_pay1 k0_pay10 k0_pay9 k0_pay8 k0_pay7 k0_pay6 k0_pay5
  pointwise
  simp only [normed, fed, hidden, gate, through, ← sum_chunks]

/-- What a point writes of the next weights is what it reads of them. -/
theorem cast_left (x0 : Vec Ideal S512x1024 .f32) (x1 : Vec Ideal S1x1024 .f32) (x2 x3 : Vec Ideal S1024x2816 .bf16)
    (x4 : Vec Ideal S2816x1024 .bf16) (x5 x6 : Vec Ideal S1x32x2816 .f32) (x7 : Vec Ideal S1x176x1024 .f32) (r : Fin 32) (n : Fin 2816) :
    out0_9 x0 x1 x2 x3 x4 x5 x6 x7 (ix2 r n) = layerMat x5 0 r n := by
  unfold out0_9; rw [View.canon_unit_zero no_offset]; unfold k0_pay2; pointwise
theorem cast_right (x0 : Vec Ideal S512x1024 .f32) (x1 : Vec Ideal S1x1024 .f32) (x2 x3 : Vec Ideal S1024x2816 .bf16)
    (x4 : Vec Ideal S2816x1024 .bf16) (x5 x6 : Vec Ideal S1x32x2816 .f32) (x7 : Vec Ideal S1x176x1024 .f32) (r : Fin 32) (n : Fin 2816) :
    out0_10 x0 x1 x2 x3 x4 x5 x6 x7 (ix2 r n) = layerMat x6 0 r n := by
  unfold out0_10; rw [View.canon_unit_zero no_offset]; unfold k0_pay3; pointwise
theorem cast_out (x0 : Vec Ideal S512x1024 .f32) (x1 : Vec Ideal S1x1024 .f32) (x2 x3 : Vec Ideal S1024x2816 .bf16)
    (x4 : Vec Ideal S2816x1024 .bf16) (x5 x6 : Vec Ideal S1x32x2816 .f32) (x7 : Vec Ideal S1x176x1024 .f32) (r : Fin 176) (n : Fin 1024) :
    out0_11 x0 x1 x2 x3 x4 x5 x6 x7 (ix2 r n) = layerMat x7 0 r n := by
  unfold out0_11; rw [View.canon_unit_zero no_offset]; unfold k0_pay4; pointwise

variable (m : (ℓ : Loc nD τ sig) → Buf (Elt Ideal) ℓ) (c : Dev nD)

abbrev given0 : Vec Ideal S8x2048x1024 .f32 := m (c, Proc.tc.devRef main_arg0)
abbrev given1 : Vec Ideal S1024 .f32 := m (c, Proc.tc.devRef main_arg1)
abbrev given2 : Vec Ideal S1024x5632 .f32 := m (c, Proc.tc.devRef main_arg2)
abbrev given3 : Vec Ideal S2816x1024 .f32 := m (c, Proc.tc.devRef main_arg3)
abbrev given4 : Vec Ideal S4x1024x5632 .f32 := m (c, Proc.tc.devRef main_arg4)
abbrev given5 : Vec Ideal S4x2816x1024 .f32 := m (c, Proc.tc.devRef main_arg5)

theorem i0 : ∀ t : Fin cfg0.N, win0_0.index t = ![t.val, 0] := (by decide +kernel : ∀ t : Fin grid0.N, _)
theorem i1 : ∀ t : Fin cfg0.N, win0_1.index t = ![0, 0] := (by decide +kernel : ∀ t : Fin grid0.N, _)
theorem i2 : ∀ t : Fin cfg0.N, win0_2.index t = ![0, 0] := (by decide +kernel : ∀ t : Fin grid0.N, _)
theorem i3 : ∀ t : Fin cfg0.N, win0_3.index t = ![0, 0] := (by decide +kernel : ∀ t : Fin grid0.N, _)
theorem i4 : ∀ t : Fin cfg0.N, win0_4.index t = ![0, 0] := (by decide +kernel : ∀ t : Fin grid0.N, _)
theorem i5 : ∀ t : Fin cfg0.N, win0_5.index t = ![0, t.val, 0] := (by decide +kernel : ∀ t : Fin grid0.N, _)
theorem i6 : ∀ t : Fin cfg0.N, win0_6.index t = ![0, t.val, 1] := (by decide +kernel : ∀ t : Fin grid0.N, _)
theorem i7 : ∀ t : Fin cfg0.N, win0_7.index t = ![0, t.val / 2, 0] := (by decide +kernel : ∀ t : Fin grid0.N, _)
theorem i8 : ∀ t : Fin cfg0.N, win0_8.index t = ![t.val, 0] := (by decide +kernel : ∀ t : Fin grid0.N, _)
theorem i9 : ∀ t : Fin cfg0.N, win0_9.index t = ![t.val, 0] := (by decide +kernel : ∀ t : Fin grid0.N, _)
theorem i10 : ∀ t : Fin cfg0.N, win0_10.index t = ![t.val, 0] := (by decide +kernel : ∀ t : Fin grid0.N, _)
theorem i11 : ∀ t : Fin cfg0.N, win0_11.index t = ![t.val / 2, 0] := (by decide +kernel : ∀ t : Fin grid0.N, _)

/-- The row of the whole array that a point's block holds at `r`. -/
abbrev row (t : Fin cfg0.N) (r : Fin 512) : Fin 16384 := ⟨t.val * 512 + r.val, by have h : t.val < 32 := t.isLt; omega⟩

theorem window0 (t : Fin cfg0.N) (r : Fin 512) : mat (iblk m c 0 t : Vec Ideal S512x1024 .f32) r = token (given0 m c) (row t r) := by
  funext j
  show (V m c main_v0 : Vec Ideal S16384x1024 .f32) ((win0_0.blk t).view.emb (ix2 r j)) = _
  rw [show (win0_0.blk t).view.emb (ix2 r j) = ix2 (row t r) j by blk_ext [i0, ix2]]
  unfold V; after_results_simp; pointwise
theorem window1 (t : Fin cfg0.N) : mat (iblk m c 1 t : Vec Ideal S1x1024 .f32) 0 = vec (given1 m c) := by
  funext j
  show (V m c main_v6 : Vec Ideal S1x1024 .f32) ((win0_1.blk t).view.emb (ix2 0 j)) = _
  rw [show (win0_1.blk t).view.emb (ix2 0 j) = ix2 0 j by blk_ext [i1, ix2]]
  unfold V; after_results_simp; pointwise
theorem window2 (t : Fin cfg0.N) : mat (iblk m c 2 t : Vec Ideal S1024x2816 .bf16) = left (mat (given2 m c)) := by
  funext k n
  show (V m c main_v2 : Vec Ideal S1024x2816 .bf16) ((win0_2.blk t).view.emb (ix2 k n)) = _
  rw [show (win0_2.blk t).view.emb (ix2 k n) = ix2 k n by blk_ext [i2, ix2]]
  unfold V; after_results_simp; pointwise
theorem window3 (t : Fin cfg0.N) : mat (iblk m c 3 t : Vec Ideal S1024x2816 .bf16) = right (mat (given2 m c)) := by
  funext k n
  show (V m c main_v4 : Vec Ideal S1024x2816 .bf16) ((win0_3.blk t).view.emb (ix2 k n)) = _
  rw [show (win0_3.blk t).view.emb (ix2 k n) = ix2 k n by blk_ext [i3, ix2]]
  unfold V; after_results_simp; pointwise
theorem window4 (t : Fin cfg0.N) : mat (iblk m c 4 t : Vec Ideal S2816x1024 .bf16) = mat (given3 m c) := by
  funext k n
  show (V m c main_v5 : Vec Ideal S2816x1024 .bf16) ((win0_4.blk t).view.emb (ix2 k n)) = _
  rw [show (win0_4.blk t).view.emb (ix2 k n) = ix2 k n by blk_ext [i4, ix2]]
  unfold V; after_results_simp; pointwise

theorem array : (dats m 0 c).arrAt 8 cfg0.N = rows fun R => fedBy (token (given0 m c) R) (given1 m c) (given2 m c) (given3 m c) := by
  refine (dats m 0 c).arrAt_eq_of_covers 8 _ (by decide +kernel) fun t hf y => ?_
  blk_simp
  rw [after0_8]
  obtain ⟨r, j, rfl⟩ := exists_ix2 (n := 512) (p := 1024) y
  rw [show (win0_8.blk t).view.emb (ix2 r j) = ix2 (row t r) j by blk_ext [i8, ix2]]
  refine (block _ _ _ _ _ _ _ _ r j).trans ?_
  rw [window0, window1, window2, window3, window4]
  rfl

/-- The row of the next weights that a point's block holds at `r`. -/
abbrev inRow (t : Fin cfg0.N) (r : Fin 32) : Fin 1024 := ⟨t.val * 32 + r.val, by have h : t.val < 32 := t.isLt; omega⟩
abbrev outRow (t : Fin cfg0.N) (r : Fin 176) : Fin 2816 := ⟨t.val / 2 * 176 + r.val, by have h : t.val < 32 := t.isLt; omega⟩

theorem window5 (t : Fin cfg0.N) (r : Fin 32) :
    layerMat (iblk m c 5 t : Vec Ideal S1x32x2816 .f32) 0 r = left (layerMat (given4 m c) 0) (inRow t r) := by
  funext n
  show V m c main_arg4 ((win0_5.blk t).view.emb (ix3 0 r n)) = _
  rw [V_main_arg4, show (win0_5.blk t).view.emb (ix3 0 r n) = ix3 0 (inRow t r) ⟨n.val, by omega⟩ by blk_ext [i5, ix3] <;> rfl]
theorem window6 (t : Fin cfg0.N) (r : Fin 32) :
    layerMat (iblk m c 6 t : Vec Ideal S1x32x2816 .f32) 0 r = right (layerMat (given4 m c) 0) (inRow t r) := by
  funext n
  show V m c main_arg4 ((win0_6.blk t).view.emb (ix3 0 r n)) = _
  rw [V_main_arg4, show (win0_6.blk t).view.emb (ix3 0 r n) = ix3 0 (inRow t r) ⟨2816 + n.val, by omega⟩ by blk_ext [i6, ix3] <;> rfl]
theorem window7 (t : Fin cfg0.N) (r : Fin 176) :
    layerMat (iblk m c 7 t : Vec Ideal S1x176x1024 .f32) 0 r = layerMat (given5 m c) 0 (outRow t r) := by
  funext n
  show V m c main_arg5 ((win0_7.blk t).view.emb (ix3 0 r n)) = _
  rw [V_main_arg5, show (win0_7.blk t).view.emb (ix3 0 r n) = ix3 0 (outRow t r) n by blk_ext [i7, ix3] <;> rfl]

theorem castLeft : (dats m 0 c).arrAt 9 cfg0.N = rows (left (layerMat (given4 m c) 0)) := by
  refine (dats m 0 c).arrAt_eq_of_covers 9 _ (by decide +kernel) fun t hf y => ?_
  blk_simp
  rw [after0_9]
  obtain ⟨r, n, rfl⟩ := exists_ix2 (n := 32) (p := 2816) y
  rw [show (win0_9.blk t).view.emb (ix2 r n) = ix2 (inRow t r) n by blk_ext [i9, ix2]]
  refine (cast_left _ _ _ _ _ _ _ _ r n).trans ?_
  rw [window5]
  rfl

theorem castRight : (dats m 0 c).arrAt 10 cfg0.N = rows (right (layerMat (given4 m c) 0)) := by
  refine (dats m 0 c).arrAt_eq_of_covers 10 _ (by decide +kernel) fun t hf y => ?_
  blk_simp
  rw [after0_10]
  obtain ⟨r, n, rfl⟩ := exists_ix2 (n := 32) (p := 2816) y
  rw [show (win0_10.blk t).view.emb (ix2 r n) = ix2 (inRow t r) n by blk_ext [i10, ix2]]
  refine (cast_right _ _ _ _ _ _ _ _ r n).trans ?_
  rw [window6]
  rfl

theorem castOut : (dats m 0 c).arrAt 11 cfg0.N = rows (layerMat (given5 m c) 0) := by
  refine (dats m 0 c).arrAt_eq_of_covers 11 _ (by decide +kernel) fun t hf y => ?_
  blk_simp
  rw [after0_11]
  obtain ⟨r, n, rfl⟩ := exists_ix2 (n := 176) (p := 1024) y
  rw [show (win0_11.blk t).view.emb (ix2 r n) = ix2 (outRow t r) n by blk_ext [i11, ix2]]
  refine (cast_out _ _ _ _ _ _ _ _ r n).trans ?_
  rw [window7]
  rfl

end Cert.Ffn.First

end
-- ==== Proof.FfnQuery.lean ====
/-
  The first feed-forward part of a layer with attention: the part, the projection of the queries of the normalised rows, and
  the next part's weights brought into the form that part reads.
-/
module

public import proofs.«01_k».proof.Proof.FfnRow
public import proofs.«01_k».proof.Proof.Gen.Kernel5Ideal.Value
public import Idealize.ShloMosaic.Lib.Pipeline.ValueKit.Geometry
public import Idealize.ShloMosaic.Lib.Pipeline.ValueKit.Basic
public import Idealize.ShloMosaic.Lib.StableHlo.Run

@[expose] public section

set_option maxRecDepth 16384

noncomputable section

namespace Cert.Ffn.Query

open Cert.Kernel5Ideal Cert.Kernel5Ideal.Gen Idealize.ShloMosaic Idealize.ShloMosaic.TcCoe Idealize.SL.Sem

/-- What a point computes of its blocks, at a row and a column. -/
theorem block (x0 : Vec Ideal S512x1024 .f32) (x1 : Vec Ideal S1x1024 .f32) (x2 x3 : Vec Ideal S1024x2816 .bf16) (x4 : Vec Ideal S2816x1024 .bf16)
    (x5 : Vec Ideal S1x1024 .f32) (x6 : Vec Ideal S1x1024x1536 .bf16) (x7 x8 : Vec Ideal S1x32x2816 .f32) (x9 : Vec Ideal S1x176x1024 .f32)
    (r : Fin 512) (j : Fin 1024) : out0_10 x0 x1 x2 x3 x4 x5 x6 x7 x8 x9 (ix2 r j) = fed (mat x0 r) (mat x1 0) (mat x2) (mat x3) (mat x4) j := by
  unfold out0_10
  rw [View.canon_unit_zero no_offset]
  unfold k0_pay16 k0_pay15 k0_pay14 k0_pay13 k0_pay12 k0_pay9 k0_pay8 k0_pay7 k0_pay6 k0_pay5 k0_pay4 k0_pay3
  pointwise
  simp only [normed, fed, hidden, gate, through, ← sum_chunks]

/-- The queries a point computes. -/
theorem queries (x0 : Vec Ideal S512x1024 .f32) (x1 : Vec Ideal S1x1024 .f32) (x2 x3 : Vec Ideal S1024x2816 .bf16) (x4 : Vec Ideal S2816x1024 .bf16)
    (x5 : Vec Ideal S1x1024 .f32) (x6 : Vec Ideal S1x1024x1536 .bf16) (x7 x8 : Vec Ideal S1x32x2816 .f32) (x9 : Vec Ideal S1x176x1024 .f32)
    (r : Fin 512) (j : Fin 1536) : out0_11 x0 x1 x2 x3 x4 x5 x6 x7 x8 x9 (ix2 r j)
      = through (normed (fed (mat x0 r) (mat x1 0) (mat x2) (mat x3) (mat x4)) (mat x5 0)) (layerMat x6 0) j
        * Ideal.ofBits FTy.f32 1040187392#32 := by
  unfold out0_11
  rw [View.canon_unit_zero no_offset]
  unfold k0_pay16 k0_pay15 k0_pay14 k0_pay13 k0_pay12 k0_pay10 k0_pay9 k0_pay8 k0_pay7 k0_pay6 k0_pay5 k0_pay4 k0_pay3
  pointwise
  simp only [normed, fed, hidden, gate, through, ← sum_chunks]

/-- What a point writes of the next weights is what it reads of them. -/
theorem cast_left (x0 : Vec Ideal S512x1024 .f32) (x1 : Vec Ideal S1x1024 .f32) (x2 x3 : Vec Ideal S1024x2816 .bf16) (x4 : Vec Ideal S2816x1024 .bf16)
    (x5 : Vec Ideal S1x1024 .f32) (x6 : Vec Ideal S1x1024x1536 .bf16) (x7 x8 : Vec Ideal S1x32x2816 .f32) (x9 : Vec Ideal S1x176x1024 .f32)
    (r : Fin 32) (n : Fin 2816) :
    out0_12 x0 x1 x2 x3 x4 x5 x6 x7 x8 x9 (ix2 r n) = layerMat x7 0 r n := by
  unfold out0_12; rw [View.canon_unit_zero no_offset]; unfold k0_pay11; pointwise
theorem cast_right (x0 : Vec Ideal S512x1024 .f32) (x1 : Vec Ideal S1x1024 .f32) (x2 x3 : Vec Ideal S1024x2816 .bf16) (x4 : Vec Ideal S2816x1024 .bf16)
    (x5 : Vec Ideal S1x1024 .f32) (x6 : Vec Ideal S1x1024x1536 .bf16) (x7 x8 : Vec Ideal S1x32x2816 .f32) (x9 : Vec Ideal S1x176x1024 .f32)
    (r : Fin 32) (n : Fin 2816) :
    out0_13 x0 x1 x2 x3 x4 x5 x6 x7 x8 x9 (ix2 r n) = layerMat x8 0 r n := by
  unfold out0_13; rw [View.canon_unit_zero no_offset]; unfold k0_pay1; pointwise
theorem cast_out (x0 : Vec Ideal S512x1024 .f32) (x1 : Vec Ideal S1x1024 .f32) (x2 x3 : Vec Ideal S1024x2816 .bf16) (x4 : Vec Ideal S2816x1024 .bf16)
    (x5 : Vec Ideal S1x1024 .f32) (x6 : Vec Ideal S1x1024x1536 .bf16) (x7 x8 : Vec Ideal S1x32x2816 .f32) (x9 : Vec Ideal S1x176x1024 .f32)
    (r : Fin 176) (n : Fin 1024) :
    out0_14 x0 x1 x2 x3 x4 x5 x6 x7 x8 x9 (ix2 r n) = layerMat x9 0 r n := by
  unfold out0_14; rw [View.canon_unit_zero no_offset]; unfold k0_pay2; pointwise

variable (m : (ℓ : Loc nD τ sig) → Buf (Elt Ideal) ℓ) (c : Dev nD)

abbrev given0 : Vec Ideal S8x2048x1024 .f32 := m (c, Proc.tc.devRef main_arg0)
abbrev given1 : Vec Ideal S1024 .f32 := m (c, Proc.tc.devRef main_arg1)
abbrev given2 : Vec Ideal S1024x5632 .f32 := m (c, Proc.tc.devRef main_arg2)
abbrev given3 : Vec Ideal S2816x1024 .f32 := m (c, Proc.tc.devRef main_arg3)
abbrev given4 : Vec Ideal S1024 .f32 := m (c, Proc.tc.devRef main_arg4)
abbrev given5 : Vec Ideal S2x1024x1536 .f32 := m (c, Proc.tc.devRef main_arg5)
abbrev given6 : Vec Ideal S4x1024x5632 .f32 := m (c, Proc.tc.devRef main_arg6)
abbrev given7 : Vec Ideal S4x2816x1024 .f32 := m (c, Proc.tc.devRef main_arg7)

theorem i0 : ∀ t : Fin cfg0.N, win0_0.index t = ![t.val, 0] := (by decide +kernel : ∀ t : Fin grid0.N, _)
theorem i1 : ∀ t : Fin cfg0.N, win0_1.index t = ![0, 0] := (by decide +kernel : ∀ t : Fin grid0.N, _)
theorem i2 : ∀ t : Fin cfg0.N, win0_2.index t = ![0, 0] := (by decide +kernel : ∀ t : Fin grid0.N, _)
theorem i3 : ∀ t : Fin cfg0.N, win0_3.index t = ![0, 0] := (by decide +kernel : ∀ t : Fin grid0.N, _)
theorem i4 : ∀ t : Fin cfg0.N, win0_4.index t = ![0, 0] := (by decide +kernel : ∀ t : Fin grid0.N, _)
theorem i5 : ∀ t : Fin cfg0.N, win0_5.index t = ![0, 0] := (by decide +kernel : ∀ t : Fin grid0.N, _)
theorem i6 : ∀ t : Fin cfg0.N, win0_6.index t = ![0, 0, 0] := (by decide +kernel : ∀ t : Fin grid0.N, _)
theorem i7 : ∀ t : Fin cfg0.N, win0_7.index t = ![2, t.val, 0] := (by decide +kernel : ∀ t : Fin grid0.N, _)
theorem i8 : ∀ t : Fin cfg0.N, win0_8.index t = ![2, t.val, 1] := (by decide +kernel : ∀ t : Fin grid0.N, _)
theorem i9 : ∀ t : Fin cfg0.N, win0_9.index t = ![2, t.val / 2, 0] := (by decide +kernel : ∀ t : Fin grid0.N, _)
theorem i10 : ∀ t : Fin cfg0.N, win0_10.index t = ![t.val, 0] := (by decide +kernel : ∀ t : Fin grid0.N, _)
theorem i11 : ∀ t : Fin cfg0.N, win0_11.index t = ![t.val, 0] := (by decide +kernel : ∀ t : Fin grid0.N, _)
theorem i12 : ∀ t : Fin cfg0.N, win0_12.index t = ![t.val, 0] := (by decide +kernel : ∀ t : Fin grid0.N, _)
theorem i13 : ∀ t : Fin cfg0.N, win0_13.index t = ![t.val, 0] := (by decide +kernel : ∀ t : Fin grid0.N, _)
theorem i14 : ∀ t : Fin cfg0.N, win0_14.index t = ![t.val / 2, 0] := (by decide +kernel : ∀ t : Fin grid0.N, _)

/-- The row of the whole array that a point's block holds at `r`. -/
abbrev row (t : Fin cfg0.N) (r : Fin 512) : Fin 16384 := ⟨t.val * 512 + r.val, by have h : t.val < 32 := t.isLt; omega⟩

theorem window0 (t : Fin cfg0.N) (r : Fin 512) : mat (iblk m c 0 t : Vec Ideal S512x1024 .f32) r = token (given0 m c) (row t r) := by
  funext j
  show (V m c main_v0 : Vec Ideal S16384x1024 .f32) ((win0_0.blk t).view.emb (ix2 r j)) = _
  rw [show (win0_0.blk t).view.emb (ix2 r j) = ix2 (row t r) j by blk_ext [i0, ix2]]
  unfold V; after_results_simp; pointwise
theorem window1 (t : Fin cfg0.N) : mat (iblk m c 1 t : Vec Ideal S1x1024 .f32) 0 = vec (given1 m c) := by
  funext j
  show (V m c main_v7 : Vec Ideal S1x1024 .f32) ((win0_1.blk t).view.emb (ix2 0 j)) = _
  rw [show (win0_1.blk t).view.emb (ix2 0 j) = ix2 0 j by blk_ext [i1, ix2]]
  unfold V; after_results_simp; pointwise
theorem window2 (t : Fin cfg0.N) : mat (iblk m c 2 t : Vec Ideal S1024x2816 .bf16) = left (mat (given2 m c)) := by
  funext k n
  show (V m c main_v2 : Vec Ideal S1024x2816 .bf16) ((win0_2.blk t).view.emb (ix2 k n)) = _
  rw [show (win0_2.blk t).view.emb (ix2 k n) = ix2 k n by blk_ext [i2, ix2]]
  unfold V; after_results_simp; pointwise
theorem window3 (t : Fin cfg0.N) : mat (iblk m c 3 t : Vec Ideal S1024x2816 .bf16) = right (mat (given2 m c)) := by
  funext k n
  show (V m c main_v4 : Vec Ideal S1024x2816 .bf16) ((win0_3.blk t).view.emb (ix2 k n)) = _
  rw [show (win0_3.blk t).view.emb (ix2 k n) = ix2 k n by blk_ext [i3, ix2]]
  unfold V; after_results_simp; pointwise
theorem window4 (t : Fin cfg0.N) : mat (iblk m c 4 t : Vec Ideal S2816x1024 .bf16) = mat (given3 m c) := by
  funext k n
  show (V m c main_v5 : Vec Ideal S2816x1024 .bf16) ((win0_4.blk t).view.emb (ix2 k n)) = _
  rw [show (win0_4.blk t).view.emb (ix2 k n) = ix2 k n by blk_ext [i4, ix2]]
  unfold V; after_results_simp; pointwise
theorem window5 (t : Fin cfg0.N) : mat (iblk m c 5 t : Vec Ideal S1x1024 .f32) 0 = vec (given4 m c) := by
  funext j
  show (V m c main_v8 : Vec Ideal S1x1024 .f32) ((win0_5.blk t).view.emb (ix2 0 j)) = _
  rw [show (win0_5.blk t).view.emb (ix2 0 j) = ix2 0 j by blk_ext [i5, ix2]]
  unfold V; after_results_simp; pointwise
theorem window6 (t : Fin cfg0.N) : layerMat (iblk m c 6 t : Vec Ideal S1x1024x1536 .bf16) 0 = layerMat (given5 m c) 0 := by
  funext k n
  show (V m c main_v6 : Vec Ideal S2x1024x1536 .bf16) ((win0_6.blk t).view.emb (ix3 0 k n)) = _
  rw [show (win0_6.blk t).view.emb (ix3 0 k n) = ix3 0 k n by blk_ext [i6, ix3]]
  unfold V; after_results_simp; pointwise

theorem array : (dats m 0 c).arrAt 10 cfg0.N = rows fun R => fedBy (token (given0 m c) R) (given1 m c) (given2 m c) (given3 m c) := by
  refine (dats m 0 c).arrAt_eq_of_covers 10 _ (by decide +kernel) fun t hf y => ?_
  blk_simp
  rw [after0_10]
  obtain ⟨r, j, rfl⟩ := exists_ix2 (n := 512) (p := 1024) y
  rw [show (win0_10.blk t).view.emb (ix2 r j) = ix2 (row t r) j by blk_ext [i10, ix2]]
  refine (block _ _ _ _ _ _ _ _ _ _ r j).trans ?_
  rw [window0, window1, window2, window3, window4]
  rfl

theorem queriesArray : (dats m 0 c).arrAt 11 cfg0.N = rows fun R j =>
    through (normed (fedBy (token (given0 m c) R) (given1 m c) (given2 m c) (given3 m c)) (vec (given4 m c))) (layerMat (given5 m c) 0) j
      * Ideal.ofBits FTy.f32 1040187392#32 := by
  refine (dats m 0 c).arrAt_eq_of_covers 11 _ (by decide +kernel) fun t hf y => ?_
  blk_simp
  rw [after0_11]
  obtain ⟨r, j, rfl⟩ := exists_ix2 (n := 512) (p := 1536) y
  rw [show (win0_11.blk t).view.emb (ix2 r j) = ix2 (row t r) j by blk_ext [i11, ix2]]
  refine (queries _ _ _ _ _ _ _ _ _ _ r j).trans ?_
  rw [window0, window1, window2, window3, window4, window5, window6]
  rfl

/-- The row of the next weights that a point's block holds at `r`. -/
abbrev inRow (t : Fin cfg0.N) (r : Fin 32) : Fin 1024 := ⟨t.val * 32 + r.val, by have h : t.val < 32 := t.isLt; omega⟩
abbrev outRow (t : Fin cfg0.N) (r : Fin 176) : Fin 2816 := ⟨t.val / 2 * 176 + r.val, by have h : t.val < 32 := t.isLt; omega⟩

theorem window7 (t : Fin cfg0.N) (r : Fin 32) :
    layerMat (iblk m c 7 t : Vec Ideal S1x32x2816 .f32) 0 r = left (layerMat (given6 m c) 2) (inRow t r) := by
  funext n
  show V m c main_arg6 ((win0_7.blk t).view.emb (ix3 0 r n)) = _
  rw [V_main_arg6, show (win0_7.blk t).view.emb (ix3 0 r n) = ix3 2 (inRow t r) ⟨n.val, by omega⟩ by blk_ext [i7, ix3] <;> rfl]
theorem window8 (t : Fin cfg0.N) (r : Fin 32) :
    layerMat (iblk m c 8 t : Vec Ideal S1x32x2816 .f32) 0 r = right (layerMat (given6 m c) 2) (inRow t r) := by
  funext n
  show V m c main_arg6 ((win0_8.blk t).view.emb (ix3 0 r n)) = _
  rw [V_main_arg6, show (win0_8.blk t).view.emb (ix3 0 r n) = ix3 2 (inRow t r) ⟨2816 + n.val, by omega⟩ by blk_ext [i8, ix3] <;> rfl]
theorem window9 (t : Fin cfg0.N) (r : Fin 176) :
    layerMat (iblk m c 9 t : Vec Ideal S1x176x1024 .f32) 0 r = layerMat (given7 m c) 2 (outRow t r) := by
  funext n
  show V m c main_arg7 ((win0_9.blk t).view.emb (ix3 0 r n)) = _
  rw [V_main_arg7, show (win0_9.blk t).view.emb (ix3 0 r n) = ix3 2 (outRow t r) n by blk_ext [i9, ix3] <;> rfl]

theorem castLeft : (dats m 0 c).arrAt 12 cfg0.N = rows (left (layerMat (given6 m c) 2)) := by
  refine (dats m 0 c).arrAt_eq_of_covers 12 _ (by decide +kernel) fun t hf y => ?_
  blk_simp
  rw [after0_12]
  obtain ⟨r, n, rfl⟩ := exists_ix2 (n := 32) (p := 2816) y
  rw [show (win0_12.blk t).view.emb (ix2 r n) = ix2 (inRow t r) n by blk_ext [i12, ix2]]
  refine (cast_left _ _ _ _ _ _ _ _ _ _ r n).trans ?_
  rw [window7]
  rfl

theorem castRight : (dats m 0 c).arrAt 13 cfg0.N = rows (right (layerMat (given6 m c) 2)) := by
  refine (dats m 0 c).arrAt_eq_of_covers 13 _ (by decide +kernel) fun t hf y => ?_
  blk_simp
  rw [after0_13]
  obtain ⟨r, n, rfl⟩ := exists_ix2 (n := 32) (p := 2816) y
  rw [show (win0_13.blk t).view.emb (ix2 r n) = ix2 (inRow t r) n by blk_ext [i13, ix2]]
  refine (cast_right _ _ _ _ _ _ _ _ _ _ r n).trans ?_
  rw [window8]
  rfl

theorem castOut : (dats m 0 c).arrAt 14 cfg0.N = rows (layerMat (given7 m c) 2) := by
  refine (dats m 0 c).arrAt_eq_of_covers 14 _ (by decide +kernel) fun t hf y => ?_
  blk_simp
  rw [after0_14]
  obtain ⟨r, n, rfl⟩ := exists_ix2 (n := 176) (p := 1024) y
  rw [show (win0_14.blk t).view.emb (ix2 r n) = ix2 (outRow t r) n by blk_ext [i14, ix2]]
  refine (cast_out _ _ _ _ _ _ _ _ _ _ r n).trans ?_
  rw [window9]
  rfl

end Cert.Ffn.Query

end
-- ==== Proof.FfnThird.lean ====
/-
  The third layer of the prompt: the attention's output projection and the feed-forward part, with the next part's weights
  brought into the form that part reads.
-/
module

public import proofs.«01_k».proof.Proof.FfnRow
public import proofs.«01_k».proof.Proof.Gen.Kernel6Ideal.Value
public import Idealize.ShloMosaic.Lib.Pipeline.ValueKit.Geometry
public import Idealize.ShloMosaic.Lib.Pipeline.ValueKit.Basic
public import Idealize.ShloMosaic.Lib.StableHlo.Run

@[expose] public section

set_option maxRecDepth 16384

noncomputable section

namespace Cert.Ffn.Third

open Cert.Kernel6Ideal Cert.Kernel6Ideal.Gen Idealize.ShloMosaic Idealize.ShloMosaic.TcCoe Idealize.SL.Sem

/-- What a point computes of its blocks, at a row and a column. -/
theorem block (x0 : Vec Ideal S512x1024 .f32) (x1 : Vec Ideal S512x512 .f32) (x2 : Vec Ideal S1x512x1024 .bf16) (x3 : Vec Ideal S1x1024 .f32)
    (x4 x5 : Vec Ideal S1024x2816 .bf16) (x6 : Vec Ideal S2816x1024 .bf16) (x7 x8 : Vec Ideal S1x32x2816 .f32) (x9 : Vec Ideal S1x176x1024 .f32)
    (r : Fin 512) (j : Fin 1024) : out0_10 x0 x1 x2 x3 x4 x5 x6 x7 x8 x9 (ix2 r j)
      = fed (mixed (mat x0 r) (mat x1 r) (layerMat x2 0)) (mat x3 0) (mat x4) (mat x5) (mat x6) j := by
  unfold out0_10
  rw [View.canon_unit_zero no_offset]
  unfold k0_pay4 k0_pay3 k0_pay2 k0_pay1
  pointwise
  simp only [normed, fed, mixed, hidden, gate, through, ← sum_chunks]

/-- What a point writes of the next weights is what it reads of them. -/
theorem cast_left (x0 : Vec Ideal S512x1024 .f32) (x1 : Vec Ideal S512x512 .f32) (x2 : Vec Ideal S1x512x1024 .bf16) (x3 : Vec Ideal S1x1024 .f32)
    (x4 x5 : Vec Ideal S1024x2816 .bf16) (x6 : Vec Ideal S2816x1024 .bf16) (x7 x8 : Vec Ideal S1x32x2816 .f32) (x9 : Vec Ideal S1x176x1024 .f32)
    (r : Fin 32) (n : Fin 2816) :
    out0_11 x0 x1 x2 x3 x4 x5 x6 x7 x8 x9 (ix2 r n) = layerMat x7 0 r n := by
  unfold out0_11; rw [View.canon_unit_zero no_offset]; unfold k0_pay5; pointwise
theorem cast_right (x0 : Vec Ideal S512x1024 .f32) (x1 : Vec Ideal S512x512 .f32) (x2 : Vec Ideal S1x512x1024 .bf16) (x3 : Vec Ideal S1x1024 .f32)
    (x4 x5 : Vec Ideal S1024x2816 .bf16) (x6 : Vec Ideal S2816x1024 .bf16) (x7 x8 : Vec Ideal S1x32x2816 .f32) (x9 : Vec Ideal S1x176x1024 .f32)
    (r : Fin 32) (n : Fin 2816) :
    out0_12 x0 x1 x2 x3 x4 x5 x6 x7 x8 x9 (ix2 r n) = layerMat x8 0 r n := by
  unfold out0_12; rw [View.canon_unit_zero no_offset]; unfold k0_pay6; pointwise
theorem cast_out (x0 : Vec Ideal S512x1024 .f32) (x1 : Vec Ideal S512x512 .f32) (x2 : Vec Ideal S1x512x1024 .bf16) (x3 : Vec Ideal S1x1024 .f32)
    (x4 x5 : Vec Ideal S1024x2816 .bf16) (x6 : Vec Ideal S2816x1024 .bf16) (x7 x8 : Vec Ideal S1x32x2816 .f32) (x9 : Vec Ideal S1x176x1024 .f32)
    (r : Fin 176) (n : Fin 1024) :
    out0_13 x0 x1 x2 x3 x4 x5 x6 x7 x8 x9 (ix2 r n) = layerMat x9 0 r n := by
  unfold out0_13; rw [View.canon_unit_zero no_offset]; unfold k0_pay7; pointwise

variable (m : (ℓ : Loc nD τ sig) → Buf (Elt Ideal) ℓ) (c : Dev nD)

abbrev given0 : Vec Ideal S8x2048x1024 .f32 := m (c, Proc.tc.devRef main_arg0)
abbrev given1 : Vec Ideal S8x2048x512 .f32 := m (c, Proc.tc.devRef main_arg1)
abbrev given2 : Vec Ideal S1024 .f32 := m (c, Proc.tc.devRef main_arg2)
abbrev given3 : Vec Ideal S1024x5632 .f32 := m (c, Proc.tc.devRef main_arg3)
abbrev given4 : Vec Ideal S2816x1024 .f32 := m (c, Proc.tc.devRef main_arg4)
abbrev given5 : Vec Ideal S2x512x1024 .f32 := m (c, Proc.tc.devRef main_arg5)
abbrev given6 : Vec Ideal S4x1024x5632 .f32 := m (c, Proc.tc.devRef main_arg6)
abbrev given7 : Vec Ideal S4x2816x1024 .f32 := m (c, Proc.tc.devRef main_arg7)

theorem i0 : ∀ t : Fin cfg0.N, win0_0.index t = ![t.val, 0] := (by decide +kernel : ∀ t : Fin grid0.N, _)
theorem i1 : ∀ t : Fin cfg0.N, win0_1.index t = ![t.val, 0] := (by decide +kernel : ∀ t : Fin grid0.N, _)
theorem i2 : ∀ t : Fin cfg0.N, win0_2.index t = ![0, 0, 0] := (by decide +kernel : ∀ t : Fin grid0.N, _)
theorem i3 : ∀ t : Fin cfg0.N, win0_3.index t = ![0, 0] := (by decide +kernel : ∀ t : Fin grid0.N, _)
theorem i4 : ∀ t : Fin cfg0.N, win0_4.index t = ![0, 0] := (by decide +kernel : ∀ t : Fin grid0.N, _)
theorem i5 : ∀ t : Fin cfg0.N, win0_5.index t = ![0, 0] := (by decide +kernel : ∀ t : Fin grid0.N, _)
theorem i6 : ∀ t : Fin cfg0.N, win0_6.index t = ![0, 0] := (by decide +kernel : ∀ t : Fin grid0.N, _)
theorem i7 : ∀ t : Fin cfg0.N, win0_7.index t = ![3, t.val, 0] := (by decide +kernel : ∀ t : Fin grid0.N, _)
theorem i8 : ∀ t : Fin cfg0.N, win0_8.index t = ![3, t.val, 1] := (by decide +kernel : ∀ t : Fin grid0.N, _)
theorem i9 : ∀ t : Fin cfg0.N, win0_9.index t = ![3, t.val / 2, 0] := (by decide +kernel : ∀ t : Fin grid0.N, _)
theorem i10 : ∀ t : Fin cfg0.N, win0_10.index t = ![t.val, 0] := (by decide +kernel : ∀ t : Fin grid0.N, _)
theorem i11 : ∀ t : Fin cfg0.N, win0_11.index t = ![t.val, 0] := (by decide +kernel : ∀ t : Fin grid0.N, _)
theorem i12 : ∀ t : Fin cfg0.N, win0_12.index t = ![t.val, 0] := (by decide +kernel : ∀ t : Fin grid0.N, _)
theorem i13 : ∀ t : Fin cfg0.N, win0_13.index t = ![t.val / 2, 0] := (by decide +kernel : ∀ t : Fin grid0.N, _)

/-- The row of the whole array that a point's block holds at `r`. -/
abbrev row (t : Fin cfg0.N) (r : Fin 512) : Fin 16384 := ⟨t.val * 512 + r.val, by have h : t.val < 32 := t.isLt; omega⟩

theorem window0 (t : Fin cfg0.N) (r : Fin 512) : mat (iblk m c 0 t : Vec Ideal S512x1024 .f32) r = token (given0 m c) (row t r) := by
  funext j
  show (V m c main_v0 : Vec Ideal S16384x1024 .f32) ((win0_0.blk t).view.emb (ix2 r j)) = _
  rw [show (win0_0.blk t).view.emb (ix2 r j) = ix2 (row t r) j by blk_ext [i0, ix2]]
  unfold V; after_results_simp; pointwise
theorem window1 (t : Fin cfg0.N) (r : Fin 512) : mat (iblk m c 1 t : Vec Ideal S512x512 .f32) r = token (given1 m c) (row t r) := by
  funext j
  show (V m c main_v6 : Vec Ideal S16384x512 .f32) ((win0_1.blk t).view.emb (ix2 r j)) = _
  rw [show (win0_1.blk t).view.emb (ix2 r j) = ix2 (row t r) j by blk_ext [i1, ix2]]
  unfold V; after_results_simp; pointwise
theorem window2 (t : Fin cfg0.N) : layerMat (iblk m c 2 t : Vec Ideal S1x512x1024 .bf16) 0 = layerMat (given5 m c) 0 := by
  funext k n
  show (V m c main_v7 : Vec Ideal S2x512x1024 .bf16) ((win0_2.blk t).view.emb (ix3 0 k n)) = _
  rw [show (win0_2.blk t).view.emb (ix3 0 k n) = ix3 0 k n by blk_ext [i2, ix3]]
  unfold V; after_results_simp; pointwise
theorem window3 (t : Fin cfg0.N) : mat (iblk m c 3 t : Vec Ideal S1x1024 .f32) 0 = vec (given2 m c) := by
  funext j
  show (V m c main_v8 : Vec Ideal S1x1024 .f32) ((win0_3.blk t).view.emb (ix2 0 j)) = _
  rw [show (win0_3.blk t).view.emb (ix2 0 j) = ix2 0 j by blk_ext [i3, ix2]]
  unfold V; after_results_simp; pointwise
theorem window4 (t : Fin cfg0.N) : mat (iblk m c 4 t : Vec Ideal S1024x2816 .bf16) = left (mat (given3 m c)) := by
  funext k n
  show (V m c main_v2 : Vec Ideal S1024x2816 .bf16) ((win0_4.blk t).view.emb (ix2 k n)) = _
  rw [show (win0_4.blk t).view.emb (ix2 k n) = ix2 k n by blk_ext [i4, ix2]]
  unfold V; after_results_simp; pointwise
theorem window5 (t : Fin cfg0.N) : mat (iblk m c 5 t : Vec Ideal S1024x2816 .bf16) = right (mat (given3 m c)) := by
  funext k n
  show (V m c main_v4 : Vec Ideal S1024x2816 .bf16) ((win0_5.blk t).view.emb (ix2 k n)) = _
  rw [show (win0_5.blk t).view.emb (ix2 k n) = ix2 k n by blk_ext [i5, ix2]]
  unfold V; after_results_simp; pointwise
theorem window6 (t : Fin cfg0.N) : mat (iblk m c 6 t : Vec Ideal S2816x1024 .bf16) = mat (given4 m c) := by
  funext k n
  show (V m c main_v5 : Vec Ideal S2816x1024 .bf16) ((win0_6.blk t).view.emb (ix2 k n)) = _
  rw [show (win0_6.blk t).view.emb (ix2 k n) = ix2 k n by blk_ext [i6, ix2]]
  unfold V; after_results_simp; pointwise

theorem array : (dats m 0 c).arrAt 10 cfg0.N = rows fun R =>
    fedBy (mixed (token (given0 m c) R) (token (given1 m c) R) (layerMat (given5 m c) 0)) (given2 m c) (given3 m c) (given4 m c) := by
  refine (dats m 0 c).arrAt_eq_of_covers 10 _ (by decide +kernel) fun t hf y => ?_
  blk_simp
  rw [after0_10]
  obtain ⟨r, j, rfl⟩ := exists_ix2 (n := 512) (p := 1024) y
  rw [show (win0_10.blk t).view.emb (ix2 r j) = ix2 (row t r) j by blk_ext [i10, ix2]]
  refine (block _ _ _ _ _ _ _ _ _ _ r j).trans ?_
  rw [window0, window1, window2, window3, window4, window5, window6]
  rfl

/-- The row of the next weights that a point's block holds at `r`. -/
abbrev inRow (t : Fin cfg0.N) (r : Fin 32) : Fin 1024 := ⟨t.val * 32 + r.val, by have h : t.val < 32 := t.isLt; omega⟩
abbrev outRow (t : Fin cfg0.N) (r : Fin 176) : Fin 2816 := ⟨t.val / 2 * 176 + r.val, by have h : t.val < 32 := t.isLt; omega⟩

theorem window7 (t : Fin cfg0.N) (r : Fin 32) :
    layerMat (iblk m c 7 t : Vec Ideal S1x32x2816 .f32) 0 r = left (layerMat (given6 m c) 3) (inRow t r) := by
  funext n
  show V m c main_arg6 ((win0_7.blk t).view.emb (ix3 0 r n)) = _
  rw [V_main_arg6, show (win0_7.blk t).view.emb (ix3 0 r n) = ix3 3 (inRow t r) ⟨n.val, by omega⟩ by blk_ext [i7, ix3] <;> rfl]
theorem window8 (t : Fin cfg0.N) (r : Fin 32) :
    layerMat (iblk m c 8 t : Vec Ideal S1x32x2816 .f32) 0 r = right (layerMat (given6 m c) 3) (inRow t r) := by
  funext n
  show V m c main_arg6 ((win0_8.blk t).view.emb (ix3 0 r n)) = _
  rw [V_main_arg6, show (win0_8.blk t).view.emb (ix3 0 r n) = ix3 3 (inRow t r) ⟨2816 + n.val, by omega⟩ by blk_ext [i8, ix3] <;> rfl]
theorem window9 (t : Fin cfg0.N) (r : Fin 176) :
    layerMat (iblk m c 9 t : Vec Ideal S1x176x1024 .f32) 0 r = layerMat (given7 m c) 3 (outRow t r) := by
  funext n
  show V m c main_arg7 ((win0_9.blk t).view.emb (ix3 0 r n)) = _
  rw [V_main_arg7, show (win0_9.blk t).view.emb (ix3 0 r n) = ix3 3 (outRow t r) n by blk_ext [i9, ix3] <;> rfl]

theorem castLeft : (dats m 0 c).arrAt 11 cfg0.N = rows (left (layerMat (given6 m c) 3)) := by
  refine (dats m 0 c).arrAt_eq_of_covers 11 _ (by decide +kernel) fun t hf y => ?_
  blk_simp
  rw [after0_11]
  obtain ⟨r, n, rfl⟩ := exists_ix2 (n := 32) (p := 2816) y
  rw [show (win0_11.blk t).view.emb (ix2 r n) = ix2 (inRow t r) n by blk_ext [i11, ix2]]
  refine (cast_left _ _ _ _ _ _ _ _ _ _ r n).trans ?_
  rw [window7]
  rfl

theorem castRight : (dats m 0 c).arrAt 12 cfg0.N = rows (right (layerMat (given6 m c) 3)) := by
  refine (dats m 0 c).arrAt_eq_of_covers 12 _ (by decide +kernel) fun t hf y => ?_
  blk_simp
  rw [after0_12]
  obtain ⟨r, n, rfl⟩ := exists_ix2 (n := 32) (p := 2816) y
  rw [show (win0_12.blk t).view.emb (ix2 r n) = ix2 (inRow t r) n by blk_ext [i12, ix2]]
  refine (cast_right _ _ _ _ _ _ _ _ _ _ r n).trans ?_
  rw [window8]
  rfl

theorem castOut : (dats m 0 c).arrAt 13 cfg0.N = rows (layerMat (given7 m c) 3) := by
  refine (dats m 0 c).arrAt_eq_of_covers 13 _ (by decide +kernel) fun t hf y => ?_
  blk_simp
  rw [after0_13]
  obtain ⟨r, n, rfl⟩ := exists_ix2 (n := 176) (p := 1024) y
  rw [show (win0_13.blk t).view.emb (ix2 r n) = ix2 (outRow t r) n by blk_ext [i13, ix2]]
  refine (cast_out _ _ _ _ _ _ _ _ _ _ r n).trans ?_
  rw [window9]
  rfl

end Cert.Ffn.Third

end
-- ==== Proof.FfnEqual.lean ====
/-
  The kernels of the feed-forward parts of the prompt and their references compute the same arrays.
-/
module

public import proofs.«01_k».proof.Defs
public import proofs.«01_k».proof.Proof.FfnRefTokens
public import proofs.«01_k».proof.Proof.FfnLast
public import proofs.«01_k».proof.Proof.FfnFirst
public import proofs.«01_k».proof.Proof.FfnQuery
public import proofs.«01_k».proof.Proof.FfnThird
public import proofs.«01_k».proof.Proof.Gen.Reference2Ideal.Run
public import proofs.«01_k».proof.Proof.Gen.Reference4Ideal.Run
public import proofs.«01_k».proof.Proof.Gen.Reference5Ideal.Run
public import proofs.«01_k».proof.Proof.Gen.Reference6Ideal.Run

@[expose] public section

set_option maxRecDepth 16384

noncomputable section

namespace Cert.Ffn.RefTokens

open Idealize.ShloMosaic Idealize.ShloMosaic.TcCoe Idealize.SL.Sem Idealize.ShloMosaic.StableHlo

/-! ## The references' arrays by their rows -/

/-- The rows of the last layer. -/
theorem last_rows (x : FVec Ideal ⟨3, ![8, 2048, 1024]⟩ .f32) (a : FVec Ideal ⟨3, ![8, 2048, 512]⟩ .f32) (g : FVec Ideal ⟨1, ![1024]⟩ .f32)
    (wi : FVec Ideal ⟨2, ![1024, 5632]⟩ .f32) (wo : FVec Ideal ⟨2, ![2816, 1024]⟩ .f32)
    (gf : FVec Ideal ⟨1, ![1024]⟩ .f32) (p : FVec Ideal ⟨3, ![2, 512, 1024]⟩ .f32) (h₁ h₂ h₃) :
    (shapeCast ⟨2, ![16384, 1024]⟩ (norm (feed (mix x a (shapeCast ⟨2, ![512, 1024]⟩ (extractStridedSlice ⟨3, ![1, 512, 1024]⟩ ![1, 0, 0] p h₁) h₂)) g wi wo) gf) h₃
      : FVec Ideal ⟨2, ![16384, 1024]⟩ .f32) = Last.result x a g wi wo gf p := by
  refine eq_rows fun R j => ?_
  pointwise
  rw [norm_apply]
  simp only [feed_apply, mix_apply]
  refine congrArg (fun w => normed (fedBy (mixed (token x R) (token a R) w) g wi wo) (vec gf) j) ?_
  funext k n
  pointwise

/-- The rows of the third layer. -/
theorem third_rows (x : FVec Ideal ⟨3, ![8, 2048, 1024]⟩ .f32) (a : FVec Ideal ⟨3, ![8, 2048, 512]⟩ .f32) (g : FVec Ideal ⟨1, ![1024]⟩ .f32)
    (wi : FVec Ideal ⟨2, ![1024, 5632]⟩ .f32) (wo : FVec Ideal ⟨2, ![2816, 1024]⟩ .f32)
    (p : FVec Ideal ⟨3, ![2, 512, 1024]⟩ .f32) (h₁ h₂ h₃) :
    (shapeCast ⟨2, ![16384, 1024]⟩ (feed (mix x a (shapeCast ⟨2, ![512, 1024]⟩ (extractStridedSlice ⟨3, ![1, 512, 1024]⟩ ![0, 0, 0] p h₁) h₂)) g wi wo) h₃
      : FVec Ideal ⟨2, ![16384, 1024]⟩ .f32) = rows fun R => fedBy (mixed (token x R) (token a R) (layerMat p 0)) g wi wo := by
  refine eq_rows fun R j => ?_
  pointwise
  rw [feed_apply]
  simp only [mix_apply]
  refine congrArg (fun w => fedBy (mixed (token x R) (token a R) w) g wi wo j) ?_
  funext k n
  pointwise

/-- The rows of a feed-forward part alone. -/
theorem feed_rows (x : FVec Ideal ⟨3, ![8, 2048, 1024]⟩ .f32) (g : FVec Ideal ⟨1, ![1024]⟩ .f32)
    (wi : FVec Ideal ⟨2, ![1024, 5632]⟩ .f32) (wo : FVec Ideal ⟨2, ![2816, 1024]⟩ .f32) (h) :
    (shapeCast ⟨2, ![16384, 1024]⟩ (feed x g wi wo) h : FVec Ideal ⟨2, ![16384, 1024]⟩ .f32) = rows fun R => fedBy (token x R) g wi wo := by
  refine eq_rows fun R j => ?_
  pointwise
  rw [feed_apply]

/-- The queries. -/
theorem query_rows (x : FVec Ideal ⟨3, ![8, 2048, 1024]⟩ .f32) (g : FVec Ideal ⟨1, ![1024]⟩ .f32) (wi : FVec Ideal ⟨2, ![1024, 5632]⟩ .f32)
    (wo : FVec Ideal ⟨2, ![2816, 1024]⟩ .f32) (gf : FVec Ideal ⟨1, ![1024]⟩ .f32) (q : FVec Ideal ⟨3, ![2, 1024, 1536]⟩ .f32) (h₁ h₂ h₃ h₅) :
    (shapeCast ⟨2, ![16384, 1536]⟩ (mulf (Host.dotGeneral Reference5Ideal.dot_S8x2048x1024_S1024x1536_S8x2048x1536_2_0_01_1_n_n none (norm (feed x g wi wo) gf)
        (shapeCast ⟨2, ![1024, 1536]⟩ (extractStridedSlice ⟨3, ![1, 1024, 1536]⟩ ![0, 0, 0] q h₁) h₂))
        (broadcastInDim ⟨3, ![8, 2048, 1536]⟩ ![] h₃ (constant ⟨0, ![]⟩ .f32 0x3E000000#32))) h₅
      : FVec Ideal ⟨2, ![16384, 1536]⟩ .f32) = rows fun R j => through (normed (fedBy (token x R) g wi wo) (vec gf)) (layerMat q 0) j
        * Ideal.ofBits FTy.f32 1040187392#32 := by
  refine eq_rows fun R j => ?_
  pointwise
  simp only [norm_apply, feed_apply]
  rfl

/-- The next weights' halves and the next second matrix. -/
theorem next_left (l : Fin 4) (ni : FVec Ideal ⟨3, ![4, 1024, 5632]⟩ .f32) (h₁ h₂ h₃ h₄) :
    (truncf .bf16 (extractStridedSlice ⟨2, ![1024, 2816]⟩ ![0, 0] (shapeCast ⟨2, ![1024, 5632]⟩ (extractStridedSlice ⟨3, ![1, 1024, 5632]⟩ ![l.val, 0, 0] ni h₁) h₂) h₃) h₄
      : FVec Ideal ⟨2, ![1024, 2816]⟩ .bf16) = rows (left (layerMat ni l)) := by
  refine eq_rows fun k n => ?_
  pointwise
theorem next_right (l : Fin 4) (ni : FVec Ideal ⟨3, ![4, 1024, 5632]⟩ .f32) (h₁ h₂ h₃ h₄) :
    (truncf .bf16 (extractStridedSlice ⟨2, ![1024, 2816]⟩ ![0, 2816] (shapeCast ⟨2, ![1024, 5632]⟩ (extractStridedSlice ⟨3, ![1, 1024, 5632]⟩ ![l.val, 0, 0] ni h₁) h₂) h₃) h₄
      : FVec Ideal ⟨2, ![1024, 2816]⟩ .bf16) = rows (right (layerMat ni l)) := by
  refine eq_rows fun k n => ?_
  pointwise
theorem next_out (l : Fin 4) (no : FVec Ideal ⟨3, ![4, 2816, 1024]⟩ .f32) (h₁ h₂ h₃) :
    (truncf .bf16 (shapeCast ⟨2, ![2816, 1024]⟩ (extractStridedSlice ⟨3, ![1, 2816, 1024]⟩ ![l.val, 0, 0] no h₁) h₂) h₃
      : FVec Ideal ⟨2, ![2816, 1024]⟩ .bf16) = rows (layerMat no l) := by
  refine eq_rows fun k n => ?_
  pointwise

/-! ## The programs -/

/-- Over the extended reals the kernel and the reference leave the same arrays. -/
theorem equal2 : Cert.algebraic_Kernel2Ideal_Reference2Ideal := fun m g m' g' _ h =>
  ⟨fun c => Last.result (Last.given0 m c) (Last.given1 m c) (Last.given2 m c) (Last.given3 m c) (Last.given4 m c) (Last.given5 m c) (Last.given6 m c),
    (θ_run Kernel2Ideal.defs _ _).mono (fun _ k c => ⟨(k c).1.trans (Last.array m c), (k c).2⟩) (Kernel2Ideal.Value.run_blocks m g),
    (θ_run Reference2Ideal.defs _ _).mono (fun _ k c => by
      have h0 : (m' ((c.tc : Thread Reference2Ideal.nD Reference2Ideal.τ).loc Reference2Ideal.main_arg0) : _) = Last.given0 m c := (h c).1
      have h1 : (m' ((c.tc : Thread Reference2Ideal.nD Reference2Ideal.τ).loc Reference2Ideal.main_arg1) : _) = Last.given1 m c := (h c).2.1
      have h2 : (m' ((c.tc : Thread Reference2Ideal.nD Reference2Ideal.τ).loc Reference2Ideal.main_arg2) : _) = Last.given2 m c := (h c).2.2.1
      have h3 : (m' ((c.tc : Thread Reference2Ideal.nD Reference2Ideal.τ).loc Reference2Ideal.main_arg3) : _) = Last.given3 m c := (h c).2.2.2.1
      have h4 : (m' ((c.tc : Thread Reference2Ideal.nD Reference2Ideal.τ).loc Reference2Ideal.main_arg4) : _) = Last.given4 m c := (h c).2.2.2.2.1
      have h5 : (m' ((c.tc : Thread Reference2Ideal.nD Reference2Ideal.τ).loc Reference2Ideal.main_arg5) : _) = Last.given5 m c := (h c).2.2.2.2.2.1
      have h6 : (m' ((c.tc : Thread Reference2Ideal.nD Reference2Ideal.τ).loc Reference2Ideal.main_arg6) : _) = Last.given6 m c := (h c).2.2.2.2.2.2
      exact ⟨(k c).1.trans ((last_rows _ _ _ _ _ _ _ _ _ _).trans (by rw [h0, h1, h2, h3, h4, h5, h6])), (k c).2⟩) (Reference2Ideal.Value.run (F := Ideal) m' g')⟩

/-- The reference runs to its end, changes no argument and leaves every counter at zero: it has none. -/
theorem frame_reference2 : Cert.quiescent_Reference2Ideal := fun m ρ _ =>
  (θ_run Reference2Ideal.defs _ _).mono (fun r h => ⟨fun c => (h c).2, sem_eq_zero_of_no_sems (by decide) r.2⟩)
    (Reference2Ideal.Value.run (F := Ideal) m ρ)

/-- Over the extended reals the kernel and the reference leave the same arrays. -/
theorem equal4 : Cert.algebraic_Kernel4Ideal_Reference4Ideal := fun m g m' g' _ h =>
  ⟨fun c => rows fun R => fedBy (token (First.given0 m c) R) (First.given1 m c) (First.given2 m c) (First.given3 m c), fun c => rows (left (layerMat (First.given4 m c) 0)), fun c => rows (right (layerMat (First.given4 m c) 0)), fun c => rows (layerMat (First.given5 m c) 0),
    (θ_run Kernel4Ideal.defs _ _).mono (fun _ k c => ⟨(k c).1.trans (First.array m c), (k c).2.1.trans (First.castLeft m c), (k c).2.2.1.trans (First.castRight m c), (k c).2.2.2.1.trans (First.castOut m c), (k c).2.2.2.2⟩) (Kernel4Ideal.Value.run_blocks m g),
    (θ_run Reference4Ideal.defs _ _).mono (fun _ k c => by
      have h0 : (m' ((c.tc : Thread Reference4Ideal.nD Reference4Ideal.τ).loc Reference4Ideal.main_arg0) : _) = First.given0 m c := (h c).1
      have h1 : (m' ((c.tc : Thread Reference4Ideal.nD Reference4Ideal.τ).loc Reference4Ideal.main_arg1) : _) = First.given1 m c := (h c).2.1
      have h2 : (m' ((c.tc : Thread Reference4Ideal.nD Reference4Ideal.τ).loc Reference4Ideal.main_arg2) : _) = First.given2 m c := (h c).2.2.1
      have h3 : (m' ((c.tc : Thread Reference4Ideal.nD Reference4Ideal.τ).loc Reference4Ideal.main_arg3) : _) = First.given3 m c := (h c).2.2.2.1
      have h4 : (m' ((c.tc : Thread Reference4Ideal.nD Reference4Ideal.τ).loc Reference4Ideal.main_arg4) : _) = First.given4 m c := (h c).2.2.2.2.1
      have h5 : (m' ((c.tc : Thread Reference4Ideal.nD Reference4Ideal.τ).loc Reference4Ideal.main_arg5) : _) = First.given5 m c := (h c).2.2.2.2.2
      exact ⟨(k c).1.trans ((feed_rows _ _ _ _ _).trans (by rw [h0, h1, h2, h3])),
        (k c).2.1.trans ((next_left 0 _ _ _ _ _).trans (by rw [h4])),
        (k c).2.2.1.trans ((next_right 0 _ _ _ _ _).trans (by rw [h4])),
        (k c).2.2.2.1.trans ((next_out 0 _ _ _ _).trans (by rw [h5])), (k c).2.2.2.2⟩) (Reference4Ideal.Value.run (F := Ideal) m' g')⟩

/-- The reference runs to its end, changes no argument and leaves every counter at zero: it has none. -/
theorem frame_reference4 : Cert.quiescent_Reference4Ideal := fun m ρ _ =>
  (θ_run Reference4Ideal.defs _ _).mono (fun r h => ⟨fun c => (h c).2.2.2.2, sem_eq_zero_of_no_sems (by decide) r.2⟩)
    (Reference4Ideal.Value.run (F := Ideal) m ρ)

/-- Over the extended reals the kernel and the reference leave the same arrays. -/
theorem equal5 : Cert.algebraic_Kernel5Ideal_Reference5Ideal := fun m g m' g' _ h =>
  ⟨fun c => rows fun R => fedBy (token (Query.given0 m c) R) (Query.given1 m c) (Query.given2 m c) (Query.given3 m c), fun c => rows fun R j => through (normed (fedBy (token (Query.given0 m c) R) (Query.given1 m c) (Query.given2 m c) (Query.given3 m c)) (vec (Query.given4 m c))) (layerMat (Query.given5 m c) 0) j * Ideal.ofBits FTy.f32 1040187392#32, fun c => rows (left (layerMat (Query.given6 m c) 2)), fun c => rows (right (layerMat (Query.given6 m c) 2)), fun c => rows (layerMat (Query.given7 m c) 2),
    (θ_run Kernel5Ideal.defs _ _).mono (fun _ k c => ⟨(k c).1.trans (Query.array m c), (k c).2.1.trans (Query.queriesArray m c), (k c).2.2.1.trans (Query.castLeft m c), (k c).2.2.2.1.trans (Query.castRight m c), (k c).2.2.2.2.1.trans (Query.castOut m c), (k c).2.2.2.2.2⟩) (Kernel5Ideal.Value.run_blocks m g),
    (θ_run Reference5Ideal.defs _ _).mono (fun _ k c => by
      have h0 : (m' ((c.tc : Thread Reference5Ideal.nD Reference5Ideal.τ).loc Reference5Ideal.main_arg0) : _) = Query.given0 m c := (h c).1
      have h1 : (m' ((c.tc : Thread Reference5Ideal.nD Reference5Ideal.τ).loc Reference5Ideal.main_arg1) : _) = Query.given1 m c := (h c).2.1
      have h2 : (m' ((c.tc : Thread Reference5Ideal.nD Reference5Ideal.τ).loc Reference5Ideal.main_arg2) : _) = Query.given2 m c := (h c).2.2.1
      have h3 : (m' ((c.tc : Thread Reference5Ideal.nD Reference5Ideal.τ).loc Reference5Ideal.main_arg3) : _) = Query.given3 m c := (h c).2.2.2.1
      have h4 : (m' ((c.tc : Thread Reference5Ideal.nD Reference5Ideal.τ).loc Reference5Ideal.main_arg4) : _) = Query.given4 m c := (h c).2.2.2.2.1
      have h5 : (m' ((c.tc : Thread Reference5Ideal.nD Reference5Ideal.τ).loc Reference5Ideal.main_arg5) : _) = Query.given5 m c := (h c).2.2.2.2.2.1
      have h6 : (m' ((c.tc : Thread Reference5Ideal.nD Reference5Ideal.τ).loc Reference5Ideal.main_arg6) : _) = Query.given6 m c := (h c).2.2.2.2.2.2.1
      have h7 : (m' ((c.tc : Thread Reference5Ideal.nD Reference5Ideal.τ).loc Reference5Ideal.main_arg7) : _) = Query.given7 m c := (h c).2.2.2.2.2.2.2
      exact ⟨(k c).1.trans ((feed_rows _ _ _ _ _).trans (by rw [h0, h1, h2, h3])),
        (k c).2.1.trans ((query_rows _ _ _ _ _ _ _ _ _ _).trans (by rw [h0, h1, h2, h3, h4, h5])),
        (k c).2.2.1.trans ((next_left 2 _ _ _ _ _).trans (by rw [h6])),
        (k c).2.2.2.1.trans ((next_right 2 _ _ _ _ _).trans (by rw [h6])),
        (k c).2.2.2.2.1.trans ((next_out 2 _ _ _ _).trans (by rw [h7])), (k c).2.2.2.2.2⟩) (Reference5Ideal.Value.run (F := Ideal) m' g')⟩

/-- The reference runs to its end, changes no argument and leaves every counter at zero: it has none. -/
theorem frame_reference5 : Cert.quiescent_Reference5Ideal := fun m ρ _ =>
  (θ_run Reference5Ideal.defs _ _).mono (fun r h => ⟨fun c => (h c).2.2.2.2.2, sem_eq_zero_of_no_sems (by decide) r.2⟩)
    (Reference5Ideal.Value.run (F := Ideal) m ρ)

/-- Over the extended reals the kernel and the reference leave the same arrays. -/
theorem equal6 : Cert.algebraic_Kernel6Ideal_Reference6Ideal := fun m g m' g' _ h =>
  ⟨fun c => rows fun R => fedBy (mixed (token (Third.given0 m c) R) (token (Third.given1 m c) R) (layerMat (Third.given5 m c) 0)) (Third.given2 m c) (Third.given3 m c) (Third.given4 m c), fun c => rows (left (layerMat (Third.given6 m c) 3)), fun c => rows (right (layerMat (Third.given6 m c) 3)), fun c => rows (layerMat (Third.given7 m c) 3),
    (θ_run Kernel6Ideal.defs _ _).mono (fun _ k c => ⟨(k c).1.trans (Third.array m c), (k c).2.1.trans (Third.castLeft m c), (k c).2.2.1.trans (Third.castRight m c), (k c).2.2.2.1.trans (Third.castOut m c), (k c).2.2.2.2⟩) (Kernel6Ideal.Value.run_blocks m g),
    (θ_run Reference6Ideal.defs _ _).mono (fun _ k c => by
      have h0 : (m' ((c.tc : Thread Reference6Ideal.nD Reference6Ideal.τ).loc Reference6Ideal.main_arg0) : _) = Third.given0 m c := (h c).1
      have h1 : (m' ((c.tc : Thread Reference6Ideal.nD Reference6Ideal.τ).loc Reference6Ideal.main_arg1) : _) = Third.given1 m c := (h c).2.1
      have h2 : (m' ((c.tc : Thread Reference6Ideal.nD Reference6Ideal.τ).loc Reference6Ideal.main_arg2) : _) = Third.given2 m c := (h c).2.2.1
      have h3 : (m' ((c.tc : Thread Reference6Ideal.nD Reference6Ideal.τ).loc Reference6Ideal.main_arg3) : _) = Third.given3 m c := (h c).2.2.2.1
      have h4 : (m' ((c.tc : Thread Reference6Ideal.nD Reference6Ideal.τ).loc Reference6Ideal.main_arg4) : _) = Third.given4 m c := (h c).2.2.2.2.1
      have h5 : (m' ((c.tc : Thread Reference6Ideal.nD Reference6Ideal.τ).loc Reference6Ideal.main_arg5) : _) = Third.given5 m c := (h c).2.2.2.2.2.1
      have h6 : (m' ((c.tc : Thread Reference6Ideal.nD Reference6Ideal.τ).loc Reference6Ideal.main_arg6) : _) = Third.given6 m c := (h c).2.2.2.2.2.2.1
      have h7 : (m' ((c.tc : Thread Reference6Ideal.nD Reference6Ideal.τ).loc Reference6Ideal.main_arg7) : _) = Third.given7 m c := (h c).2.2.2.2.2.2.2
      exact ⟨(k c).1.trans ((third_rows _ _ _ _ _ _ _ _ _).trans (by rw [h0, h1, h2, h3, h4, h5])),
        (k c).2.1.trans ((next_left 3 _ _ _ _ _).trans (by rw [h6])),
        (k c).2.2.1.trans ((next_right 3 _ _ _ _ _).trans (by rw [h6])),
        (k c).2.2.2.1.trans ((next_out 3 _ _ _ _).trans (by rw [h7])), (k c).2.2.2.2⟩) (Reference6Ideal.Value.run (F := Ideal) m' g')⟩

/-- The reference runs to its end, changes no argument and leaves every counter at zero: it has none. -/
theorem frame_reference6 : Cert.quiescent_Reference6Ideal := fun m ρ _ =>
  (θ_run Reference6Ideal.defs _ _).mono (fun r h => ⟨fun c => (h c).2.2.2.2, sem_eq_zero_of_no_sems (by decide) r.2⟩)
    (Reference6Ideal.Value.run (F := Ideal) m ρ)

end Cert.Ffn.RefTokens

end
-- ==== Proof.MixerRun.lean ====
/-
  The two calls of the mixer's step run one after another, and what they leave in the arrays of the states.
-/
module

public import proofs.«01_k».proof.Proof.Gen.Kernel9Ideal.Frame
public import Idealize.ShloMosaic.Lib.Pointwise

@[expose] public section

set_option maxRecDepth 16384

noncomputable section

namespace Cert.Mixer

open Cert.Kernel9Ideal Cert.Kernel9Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

-- the conclusion is met with the arrays' contents as they stand
set_option backward.isDefEq.respectTransparency.types false in
/-- Every execution ends with each result at the contents after the last region, and the arguments unchanged. -/
theorem run : θ_run defs (onTc (τ := τ) (main (F := Ideal))) ⟨m, fun _ => 0, ρ⟩ (fun r => ∀ c : Dev nD,
      r.2.mem ((c.tc : Thread nD τ).loc main_v14_1) = W5 m ρ c (Proc.devRef .tc main_v14_1)
      ∧ r.2.mem ((c.tc : Thread nD τ).loc main_v14_2) = W5 m ρ c (Proc.devRef .tc main_v14_2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => fun c =>
      ⟨h c _ (mem_uc main_v14_1 (by decide)), h c _ (mem_uc main_v14_2 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c),
       (h c _ (mem_uc main_arg12 (by decide))).trans (W5_main_arg12 m ρ c),
       (h c _ (mem_uc main_arg13 (by decide))).trans (W5_main_arg13 m ρ c)⟩)

end Cert.Mixer

end
-- ==== Proof.MixerStep.lean ====
/-
  One decoding step of the mixer's states, from the input's normed row and the weights; where a store of 512 columns lies.
-/
module

public import proofs.«01_k».proof.Proof.FfnRow
public import proofs.«01_k».proof.Proof.Gen.Kernel9Ideal.Frame
public import Idealize.ShloMosaic.Lib.Pipeline.ValueKit.Geometry
public import Idealize.ShloMosaic.Lib.Pipeline.ValueKit.Basic
public import Idealize.ShloMosaic.Lib.Pipeline.ReadBack
public import Idealize.ShloMosaic.Lib.StableHlo.Run

@[expose] public section

set_option maxRecDepth 16384

noncomputable section

namespace Cert.Mixer

open Cert.Ffn Cert.Kernel9Ideal Cert.Kernel9Ideal.Gen Idealize.ShloMosaic Idealize.ShloMosaic.TcCoe Idealize.SL.Sem

/-- A load of the rectangle the last store wrote reads what it wrote. -/
theorem readCov_same {sig : RefSig} {κ : Kind} {sp : Space} {s : Shape} {e : EltTy} (v : View sig κ sp s e)
    {off off' sz : Fin s.rank → ℕ} (inb : ∀ a, off a + sz a ≤ s.size a) (inb' : ∀ a, off' a + sz a ≤ s.size a)
    (w : (Rect.unit off sz inb).shape.Idx → Elt Ideal e) (L : List (View.Piece (Elt Ideal) s e)) (h : off = off') :
    v.readCov (⟨Rect.unit off sz inb, w⟩ :: L) (Rect.unit off' sz inb').toLoadRect = w := by
  subst h; exact View.readCov_cons_toLoadRect _ _ _ _

/-- The normed row `r` at lane `j`, as the step of the mixer computes it. -/
def unit (x0 : Vec Ideal S1x32x1024 .f32) (x1 : Vec Ideal S1x1024 .f32) (r : Fin 32) (j : Fin 1024) : EReal :=
  k1_pay4 x0 x1 (ix2 r j)

/-- The lanes of column `c`'s block. -/
def lane (c : Fin 4096) (l : Fin 128) : Fin 1024 := ⟨128 * (c.val / 512) + l.val, by omega⟩

/-- What a row adds to its state's column `c`: its products with that column of the weights' block, real part. -/
def driveR (x0 : Vec Ideal S1x32x1024 .f32) (x1 : Vec Ideal S1x1024 .f32) (x6 : Vec Ideal S8x128x1024 .bf16)
    (r : Fin 32) (c : Fin 4096) : EReal :=
  ∑ l : Fin 128, unit x0 x1 r (lane c l) * x6 (ix3 ⟨c.val / 512, by omega⟩ l ⟨c.val % 512, by omega⟩)

/-- The imaginary part. -/
def driveI (x0 : Vec Ideal S1x32x1024 .f32) (x1 : Vec Ideal S1x1024 .f32) (x6 : Vec Ideal S8x128x1024 .bf16)
    (r : Fin 32) (c : Fin 4096) : EReal :=
  ∑ l : Fin 128, unit x0 x1 r (lane c l) * x6 (ix3 ⟨c.val / 512, by omega⟩ l ⟨512 + c.val % 512, by omega⟩)

/-- The state after the step, real part. -/
def nextR (x0 : Vec Ideal S1x32x1024 .f32) (x1 : Vec Ideal S1x1024 .f32) (x2 x3 : Vec Ideal S32x4096 .f32)
    (x4 x5 : Vec Ideal S1x4096 .f32) (x6 : Vec Ideal S8x128x1024 .bf16) (r : Fin 32) (c : Fin 4096) : EReal :=
  x4 (ix2 0 c) * x2 (ix2 r c) - x5 (ix2 0 c) * x3 (ix2 r c) + driveR x0 x1 x6 r c

/-- The imaginary part. -/
def nextI (x0 : Vec Ideal S1x32x1024 .f32) (x1 : Vec Ideal S1x1024 .f32) (x2 x3 : Vec Ideal S32x4096 .f32)
    (x4 x5 : Vec Ideal S1x4096 .f32) (x6 : Vec Ideal S8x128x1024 .bf16) (r : Fin 32) (c : Fin 4096) : EReal :=
  x4 (ix2 0 c) * x3 (ix2 r c) + x5 (ix2 0 c) * x2 (ix2 r c) + driveI x0 x1 x6 r c

/-- A store of 512 columns holds its part of `G`, if it does at each row and column. -/
theorem piece_cols (G : Fin 32 → Fin 4096 → EReal) (o : ℕ) (ho : o + 512 ≤ 4096)
    (inb : ∀ a, (![0, o] : Fin 2 → ℕ) a + (![32, 512] : Fin 2 → ℕ) a ≤ S32x4096.size a)
    (w : (⟨2, ![32, 512]⟩ : Shape).Idx → EReal)
    (h : ∀ (r : Fin 32) (q : Fin 512), w (ix2 r q) = G r ⟨o + q.val, by omega⟩)
    (x : (⟨2, ![32, 512]⟩ : Shape).Idx) :
    w x = (fun y : S32x4096.Idx => G (y 0) (y 1)) ((Rect.unit (s := S32x4096) ![0, o] ![32, 512] inb).emb x) := by
  obtain ⟨r, q, rfl⟩ := exists_ix2 (n := 32) (p := 512) x
  rw [h]
  have h0 := ValueKit.rect_emb_unit_val (s := S32x4096) ![0, o] ![32, 512] inb (ix2 r q) 0
  have h1 := ValueKit.rect_emb_unit_val (s := S32x4096) ![0, o] ![32, 512] inb (ix2 r q) 1
  show _ = G _ _
  exact congr (congrArg G (Fin.ext ((Nat.zero_add r.val).symm.trans h0.symm))) (Fin.ext (Eq.trans rfl h1.symm))

/-- The state's column `512 k + q`: its block's own lanes and column. -/
theorem nextR_at (x0 : Vec Ideal S1x32x1024 .f32) (x1 : Vec Ideal S1x1024 .f32) (x2 x3 : Vec Ideal S32x4096 .f32)
    (x4 x5 : Vec Ideal S1x4096 .f32) (x6 : Vec Ideal S8x128x1024 .bf16) (r : Fin 32) (k : Fin 8) (q : Fin 512)
    (h : 512 * k.val + q.val < 4096) :
    nextR x0 x1 x2 x3 x4 x5 x6 r ⟨512 * k.val + q.val, h⟩
      = x4 (ix2 0 ⟨512 * k.val + q.val, h⟩) * x2 (ix2 r ⟨512 * k.val + q.val, h⟩)
          - x5 (ix2 0 ⟨512 * k.val + q.val, h⟩) * x3 (ix2 r ⟨512 * k.val + q.val, h⟩)
        + ∑ l : Fin 128, k1_pay4 x0 x1 (ix2 r ⟨128 * k.val + l.val, by omega⟩) * x6 (ix3 k l ⟨q.val, by omega⟩) := by
  have hk : (512 * k.val + q.val) / 512 = k.val := by omega
  have hq : (512 * k.val + q.val) % 512 = q.val := by omega
  simp only [nextR, driveR, unit, lane, hk, hq]

/-- The same of the imaginary part. -/
theorem nextI_at (x0 : Vec Ideal S1x32x1024 .f32) (x1 : Vec Ideal S1x1024 .f32) (x2 x3 : Vec Ideal S32x4096 .f32)
    (x4 x5 : Vec Ideal S1x4096 .f32) (x6 : Vec Ideal S8x128x1024 .bf16) (r : Fin 32) (k : Fin 8) (q : Fin 512)
    (h : 512 * k.val + q.val < 4096) :
    nextI x0 x1 x2 x3 x4 x5 x6 r ⟨512 * k.val + q.val, h⟩
      = x4 (ix2 0 ⟨512 * k.val + q.val, h⟩) * x3 (ix2 r ⟨512 * k.val + q.val, h⟩)
          + x5 (ix2 0 ⟨512 * k.val + q.val, h⟩) * x2 (ix2 r ⟨512 * k.val + q.val, h⟩)
        + ∑ l : Fin 128, k1_pay4 x0 x1 (ix2 r ⟨128 * k.val + l.val, by omega⟩) * x6 (ix3 k l ⟨512 + q.val, by omega⟩) := by
  have hk : (512 * k.val + q.val) / 512 = k.val := by omega
  have hq : (512 * k.val + q.val) % 512 = q.val := by omega
  simp only [nextI, driveI, unit, lane, hk, hq]

/-- The first block's columns. -/
theorem nextR_first (x0 : Vec Ideal S1x32x1024 .f32) (x1 : Vec Ideal S1x1024 .f32) (x2 x3 : Vec Ideal S32x4096 .f32)
    (x4 x5 : Vec Ideal S1x4096 .f32) (x6 : Vec Ideal S8x128x1024 .bf16) (r : Fin 32) (q : Fin 512) (h : q.val < 4096) :
    nextR x0 x1 x2 x3 x4 x5 x6 r ⟨q.val, h⟩
      = x4 (ix2 0 ⟨q.val, h⟩) * x2 (ix2 r ⟨q.val, h⟩) - x5 (ix2 0 ⟨q.val, h⟩) * x3 (ix2 r ⟨q.val, h⟩)
        + ∑ l : Fin 128, k1_pay4 x0 x1 (ix2 r ⟨l.val, by omega⟩) * x6 (ix3 0 l ⟨q.val, by omega⟩) := by
  have hk : q.val / 512 = 0 := by omega
  have hq : q.val % 512 = q.val := by omega
  simp only [nextR, driveR, unit, lane, hk, hq, Nat.mul_zero, Nat.zero_add]
  rfl

/-- The same of the imaginary part. -/
theorem nextI_first (x0 : Vec Ideal S1x32x1024 .f32) (x1 : Vec Ideal S1x1024 .f32) (x2 x3 : Vec Ideal S32x4096 .f32)
    (x4 x5 : Vec Ideal S1x4096 .f32) (x6 : Vec Ideal S8x128x1024 .bf16) (r : Fin 32) (q : Fin 512) (h : q.val < 4096) :
    nextI x0 x1 x2 x3 x4 x5 x6 r ⟨q.val, h⟩
      = x4 (ix2 0 ⟨q.val, h⟩) * x3 (ix2 r ⟨q.val, h⟩) + x5 (ix2 0 ⟨q.val, h⟩) * x2 (ix2 r ⟨q.val, h⟩)
        + ∑ l : Fin 128, k1_pay4 x0 x1 (ix2 r ⟨l.val, by omega⟩) * x6 (ix3 0 l ⟨512 + q.val, by omega⟩) := by
  have hk : q.val / 512 = 0 := by omega
  have hq : q.val % 512 = q.val := by omega
  simp only [nextI, driveI, unit, lane, hk, hq, Nat.mul_zero, Nat.zero_add]
  rfl

/-- Which column a store of 512 columns covers. -/
theorem col_mem (o : ℕ) (inb : ∀ a, (![0, o] : Fin 2 → ℕ) a + (![32, 512] : Fin 2 → ℕ) a ≤ S32x4096.size a)
    (r : Fin 32) (c : Fin 4096) (h : o ≤ c.val) (h' : c.val < o + 512) :
    (ix2 r c : S32x4096.Idx) ∈ (Rect.unit (s := S32x4096) ![0, o] ![32, 512] inb).set := by
  rw [Rect.mem_set_unit]
  intro a
  match a with
  | ⟨0, _⟩ => exact ⟨Nat.zero_le _, by show r.val < 0 + 32; omega⟩
  | ⟨1, _⟩ => exact ⟨h, h'⟩

/-- The eight blocks of columns. -/
theorem eighth (c : Fin 4096) : c.val < 512 ∨ (512 ≤ c.val ∧ c.val < 1024) ∨ (1024 ≤ c.val ∧ c.val < 1536)
    ∨ (1536 ≤ c.val ∧ c.val < 2048) ∨ (2048 ≤ c.val ∧ c.val < 2560) ∨ (2560 ≤ c.val ∧ c.val < 3072)
    ∨ (3072 ≤ c.val ∧ c.val < 3584) ∨ 3584 ≤ c.val := by omega

theorem no_offset3' : (![0, 0, 0] : Fin 3 → ℕ) = fun _ => 0 := by decide

end Cert.Mixer
-- ==== Proof.MixerReal.lean ====
/-
  The real part of the state the mixer's step leaves.
-/
module

public import proofs.«01_k».proof.Proof.MixerStep
public import proofs.«01_k».proof.Proof.Gen.Kernel9Ideal.Frame
public import Idealize.ShloMosaic.Lib.Pipeline.ValueKit.Geometry
public import Idealize.ShloMosaic.Lib.Pipeline.ValueKit.Basic
public import Idealize.ShloMosaic.Lib.Pipeline.ReadBack
public import Idealize.ShloMosaic.Lib.StableHlo.Run

@[expose] public section

set_option maxRecDepth 16384

noncomputable section

namespace Cert.Mixer

open Cert.Ffn Cert.Kernel9Ideal Cert.Kernel9Ideal.Gen Idealize.ShloMosaic Idealize.ShloMosaic.TcCoe Idealize.SL.Sem

set_option maxHeartbeats 4000000 in
/-- What the step leaves in its real state, at a row and column. -/
theorem scanR (V : (c : Dev nD) → (b : Ref sig .tc) → Buf (Elt Ideal) ((c : Thread nD τ).loc b)) (c : Dev nD)
    (t : Fin cfg1.N) (r : Fin 32) (k : Fin 4096) :
    (outsAt1 V c t).2.1 (ix2 r k)
      = nextR (iblk1 V c 0 t) (iblk1 V c 1 t) (iblk1 V c 2 t) (iblk1 V c 3 t) (iblk1 V c 4 t) (iblk1 V c 5 t)
          (iblk1 V c 6 t) r k := by
  unfold outsAt1
  dsimp only
  unfold out1_A_13
  rw [View.read_writes_junk_eq_canon]
  generalize iblk1 V c 0 t = x0
  generalize iblk1 V c 1 t = x1
  generalize iblk1 V c 2 t = x2
  generalize iblk1 V c 3 t = x3
  generalize iblk1 V c 4 t = x4
  generalize iblk1 V c 5 t = x5
  generalize iblk1 V c 6 t = x6
  generalize iblk1 V c 7 t = x7
  generalize iblk1 V c 8 t = x8
  unfold kernelRun1_A
  dsimp only
  simp (disch := decide) only [kernelRun1_A.sl.v171, kernelRun1_A.sl.v173, kernelRun1_A.sl.v181, kernelRun1_A.sl.v187, kernelRun1_A.sl.v207, kernelRun1_A.sl.v209, kernelRun1_A.sl.v217, kernelRun1_A.sl.v223, kernelRun1_A.sl.v243, kernelRun1_A.sl.v245, kernelRun1_A.sl.v253, kernelRun1_A.sl.v259, kernelRun1_A.sl.v279, kernelRun1_A.sl.v281, kernelRun1_A.sl.v289, kernelRun1_A.sl.v295, kernelRun1_A.sl.v315, kernelRun1_A.sl.v317, kernelRun1_A.sl.v325, kernelRun1_A.sl.v331, kernelRun1_A.sl.v351, kernelRun1_A.sl.v353, kernelRun1_A.sl.v361, kernelRun1_A.sl.v367, kernelRun1_A.sl.v387, kernelRun1_A.sl.v389, kernelRun1_A.sl.v397, kernelRun1_A.sl.v403, kernelRun1_A.sl.v423, kernelRun1_A.sl.v425, kernelRun1_A.sl.v433, kernelRun1_A.sl.v439, kernelRun1_A.sl.v51, kernelRun1_A.sl.v65, kernelRun1_A.sl.v79, kernelRun1_A.sl.v107, kernelRun1_A.sl.v121, kernelRun1_A.sl.v135, kernelRun1_A.sl.v149, kernelRun1_A.sl.v, kernelRun1_A.sl.r, kernelRun1_A.sl.r_1, kernelRun1_A.sl.r_2, kernelRun1_A.sl.r_3, kernelRun1_A.sl.r_4, kernelRun1_A.sl.r_5, kernelRun1_A.sl.r_6, kernelRun1_A.sl.r_7, kernelRun1_A.sl.r_8, kernelRun1_A.sl.r_9, kernelRun1_A.sl.r_10, kernelRun1_A.sl.r_11, kernelRun1_A.sl.r_12, kernelRun1_A.sl.r_13, kernelRun1_A.sl.r_14, kernelRun1_A.sl.r_15, kernelRun1_A.sl.r_16, kernelRun1_A.sl.r_17, kernelRun1_A.sl.r_18, kernelRun1_A.sl.r_19, kernelRun1_A.sl.r_20, kernelRun1_A.sl.r_21, kernelRun1_A.sl.r_22, kernelRun1_A.sl.H13_1, kernelRun1_A.sl.H13_2, kernelRun1_A.sl.H13_3, kernelRun1_A.sl.H13_4, kernelRun1_A.sl.H13_5, kernelRun1_A.sl.H13_6, kernelRun1_A.sl.H13_7, kernelRun1_A.sl.H13_8, kernelRun1_A.sl.H14_1, kernelRun1_A.sl.H14_2, kernelRun1_A.sl.H14_3, kernelRun1_A.sl.H14_4, kernelRun1_A.sl.H14_5, kernelRun1_A.sl.H14_6, kernelRun1_A.sl.H14_7, kernelRun1_A.sl.H14_8, kernelRun1_A.sl.HS0_8, kernelRun1_A.sl.HS1_8, kernelRun1_A.sl.HS2_8, kernelRun1_A.sl.HS1_9, kernelRun1_A.sl.HS1_10, kernelRun1_A.sl.HS1_11, kernelRun1_A.sl.HS1_12, kernelRun1_A.sl.HS1_13, kernelRun1_A.sl.HS1_14, kernelRun1_A.sl.HS1_15, kernelRun1_A.sl.HS1_16, kernelRun1_A.sl.HS2_9, kernelRun1_A.sl.HS2_10, kernelRun1_A.sl.HS2_11, kernelRun1_A.sl.HS2_12, kernelRun1_A.sl.HS2_13, kernelRun1_A.sl.HS2_14, kernelRun1_A.sl.HS2_15, kernelRun1_A.sl.HS2_16, View.readCov_skip, View.readCov_cons_toLoadRect, View.readCov_fill, readCov_same,
    View.readAt_eq_ld, Memref.IsWhole.read_unread]
  simp only [View.ld_unit_zero (S := S1x32x1024) no_offset3', View.ld_unit_zero (S := S1x1024) no_offset,
    View.ld_unit_zero (S := S32x4096) no_offset]
  refine View.canon_append_of_piecesOf (s := S32x4096) (e := .f32) (Val := Elt Ideal)
    (fun y : S32x4096.Idx => nextR x0 x1 x2 x3 x4 x5 x6 (y 0) (y 1)) [_] [_, _, _, _, _, _, _, _]
    ⟨?_, ?_, ?_, ?_, ?_, ?_, ?_, ?_, trivial⟩ (ix2 r k) ?_
  · refine piece_cols _ 3584 (by omega) inb_S32x4096_S32x512_0_3584 _ fun r q => ?_
    simp only [k1_pay2, k1_pay3, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104]
    pointwise
    exact (nextR_at x0 x1 x2 x3 x4 x5 x6 r 7 q _).symm
  · refine piece_cols _ 3072 (by omega) inb_S32x4096_S32x512_0_3072 _ fun r q => ?_
    simp only [k1_pay2, k1_pay3, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104]
    pointwise
    exact (nextR_at x0 x1 x2 x3 x4 x5 x6 r 6 q _).symm
  · refine piece_cols _ 2560 (by omega) inb_S32x4096_S32x512_0_2560 _ fun r q => ?_
    simp only [k1_pay2, k1_pay3, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104]
    pointwise
    exact (nextR_at x0 x1 x2 x3 x4 x5 x6 r 5 q _).symm
  · refine piece_cols _ 2048 (by omega) inb_S32x4096_S32x512_0_2048 _ fun r q => ?_
    simp only [k1_pay2, k1_pay3, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104]
    pointwise
    exact (nextR_at x0 x1 x2 x3 x4 x5 x6 r 4 q _).symm
  · refine piece_cols _ 1536 (by omega) inb_S32x4096_S32x512_0_1536 _ fun r q => ?_
    simp only [k1_pay2, k1_pay3, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104]
    pointwise
    exact (nextR_at x0 x1 x2 x3 x4 x5 x6 r 3 q _).symm
  · refine piece_cols _ 1024 (by omega) inb_S32x4096_S32x512_0_1024 _ fun r q => ?_
    simp only [k1_pay2, k1_pay3, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104]
    pointwise
    exact (nextR_at x0 x1 x2 x3 x4 x5 x6 r 2 q _).symm
  · refine piece_cols _ 512 (by omega) inb_S32x4096_S32x512_0_512 _ fun r q => ?_
    simp only [k1_pay2, k1_pay3, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104]
    pointwise
    exact (nextR_at x0 x1 x2 x3 x4 x5 x6 r 1 q _).symm
  · refine piece_cols _ 0 (by omega) inb_S32x4096_S32x512_0_0 _ fun r q => ?_
    simp only [k1_pay2, k1_pay3, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104]
    pointwise
    exact (nextR_first x0 x1 x2 x3 x4 x5 x6 r q _).symm
  · rcases eighth k with h | h | h | h | h | h | h | h
    · exact ⟨_, .tail _ (.tail _ (.tail _ (.tail _ (.tail _ (.tail _ (.tail _ (.head _))))))), col_mem 0 inb_S32x4096_S32x512_0_0 r k (by omega) (by omega)⟩
    · exact ⟨_, .tail _ (.tail _ (.tail _ (.tail _ (.tail _ (.tail _ (.head _)))))), col_mem 512 inb_S32x4096_S32x512_0_512 r k (by omega) (by omega)⟩
    · exact ⟨_, .tail _ (.tail _ (.tail _ (.tail _ (.tail _ (.head _))))), col_mem 1024 inb_S32x4096_S32x512_0_1024 r k (by omega) (by omega)⟩
    · exact ⟨_, .tail _ (.tail _ (.tail _ (.tail _ (.head _)))), col_mem 1536 inb_S32x4096_S32x512_0_1536 r k (by omega) (by omega)⟩
    · exact ⟨_, .tail _ (.tail _ (.tail _ (.head _))), col_mem 2048 inb_S32x4096_S32x512_0_2048 r k (by omega) (by omega)⟩
    · exact ⟨_, .tail _ (.tail _ (.head _)), col_mem 2560 inb_S32x4096_S32x512_0_2560 r k (by omega) (by omega)⟩
    · exact ⟨_, .tail _ (.head _), col_mem 3072 inb_S32x4096_S32x512_0_3072 r k (by omega) (by omega)⟩
    · exact ⟨_, .head _, col_mem 3584 inb_S32x4096_S32x512_0_3584 r k (by omega) (by omega)⟩

end Cert.Mixer
-- ==== Proof.MixerImag.lean ====
/-
  The imaginary part of the state the mixer's step leaves.
-/
module

public import proofs.«01_k».proof.Proof.MixerStep
public import proofs.«01_k».proof.Proof.Gen.Kernel9Ideal.Frame
public import Idealize.ShloMosaic.Lib.Pipeline.ValueKit.Geometry
public import Idealize.ShloMosaic.Lib.Pipeline.ValueKit.Basic
public import Idealize.ShloMosaic.Lib.Pipeline.ReadBack
public import Idealize.ShloMosaic.Lib.StableHlo.Run

@[expose] public section

set_option maxRecDepth 16384

noncomputable section

namespace Cert.Mixer

open Cert.Ffn Cert.Kernel9Ideal Cert.Kernel9Ideal.Gen Idealize.ShloMosaic Idealize.ShloMosaic.TcCoe Idealize.SL.Sem

set_option maxHeartbeats 4000000 in
/-- What the step leaves in its imaginary state, at a row and column. -/
theorem scanI (V : (c : Dev nD) → (b : Ref sig .tc) → Buf (Elt Ideal) ((c : Thread nD τ).loc b)) (c : Dev nD)
    (t : Fin cfg1.N) (r : Fin 32) (k : Fin 4096) :
    (outsAt1 V c t).2.2 (ix2 r k)
      = nextI (iblk1 V c 0 t) (iblk1 V c 1 t) (iblk1 V c 2 t) (iblk1 V c 3 t) (iblk1 V c 4 t) (iblk1 V c 5 t)
          (iblk1 V c 6 t) r k := by
  unfold outsAt1
  dsimp only
  unfold out1_A_14
  rw [View.read_writes_junk_eq_canon]
  generalize iblk1 V c 0 t = x0
  generalize iblk1 V c 1 t = x1
  generalize iblk1 V c 2 t = x2
  generalize iblk1 V c 3 t = x3
  generalize iblk1 V c 4 t = x4
  generalize iblk1 V c 5 t = x5
  generalize iblk1 V c 6 t = x6
  generalize iblk1 V c 7 t = x7
  generalize iblk1 V c 8 t = x8
  unfold kernelRun1_A
  dsimp only
  simp (disch := decide) only [kernelRun1_A.sl.v171, kernelRun1_A.sl.v173, kernelRun1_A.sl.v181, kernelRun1_A.sl.v187, kernelRun1_A.sl.v207, kernelRun1_A.sl.v209, kernelRun1_A.sl.v217, kernelRun1_A.sl.v223, kernelRun1_A.sl.v243, kernelRun1_A.sl.v245, kernelRun1_A.sl.v253, kernelRun1_A.sl.v259, kernelRun1_A.sl.v279, kernelRun1_A.sl.v281, kernelRun1_A.sl.v289, kernelRun1_A.sl.v295, kernelRun1_A.sl.v315, kernelRun1_A.sl.v317, kernelRun1_A.sl.v325, kernelRun1_A.sl.v331, kernelRun1_A.sl.v351, kernelRun1_A.sl.v353, kernelRun1_A.sl.v361, kernelRun1_A.sl.v367, kernelRun1_A.sl.v387, kernelRun1_A.sl.v389, kernelRun1_A.sl.v397, kernelRun1_A.sl.v403, kernelRun1_A.sl.v423, kernelRun1_A.sl.v425, kernelRun1_A.sl.v433, kernelRun1_A.sl.v439, kernelRun1_A.sl.v51, kernelRun1_A.sl.v65, kernelRun1_A.sl.v79, kernelRun1_A.sl.v107, kernelRun1_A.sl.v121, kernelRun1_A.sl.v135, kernelRun1_A.sl.v149, kernelRun1_A.sl.v, kernelRun1_A.sl.r, kernelRun1_A.sl.r_1, kernelRun1_A.sl.r_2, kernelRun1_A.sl.r_3, kernelRun1_A.sl.r_4, kernelRun1_A.sl.r_5, kernelRun1_A.sl.r_6, kernelRun1_A.sl.r_7, kernelRun1_A.sl.r_8, kernelRun1_A.sl.r_9, kernelRun1_A.sl.r_10, kernelRun1_A.sl.r_11, kernelRun1_A.sl.r_12, kernelRun1_A.sl.r_13, kernelRun1_A.sl.r_14, kernelRun1_A.sl.r_15, kernelRun1_A.sl.r_16, kernelRun1_A.sl.r_17, kernelRun1_A.sl.r_18, kernelRun1_A.sl.r_19, kernelRun1_A.sl.r_20, kernelRun1_A.sl.r_21, kernelRun1_A.sl.r_22, kernelRun1_A.sl.H13_1, kernelRun1_A.sl.H13_2, kernelRun1_A.sl.H13_3, kernelRun1_A.sl.H13_4, kernelRun1_A.sl.H13_5, kernelRun1_A.sl.H13_6, kernelRun1_A.sl.H13_7, kernelRun1_A.sl.H13_8, kernelRun1_A.sl.H14_1, kernelRun1_A.sl.H14_2, kernelRun1_A.sl.H14_3, kernelRun1_A.sl.H14_4, kernelRun1_A.sl.H14_5, kernelRun1_A.sl.H14_6, kernelRun1_A.sl.H14_7, kernelRun1_A.sl.H14_8, kernelRun1_A.sl.HS0_8, kernelRun1_A.sl.HS1_8, kernelRun1_A.sl.HS2_8, kernelRun1_A.sl.HS1_9, kernelRun1_A.sl.HS1_10, kernelRun1_A.sl.HS1_11, kernelRun1_A.sl.HS1_12, kernelRun1_A.sl.HS1_13, kernelRun1_A.sl.HS1_14, kernelRun1_A.sl.HS1_15, kernelRun1_A.sl.HS1_16, kernelRun1_A.sl.HS2_9, kernelRun1_A.sl.HS2_10, kernelRun1_A.sl.HS2_11, kernelRun1_A.sl.HS2_12, kernelRun1_A.sl.HS2_13, kernelRun1_A.sl.HS2_14, kernelRun1_A.sl.HS2_15, kernelRun1_A.sl.HS2_16, View.readCov_skip, View.readCov_cons_toLoadRect, View.readCov_fill, readCov_same,
    View.readAt_eq_ld, Memref.IsWhole.read_unread]
  simp only [View.ld_unit_zero (S := S1x32x1024) no_offset3', View.ld_unit_zero (S := S1x1024) no_offset,
    View.ld_unit_zero (S := S32x4096) no_offset]
  refine View.canon_append_of_piecesOf (s := S32x4096) (e := .f32) (Val := Elt Ideal)
    (fun y : S32x4096.Idx => nextI x0 x1 x2 x3 x4 x5 x6 (y 0) (y 1)) [_] [_, _, _, _, _, _, _, _]
    ⟨?_, ?_, ?_, ?_, ?_, ?_, ?_, ?_, trivial⟩ (ix2 r k) ?_
  · refine piece_cols _ 3584 (by omega) inb_S32x4096_S32x512_0_3584 _ fun r q => ?_
    simp only [k1_pay2, k1_pay3, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104]
    pointwise
    exact (nextI_at x0 x1 x2 x3 x4 x5 x6 r 7 q _).symm
  · refine piece_cols _ 3072 (by omega) inb_S32x4096_S32x512_0_3072 _ fun r q => ?_
    simp only [k1_pay2, k1_pay3, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104]
    pointwise
    exact (nextI_at x0 x1 x2 x3 x4 x5 x6 r 6 q _).symm
  · refine piece_cols _ 2560 (by omega) inb_S32x4096_S32x512_0_2560 _ fun r q => ?_
    simp only [k1_pay2, k1_pay3, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104]
    pointwise
    exact (nextI_at x0 x1 x2 x3 x4 x5 x6 r 5 q _).symm
  · refine piece_cols _ 2048 (by omega) inb_S32x4096_S32x512_0_2048 _ fun r q => ?_
    simp only [k1_pay2, k1_pay3, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104]
    pointwise
    exact (nextI_at x0 x1 x2 x3 x4 x5 x6 r 4 q _).symm
  · refine piece_cols _ 1536 (by omega) inb_S32x4096_S32x512_0_1536 _ fun r q => ?_
    simp only [k1_pay2, k1_pay3, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104]
    pointwise
    exact (nextI_at x0 x1 x2 x3 x4 x5 x6 r 3 q _).symm
  · refine piece_cols _ 1024 (by omega) inb_S32x4096_S32x512_0_1024 _ fun r q => ?_
    simp only [k1_pay2, k1_pay3, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104]
    pointwise
    exact (nextI_at x0 x1 x2 x3 x4 x5 x6 r 2 q _).symm
  · refine piece_cols _ 512 (by omega) inb_S32x4096_S32x512_0_512 _ fun r q => ?_
    simp only [k1_pay2, k1_pay3, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104]
    pointwise
    exact (nextI_at x0 x1 x2 x3 x4 x5 x6 r 1 q _).symm
  · refine piece_cols _ 0 (by omega) inb_S32x4096_S32x512_0_0 _ fun r q => ?_
    simp only [k1_pay2, k1_pay3, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90, k1_pay91, k1_pay92, k1_pay93, k1_pay94, k1_pay95, k1_pay96, k1_pay97, k1_pay98, k1_pay99, k1_pay100, k1_pay101, k1_pay102, k1_pay103, k1_pay104]
    pointwise
    exact (nextI_first x0 x1 x2 x3 x4 x5 x6 r q _).symm
  · rcases eighth k with h | h | h | h | h | h | h | h
    · exact ⟨_, .tail _ (.tail _ (.tail _ (.tail _ (.tail _ (.tail _ (.tail _ (.head _))))))), col_mem 0 inb_S32x4096_S32x512_0_0 r k (by omega) (by omega)⟩
    · exact ⟨_, .tail _ (.tail _ (.tail _ (.tail _ (.tail _ (.tail _ (.head _)))))), col_mem 512 inb_S32x4096_S32x512_0_512 r k (by omega) (by omega)⟩
    · exact ⟨_, .tail _ (.tail _ (.tail _ (.tail _ (.tail _ (.head _))))), col_mem 1024 inb_S32x4096_S32x512_0_1024 r k (by omega) (by omega)⟩
    · exact ⟨_, .tail _ (.tail _ (.tail _ (.tail _ (.head _)))), col_mem 1536 inb_S32x4096_S32x512_0_1536 r k (by omega) (by omega)⟩
    · exact ⟨_, .tail _ (.tail _ (.tail _ (.head _))), col_mem 2048 inb_S32x4096_S32x512_0_2048 r k (by omega) (by omega)⟩
    · exact ⟨_, .tail _ (.tail _ (.head _)), col_mem 2560 inb_S32x4096_S32x512_0_2560 r k (by omega) (by omega)⟩
    · exact ⟨_, .tail _ (.head _), col_mem 3072 inb_S32x4096_S32x512_0_3072 r k (by omega) (by omega)⟩
    · exact ⟨_, .head _, col_mem 3584 inb_S32x4096_S32x512_0_3584 r k (by omega) (by omega)⟩

end Cert.Mixer
-- ==== Proof.FfnRefSamples.lean ====
/-
  The reference's parts on the 32 samples, each read at an index: they are the functions of the rows.
-/
module

public import proofs.«01_k».proof.Proof.FfnRow
public import proofs.«01_k».proof.Proof.Gen.Reference3Ideal
public import Idealize.ShloMosaic.Lib.Pointwise

@[expose] public section

set_option maxRecDepth 16384

noncomputable section

namespace Cert.Ffn.RefSamples

open Cert.Reference3Ideal Cert.Reference3Ideal.Gen Idealize.ShloMosaic Idealize.ShloMosaic.TcCoe

/-- The reference's normalisation. -/
def norm (x : FVec Ideal S32x1x1024 .f32) (g : FVec Ideal S1024 .f32) : FVec Ideal S32x1x1024 .f32 :=
  mulf (mulf x (broadcastInDim S32x1x1024 ![0, 1, 2] bcast_S32x1x1_S32x1x1024_0_1_2 (Host.rsqrt (addf (Host.divf
    (broadcastInDim S32x1x1 ![0, 1] bcast_S32x1_S32x1x1_0_1 (Host.reduceAdd (mulf x x) (constant S_ .f32 0x00000000#32) reducesTo_S32x1x1024_S32x1_d2 h_S_))
    (broadcastInDim S32x1x1 ![] bcast_S_S32x1x1 (constant S_ .f32 0x44800000#32))) (broadcastInDim S32x1x1 ![] bcast_S_S32x1x1 (constant S_ .f32 0x358637BD#32))))))
    (broadcastInDim S32x1x1024 ![0, 1, 2] bcast_S1x1x1024_S32x1x1024_0_1_2 (broadcastInDim S1x1x1024 ![2] bcast_S1024_S1x1x1024_2 g))

/-- The reference's gated hidden values, of the row through the first matrix. -/
def gated (u : FVec Ideal S32x1x5632 .f32) : FVec Ideal S32x1x2816 .f32 :=
  mulf (mulf (extractStridedSlice S32x1x2816 ![0, 0, 0] u slices_S32x1x5632_S32x1x2816_0_0_0)
    (Host.divf (broadcastInDim S32x1x2816 ![] bcast_S_S32x1x2816 (constant S_ .f32 0x3F800000#32))
      (addf (broadcastInDim S32x1x2816 ![] bcast_S_S32x1x2816 (constant S_ .f32 0x3F800000#32))
        (Host.exp (Host.negf (extractStridedSlice S32x1x2816 ![0, 0, 0] u slices_S32x1x5632_S32x1x2816_0_0_0))))))
    (extractStridedSlice S32x1x2816 ![0, 0, 2816] u slices_S32x1x5632_S32x1x2816_0_0_2816)

/-- The reference's rows plus half of their feed-forward part. -/
def feed (x : FVec Ideal S32x1x1024 .f32) (g : FVec Ideal S1024 .f32) (wi : FVec Ideal S1024x5632 .f32) (wo : FVec Ideal S2816x1024 .f32) :
    FVec Ideal S32x1x1024 .f32 :=
  addf x (mulf (broadcastInDim S32x1x1024 ![] bcast_S_S32x1x1024 (constant S_ .f32 0x3F000000#32))
    (Host.dotGeneral dot_S32x1x2816_S2816x1024_S32x1x1024_2_0_01_1_n_n none
      (gated (Host.dotGeneral dot_S32x1x1024_S1024x5632_S32x1x5632_2_0_01_1_n_n none (norm x g) wi)) wo))

theorem norm_apply (x : FVec Ideal S32x1x1024 .f32) (g : FVec Ideal S1024 .f32) (R : Fin 32) (k : Fin 1024) :
    norm x g (ix3 R 0 k) = normed (fun k => x (ix3 R 0 k)) (vec g) k := by
  unfold norm; pointwise; rfl

theorem gated_apply (u : FVec Ideal S32x1x5632 .f32) (R : Fin 32) (n : Fin 2816) :
    gated u (ix3 R 0 n) = gate (u (ix3 R 0 ⟨n.val, by omega⟩)) (u (ix3 R 0 ⟨2816 + n.val, by omega⟩)) := by
  unfold gate; rw [← logistic_eq]; unfold gated; pointwise

theorem feed_apply (x : FVec Ideal S32x1x1024 .f32) (g : FVec Ideal S1024 .f32) (wi : FVec Ideal S1024x5632 .f32) (wo : FVec Ideal S2816x1024 .f32)
    (R : Fin 32) (k : Fin 1024) :
    feed x g wi wo (ix3 R 0 k) = fedBy (fun k => x (ix3 R 0 k)) g wi wo k := by
  unfold feed
  generalize hy : norm x g = y
  pointwise
  simp only [gated_apply]
  pointwise
  subst hy
  simp only [norm_apply]
  rfl

end Cert.Ffn.RefSamples

end
-- ==== Proof.MixerWords.lean ====
/-
  The two masks of the mixer's decoding step: which state a column copies, and which rows and columns share a group.
-/
module

public import proofs.«01_k».proof.Proof.FfnRow
public import proofs.«01_k».proof.Proof.Gen.Kernel9Ideal.Frame
public import Idealize.ShloMosaic.Lib.Pipeline.ValueKit.Geometry
public import Idealize.ShloMosaic.Lib.Pipeline.ValueKit.Basic
public import Idealize.ShloMosaic.Lib.StableHlo.Run

@[expose] public section

set_option maxRecDepth 16384

noncomputable section

namespace Cert.Mixer

open Cert.Ffn Cert.Kernel9Ideal Cert.Kernel9Ideal.Gen Idealize.ShloMosaic Idealize.ShloMosaic.TcCoe Idealize.SL.Sem

/-- Which of a group's 64 states a column copies. -/
theorem copies_word (p : Fin 64) (c : Fin 512) : k0_pay26 (ix2 p c) = if p.val = c.val % 64 then 1#1 else 0#1 := by
  unfold k0_pay26
  pointwise
  revert p c
  decide +kernel

/-- Which rows and columns of a block belong to one group. -/
theorem mask_word (p : Fin 128) (c : Fin 512) :
    k0_pay34 (iota .tc S128x512 32 [0] iota_S128x512_d0_w32) 16#32 k0_pay31 k0_pay32 k0_pay33 (ix2 p c)
      = if p.val / 16 = c.val / 64 then 1#1 else 0#1 := by
  unfold k0_pay34 k0_pay31 k0_pay32 k0_pay33
  pointwise
  revert p c
  decide +kernel

/-- The copies as numbers. -/
theorem copies_at (p : Fin 64) (c : Fin 512) :
    (k0_pay28 k0_pay26 (Scalar.ofBits .f32 0x00000000#32) (k0_pay27 (F := Ideal)) : FVec Ideal S64x512 .bf16) (ix2 p c)
      = if p.val = c.val % 64 then (1 : EReal) else 0 := by
  unfold k0_pay28 k0_pay27
  pointwise
  rw [copies_word]
  split
  · rfl
  · rfl

end Cert.Mixer
-- ==== Proof.MixerWeights.lean ====
/-
  The weights of the mixer's decoding step: its transition, and its input weights in blocks of eight groups, zero off the
  diagonal.
-/
module

public import proofs.«01_k».proof.Proof.MixerWords
public import proofs.«01_k».proof.Proof.Gen.Kernel9Ideal.Frame
public import Idealize.ShloMosaic.Lib.Pipeline.ValueKit.Geometry
public import Idealize.ShloMosaic.Lib.Pipeline.ValueKit.Basic
public import Idealize.ShloMosaic.Lib.StableHlo.Run
public import Idealize.ShloMosaic.Lib.Pipeline.ReadBack

@[expose] public section

set_option maxRecDepth 16384

noncomputable section

namespace Cert.Mixer

open Cert.Ffn Cert.Kernel9Ideal Cert.Kernel9Ideal.Gen Idealize.ShloMosaic Idealize.ShloMosaic.TcCoe Idealize.SL.Sem

section block

variable (a b : FVec Ideal S64x16x64 .f32) (r : FVec Ideal S64x512 .bf16) (msk : IVec S128x512 1)

/-- An input weight in its block: the group's own, at its row and column, and zero elsewhere. -/
def spread (a : FVec Ideal S64x16x64 .f32) (k : Fin 8) (l : Fin 128) (c : Fin 512) : EReal :=
  if l.val / 16 = c.val / 64 then
    a (ix3 ⟨8 * k.val + l.val / 16, by omega⟩ ⟨l.val % 16, by omega⟩ ⟨c.val % 64, by omega⟩) else 0

/-- A block: its real half, then its imaginary half. -/
def block (a b : FVec Ideal S64x16x64 .f32) (k : Fin 8) (l : Fin 128) (c : Fin 1024) : EReal :=
  if h : c.val < 512 then spread a k l ⟨c.val, h⟩ else spread b k l ⟨c.val - 512, by omega⟩

variable (hr : ∀ (p : Fin 64) (c : Fin 512), r (ix2 p c) = if p.val = c.val % 64 then (1 : EReal) else 0)
  (hm : ∀ (p : Fin 128) (c : Fin 512), msk (ix2 p c) = if p.val / 16 = c.val / 64 then 1#1 else 0#1)

include hr hm

/-- One half of a block. -/
theorem half_at (k : Fin 8) (l : Fin 128) (c : Fin 512) :
    Scalar.select (msk (ix2 l c))
        (∑ x : Fin 64, a (ix3 ⟨8 * k.val + l.val / 16, by omega⟩ ⟨l.val % 16, by omega⟩ x) * r (ix2 x c)) 0
      = spread a k l c := by
  rw [hm]
  unfold spread
  by_cases h : l.val / 16 = c.val / 64
  · rw [if_pos h, if_pos h]
    show (∑ x : Fin 64, a (ix3 ⟨8 * k.val + l.val / 16, by omega⟩ ⟨l.val % 16, by omega⟩ x) * r (ix2 x c) : EReal) = _
    rw [Finset.sum_eq_single (⟨c.val % 64, by omega⟩ : Fin 64)]
    · rw [hr, if_pos rfl, mul_one]
    · intro x _ hx
      rw [hr, if_neg fun e => hx (Fin.ext e), mul_zero]
    · exact fun h => absurd (Finset.mem_univ _) h
  · rw [if_neg h, if_neg h]
    rfl

/-- The first block's half. -/
theorem half_first (l : Fin 128) (c : Fin 512) :
    Scalar.select (msk (ix2 l c))
        (∑ x : Fin 64, a (ix3 ⟨l.val / 16, by omega⟩ ⟨l.val % 16, by omega⟩ x) * r (ix2 x c)) 0
      = spread a 0 l c := by
  refine Eq.trans ?_ (half_at a r msk hr hm 0 l c)
  have e : ∀ h, (⟨l.val / 16, h⟩ : Fin 64) = ⟨8 * (0 : Fin 8).val + l.val / 16, by omega⟩ := fun h =>
    Fin.ext (by show l.val / 16 = 8 * 0 + l.val / 16; omega)
  rw [e]

theorem block0 (l : Fin 128) (c : Fin 1024) :
    (k0_pay43 a b r msk : Vec Ideal S1x128x1024 .bf16) (ix3 0 l c) = block a b 0 l c := by
  simp only [k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125]
  pointwise
  unfold block
  split
  · exact half_first a r msk hr hm l ⟨c.val, _⟩
  · exact half_first b r msk hr hm l ⟨c.val - 512, _⟩

theorem block1 (l : Fin 128) (c : Fin 1024) :
    (k0_pay54 b r msk (k0_pay52 a r msk) : Vec Ideal S1x128x1024 .bf16) (ix3 0 l c) = block a b 1 l c := by
  simp only [k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125]
  pointwise
  unfold block
  split
  · exact half_at a r msk hr hm 1 l ⟨c.val, _⟩
  · exact half_at b r msk hr hm 1 l ⟨c.val - 512, _⟩

theorem block2 (l : Fin 128) (c : Fin 1024) :
    (k0_pay65 (k0_pay64 a b r msk) : Vec Ideal S1x128x1024 .bf16) (ix3 0 l c) = block a b 2 l c := by
  simp only [k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125]
  pointwise
  unfold block
  split
  · exact half_at a r msk hr hm 2 l ⟨c.val, _⟩
  · exact half_at b r msk hr hm 2 l ⟨c.val - 512, _⟩

theorem block3 (l : Fin 128) (c : Fin 1024) :
    (k0_pay75 a b r msk : Vec Ideal S1x128x1024 .bf16) (ix3 0 l c) = block a b 3 l c := by
  simp only [k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125]
  pointwise
  unfold block
  split
  · exact half_at a r msk hr hm 3 l ⟨c.val, _⟩
  · exact half_at b r msk hr hm 3 l ⟨c.val - 512, _⟩

theorem block4 (l : Fin 128) (c : Fin 1024) :
    (k0_pay88 a b r msk : Vec Ideal S1x128x1024 .bf16) (ix3 0 l c) = block a b 4 l c := by
  simp only [k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125]
  pointwise
  unfold block
  split
  · exact half_at a r msk hr hm 4 l ⟨c.val, _⟩
  · exact half_at b r msk hr hm 4 l ⟨c.val - 512, _⟩

theorem block5 (l : Fin 128) (c : Fin 1024) :
    (k0_pay99 a b r msk : Vec Ideal S1x128x1024 .bf16) (ix3 0 l c) = block a b 5 l c := by
  simp only [k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125]
  pointwise
  unfold block
  split
  · exact half_at a r msk hr hm 5 l ⟨c.val, _⟩
  · exact half_at b r msk hr hm 5 l ⟨c.val - 512, _⟩

theorem block6 (l : Fin 128) (c : Fin 1024) :
    (k0_pay110 b r msk (k0_pay108 a r msk) : Vec Ideal S1x128x1024 .bf16) (ix3 0 l c) = block a b 6 l c := by
  simp only [k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125]
  pointwise
  unfold block
  split
  · exact half_at a r msk hr hm 6 l ⟨c.val, _⟩
  · exact half_at b r msk hr hm 6 l ⟨c.val - 512, _⟩

theorem block7 (l : Fin 128) (c : Fin 1024) :
    (k0_pay121 (k0_pay120 a b r msk) : Vec Ideal S1x128x1024 .bf16) (ix3 0 l c) = block a b 7 l c := by
  simp only [k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125]
  pointwise
  unfold block
  split
  · exact half_at a r msk hr hm 7 l ⟨c.val, _⟩
  · exact half_at b r msk hr hm 7 l ⟨c.val - 512, _⟩

end block

theorem exists_ix3 {n p q : ℕ} (i : (⟨3, ![n, p, q]⟩ : Shape).Idx) : ∃ b r j, i = ix3 b r j :=
  ⟨i 0, i 1, i 2, by funext a; match a with | ⟨0, _⟩ => rfl | ⟨1, _⟩ => rfl | ⟨2, _⟩ => rfl⟩

/-- A store of one block holds its part of `G`, if it does at each row and column. -/
theorem piece_block (G : Fin 8 → Fin 128 → Fin 1024 → EReal) (k : Fin 8)
    (inb : ∀ a, (![k.val, 0, 0] : Fin 3 → ℕ) a + S1x128x1024.size a ≤ S8x128x1024.size a)
    (w : S1x128x1024.Idx → EReal)
    (h : ∀ (l : Fin 128) (c : Fin 1024), w (ix3 0 l c) = G k l c) (x : S1x128x1024.Idx) :
    w x = (fun y : S8x128x1024.Idx => G (y 0) (y 1) (y 2))
      ((Rect.unit (s := S8x128x1024) ![k.val, 0, 0] S1x128x1024.size inb).emb x) := by
  obtain ⟨z, l, c, rfl⟩ := exists_ix3 (n := 1) (p := 128) (q := 1024) x
  obtain rfl : z = 0 := Subsingleton.elim _ _
  rw [h]
  have h0 := ValueKit.rect_emb_unit_val (s := S8x128x1024) ![k.val, 0, 0] S1x128x1024.size inb (ix3 0 l c) 0
  have h1 := ValueKit.rect_emb_unit_val (s := S8x128x1024) ![k.val, 0, 0] S1x128x1024.size inb (ix3 0 l c) 1
  have h2 := ValueKit.rect_emb_unit_val (s := S8x128x1024) ![k.val, 0, 0] S1x128x1024.size inb (ix3 0 l c) 2
  exact congr (congr (congrArg G (Fin.ext ((Nat.add_zero k.val).symm.trans h0.symm)))
    (Fin.ext ((Nat.zero_add l.val).symm.trans h1.symm))) (Fin.ext ((Nat.zero_add c.val).symm.trans h2.symm))

/-! ## The transition and the input weights, as formulas -/

/-- The transition of a state, real part: `exp (λ · step)` with `λ = lr + i li` and `step = exp t`. -/
def stepR (t lr li : EReal) : EReal := Ideal.exp (lr * Ideal.exp t) * Ideal.cos (li * Ideal.exp t)

/-- The imaginary part. -/
def stepI (t lr li : EReal) : EReal := Ideal.exp (lr * Ideal.exp t) * Ideal.sin (li * Ideal.exp t)

/-- The factor of the input weights, `(a − 1) / λ`, real part. -/
def factorR (t lr li : EReal) : EReal :=
  Ideal.div ((stepR t lr li - 1) * lr + stepI t lr li * li) (lr * lr + li * li)

/-- The imaginary part. -/
def factorI (t lr li : EReal) : EReal :=
  Ideal.div (stepI t lr li * lr - (stepR t lr li - 1) * li) (lr * lr + li * li)

/-- An input weight, real part. -/
def inR (t lr li br bi : EReal) : EReal := factorR t lr li * br - factorI t lr li * bi

/-- The imaginary part. -/
def inI (t lr li br bi : EReal) : EReal := factorR t lr li * bi + factorI t lr li * br

section weights

variable (x0 : Vec Ideal S64x1 .f32) (x1 x2 : Vec Ideal S64x64 .f32) (x3 x4 x5 x6 : Vec Ideal S64x16x64 .f32)

/-- What the first call leaves in the blocks of input weights. -/
theorem weights_at (k : Fin 8) (l : Fin 128) (c : Fin 1024) :
    out0_9 x0 x1 x2 x3 x4 x5 x6 (ix3 k l c)
      = block (k0_pay136 x0 x1 x2 x3 x4 x5 x6) (k0_pay137 x0 x1 x2 x3 x4 x5 x6) k l c := by
  have hr : ∀ (p : Fin 64) (c : Fin 512), k0_pay146 x0 x1 x2 x3 x4 x5 x6 (ix2 p c) = if p.val = c.val % 64 then (1 : EReal) else 0 :=
    copies_at
  have hm : ∀ (p : Fin 128) (c : Fin 512), k0_pay149 x0 x1 x2 x3 x4 x5 x6 (ix2 p c) = if p.val / 16 = c.val / 64 then 1#1 else 0#1 :=
    mask_word
  unfold out0_9 k0_pay152 k0_pay153
  generalize k0_pay136 x0 x1 x2 x3 x4 x5 x6 = a
  generalize k0_pay137 x0 x1 x2 x3 x4 x5 x6 = b
  generalize k0_pay146 x0 x1 x2 x3 x4 x5 x6 = r at hr ⊢
  generalize k0_pay149 x0 x1 x2 x3 x4 x5 x6 = msk at hm ⊢
  refine View.canon_append_of_piecesOf (s := S8x128x1024) (e := .bf16) (Val := Elt Ideal)
    (fun y : S8x128x1024.Idx => block a b (y 0) (y 1) (y 2)) [] [_, _, _, _, _, _, _, _]
    ⟨?_, ?_, ?_, ?_, ?_, ?_, ?_, ?_, trivial⟩ (ix3 k l c) (cover0_9 _ _ _ _ _ _ _ _ _)
  · exact piece_block (block a b) 7 inb_S8x128x1024_S1x128x1024_7_0_0 _ (block7 a b r msk hr hm)
  · exact piece_block (block a b) 6 inb_S8x128x1024_S1x128x1024_6_0_0 _ (block6 a b r msk hr hm)
  · exact piece_block (block a b) 5 inb_S8x128x1024_S1x128x1024_5_0_0 _ (block5 a b r msk hr hm)
  · exact piece_block (block a b) 4 inb_S8x128x1024_S1x128x1024_4_0_0 _ (block4 a b r msk hr hm)
  · exact piece_block (block a b) 3 inb_S8x128x1024_S1x128x1024_3_0_0 _ (block3 a b r msk hr hm)
  · exact piece_block (block a b) 2 inb_S8x128x1024_S1x128x1024_2_0_0 _ (block2 a b r msk hr hm)
  · exact piece_block (block a b) 1 inb_S8x128x1024_S1x128x1024_1_0_0 _ (block1 a b r msk hr hm)
  · exact piece_block (block a b) 0 inb_S8x128x1024_S1x128x1024_0_0_0 _ (block0 a b r msk hr hm)

/-- What the first call leaves in the real transition. -/
theorem stepR_at (g p : Fin 64) :
    out0_7 x0 x1 x2 x3 x4 x5 x6 (ix2 g p) = stepR (x0 (ix2 g 0)) (x1 (ix2 g p)) (x2 (ix2 g p)) := by
  unfold out0_7; rw [View.canon_unit_zero no_offset]; unfold k0_pay4 k0_pay3 k0_pay2; pointwise; rfl

/-- The imaginary transition. -/
theorem stepI_at (g p : Fin 64) :
    out0_8 x0 x1 x2 x3 x4 x5 x6 (ix2 g p) = stepI (x0 (ix2 g 0)) (x1 (ix2 g p)) (x2 (ix2 g p)) := by
  unfold out0_8; rw [View.canon_unit_zero no_offset]; unfold k0_pay5 k0_pay3 k0_pay2; pointwise; rfl

/-- The input weights, real part. -/
theorem inR_at (g : Fin 64) (h : Fin 16) (p : Fin 64) :
    k0_pay136 x0 x1 x2 x3 x4 x5 x6 (ix3 g h p)
      = inR (x0 (ix2 g 0)) (x1 (ix2 g p)) (x2 (ix2 g p)) (x3 (ix3 g h p)) (x4 (ix3 g h p)) := by
  unfold k0_pay136 k0_pay132 k0_pay134 k0_pay135
  simp only [View.ld_unit_zero (S := S64x1) no_offset, View.ld_unit_zero (S := S64x64) no_offset]
  simp only [k0_pay2, k0_pay3, k0_pay4, k0_pay5, k0_pay6, k0_pay7, k0_pay8, k0_pay9, k0_pay10, k0_pay11, k0_pay12]
  pointwise
  rfl

/-- The imaginary part. -/
theorem inI_at (g : Fin 64) (h : Fin 16) (p : Fin 64) :
    k0_pay137 x0 x1 x2 x3 x4 x5 x6 (ix3 g h p)
      = inI (x0 (ix2 g 0)) (x1 (ix2 g p)) (x2 (ix2 g p)) (x3 (ix3 g h p)) (x4 (ix3 g h p)) := by
  unfold k0_pay137 k0_pay131 k0_pay132 k0_pay133 k0_pay134
  simp only [View.ld_unit_zero (S := S64x1) no_offset, View.ld_unit_zero (S := S64x64) no_offset]
  simp only [k0_pay2, k0_pay3, k0_pay4, k0_pay5, k0_pay6, k0_pay7, k0_pay8, k0_pay9, k0_pay10, k0_pay13]
  pointwise
  rfl

end weights

end Cert.Mixer
-- ==== Proof.MixerRef.lean ====
/-
  The reference's step of the mixer's state, read at a sample, a group and a state: it is the formulas of the row.
-/
module

public import proofs.«01_k».proof.Proof.FfnRefSamples
public import proofs.«01_k».proof.Proof.MixerWeights
public import proofs.«01_k».proof.Proof.Gen.Reference9Ideal
public import Idealize.ShloMosaic.Lib.Pointwise
public import Idealize.ShloMosaic.Lib.Routing.OpsPair
public import Idealize.ShloMosaic.Lib.Routing.OpsOrder

@[expose] public section

set_option maxRecDepth 16384

noncomputable section

namespace Cert.Mixer.Ref

open Cert.Ffn Cert.Reference9Ideal Cert.Reference9Ideal.Gen Idealize.ShloMosaic Idealize.ShloMosaic.TcCoe

/-! ## The addition at one index -/

theorem foldl_once {α β : Type} (p : β → Prop) [DecidablePred p] (f : α → α → α) (u : β → α) (k : β) (hp : ∀ j, p j ↔ j = k)
    (L : List β) (hL : L.Nodup) (x : α) :
    (k ∈ L → L.foldl (fun a j => if p j then f a (u j) else a) x = f x (u k))
      ∧ (k ∉ L → L.foldl (fun a j => if p j then f a (u j) else a) x = x) := by
  induction L generalizing x with
  | nil => exact ⟨nofun, fun _ => rfl⟩
  | cons a l ih =>
    obtain ⟨ha, hl⟩ := List.nodup_cons.1 hL
    rw [List.foldl_cons]
    by_cases e : a = k
    · subst e
      rw [if_pos ((hp a).2 rfl)]
      exact ⟨fun _ => (ih hl _).2 ha, fun h => absurd List.mem_cons_self h⟩
    · rw [if_neg fun q => e ((hp a).1 q)]
      exact ⟨fun h => (ih hl _).1 ((List.mem_cons.1 h).resolve_left fun q => e q.symm),
        fun h => (ih hl _).2 fun q => h (List.mem_cons_of_mem a q)⟩

/-- The number of the one place. -/
abbrev first : IVec S1 32 := broadcastInDim S1 ![] bcast_S_S1 (constantI S_ 32 0#32)

theorem lands (r r' : Fin 32) (g g' p p' : Fin 64) :
    scatter_S1x32x64x64_S1_S32x64x64_012_0_0_0.resultIdx? (ix3 r' g' p') first = some (ix4 0 r g p)
      ↔ r' = r ∧ g' = g ∧ p' = p := by
  rw [Routing.resultIdx?_eq_some]
  have s0 : scatter_S1x32x64x64_S1_S32x64x64_012_0_0_0.start (ix3 r' g' p') first 0 = 0 := rfl
  have s1 : scatter_S1x32x64x64_S1_S32x64x64_012_0_0_0.start (ix3 r' g' p') first 1 = 0 := rfl
  have s2 : scatter_S1x32x64x64_S1_S32x64x64_012_0_0_0.start (ix3 r' g' p') first 2 = 0 := rfl
  have s3 : scatter_S1x32x64x64_S1_S32x64x64_012_0_0_0.start (ix3 r' g' p') first 3 = 0 := rfl
  have w0 : scatter_S1x32x64x64_S1_S32x64x64_012_0_0_0.window (ix3 r' g' p') 0 = 0 := rfl
  have w1 : scatter_S1x32x64x64_S1_S32x64x64_012_0_0_0.window (ix3 r' g' p') 1 = r'.val := rfl
  have w2 : scatter_S1x32x64x64_S1_S32x64x64_012_0_0_0.window (ix3 r' g' p') 2 = g'.val := rfl
  have w3 : scatter_S1x32x64x64_S1_S32x64x64_012_0_0_0.window (ix3 r' g' p') 3 = p'.val := rfl
  constructor
  · intro h
    have h1 := h 1
    have h2 := h 2
    have h3 := h 3
    rw [s1, w1] at h1
    rw [s2, w2] at h2
    rw [s3, w3] at h3
    change (0 : Int) + (r'.val : Int) = (r.val : Int) at h1
    change (0 : Int) + (g'.val : Int) = (g.val : Int) at h2
    change (0 : Int) + (p'.val : Int) = (p.val : Int) at h3
    exact ⟨Fin.ext (by omega), Fin.ext (by omega), Fin.ext (by omega)⟩
  · rintro ⟨rfl, rfl, rfl⟩ a
    match a with
    | ⟨0, _⟩ => exact (congrArg₂ (fun (x : Int) (y : Nat) => x + y) s0 w0).trans rfl
    | ⟨1, _⟩ => exact (congrArg₂ (fun (x : Int) (y : Nat) => x + y) s1 w1).trans (Int.zero_add _)
    | ⟨2, _⟩ => exact (congrArg₂ (fun (x : Int) (y : Nat) => x + y) s2 w2).trans (Int.zero_add _)
    | ⟨3, _⟩ => exact (congrArg₂ (fun (x : Int) (y : Nat) => x + y) s3 w3).trans (Int.zero_add _)

theorem added (x : FVec Ideal S1x32x64x64 .f32) (u : FVec Ideal S32x64x64 .f32) (r : Fin 32) (g p : Fin 64) :
    (Host.scatter scatter_S1x32x64x64_S1_S32x64x64_012_0_0_0 FloatOps.addf x first u : FVec Ideal S1x32x64x64 .f32) (ix4 0 r g p)
      = x (ix4 0 r g p) + u (ix3 r g p) := by
  rw [← Routing.scatterIn_finRange, Routing.scatterIn_at]
  refine ((foldl_once _ _ (fun n => u (S32x64x64.rowMajor.symm n)) (S32x64x64.rowMajor (ix3 r g p)) (fun n => ?_) _ (List.nodup_finRange _) _).1
    (List.mem_finRange _)).trans ?_
  · obtain ⟨i, rfl⟩ := S32x64x64.rowMajor.surjective n
    rw [Equiv.symm_apply_apply]
    obtain ⟨r', g', p', rfl⟩ := exists_ix3 (n := 32) (p := 64) (q := 64) i
    rw [lands, S32x64x64.rowMajor.apply_eq_iff_eq]
    exact ⟨fun ⟨h1, h2, h3⟩ => by rw [h1, h2, h3], fun h => ⟨congrFun h 0, congrFun h 1, congrFun h 2⟩⟩
  · rw [Equiv.symm_apply_apply]
    rfl

/-! ## The weights -/

/-- The size of the steps, along the states. -/
def wide (t : FVec Ideal S64 .f32) : FVec Ideal S64x64 .f32 :=
  broadcastInDim S64x64 ![0, 1] bcast_S64x1_S64x64_0_1 (broadcastInDim S64x1 ![0] bcast_S64_S64x1_0 (Host.exp t))

/-- The transition, real part. -/
def moveR (t : FVec Ideal S64 .f32) (lr li : FVec Ideal S64x64 .f32) : FVec Ideal S64x64 .f32 :=
  mulf (Host.exp (mulf lr (wide t))) (Host.cos (mulf li (wide t)))

/-- The imaginary part. -/
def moveI (t : FVec Ideal S64 .f32) (lr li : FVec Ideal S64x64 .f32) : FVec Ideal S64x64 .f32 :=
  mulf (Host.exp (mulf lr (wide t))) (Host.sin (mulf li (wide t)))

/-- The factor of the input weights, real part. -/
def scaleR (t : FVec Ideal S64 .f32) (lr li : FVec Ideal S64x64 .f32) : FVec Ideal S64x64 .f32 :=
  Host.divf (addf (mulf (subf (moveR t lr li) (broadcastInDim S64x64 ![] bcast_S_S64x64 (constant S_ .f32 0x3F800000#32))) lr)
    (mulf (moveI t lr li) li)) (addf (mulf lr lr) (mulf li li))

/-- The imaginary part. -/
def scaleI (t : FVec Ideal S64 .f32) (lr li : FVec Ideal S64x64 .f32) : FVec Ideal S64x64 .f32 :=
  Host.divf (subf (mulf (moveI t lr li) lr)
    (mulf (subf (moveR t lr li) (broadcastInDim S64x64 ![] bcast_S_S64x64 (constant S_ .f32 0x3F800000#32))) li)) (addf (mulf lr lr) (mulf li li))

/-- A value of each state, along the inputs. -/
def deep (f : FVec Ideal S64x64 .f32) : FVec Ideal S64x64x16 .f32 :=
  broadcastInDim S64x64x16 ![0, 1, 2] bcast_S64x64x1_S64x64x16_0_1_2 (broadcastInDim S64x64x1 ![0, 1] bcast_S64x64_S64x64x1_0_1 f)

/-- A value of each state, along the samples. -/
def along (f : FVec Ideal S64x64 .f32) : FVec Ideal S32x64x64 .f32 :=
  broadcastInDim S32x64x64 ![0, 1, 2] bcast_S1x64x64_S32x64x64_0_1_2 (broadcastInDim S1x64x64 ![1, 2] bcast_S64x64_S1x64x64_1_2 f)

variable (x : FVec Ideal S32x1x1024 .f32) (n : FVec Ideal S1024 .f32) (sr si : FVec Ideal S32x64x64 .f32)
  (t : FVec Ideal S64 .f32) (lr li : FVec Ideal S64x64 .f32) (br bi : FVec Ideal S64x64x16 .f32)

/-- What the inputs add to the states, by the weights `w`. -/
def drive (w : FVec Ideal S64x64x16 .f32) : FVec Ideal S1x32x64x64 .f32 :=
  transpose S1x32x64x64 [3, 2, 0, 1] (Host.dotGeneral dot_S64x64x16_S32x1x64x16_S64x64x32x1_2_3_1_01_0_2 none w
    (shapeCast S32x1x64x16 (RefSamples.norm x n) shapeCasts_S32x1x1024_S32x1x64x16)) transposes_S64x64x32x1_S1x32x64x64_3_2_0_1

/-- The states that the reference leaves, real part. -/
def leftR : FVec Ideal S32x4096 .f32 :=
  shapeCast S32x4096 (shapeCast S32x64x64 (Host.scatter scatter_S1x32x64x64_S1_S32x64x64_012_0_0_0 FloatOps.addf
    (drive x n (subf (mulf (deep (scaleR t lr li)) br) (mulf (deep (scaleI t lr li)) bi))) first
    (subf (mulf (along (moveR t lr li)) sr) (mulf (along (moveI t lr li)) si))) shapeCasts_S1x32x64x64_S32x64x64) shapeCasts_S32x64x64_S32x4096

/-- The imaginary part. -/
def leftI : FVec Ideal S32x4096 .f32 :=
  shapeCast S32x4096 (shapeCast S32x64x64 (Host.scatter scatter_S1x32x64x64_S1_S32x64x64_012_0_0_0 FloatOps.addf
    (drive x n (addf (mulf (deep (scaleR t lr li)) bi) (mulf (deep (scaleI t lr li)) br))) first
    (addf (mulf (along (moveR t lr li)) si) (mulf (along (moveI t lr li)) sr))) shapeCasts_S1x32x64x64_S32x64x64) shapeCasts_S32x64x64_S32x4096

theorem moveR_apply (g p : Fin 64) : moveR t lr li (ix2 g p) = stepR (t (ix1 g)) (lr (ix2 g p)) (li (ix2 g p)) := by
  unfold moveR wide; pointwise; rfl

theorem moveI_apply (g p : Fin 64) : moveI t lr li (ix2 g p) = stepI (t (ix1 g)) (lr (ix2 g p)) (li (ix2 g p)) := by
  unfold moveI wide; pointwise; rfl

theorem scaleR_apply (g p : Fin 64) : scaleR t lr li (ix2 g p) = factorR (t (ix1 g)) (lr (ix2 g p)) (li (ix2 g p)) := by
  unfold scaleR
  pointwise
  rw [moveR_apply, moveI_apply]
  rfl

theorem scaleI_apply (g p : Fin 64) : scaleI t lr li (ix2 g p) = factorI (t (ix1 g)) (lr (ix2 g p)) (li (ix2 g p)) := by
  unfold scaleI
  pointwise
  rw [moveR_apply, moveI_apply]
  rfl

theorem deep_apply (f : FVec Ideal S64x64 .f32) (g p : Fin 64) (h : Fin 16) : deep f (ix3 g p h) = f (ix2 g p) := by
  unfold deep; pointwise

theorem along_apply (f : FVec Ideal S64x64 .f32) (r : Fin 32) (g p : Fin 64) : along f (ix3 r g p) = f (ix2 g p) := by
  unfold along; pointwise

theorem drive_apply (w : FVec Ideal S64x64x16 .f32) (r : Fin 32) (g p : Fin 64) :
    drive x n w (ix4 0 r g p)
      = ∑ h : Fin 16, w (ix3 g p h) * normed (single x r) (vec n) ⟨g.val * 16 + h.val, by omega⟩ := by
  unfold drive
  generalize hy : RefSamples.norm x n = y
  pointwise
  subst hy
  simp only [RefSamples.norm_apply]

theorem flat (y : FVec Ideal S1x32x64x64 .f32) (r : Fin 32) (c : Fin 4096) :
    (shapeCast S32x4096 (shapeCast S32x64x64 y shapeCasts_S1x32x64x64_S32x64x64) shapeCasts_S32x64x64_S32x4096 : FVec Ideal S32x4096 .f32) (ix2 r c)
      = y (ix4 0 r ⟨c.val / 64, by omega⟩ ⟨c.val % 64, by omega⟩) := by
  pointwise

theorem leftR_apply (r : Fin 32) (c : Fin 4096) :
    leftR x n sr si t lr li br bi (ix2 r c)
      = drive x n (subf (mulf (deep (scaleR t lr li)) br) (mulf (deep (scaleI t lr li)) bi)) (ix4 0 r ⟨c.val / 64, by omega⟩ ⟨c.val % 64, by omega⟩)
        + (subf (mulf (along (moveR t lr li)) sr) (mulf (along (moveI t lr li)) si) : FVec Ideal S32x64x64 .f32)
            (ix3 r ⟨c.val / 64, by omega⟩ ⟨c.val % 64, by omega⟩) := by
  unfold leftR
  exact (flat _ r c).trans (added _ _ _ _ _)

theorem leftI_apply (r : Fin 32) (c : Fin 4096) :
    leftI x n sr si t lr li br bi (ix2 r c)
      = drive x n (addf (mulf (deep (scaleR t lr li)) bi) (mulf (deep (scaleI t lr li)) br)) (ix4 0 r ⟨c.val / 64, by omega⟩ ⟨c.val % 64, by omega⟩)
        + (addf (mulf (along (moveR t lr li)) si) (mulf (along (moveI t lr li)) sr) : FVec Ideal S32x64x64 .f32)
            (ix3 r ⟨c.val / 64, by omega⟩ ⟨c.val % 64, by omega⟩) := by
  unfold leftI
  exact (flat _ r c).trans (added _ _ _ _ _)

/-! ## The states, as formulas of a row -/

/-- The next state at a row and column, real part. -/
def stateR (r : Fin 32) (c : Fin 4096) : EReal :=
  let g : Fin 64 := ⟨c.val / 64, by omega⟩
  let p : Fin 64 := ⟨c.val % 64, by omega⟩
  stepR (t (ix1 g)) (lr (ix2 g p)) (li (ix2 g p)) * sr (ix3 r g p) - stepI (t (ix1 g)) (lr (ix2 g p)) (li (ix2 g p)) * si (ix3 r g p)
    + ∑ h : Fin 16, normed (single x r) (vec n) ⟨g.val * 16 + h.val, by omega⟩
        * inR (t (ix1 g)) (lr (ix2 g p)) (li (ix2 g p)) (br (ix3 g p h)) (bi (ix3 g p h))

/-- The imaginary part. -/
def stateI (r : Fin 32) (c : Fin 4096) : EReal :=
  let g : Fin 64 := ⟨c.val / 64, by omega⟩
  let p : Fin 64 := ⟨c.val % 64, by omega⟩
  stepR (t (ix1 g)) (lr (ix2 g p)) (li (ix2 g p)) * si (ix3 r g p) + stepI (t (ix1 g)) (lr (ix2 g p)) (li (ix2 g p)) * sr (ix3 r g p)
    + ∑ h : Fin 16, normed (single x r) (vec n) ⟨g.val * 16 + h.val, by omega⟩
        * inI (t (ix1 g)) (lr (ix2 g p)) (li (ix2 g p)) (br (ix3 g p h)) (bi (ix3 g p h))

theorem leftR_eq : leftR x n sr si t lr li br bi = rows (stateR x n sr si t lr li br bi) := by
  refine eq_rows fun r c => ?_
  rw [leftR_apply, drive_apply, add_comm]
  unfold stateR
  refine congrArg₂ (· + ·) ?_ (Finset.sum_congr rfl fun h _ => ?_)
  · pointwise
    rw [along_apply, along_apply, moveR_apply, moveI_apply]
  · refine (mul_comm _ _).trans (congrArg _ ?_)
    pointwise
    rw [deep_apply, deep_apply, scaleR_apply, scaleI_apply]
    rfl

theorem leftI_eq : leftI x n sr si t lr li br bi = rows (stateI x n sr si t lr li br bi) := by
  refine eq_rows fun r c => ?_
  rw [leftI_apply, drive_apply, add_comm]
  unfold stateI
  refine congrArg₂ (· + ·) ?_ (Finset.sum_congr rfl fun h _ => ?_)
  · pointwise
    rw [along_apply, along_apply, moveR_apply, moveI_apply]
  · refine (mul_comm _ _).trans (congrArg _ ?_)
    pointwise
    rw [deep_apply, deep_apply, scaleR_apply, scaleI_apply]
    rfl

end Cert.Mixer.Ref

end
-- ==== Proof.MixerWhole.lean ====
/-
  What the two calls of the mixer's step leave in the arrays of the states: the formulas of the rows they are given.
-/
module

public import proofs.«01_k».proof.Proof.MixerReal
public import proofs.«01_k».proof.Proof.MixerImag
public import proofs.«01_k».proof.Proof.MixerRef

@[expose] public section

set_option maxRecDepth 16384

noncomputable section

namespace Cert.Mixer

open Cert.Ffn Cert.Kernel9Ideal Cert.Kernel9Ideal.Gen Idealize.ShloMosaic Idealize.ShloMosaic.TcCoe Idealize.SL.Sem

variable (m : (ℓ : Loc nD τ sig) → Buf (Elt Ideal) ℓ) (ρ : Dev nD → PrngReg) (c : Dev nD)

abbrev given0 : Vec Ideal S32x1x1024 .f32 := m (c, Proc.tc.devRef main_arg0)
abbrev given1 : Vec Ideal S1024 .f32 := m (c, Proc.tc.devRef main_arg1)
abbrev given2 : Vec Ideal S32x64x64 .f32 := m (c, Proc.tc.devRef main_arg2)
abbrev given3 : Vec Ideal S32x64x64 .f32 := m (c, Proc.tc.devRef main_arg3)
abbrev given4 : Vec Ideal S64 .f32 := m (c, Proc.tc.devRef main_arg4)
abbrev given5 : Vec Ideal S64x64 .f32 := m (c, Proc.tc.devRef main_arg5)
abbrev given6 : Vec Ideal S64x64 .f32 := m (c, Proc.tc.devRef main_arg6)
abbrev given7 : Vec Ideal S64x64x16 .f32 := m (c, Proc.tc.devRef main_arg7)
abbrev given8 : Vec Ideal S64x64x16 .f32 := m (c, Proc.tc.devRef main_arg8)

/-! ## The first call -/

theorem w0 : ∀ t : Fin cfg0.N, win0_0.index t = ![0, 0] := (by decide +kernel : ∀ t : Fin grid0.N, _)
theorem w1 : ∀ t : Fin cfg0.N, win0_1.index t = ![0, 0] := (by decide +kernel : ∀ t : Fin grid0.N, _)
theorem w2 : ∀ t : Fin cfg0.N, win0_2.index t = ![0, 0] := (by decide +kernel : ∀ t : Fin grid0.N, _)
theorem w3 : ∀ t : Fin cfg0.N, win0_3.index t = ![0, 0, 0] := (by decide +kernel : ∀ t : Fin grid0.N, _)
theorem w4 : ∀ t : Fin cfg0.N, win0_4.index t = ![0, 0, 0] := (by decide +kernel : ∀ t : Fin grid0.N, _)
theorem w7 : ∀ t : Fin cfg0.N, win0_7.index t = ![0, 0] := (by decide +kernel : ∀ t : Fin grid0.N, _)
theorem w8 : ∀ t : Fin cfg0.N, win0_8.index t = ![0, 0] := (by decide +kernel : ∀ t : Fin grid0.N, _)
theorem w9 : ∀ t : Fin cfg0.N, win0_9.index t = ![0, 0, 0] := (by decide +kernel : ∀ t : Fin grid0.N, _)

theorem input0 (t : Fin cfg0.N) (g : Fin 64) : (iblk0 (V1 m ρ) c 0 t : Vec Ideal S64x1 .f32) (ix2 g 0) = given4 m c (ix1 g) := by
  show (V1 m ρ c main_v0 : Vec Ideal S64x1 .f32) ((win0_0.blk t).view.emb (ix2 g 0)) = _
  rw [show (win0_0.blk t).view.emb (ix2 g 0) = ix2 g 0 by blk_ext [w0, ix2]]
  unfold V1 W1; after_results_simp; pointwise
theorem input1 (t : Fin cfg0.N) (g p : Fin 64) : (iblk0 (V1 m ρ) c 1 t : Vec Ideal S64x64 .f32) (ix2 g p) = given5 m c (ix2 g p) := by
  show (V1 m ρ c main_arg5 : Vec Ideal S64x64 .f32) ((win0_1.blk t).view.emb (ix2 g p)) = _
  rw [show (win0_1.blk t).view.emb (ix2 g p) = ix2 g p by blk_ext [w1, ix2]]
  exact congrFun (W1_args m ρ c main_arg5 (by decide)) _
theorem input2 (t : Fin cfg0.N) (g p : Fin 64) : (iblk0 (V1 m ρ) c 2 t : Vec Ideal S64x64 .f32) (ix2 g p) = given6 m c (ix2 g p) := by
  show (V1 m ρ c main_arg6 : Vec Ideal S64x64 .f32) ((win0_2.blk t).view.emb (ix2 g p)) = _
  rw [show (win0_2.blk t).view.emb (ix2 g p) = ix2 g p by blk_ext [w2, ix2]]
  exact congrFun (W1_args m ρ c main_arg6 (by decide)) _
theorem input3 (t : Fin cfg0.N) (g : Fin 64) (h : Fin 16) (p : Fin 64) :
    (iblk0 (V1 m ρ) c 3 t : Vec Ideal S64x16x64 .f32) (ix3 g h p) = given7 m c (ix3 g p h) := by
  show (V1 m ρ c main_v1 : Vec Ideal S64x16x64 .f32) ((win0_3.blk t).view.emb (ix3 g h p)) = _
  rw [show (win0_3.blk t).view.emb (ix3 g h p) = ix3 g h p by blk_ext [w3, ix3]]
  unfold V1 W1; after_results_simp; pointwise
theorem input4 (t : Fin cfg0.N) (g : Fin 64) (h : Fin 16) (p : Fin 64) :
    (iblk0 (V1 m ρ) c 4 t : Vec Ideal S64x16x64 .f32) (ix3 g h p) = given8 m c (ix3 g p h) := by
  show (V1 m ρ c main_v2 : Vec Ideal S64x16x64 .f32) ((win0_4.blk t).view.emb (ix3 g h p)) = _
  rw [show (win0_4.blk t).view.emb (ix3 g h p) = ix3 g h p by blk_ext [w4, ix3]]
  unfold V1 W1; after_results_simp; pointwise

/-- The input weights, real part, of each group, input and state. -/
def weightR : Vec Ideal S64x16x64 .f32 := fun i =>
  inR (given4 m c (ix1 (i 0))) (given5 m c (ix2 (i 0) (i 2))) (given6 m c (ix2 (i 0) (i 2))) (given7 m c (ix3 (i 0) (i 2) (i 1)))
    (given8 m c (ix3 (i 0) (i 2) (i 1)))

/-- The imaginary part. -/
def weightI : Vec Ideal S64x16x64 .f32 := fun i =>
  inI (given4 m c (ix1 (i 0))) (given5 m c (ix2 (i 0) (i 2))) (given6 m c (ix2 (i 0) (i 2))) (given7 m c (ix3 (i 0) (i 2) (i 1)))
    (given8 m c (ix3 (i 0) (i 2) (i 1)))

theorem left7 : (W2 m ρ c (Proc.devRef .tc main_v3_0) : Vec Ideal S64x64 .f32)
    = rows fun g p => stepR (given4 m c (ix1 g)) (given5 m c (ix2 g p)) (given6 m c (ix2 g p)) := by
  refine (W2_arr m ρ c 7).trans ?_
  refine (dat0 (V1 m ρ) c).arrAt_eq_of_covers 7 _ (by decide +kernel) fun t hf y => ?_
  blk_simp
  rw [after0_7]
  obtain ⟨g, p, rfl⟩ := exists_ix2 (n := 64) (p := 64) y
  rw [show (win0_7.blk t).view.emb (ix2 g p) = ix2 g p by blk_ext [w7, ix2]]
  refine (stepR_at _ _ _ _ _ _ _ g p).trans ?_
  rw [input0, input1, input2]
  rfl

theorem left8 : (W2 m ρ c (Proc.devRef .tc main_v3_1) : Vec Ideal S64x64 .f32)
    = rows fun g p => stepI (given4 m c (ix1 g)) (given5 m c (ix2 g p)) (given6 m c (ix2 g p)) := by
  refine (W2_arr m ρ c 8).trans ?_
  refine (dat0 (V1 m ρ) c).arrAt_eq_of_covers 8 _ (by decide +kernel) fun t hf y => ?_
  blk_simp
  rw [after0_8]
  obtain ⟨g, p, rfl⟩ := exists_ix2 (n := 64) (p := 64) y
  rw [show (win0_8.blk t).view.emb (ix2 g p) = ix2 g p by blk_ext [w8, ix2]]
  refine (stepI_at _ _ _ _ _ _ _ g p).trans ?_
  rw [input0, input1, input2]
  rfl

theorem left9 : (W2 m ρ c (Proc.devRef .tc main_v3_2) : Vec Ideal S8x128x1024 .bf16)
    = fun y => block (weightR m c) (weightI m c) (y 0) (y 1) (y 2) := by
  refine (W2_arr m ρ c 9).trans ?_
  refine (dat0 (V1 m ρ) c).arrAt_eq_of_covers 9 _ (by decide +kernel) fun t hf y => ?_
  blk_simp
  rw [after0_9]
  obtain ⟨k, l, j, rfl⟩ := exists_ix3 (n := 8) (p := 128) (q := 1024) y
  rw [show (win0_9.blk t).view.emb (ix3 k l j) = ix3 k l j by blk_ext [w9, ix3]]
  refine (weights_at _ _ _ _ _ _ _ k l j).trans ?_
  refine congrFun (congrFun (congrFun (congr (congrArg block ?_) ?_) k) l) j
  · funext i
    obtain ⟨g, h, p, rfl⟩ := exists_ix3 (n := 64) (p := 16) (q := 64) i
    refine (inR_at _ _ _ _ _ _ _ g h p).trans ?_
    rw [input0, input1, input2, input3, input4]
    rfl
  · funext i
    obtain ⟨g, h, p, rfl⟩ := exists_ix3 (n := 64) (p := 16) (q := 64) i
    refine (inI_at _ _ _ _ _ _ _ g h p).trans ?_
    rw [input0, input1, input2, input3, input4]
    rfl

/-! ## The second call -/

theorem kept0 : (W2 m ρ c (Proc.devRef .tc main_arg0) : Vec Ideal S32x1x1024 .f32) = given0 m c := W2_args m ρ c main_arg0 (by decide)
theorem kept1 : (W2 m ρ c (Proc.devRef .tc main_arg1) : Vec Ideal S1024 .f32) = given1 m c := W2_args m ρ c main_arg1 (by decide)
theorem kept2 : (W2 m ρ c (Proc.devRef .tc main_arg2) : Vec Ideal S32x64x64 .f32) = given2 m c := W2_args m ρ c main_arg2 (by decide)
theorem kept3 : (W2 m ρ c (Proc.devRef .tc main_arg3) : Vec Ideal S32x64x64 .f32) = given3 m c := W2_args m ρ c main_arg3 (by decide)

theorem v0 : ∀ t : Fin cfg1.N, win1_0.index t = ![0, 0, 0] := (by decide +kernel : ∀ t : Fin grid1.N, _)
theorem v1 : ∀ t : Fin cfg1.N, win1_1.index t = ![0, 0] := (by decide +kernel : ∀ t : Fin grid1.N, _)
theorem v2 : ∀ t : Fin cfg1.N, win1_2.index t = ![0, 0] := (by decide +kernel : ∀ t : Fin grid1.N, _)
theorem v3 : ∀ t : Fin cfg1.N, win1_3.index t = ![0, 0] := (by decide +kernel : ∀ t : Fin grid1.N, _)
theorem v4 : ∀ t : Fin cfg1.N, win1_4.index t = ![0, 0] := (by decide +kernel : ∀ t : Fin grid1.N, _)
theorem v5 : ∀ t : Fin cfg1.N, win1_5.index t = ![0, 0] := (by decide +kernel : ∀ t : Fin grid1.N, _)
theorem v6 : ∀ t : Fin cfg1.N, win1_6.index t = ![0, 0, 0] := (by decide +kernel : ∀ t : Fin grid1.N, _)
theorem v13 : ∀ t : Fin cfg1.N, win1_13.index t = ![0, 0] := (by decide +kernel : ∀ t : Fin grid1.N, _)
theorem v14 : ∀ t : Fin cfg1.N, win1_14.index t = ![0, 0] := (by decide +kernel : ∀ t : Fin grid1.N, _)

/-- The group and the state of a column. -/
abbrev group (k : Fin 4096) : Fin 64 := ⟨k.val / 64, by omega⟩
abbrev place (k : Fin 4096) : Fin 64 := ⟨k.val % 64, by omega⟩

theorem block0' (t : Fin cfg1.N) (r : Fin 32) (k : Fin 1024) :
    (iblk1 (V3 m ρ) c 0 t : Vec Ideal S1x32x1024 .f32) (ix3 0 r k) = given0 m c (ix3 r 0 k) := by
  show (V3 m ρ c main_v10 : Vec Ideal S1x32x1024 .f32) ((win1_0.blk t).view.emb (ix3 0 r k)) = _
  rw [show (win1_0.blk t).view.emb (ix3 0 r k) = ix3 0 r k by blk_ext [v0, ix3]]
  unfold V3 W3; after_results_simp; rw [kept0]; pointwise
theorem block1' (t : Fin cfg1.N) (k : Fin 1024) :
    (iblk1 (V3 m ρ) c 1 t : Vec Ideal S1x1024 .f32) (ix2 0 k) = given1 m c (ix1 k) := by
  show (V3 m ρ c main_v11 : Vec Ideal S1x1024 .f32) ((win1_1.blk t).view.emb (ix2 0 k)) = _
  rw [show (win1_1.blk t).view.emb (ix2 0 k) = ix2 0 k by blk_ext [v1, ix2]]
  unfold V3 W3; after_results_simp; rw [kept1]; pointwise
theorem block2' (t : Fin cfg1.N) (r : Fin 32) (k : Fin 4096) :
    (iblk1 (V3 m ρ) c 2 t : Vec Ideal S32x4096 .f32) (ix2 r k) = given2 m c (ix3 r (group k) (place k)) := by
  show (V3 m ρ c main_v6 : Vec Ideal S32x4096 .f32) ((win1_2.blk t).view.emb (ix2 r k)) = _
  rw [show (win1_2.blk t).view.emb (ix2 r k) = ix2 r k by blk_ext [v2, ix2]]
  unfold V3 W3; after_results_simp; rw [kept2]; pointwise
theorem block3' (t : Fin cfg1.N) (r : Fin 32) (k : Fin 4096) :
    (iblk1 (V3 m ρ) c 3 t : Vec Ideal S32x4096 .f32) (ix2 r k) = given3 m c (ix3 r (group k) (place k)) := by
  show (V3 m ρ c main_v7 : Vec Ideal S32x4096 .f32) ((win1_3.blk t).view.emb (ix2 r k)) = _
  rw [show (win1_3.blk t).view.emb (ix2 r k) = ix2 r k by blk_ext [v3, ix2]]
  unfold V3 W3; after_results_simp; rw [kept3]; pointwise
theorem block4' (t : Fin cfg1.N) (k : Fin 4096) :
    (iblk1 (V3 m ρ) c 4 t : Vec Ideal S1x4096 .f32) (ix2 0 k)
      = stepR (given4 m c (ix1 (group k))) (given5 m c (ix2 (group k) (place k))) (given6 m c (ix2 (group k) (place k))) := by
  show (V3 m ρ c main_v4 : Vec Ideal S1x4096 .f32) ((win1_4.blk t).view.emb (ix2 0 k)) = _
  rw [show (win1_4.blk t).view.emb (ix2 0 k) = ix2 0 k by blk_ext [v4, ix2]]
  unfold V3 W3; after_results_simp; rw [left7]; pointwise; rfl
theorem block5' (t : Fin cfg1.N) (k : Fin 4096) :
    (iblk1 (V3 m ρ) c 5 t : Vec Ideal S1x4096 .f32) (ix2 0 k)
      = stepI (given4 m c (ix1 (group k))) (given5 m c (ix2 (group k) (place k))) (given6 m c (ix2 (group k) (place k))) := by
  show (V3 m ρ c main_v5 : Vec Ideal S1x4096 .f32) ((win1_5.blk t).view.emb (ix2 0 k)) = _
  rw [show (win1_5.blk t).view.emb (ix2 0 k) = ix2 0 k by blk_ext [v5, ix2]]
  unfold V3 W3; after_results_simp; rw [left8]; pointwise; rfl
theorem block6' (t : Fin cfg1.N) (k : Fin 8) (l : Fin 128) (j : Fin 1024) :
    (iblk1 (V3 m ρ) c 6 t : Vec Ideal S8x128x1024 .bf16) (ix3 k l j) = block (weightR m c) (weightI m c) k l j := by
  show (V3 m ρ c main_v3_2 : Vec Ideal S8x128x1024 .bf16) ((win1_6.blk t).view.emb (ix3 k l j)) = _
  rw [show (win1_6.blk t).view.emb (ix3 k l j) = ix3 k l j by blk_ext [v6, ix3]]
  exact congrFun ((W3_of m ρ c main_v3_2 (by decide)).trans (left9 m ρ c)) _

/-- The normed row. -/
theorem unit_at (t : Fin cfg1.N) (r : Fin 32) (j : Fin 1024) :
    unit (iblk1 (V3 m ρ) c 0 t) (iblk1 (V3 m ρ) c 1 t) r j = normed (single (given0 m c) r) (vec (given1 m c)) j := by
  have e : ∀ (x0 : Vec Ideal S1x32x1024 .f32) (x1 : Vec Ideal S1x1024 .f32),
      unit x0 x1 r j = normed (fun k => x0 (ix3 0 r k)) (fun k => x1 (ix2 0 k)) j := fun x0 x1 => by
    unfold unit k1_pay4
    pointwise
    rfl
  rw [e]
  simp only [block0', block1']

/-- A sum over the lanes of a block in which one group's lanes alone count. -/
theorem sum_group (f w : Fin 128 → EReal) (j : Fin 8) :
    ∑ l : Fin 128, f l * (if l.val / 16 = j.val then w l else 0)
      = ∑ h : Fin 16, f ⟨16 * j.val + h.val, by omega⟩ * w ⟨16 * j.val + h.val, by omega⟩ := by
  rw [← (finProdFinEquiv (m := 8) (n := 16)).sum_comp, Fintype.sum_prod_type, Finset.sum_eq_single j]
  · refine Finset.sum_congr rfl fun h _ => ?_
    have e : (finProdFinEquiv (m := 8) (n := 16) (j, h) : Fin 128) = ⟨16 * j.val + h.val, by omega⟩ :=
      Fin.ext ((show _ = h.val + 16 * j.val from rfl).trans (Nat.add_comm _ _))
    rw [e, if_pos (show (16 * j.val + h.val) / 16 = j.val by have := h.isLt; omega)]
  · intro b _ hb
    refine Finset.sum_eq_zero fun h _ => ?_
    rw [if_neg, mul_zero]
    intro q
    apply hb
    have q' : (h.val + 16 * b.val) / 16 = j.val := q
    exact Fin.ext (by omega)
  · exact fun h => absurd (Finset.mem_univ j) h

/-- What a row adds to its state at a column. -/
theorem driveR_eq (t : Fin cfg1.N) (r : Fin 32) (k : Fin 4096) :
    driveR (iblk1 (V3 m ρ) c 0 t) (iblk1 (V3 m ρ) c 1 t) (iblk1 (V3 m ρ) c 6 t) r k
      = ∑ h : Fin 16, normed (single (given0 m c) r) (vec (given1 m c)) ⟨(group k).val * 16 + h.val, by omega⟩
          * weightR m c (ix3 (group k) h (place k)) := by
  unfold driveR
  have hk : ∀ l : Fin 128, (iblk1 (V3 m ρ) c 6 t : Vec Ideal S8x128x1024 .bf16) (ix3 ⟨k.val / 512, by omega⟩ l ⟨k.val % 512, by omega⟩)
      = if l.val / 16 = (⟨k.val % 512 / 64, by omega⟩ : Fin 8).val then
          weightR m c (ix3 ⟨8 * (k.val / 512) + l.val / 16, by omega⟩ ⟨l.val % 16, by omega⟩ ⟨k.val % 512 % 64, by omega⟩) else 0 := fun l => by
    rw [block6']
    unfold block
    rw [dif_pos (by show k.val % 512 < 512; omega)]
    rfl
  simp only [unit_at, hk]
  refine (sum_group (fun l => normed (single (given0 m c) r) (vec (given1 m c)) (lane k l))
    (fun l => weightR m c (ix3 ⟨8 * (k.val / 512) + l.val / 16, by omega⟩ ⟨l.val % 16, by omega⟩ ⟨k.val % 512 % 64, by omega⟩))
    ⟨k.val % 512 / 64, by omega⟩).trans (Finset.sum_congr rfl fun h _ => ?_)
  refine congrArg₂ (fun (a : Fin 1024) (b : S64x16x64.Idx) => normed (single (given0 m c) r) (vec (given1 m c)) a * weightR m c b) (Fin.ext ?_) ?_
  · show 128 * (k.val / 512) + (16 * (k.val % 512 / 64) + h.val) = k.val / 64 * 16 + h.val
    omega
  · congr 1 <;> apply Fin.ext <;> dsimp only <;> omega

theorem driveI_eq (t : Fin cfg1.N) (r : Fin 32) (k : Fin 4096) :
    driveI (iblk1 (V3 m ρ) c 0 t) (iblk1 (V3 m ρ) c 1 t) (iblk1 (V3 m ρ) c 6 t) r k
      = ∑ h : Fin 16, normed (single (given0 m c) r) (vec (given1 m c)) ⟨(group k).val * 16 + h.val, by omega⟩
          * weightI m c (ix3 (group k) h (place k)) := by
  unfold driveI
  have hk : ∀ l : Fin 128, (iblk1 (V3 m ρ) c 6 t : Vec Ideal S8x128x1024 .bf16) (ix3 ⟨k.val / 512, by omega⟩ l ⟨512 + k.val % 512, by omega⟩)
      = if l.val / 16 = (⟨k.val % 512 / 64, by omega⟩ : Fin 8).val then
          weightI m c (ix3 ⟨8 * (k.val / 512) + l.val / 16, by omega⟩ ⟨l.val % 16, by omega⟩ ⟨k.val % 512 % 64, by omega⟩) else 0 := fun l => by
    rw [block6']
    unfold block
    rw [dif_neg (by show ¬ 512 + k.val % 512 < 512; omega)]
    unfold spread
    simp only [Nat.add_sub_cancel_left]
  simp only [unit_at, hk]
  refine (sum_group (fun l => normed (single (given0 m c) r) (vec (given1 m c)) (lane k l))
    (fun l => weightI m c (ix3 ⟨8 * (k.val / 512) + l.val / 16, by omega⟩ ⟨l.val % 16, by omega⟩ ⟨k.val % 512 % 64, by omega⟩))
    ⟨k.val % 512 / 64, by omega⟩).trans (Finset.sum_congr rfl fun h _ => ?_)
  refine congrArg₂ (fun (a : Fin 1024) (b : S64x16x64.Idx) => normed (single (given0 m c) r) (vec (given1 m c)) a * weightI m c b) (Fin.ext ?_) ?_
  · show 128 * (k.val / 512) + (16 * (k.val % 512 / 64) + h.val) = k.val / 64 * 16 + h.val
    omega
  · congr 1 <;> apply Fin.ext <;> dsimp only <;> omega

/-- The states that the kernel leaves, real part. -/
theorem arrayR : (W5 m ρ c (Proc.devRef .tc main_v14_1) : Vec Ideal S32x4096 .f32)
    = rows (Ref.stateR (given0 m c) (given1 m c) (given2 m c) (given3 m c) (given4 m c) (given5 m c) (given6 m c) (given7 m c) (given8 m c)) := by
  refine (W5_of m ρ c main_v14_1 (by decide)).trans ((W4_arr m ρ c 13).trans ?_)
  refine (dat1 (V3 m ρ) c).arrAt_eq_of_covers 13 _ (by decide +kernel) fun t hf y => ?_
  blk_simp
  rw [after1_13]
  obtain ⟨r, k, rfl⟩ := exists_ix2 (n := 32) (p := 4096) y
  rw [show (win1_13.blk t).view.emb (ix2 r k) = ix2 r k by blk_ext [v13, ix2]]
  refine (scanR _ _ _ r k).trans ?_
  unfold nextR
  rw [block2', block3', block4', block5', driveR_eq]
  rfl

/-- The imaginary part. -/
theorem arrayI : (W5 m ρ c (Proc.devRef .tc main_v14_2) : Vec Ideal S32x4096 .f32)
    = rows (Ref.stateI (given0 m c) (given1 m c) (given2 m c) (given3 m c) (given4 m c) (given5 m c) (given6 m c) (given7 m c) (given8 m c)) := by
  refine (W5_of m ρ c main_v14_2 (by decide)).trans ((W4_arr m ρ c 14).trans ?_)
  refine (dat1 (V3 m ρ) c).arrAt_eq_of_covers 14 _ (by decide +kernel) fun t hf y => ?_
  blk_simp
  rw [after1_14]
  obtain ⟨r, k, rfl⟩ := exists_ix2 (n := 32) (p := 4096) y
  rw [show (win1_14.blk t).view.emb (ix2 r k) = ix2 r k by blk_ext [v14, ix2]]
  refine (scanI _ _ _ r k).trans ?_
  unfold nextI
  rw [block2', block3', block4', block5', driveI_eq]
  rfl

end Cert.Mixer

end
-- ==== Proof.MixerEqual.lean ====
/-
  The kernel of the mixer's step and its reference leave the same states.
-/
module

public import proofs.«01_k».proof.Defs
public import proofs.«01_k».proof.Proof.MixerRun
public import proofs.«01_k».proof.Proof.MixerWhole
public import proofs.«01_k».proof.Proof.Gen.Reference9Ideal.Run

@[expose] public section

set_option maxRecDepth 16384

noncomputable section

namespace Cert.Mixer

open Cert.Ffn Idealize.ShloMosaic Idealize.ShloMosaic.TcCoe Idealize.SL.Sem Idealize.ShloMosaic.StableHlo

/-- The states of the samples after the step, real part, of what the kernel is given. -/
abbrev resultR (m : (ℓ : Loc Kernel9Ideal.nD Kernel9Ideal.τ Kernel9Ideal.sig) → Buf (Elt Ideal) ℓ) (c : Dev Kernel9Ideal.nD) :
    FVec Ideal ⟨2, ![32, 4096]⟩ .f32 :=
  rows (Ref.stateR (given0 m c) (given1 m c) (given2 m c) (given3 m c) (given4 m c) (given5 m c) (given6 m c) (given7 m c) (given8 m c))

/-- The imaginary part. -/
abbrev resultI (m : (ℓ : Loc Kernel9Ideal.nD Kernel9Ideal.τ Kernel9Ideal.sig) → Buf (Elt Ideal) ℓ) (c : Dev Kernel9Ideal.nD) :
    FVec Ideal ⟨2, ![32, 4096]⟩ .f32 :=
  rows (Ref.stateI (given0 m c) (given1 m c) (given2 m c) (given3 m c) (given4 m c) (given5 m c) (given6 m c) (given7 m c) (given8 m c))

/-- Over the extended reals the kernel and the reference leave the same arrays. -/
theorem equal9 : Cert.algebraic_Kernel9Ideal_Reference9Ideal := fun m g m' g' _ h =>
  ⟨resultR m, resultI m,
    (θ_run Kernel9Ideal.defs _ _).mono (fun _ k c => ⟨(k c).1.trans (arrayR m g c), (k c).2.1.trans (arrayI m g c), (k c).2.2⟩) (run m g),
    (θ_run Reference9Ideal.defs _ _).mono (fun _ k c => by
      have h0 : (m' ((c.tc : Thread Reference9Ideal.nD Reference9Ideal.τ).loc Reference9Ideal.main_arg0) : _) = given0 m c := (h c).1
      have h1 : (m' ((c.tc : Thread Reference9Ideal.nD Reference9Ideal.τ).loc Reference9Ideal.main_arg1) : _) = given1 m c := (h c).2.1
      have h2 : (m' ((c.tc : Thread Reference9Ideal.nD Reference9Ideal.τ).loc Reference9Ideal.main_arg2) : _) = given2 m c := (h c).2.2.1
      have h3 : (m' ((c.tc : Thread Reference9Ideal.nD Reference9Ideal.τ).loc Reference9Ideal.main_arg3) : _) = given3 m c := (h c).2.2.2.1
      have h4 : (m' ((c.tc : Thread Reference9Ideal.nD Reference9Ideal.τ).loc Reference9Ideal.main_arg4) : _) = given4 m c := (h c).2.2.2.2.1
      have h5 : (m' ((c.tc : Thread Reference9Ideal.nD Reference9Ideal.τ).loc Reference9Ideal.main_arg5) : _) = given5 m c := (h c).2.2.2.2.2.1
      have h6 : (m' ((c.tc : Thread Reference9Ideal.nD Reference9Ideal.τ).loc Reference9Ideal.main_arg6) : _) = given6 m c := (h c).2.2.2.2.2.2.1
      have h7 : (m' ((c.tc : Thread Reference9Ideal.nD Reference9Ideal.τ).loc Reference9Ideal.main_arg7) : _) = given7 m c := (h c).2.2.2.2.2.2.2.1
      have h8 : (m' ((c.tc : Thread Reference9Ideal.nD Reference9Ideal.τ).loc Reference9Ideal.main_arg8) : _) = given8 m c := (h c).2.2.2.2.2.2.2.2.1
      refine ⟨(k c).1.trans ?_, (k c).2.1.trans ?_, (k c).2.2⟩
      · unfold Reference9Ideal.Value.res_main_v81
        rw [h0, h1, h2, h3, h4, h5, h6, h7, h8]
        exact Ref.leftR_eq (given0 m c) (given1 m c) (given2 m c) (given3 m c) (given4 m c) (given5 m c) (given6 m c) (given7 m c) (given8 m c)
      · unfold Reference9Ideal.Value.res_main_v83
        rw [h0, h1, h2, h3, h4, h5, h6, h7, h8]
        exact Ref.leftI_eq (given0 m c) (given1 m c) (given2 m c) (given3 m c) (given4 m c) (given5 m c) (given6 m c) (given7 m c) (given8 m c))
      (Reference9Ideal.Value.run (F := Ideal) m' g')⟩

/-- The reference runs to its end, changes no argument and leaves every counter at zero: it has none. -/
theorem frame_reference9 : Cert.quiescent_Reference9Ideal := fun m ρ _ =>
  (θ_run Reference9Ideal.defs _ _).mono (fun r h => ⟨fun c => (h c).2.2, sem_eq_zero_of_no_sems (by decide) r.2⟩)
    (Reference9Ideal.Value.run (F := Ideal) m ρ)

end Cert.Mixer

end
-- ==== Proof.FfnSample.lean ====
/-
  The last layer of the samples: the feed-forward part and the final normalisation of the 32 rows, in one grid point.
-/
module

public import proofs.«01_k».proof.Proof.FfnRow
public import proofs.«01_k».proof.Proof.Gen.Kernel3Ideal.Value
public import Idealize.ShloMosaic.Lib.Pipeline.ValueKit.Geometry
public import Idealize.ShloMosaic.Lib.Pipeline.ValueKit.Basic
public import Idealize.ShloMosaic.Lib.StableHlo.Run

@[expose] public section

set_option maxRecDepth 16384

noncomputable section

namespace Cert.Ffn.Sample

open Cert.Kernel3Ideal Cert.Kernel3Ideal.Gen Idealize.ShloMosaic Idealize.ShloMosaic.TcCoe Idealize.SL.Sem

/-- What the point computes of its blocks, at a row and a column. -/
theorem block (x0 : Vec Ideal S32x1024 .f32) (x1 : Vec Ideal S1x1024 .f32) (x2 x3 : Vec Ideal S1024x2816 .bf16) (x4 : Vec Ideal S2816x1024 .bf16)
    (x5 : Vec Ideal S1x1024 .f32) (r : Fin 32) (j : Fin 1024) :
    out0_6 x0 x1 x2 x3 x4 x5 (ix2 r j) = normed (fed (mat x0 r) (mat x1 0) (mat x2) (mat x3) (mat x4)) (mat x5 0) j := by
  unfold out0_6
  rw [View.canon_unit_zero no_offset]
  unfold k0_pay1 k0_pay7 k0_pay6 k0_pay5 k0_pay4 k0_pay3 k0_pay2
  pointwise
  simp only [normed, fed, hidden, gate, through, ← sum_chunks]

variable (m : (ℓ : Loc nD τ sig) → Buf (Elt Ideal) ℓ) (c : Dev nD)

abbrev given0 : Vec Ideal S32x1x1024 .f32 := m (c, Proc.tc.devRef main_arg0)
abbrev given1 : Vec Ideal S1024 .f32 := m (c, Proc.tc.devRef main_arg1)
abbrev given2 : Vec Ideal S1024x5632 .f32 := m (c, Proc.tc.devRef main_arg2)
abbrev given3 : Vec Ideal S2816x1024 .f32 := m (c, Proc.tc.devRef main_arg3)
abbrev given4 : Vec Ideal S1024 .f32 := m (c, Proc.tc.devRef main_arg4)

theorem i0 : ∀ t : Fin cfg0.N, win0_0.index t = ![0, 0] := (by decide +kernel : ∀ t : Fin grid0.N, _)
theorem i1 : ∀ t : Fin cfg0.N, win0_1.index t = ![0, 0] := (by decide +kernel : ∀ t : Fin grid0.N, _)
theorem i2 : ∀ t : Fin cfg0.N, win0_2.index t = ![0, 0] := (by decide +kernel : ∀ t : Fin grid0.N, _)
theorem i3 : ∀ t : Fin cfg0.N, win0_3.index t = ![0, 0] := (by decide +kernel : ∀ t : Fin grid0.N, _)
theorem i4 : ∀ t : Fin cfg0.N, win0_4.index t = ![0, 0] := (by decide +kernel : ∀ t : Fin grid0.N, _)
theorem i5 : ∀ t : Fin cfg0.N, win0_5.index t = ![0, 0] := (by decide +kernel : ∀ t : Fin grid0.N, _)
theorem i6 : ∀ t : Fin cfg0.N, win0_6.index t = ![0, 0] := (by decide +kernel : ∀ t : Fin grid0.N, _)

theorem window0 (t : Fin cfg0.N) (r : Fin 32) : mat (iblk m c 0 t : Vec Ideal S32x1024 .f32) r = single (given0 m c) r := by
  funext j
  show (V m c main_v0 : Vec Ideal S32x1024 .f32) ((win0_0.blk t).view.emb (ix2 r j)) = _
  rw [show (win0_0.blk t).view.emb (ix2 r j) = ix2 r j by blk_ext [i0, ix2]]
  unfold V; after_results_simp; pointwise
theorem window1 (t : Fin cfg0.N) : mat (iblk m c 1 t : Vec Ideal S1x1024 .f32) 0 = vec (given1 m c) := by
  funext j
  show (V m c main_v6 : Vec Ideal S1x1024 .f32) ((win0_1.blk t).view.emb (ix2 0 j)) = _
  rw [show (win0_1.blk t).view.emb (ix2 0 j) = ix2 0 j by blk_ext [i1, ix2]]
  unfold V; after_results_simp; pointwise
theorem window2 (t : Fin cfg0.N) : mat (iblk m c 2 t : Vec Ideal S1024x2816 .bf16) = left (mat (given2 m c)) := by
  funext k n
  show (V m c main_v2 : Vec Ideal S1024x2816 .bf16) ((win0_2.blk t).view.emb (ix2 k n)) = _
  rw [show (win0_2.blk t).view.emb (ix2 k n) = ix2 k n by blk_ext [i2, ix2]]
  unfold V; after_results_simp; pointwise
theorem window3 (t : Fin cfg0.N) : mat (iblk m c 3 t : Vec Ideal S1024x2816 .bf16) = right (mat (given2 m c)) := by
  funext k n
  show (V m c main_v4 : Vec Ideal S1024x2816 .bf16) ((win0_3.blk t).view.emb (ix2 k n)) = _
  rw [show (win0_3.blk t).view.emb (ix2 k n) = ix2 k n by blk_ext [i3, ix2]]
  unfold V; after_results_simp; pointwise
theorem window4 (t : Fin cfg0.N) : mat (iblk m c 4 t : Vec Ideal S2816x1024 .bf16) = mat (given3 m c) := by
  funext k n
  show (V m c main_v5 : Vec Ideal S2816x1024 .bf16) ((win0_4.blk t).view.emb (ix2 k n)) = _
  rw [show (win0_4.blk t).view.emb (ix2 k n) = ix2 k n by blk_ext [i4, ix2]]
  unfold V; after_results_simp; pointwise
theorem window5 (t : Fin cfg0.N) : mat (iblk m c 5 t : Vec Ideal S1x1024 .f32) 0 = vec (given4 m c) := by
  funext j
  show (V m c main_v7 : Vec Ideal S1x1024 .f32) ((win0_5.blk t).view.emb (ix2 0 j)) = _
  rw [show (win0_5.blk t).view.emb (ix2 0 j) = ix2 0 j by blk_ext [i5, ix2]]
  unfold V; after_results_simp; pointwise

theorem array : (dats m 0 c).arrAt 6 cfg0.N = rows fun R =>
    normed (fedBy (single (given0 m c) R) (given1 m c) (given2 m c) (given3 m c)) (vec (given4 m c)) := by
  refine (dats m 0 c).arrAt_eq_of_covers 6 _ (by decide +kernel) fun t hf y => ?_
  blk_simp
  rw [after0_6]
  obtain ⟨r, j, rfl⟩ := exists_ix2 (n := 32) (p := 1024) y
  rw [show (win0_6.blk t).view.emb (ix2 r j) = ix2 (r) j by blk_ext [i6, ix2]]
  refine (block _ _ _ _ _ _ r j).trans ?_
  rw [window0, window1, window2, window3, window4, window5]
  rfl

end Cert.Ffn.Sample

end
-- ==== Proof.KvSample.lean ====
/-
  The keys and values of the samples: the 32 normalised rows through the projection, in one grid point.
-/
module

public import proofs.«01_k».proof.Proof.FfnRow
public import proofs.«01_k».proof.Proof.Gen.Kernel8Ideal.Value
public import Idealize.ShloMosaic.Lib.Pipeline.ValueKit.Geometry
public import Idealize.ShloMosaic.Lib.Pipeline.ValueKit.Basic
public import Idealize.ShloMosaic.Lib.StableHlo.Run

@[expose] public section

set_option maxRecDepth 16384

noncomputable section

namespace Cert.Ffn.SampleKv

open Cert.Kernel8Ideal Cert.Kernel8Ideal.Gen Idealize.ShloMosaic Idealize.ShloMosaic.TcCoe Idealize.SL.Sem

/-- What the point computes of its blocks, at a row and a column. -/
theorem block (x0 : Vec Ideal S32x1024 .f32) (x1 : Vec Ideal S1x1024 .f32) (x2 : Vec Ideal S1024x3072 .bf16) (r : Fin 32) (j : Fin 3072) :
    out0_3 x0 x1 x2 (ix2 r j) = through (normed (mat x0 r) (mat x1 0)) (mat x2) j := by
  unfold out0_3
  rw [View.canon_unit_zero no_offset]
  unfold k0_pay1
  pointwise
  simp only [normed, through]

variable (m : (ℓ : Loc nD τ sig) → Buf (Elt Ideal) ℓ) (c : Dev nD)

abbrev given0 : Vec Ideal S32x1x1024 .f32 := m (c, Proc.tc.devRef main_arg0)
abbrev given1 : Vec Ideal S1024 .f32 := m (c, Proc.tc.devRef main_arg1)
abbrev given2 : Vec Ideal S1024x3072 .f32 := m (c, Proc.tc.devRef main_arg2)

theorem i0 : ∀ t : Fin cfg0.N, win0_0.index t = ![0, 0] := (by decide +kernel : ∀ t : Fin grid0.N, _)
theorem i1 : ∀ t : Fin cfg0.N, win0_1.index t = ![0, 0] := (by decide +kernel : ∀ t : Fin grid0.N, _)
theorem i2 : ∀ t : Fin cfg0.N, win0_2.index t = ![0, 0] := (by decide +kernel : ∀ t : Fin grid0.N, _)
theorem i3 : ∀ t : Fin cfg0.N, win0_3.index t = ![0, 0] := (by decide +kernel : ∀ t : Fin grid0.N, _)

theorem window0 (t : Fin cfg0.N) (r : Fin 32) : mat (iblk m c 0 t : Vec Ideal S32x1024 .f32) r = single (given0 m c) r := by
  funext j
  show (V m c main_v0 : Vec Ideal S32x1024 .f32) ((win0_0.blk t).view.emb (ix2 r j)) = _
  rw [show (win0_0.blk t).view.emb (ix2 r j) = ix2 r j by blk_ext [i0, ix2]]
  unfold V; after_results_simp; pointwise
theorem window1 (t : Fin cfg0.N) : mat (iblk m c 1 t : Vec Ideal S1x1024 .f32) 0 = vec (given1 m c) := by
  funext j
  show (V m c main_v2 : Vec Ideal S1x1024 .f32) ((win0_1.blk t).view.emb (ix2 0 j)) = _
  rw [show (win0_1.blk t).view.emb (ix2 0 j) = ix2 0 j by blk_ext [i1, ix2]]
  unfold V; after_results_simp; pointwise
theorem window2 (t : Fin cfg0.N) : mat (iblk m c 2 t : Vec Ideal S1024x3072 .bf16) = mat (given2 m c) := by
  funext k n
  show (V m c main_v1 : Vec Ideal S1024x3072 .bf16) ((win0_2.blk t).view.emb (ix2 k n)) = _
  rw [show (win0_2.blk t).view.emb (ix2 k n) = ix2 k n by blk_ext [i2, ix2]]
  unfold V; after_results_simp; pointwise

theorem array : (dats m 0 c).arrAt 3 cfg0.N = rows fun R => through (normed (single (given0 m c) R) (vec (given1 m c))) (mat (given2 m c)) := by
  refine (dats m 0 c).arrAt_eq_of_covers 3 _ (by decide +kernel) fun t hf y => ?_
  blk_simp
  rw [after0_3]
  obtain ⟨r, j, rfl⟩ := exists_ix2 (n := 32) (p := 3072) y
  rw [show (win0_3.blk t).view.emb (ix2 r j) = ix2 (r) j by blk_ext [i3, ix2]]
  refine (block _ _ _ r j).trans ?_
  rw [window0, window1, window2]
  rfl

end Cert.Ffn.SampleKv

end
-- ==== Proof.SampleEqual.lean ====
/-
  The kernels on the samples, the last feed-forward part and the projection of the keys and values, and their references
  compute the same arrays.
-/
module

public import proofs.«01_k».proof.Defs
public import proofs.«01_k».proof.Proof.FfnRefSamples
public import proofs.«01_k».proof.Proof.FfnSample
public import proofs.«01_k».proof.Proof.KvSample
public import proofs.«01_k».proof.Proof.Gen.Reference3Ideal.Run
public import proofs.«01_k».proof.Proof.Gen.Reference8Ideal.Run

@[expose] public section

set_option maxRecDepth 16384

noncomputable section

namespace Cert.Ffn.RefSamples

open Idealize.ShloMosaic Idealize.ShloMosaic.TcCoe Idealize.SL.Sem Idealize.ShloMosaic.StableHlo

/-- The rows of the last layer. -/
theorem last_rows (x : FVec Ideal ⟨3, ![32, 1, 1024]⟩ .f32) (g : FVec Ideal ⟨1, ![1024]⟩ .f32) (wi : FVec Ideal ⟨2, ![1024, 5632]⟩ .f32)
    (wo : FVec Ideal ⟨2, ![2816, 1024]⟩ .f32) (gf : FVec Ideal ⟨1, ![1024]⟩ .f32) (h) :
    (shapeCast ⟨2, ![32, 1024]⟩ (norm (feed x g wi wo) gf) h : FVec Ideal ⟨2, ![32, 1024]⟩ .f32)
      = rows fun R => normed (fedBy (single x R) g wi wo) (vec gf) := by
  refine eq_rows fun R j => ?_
  pointwise
  rw [norm_apply]
  simp only [feed_apply]

/-- The keys and values. -/
theorem kv_rows (x : FVec Ideal ⟨3, ![32, 1, 1024]⟩ .f32) (g : FVec Ideal ⟨1, ![1024]⟩ .f32) (w : FVec Ideal ⟨2, ![1024, 3072]⟩ .f32) (h₁ h₂) :
    (shapeCast ⟨2, ![32, 3072]⟩ (shapeCast ⟨6, ![32, 1, 3, 2, 8, 64]⟩ (Host.dotGeneral Reference8Ideal.dot_S32x1x1024_S1024x3072_S32x1x3072_2_0_01_1_n_n none (norm x g) w) h₁) h₂
      : FVec Ideal ⟨2, ![32, 3072]⟩ .f32) = rows fun R => through (normed (single x R) (vec g)) (mat w) := by
  refine eq_rows fun R j => ?_
  pointwise
  simp only [norm_apply]
  rfl

/-! ## The programs -/

/-- Over the extended reals the kernel and the reference leave the same arrays. -/
theorem equal3 : Cert.algebraic_Kernel3Ideal_Reference3Ideal := fun m g m' g' _ h =>
  ⟨fun c => rows fun R => normed (fedBy (single (Sample.given0 m c) R) (Sample.given1 m c) (Sample.given2 m c) (Sample.given3 m c)) (vec (Sample.given4 m c)),
    (θ_run Kernel3Ideal.defs _ _).mono (fun _ k c => ⟨(k c).1.trans (Sample.array m c), (k c).2⟩) (Kernel3Ideal.Value.run_blocks m g),
    (θ_run Reference3Ideal.defs _ _).mono (fun _ k c => by
      have h0 : (m' ((c.tc : Thread Reference3Ideal.nD Reference3Ideal.τ).loc Reference3Ideal.main_arg0) : _) = Sample.given0 m c := (h c).1
      have h1 : (m' ((c.tc : Thread Reference3Ideal.nD Reference3Ideal.τ).loc Reference3Ideal.main_arg1) : _) = Sample.given1 m c := (h c).2.1
      have h2 : (m' ((c.tc : Thread Reference3Ideal.nD Reference3Ideal.τ).loc Reference3Ideal.main_arg2) : _) = Sample.given2 m c := (h c).2.2.1
      have h3 : (m' ((c.tc : Thread Reference3Ideal.nD Reference3Ideal.τ).loc Reference3Ideal.main_arg3) : _) = Sample.given3 m c := (h c).2.2.2.1
      have h4 : (m' ((c.tc : Thread Reference3Ideal.nD Reference3Ideal.τ).loc Reference3Ideal.main_arg4) : _) = Sample.given4 m c := (h c).2.2.2.2
      exact ⟨(k c).1.trans ((last_rows _ _ _ _ _ _).trans (by rw [h0, h1, h2, h3, h4])), (k c).2⟩) (Reference3Ideal.Value.run (F := Ideal) m' g')⟩

/-- The reference runs to its end, changes no argument and leaves every counter at zero: it has none. -/
theorem frame_reference3 : Cert.quiescent_Reference3Ideal := fun m ρ _ =>
  (θ_run Reference3Ideal.defs _ _).mono (fun r h => ⟨fun c => (h c).2, sem_eq_zero_of_no_sems (by decide) r.2⟩)
    (Reference3Ideal.Value.run (F := Ideal) m ρ)

/-- Over the extended reals the kernel and the reference leave the same arrays. -/
theorem equal8 : Cert.algebraic_Kernel8Ideal_Reference8Ideal := fun m g m' g' _ h =>
  ⟨fun c => rows fun R => through (normed (single (SampleKv.given0 m c) R) (vec (SampleKv.given1 m c))) (mat (SampleKv.given2 m c)),
    (θ_run Kernel8Ideal.defs _ _).mono (fun _ k c => ⟨(k c).1.trans (SampleKv.array m c), (k c).2⟩) (Kernel8Ideal.Value.run_blocks m g),
    (θ_run Reference8Ideal.defs _ _).mono (fun _ k c => by
      have h0 : (m' ((c.tc : Thread Reference8Ideal.nD Reference8Ideal.τ).loc Reference8Ideal.main_arg0) : _) = SampleKv.given0 m c := (h c).1
      have h1 : (m' ((c.tc : Thread Reference8Ideal.nD Reference8Ideal.τ).loc Reference8Ideal.main_arg1) : _) = SampleKv.given1 m c := (h c).2.1
      have h2 : (m' ((c.tc : Thread Reference8Ideal.nD Reference8Ideal.τ).loc Reference8Ideal.main_arg2) : _) = SampleKv.given2 m c := (h c).2.2
      exact ⟨(k c).1.trans ((kv_rows _ _ _ _ _).trans (by rw [h0, h1, h2])), (k c).2⟩) (Reference8Ideal.Value.run (F := Ideal) m' g')⟩

/-- The reference runs to its end, changes no argument and leaves every counter at zero: it has none. -/
theorem frame_reference8 : Cert.quiescent_Reference8Ideal := fun m ρ _ =>
  (θ_run Reference8Ideal.defs _ _).mono (fun r h => ⟨fun c => (h c).2, sem_eq_zero_of_no_sems (by decide) r.2⟩)
    (Reference8Ideal.Value.run (F := Ideal) m ρ)

end Cert.Ffn.RefSamples

end
-- ==== Proof.KvPrompt.lean ====
/-
  The keys and values of the prompts: each normalised token through the projection, in tiles of 512 tokens, and the last
  tokens of each of the three groups of columns with the tokens along the last axis.
-/
module

public import proofs.«01_k».proof.Proof.FfnRow
public import proofs.«01_k».proof.Proof.Gen.Kernel7Ideal.Value
public import Idealize.ShloMosaic.Lib.Pipeline.ValueKit.Geometry
public import Idealize.ShloMosaic.Lib.Pipeline.ValueKit.Basic
public import Idealize.ShloMosaic.Lib.StableHlo.Run

@[expose] public section

set_option maxRecDepth 16384

noncomputable section

namespace Cert.Ffn.PromptKv

open Cert.Kernel7Ideal Cert.Kernel7Ideal.Gen Idealize.ShloMosaic Idealize.ShloMosaic.TcCoe Idealize.SL.Sem

theorem no_offset3 : (![0, 0, 0] : Fin 3 → ℕ) = fun _ => 0 := by
  funext a; match a with | ⟨0, _⟩ => rfl | ⟨1, _⟩ => rfl | ⟨2, _⟩ => rfl

theorem exists_ix3 {n p q : ℕ} (i : (⟨3, ![n, p, q]⟩ : Shape).Idx) : ∃ b r j, i = ix3 b r j :=
  ⟨i 0, i 1, i 2, by funext a; match a with | ⟨0, _⟩ => rfl | ⟨1, _⟩ => rfl | ⟨2, _⟩ => rfl⟩

/-! ## What a point stores -/

section Stored

variable (c : Dev nD) (i : grid0.Coords)
  (a2 : Memref sig .tc .vmem S1x512x1024 .f32) (e2 : a2.IsWhole) (a3 : Memref sig .tc .vmem S1x1024 .f32) (e3 : a3.IsWhole)
  (a4 : Memref sig .tc .vmem S1024x3072 .bf16) (e4 : a4.IsWhole) (a5 : Memref sig .tc .vmem S1x512x3072 .f32) (e5 : a5.IsWhole)
  (a6 : Memref sig .tc .vmem S1x1024x128 .f32) (e6 : a6.IsWhole) (a7 : Memref sig .tc .vmem S1x1024x512 .f32) (e7 : a7.IsWhole)
  (a8 : Memref sig .tc .vmem S1x1024x512 .f32) (e8 : a8.IsWhole)
  (x0 : Vec Ideal S1x512x1024 .f32) (x1 : Vec Ideal S1x1024 .f32) (x2 : Vec Ideal S1024x3072 .bf16)

theorem storedA3 (h0 h1) : out0_A_3 c i a2 e2 a3 e3 a4 e4 a5 e5 a6 e6 a7 e7 a8 e8 h0 h1 x0 x1 x2 = k0_pay2 x0 x1 x2 := by
  unfold out0_A_3
  rw [View.read_writes_junk_eq_canon]
  unfold kernelRun0_A
  dsimp only
  rw [View.canon_unit_zero no_offset3]
  simp only [View.readAt_eq_ld, e2.read_unread, e3.read_unread, e4.read_unread, View.ld_unit_zero (S := S1x512x1024) no_offset3,
    View.ld_unit_zero (S := S1x1024) no_offset, View.ld_unit_zero (S := S1024x3072) no_offset]
theorem storedA6 (h0 h1) : out0_A_6 c i a2 e2 a3 e3 a4 e4 a5 e5 a6 e6 a7 e7 a8 e8 h0 h1 x0 x1 x2 = k0_pay5 x0 x1 x2 := by
  unfold out0_A_6
  rw [View.read_writes_junk_eq_canon]
  unfold kernelRun0_A
  dsimp only
  sl_unfold_words
  rw [View.canon_unit_zero no_offset3]
  simp only [View.readAt_eq_ld, e2.read_unread, e3.read_unread, e4.read_unread, View.ld_unit_zero (S := S1x512x1024) no_offset3,
    View.ld_unit_zero (S := S1x1024) no_offset, View.ld_unit_zero (S := S1024x3072) no_offset]
theorem storedB3 (h0 h1) : out0_B_3 c i a2 e2 a3 e3 a4 e4 a5 e5 a6 e6 a7 e7 a8 e8 h0 h1 x0 x1 x2 = k0_pay2 x0 x1 x2 := by
  unfold out0_B_3
  rw [View.read_writes_junk_eq_canon]
  unfold kernelRun0_B
  dsimp only
  rw [View.canon_unit_zero no_offset3]
  simp only [View.readAt_eq_ld, e2.read_unread, e3.read_unread, e4.read_unread, View.ld_unit_zero (S := S1x512x1024) no_offset3,
    View.ld_unit_zero (S := S1x1024) no_offset, View.ld_unit_zero (S := S1024x3072) no_offset]
theorem storedB4 (h0 h1) : out0_B_4 c i a2 e2 a3 e3 a4 e4 a5 e5 a6 e6 a7 e7 a8 e8 h0 h1 x0 x1 x2 = k0_pay3 x0 x1 x2 := by
  unfold out0_B_4
  rw [View.read_writes_junk_eq_canon]
  unfold kernelRun0_B
  dsimp only
  rw [View.canon_unit_zero no_offset3]
  simp only [View.readAt_eq_ld, e2.read_unread, e3.read_unread, e4.read_unread, View.ld_unit_zero (S := S1x512x1024) no_offset3,
    View.ld_unit_zero (S := S1x1024) no_offset, View.ld_unit_zero (S := S1024x3072) no_offset]
theorem storedB5 (h0 h1) : out0_B_5 c i a2 e2 a3 e3 a4 e4 a5 e5 a6 e6 a7 e7 a8 e8 h0 h1 x0 x1 x2 = k0_pay4 x0 x1 x2 := by
  unfold out0_B_5
  rw [View.read_writes_junk_eq_canon]
  unfold kernelRun0_B
  dsimp only
  rw [View.canon_unit_zero no_offset3]
  simp only [View.readAt_eq_ld, e2.read_unread, e3.read_unread, e4.read_unread, View.ld_unit_zero (S := S1x512x1024) no_offset3,
    View.ld_unit_zero (S := S1x1024) no_offset, View.ld_unit_zero (S := S1024x3072) no_offset]
theorem storedB6 (h0 h1) : out0_B_6 c i a2 e2 a3 e3 a4 e4 a5 e5 a6 e6 a7 e7 a8 e8 h0 h1 x0 x1 x2 = k0_pay5 x0 x1 x2 := by
  unfold out0_B_6
  rw [View.read_writes_junk_eq_canon]
  unfold kernelRun0_B
  dsimp only
  sl_unfold_words
  rw [View.canon_unit_zero no_offset3]
  simp only [View.readAt_eq_ld, e2.read_unread, e3.read_unread, e4.read_unread, View.ld_unit_zero (S := S1x512x1024) no_offset3,
    View.ld_unit_zero (S := S1x1024) no_offset, View.ld_unit_zero (S := S1024x3072) no_offset]

end Stored

/-! ## The payloads -/

/-- The projection of a normalised token of a tile. -/
theorem tile_apply (x0 : Vec Ideal S1x512x1024 .f32) (x1 : Vec Ideal S1x1024 .f32) (x2 : Vec Ideal S1024x3072 .bf16) (r : Fin 512) (j : Fin 3072) :
    k0_pay1 x0 x1 x2 (ix2 r j) = through (normed (fun k => x0 (ix3 0 r k)) (mat x1 0)) (mat x2) j := by
  unfold k0_pay1
  pointwise
  simp only [normed, through]

variable (x0 : Vec Ideal S1x512x1024 .f32) (x1 : Vec Ideal S1x1024 .f32) (x2 : Vec Ideal S1024x3072 .bf16)

theorem kv_apply (r : Fin 512) (j : Fin 3072) : k0_pay2 x0 x1 x2 (ix3 0 r j) = k0_pay1 x0 x1 x2 (ix2 r j) := by
  unfold k0_pay2; pointwise
theorem first_apply (f : Fin 1024) (n : Fin 128) :
    k0_pay3 x0 x1 x2 (ix3 0 f n) = k0_pay1 x0 x1 x2 (ix2 ⟨384 + n.val, by omega⟩ ⟨f.val, by omega⟩) := by
  unfold k0_pay3; pointwise
theorem second_apply (f : Fin 1024) (n : Fin 512) :
    k0_pay4 x0 x1 x2 (ix3 0 f n) = k0_pay1 x0 x1 x2 (ix2 n ⟨1024 + f.val, by omega⟩) := by
  unfold k0_pay4; pointwise
theorem third_apply (f : Fin 1024) (n : Fin 512) :
    k0_pay5 x0 x1 x2 (ix3 0 f n) = k0_pay1 x0 x1 x2 (ix2 n ⟨2048 + f.val, by omega⟩) := by
  unfold k0_pay5; pointwise

/-! ## The arrays -/

/-- The projection of a normalised token. -/
def keyed (X : (⟨3, ![8, 2048, 1024]⟩ : Shape).Idx → EReal) (G : (⟨1, ![1024]⟩ : Shape).Idx → EReal) (W : (⟨2, ![1024, 3072]⟩ : Shape).Idx → EReal)
    (b : Fin 8) (n : Fin 2048) : Fin 3072 → EReal :=
  through (normed (fun k => X (ix3 b n k)) (vec G)) (mat W)

/-- The array with the given entries. -/
def entries {n p q : ℕ} (f : Fin n → Fin p → Fin q → EReal) (i : (⟨3, ![n, p, q]⟩ : Shape).Idx) : EReal := f (i 0) (i 1) (i 2)

variable (m : (ℓ : Loc nD τ sig) → Buf (Elt Ideal) ℓ) (c : Dev nD)

abbrev given0 : Vec Ideal S8x2048x1024 .f32 := m (c, Proc.tc.devRef main_arg0)
abbrev given1 : Vec Ideal S1024 .f32 := m (c, Proc.tc.devRef main_arg1)
abbrev given2 : Vec Ideal S1024x3072 .f32 := m (c, Proc.tc.devRef main_arg2)

abbrev kv : Fin 8 → Fin 2048 → Fin 3072 → EReal := keyed (given0 m c) (given1 m c) (given2 m c)

/-- The prompt of a point and its tokens. -/
abbrev bat (t : Fin cfg0.N) : Fin 8 := ⟨t.val / 4, by have : t.val < 32 := lt_of_lt_of_eq t.isLt N_0; omega⟩
abbrev tok (t : Fin cfg0.N) (r : Fin 512) : Fin 2048 := ⟨t.val % 4 * 512 + r.val, by omega⟩

theorem i0 : ∀ t : Fin cfg0.N, win0_0.index t = ![t.val / 4, t.val % 4, 0] := (by decide +kernel : ∀ t : Fin grid0.N, _)
theorem i1 : ∀ t : Fin cfg0.N, win0_1.index t = ![0, 0] := (by decide +kernel : ∀ t : Fin grid0.N, _)
theorem i2 : ∀ t : Fin cfg0.N, win0_2.index t = ![0, 0] := (by decide +kernel : ∀ t : Fin grid0.N, _)
theorem i3 : ∀ t : Fin cfg0.N, win0_3.index t = ![t.val / 4, t.val % 4, 0] := (by decide +kernel : ∀ t : Fin grid0.N, _)
theorem i4 : ∀ t : Fin cfg0.N, win0_4.index t = ![t.val / 4, 0, 0] := (by decide +kernel : ∀ t : Fin grid0.N, _)
theorem i5 : ∀ t : Fin cfg0.N, win0_5.index t = ![t.val / 4, 0, 0] := (by decide +kernel : ∀ t : Fin grid0.N, _)
theorem i6 : ∀ t : Fin cfg0.N, win0_6.index t = ![t.val / 4, 0, t.val % 4] := (by decide +kernel : ∀ t : Fin grid0.N, _)
theorem last4 : ∀ t : Fin cfg0.N, (cfg0.win 4).flush t = true → t.val % 4 = 3 := (by decide +kernel : ∀ t : Fin grid0.N, _)
theorem last5 : ∀ t : Fin cfg0.N, (cfg0.win 5).flush t = true → t.val % 4 = 3 := (by decide +kernel : ∀ t : Fin grid0.N, _)

theorem window0 (t : Fin cfg0.N) (r : Fin 512) :
    (fun k => (iblk m c 0 t : Vec Ideal S1x512x1024 .f32) (ix3 0 r k)) = fun k => given0 m c (ix3 (bat t) (tok t r) k) := by
  funext k
  show (V m c main_arg0 : Vec Ideal S8x2048x1024 .f32) ((win0_0.blk t).view.emb (ix3 0 r k)) = _
  rw [show (win0_0.blk t).view.emb (ix3 0 r k) = ix3 (bat t) (tok t r) k by blk_ext [i0, ix3], V_main_arg0]
theorem window1 (t : Fin cfg0.N) : mat (iblk m c 1 t : Vec Ideal S1x1024 .f32) 0 = vec (given1 m c) := by
  funext j
  show (V m c main_v1 : Vec Ideal S1x1024 .f32) ((win0_1.blk t).view.emb (ix2 0 j)) = _
  rw [show (win0_1.blk t).view.emb (ix2 0 j) = ix2 0 j by blk_ext [i1, ix2]]
  unfold V; after_results_simp; pointwise
theorem window2 (t : Fin cfg0.N) : mat (iblk m c 2 t : Vec Ideal S1024x3072 .bf16) = mat (given2 m c) := by
  funext k n
  show (V m c main_v0 : Vec Ideal S1024x3072 .bf16) ((win0_2.blk t).view.emb (ix2 k n)) = _
  rw [show (win0_2.blk t).view.emb (ix2 k n) = ix2 k n by blk_ext [i2, ix2]]
  unfold V; after_results_simp; pointwise

/-- The projection of a token of a point's tile. -/
theorem point (t : Fin cfg0.N) (r : Fin 512) (j : Fin 3072) :
    k0_pay1 (iblk m c 0 t) (iblk m c 1 t) (iblk m c 2 t) (ix2 r j) = kv m c (bat t) (tok t r) j := by
  refine (tile_apply _ _ _ r j).trans ?_
  rw [window0, window1, window2]
  rfl

/-! What a point leaves in each result's block. -/

theorem left3 (t : Fin cfg0.N) : (outsAt0 m c t.val t.isLt).1 = k0_pay2 (iblk m c 0 t) (iblk m c 1 t) (iblk m c 2 t) := by
  by_cases h : t.val % 4 = 3
  · simp only [outsAt0_B m c t h h, storedB3]
  · simp only [outsAt0_A m c t h h, storedA3]
theorem left4 (t : Fin cfg0.N) (h : t.val % 4 = 3) :
    (outsAt0 m c t.val t.isLt).2.1 = k0_pay3 (iblk m c 0 t) (iblk m c 1 t) (iblk m c 2 t) := by
  simp only [outsAt0_B m c t h h, storedB4]
theorem left5 (t : Fin cfg0.N) (h : t.val % 4 = 3) :
    (outsAt0 m c t.val t.isLt).2.2.1 = k0_pay4 (iblk m c 0 t) (iblk m c 1 t) (iblk m c 2 t) := by
  simp only [outsAt0_B m c t h h, storedB5]
theorem left6 (t : Fin cfg0.N) : (outsAt0 m c t.val t.isLt).2.2.2 = k0_pay5 (iblk m c 0 t) (iblk m c 1 t) (iblk m c 2 t) := by
  by_cases h : t.val % 4 = 3
  · simp only [outsAt0_B m c t h h, storedB6]
  · simp only [outsAt0_A m c t h h, storedA6]

theorem array3 : (dats m 0 c).arrAt 3 cfg0.N = entries (kv m c) := by
  refine (dats m 0 c).arrAt_eq_of_covers 3 _ (by decide +kernel) fun t hf y => ?_
  blk_simp
  rw [after0_3, left3]
  obtain ⟨b, r, j, rfl⟩ := exists_ix3 (n := 1) (p := 512) (q := 3072) y
  obtain rfl : b = 0 := Subsingleton.elim _ _
  rw [show (win0_3.blk t).view.emb (ix3 0 r j) = ix3 (bat t) (tok t r) j by blk_ext [i3, ix3]]
  exact (kv_apply _ _ _ r j).trans (point m c t r j)

theorem array4 : (dats m 0 c).arrAt 4 cfg0.N
    = entries fun (b : Fin 8) (f : Fin 1024) (n : Fin 128) => kv m c b ⟨1920 + n.val, by omega⟩ ⟨f.val, by omega⟩ := by
  refine (dats m 0 c).arrAt_eq_of_covers 4 _ (by decide +kernel) fun t hf y => ?_
  have h := last4 t hf
  blk_simp
  rw [after0_4, left4 m c t h]
  obtain ⟨b, f, n, rfl⟩ := exists_ix3 (n := 1) (p := 1024) (q := 128) y
  obtain rfl : b = 0 := Subsingleton.elim _ _
  rw [show (win0_4.blk t).view.emb (ix3 0 f n) = ix3 (bat t) f n by blk_ext [i4, ix3]]
  refine ((first_apply _ _ _ f n).trans (point m c t _ _)).trans ?_
  rw [show tok t ⟨384 + n.val, by omega⟩ = ⟨1920 + n.val, by omega⟩ from Fin.ext (by simp only [tok]; omega)]
  rfl

theorem array5 : (dats m 0 c).arrAt 5 cfg0.N
    = entries fun (b : Fin 8) (f : Fin 1024) (n : Fin 512) => kv m c b ⟨1536 + n.val, by omega⟩ ⟨1024 + f.val, by omega⟩ := by
  refine (dats m 0 c).arrAt_eq_of_covers 5 _ (by decide +kernel) fun t hf y => ?_
  have h := last5 t hf
  blk_simp
  rw [after0_5, left5 m c t h]
  obtain ⟨b, f, n, rfl⟩ := exists_ix3 (n := 1) (p := 1024) (q := 512) y
  obtain rfl : b = 0 := Subsingleton.elim _ _
  rw [show (win0_5.blk t).view.emb (ix3 0 f n) = ix3 (bat t) f n by blk_ext [i5, ix3]]
  refine ((second_apply _ _ _ f n).trans (point m c t _ _)).trans ?_
  rw [show tok t n = ⟨1536 + n.val, by omega⟩ from Fin.ext (by simp only [tok]; omega)]
  rfl

theorem array6 : (dats m 0 c).arrAt 6 cfg0.N
    = entries fun (b : Fin 8) (f : Fin 1024) (n : Fin 2048) => kv m c b n ⟨2048 + f.val, by omega⟩ := by
  refine (dats m 0 c).arrAt_eq_of_covers 6 _ (by decide +kernel) fun t hf y => ?_
  blk_simp
  rw [after0_6, left6]
  obtain ⟨b, f, n, rfl⟩ := exists_ix3 (n := 1) (p := 1024) (q := 512) y
  obtain rfl : b = 0 := Subsingleton.elim _ _
  rw [show (win0_6.blk t).view.emb (ix3 0 f n) = ix3 (bat t) f (tok t n) by blk_ext [i6, ix3]]
  exact (third_apply _ _ _ f n).trans (point m c t _ _)

end Cert.Ffn.PromptKv

end
-- ==== Proof.KvEqual.lean ====
/-
  The kernel of the prompts' keys and values and its reference compute the same four arrays.
-/
module

public import proofs.«01_k».proof.Defs
public import proofs.«01_k».proof.Proof.FfnRefTokens
public import proofs.«01_k».proof.Proof.KvPrompt
public import proofs.«01_k».proof.Proof.Gen.Reference7Ideal.Run

@[expose] public section

set_option maxRecDepth 16384

noncomputable section

namespace Cert.Ffn.RefTokens

open Idealize.ShloMosaic Idealize.ShloMosaic.TcCoe Idealize.SL.Sem Idealize.ShloMosaic.StableHlo PromptKv

theorem eq_entries {n p q : ℕ} {X : (⟨3, ![n, p, q]⟩ : Shape).Idx → EReal} {f : Fin n → Fin p → Fin q → EReal}
    (h : ∀ b r j, X (ix3 b r j) = f b r j) : X = entries f := by
  funext i
  obtain ⟨b, r, j, rfl⟩ := exists_ix3 i
  exact h b r j

variable (x : FVec Ideal ⟨3, ![8, 2048, 1024]⟩ .f32) (g : FVec Ideal ⟨1, ![1024]⟩ .f32) (w : FVec Ideal ⟨2, ![1024, 3072]⟩ .f32)

/-- The projected tokens. -/
def projected : FVec Ideal ⟨3, ![8, 2048, 3072]⟩ .f32 :=
  Host.dotGeneral Reference7Ideal.dot_S8x2048x1024_S1024x3072_S8x2048x3072_2_0_01_1_n_n none (norm x g) w

theorem projected_apply (b : Fin 8) (n : Fin 2048) (j : Fin 3072) : projected x g w (ix3 b n j) = keyed x g w b n j := by
  unfold projected
  pointwise
  simp only [norm_apply]
  rfl

theorem kv_entries (h₁ h₂) :
    (shapeCast ⟨3, ![8, 2048, 3072]⟩ (shapeCast ⟨6, ![8, 2048, 3, 2, 8, 64]⟩ (projected x g w) h₁) h₂ : FVec Ideal ⟨3, ![8, 2048, 3072]⟩ .f32)
      = entries (keyed x g w) := by
  refine eq_entries fun b n j => ?_
  pointwise
  exact projected_apply x g w b n j

theorem first_entries (h₁ h₂ h₃ h₄ h₅) :
    (transpose ⟨3, ![8, 1024, 128]⟩ [0, 2, 1] (shapeCast ⟨3, ![8, 128, 1024]⟩ (shapeCast ⟨5, ![8, 128, 2, 8, 64]⟩
        (extractStridedSlice ⟨6, ![8, 128, 1, 2, 8, 64]⟩ ![0, 1920, 0, 0, 0, 0] (shapeCast ⟨6, ![8, 2048, 3, 2, 8, 64]⟩ (projected x g w) h₁) h₂) h₃) h₄) h₅
      : FVec Ideal ⟨3, ![8, 1024, 128]⟩ .f32)
      = entries fun (b : Fin 8) (f : Fin 1024) (n : Fin 128) => keyed x g w b ⟨1920 + n.val, by omega⟩ ⟨f.val, by omega⟩ := by
  refine eq_entries fun b f n => ?_
  pointwise
  exact (projected_apply x g w b _ _).trans (congrArg _ (Fin.ext (by dsimp only; omega)))

theorem second_entries (h₁ h₂ h₃ h₄ h₅) :
    (transpose ⟨3, ![8, 1024, 512]⟩ [0, 2, 1] (shapeCast ⟨3, ![8, 512, 1024]⟩ (shapeCast ⟨5, ![8, 512, 2, 8, 64]⟩
        (extractStridedSlice ⟨6, ![8, 512, 1, 2, 8, 64]⟩ ![0, 1536, 1, 0, 0, 0] (shapeCast ⟨6, ![8, 2048, 3, 2, 8, 64]⟩ (projected x g w) h₁) h₂) h₃) h₄) h₅
      : FVec Ideal ⟨3, ![8, 1024, 512]⟩ .f32)
      = entries fun (b : Fin 8) (f : Fin 1024) (n : Fin 512) => keyed x g w b ⟨1536 + n.val, by omega⟩ ⟨1024 + f.val, by omega⟩ := by
  refine eq_entries fun b f n => ?_
  pointwise
  exact (projected_apply x g w b _ _).trans (congrArg _ (Fin.ext (by dsimp only; omega)))

theorem third_entries (h₁ h₂ h₃ h₄ h₅) :
    (transpose ⟨3, ![8, 1024, 2048]⟩ [0, 2, 1] (shapeCast ⟨3, ![8, 2048, 1024]⟩ (shapeCast ⟨5, ![8, 2048, 2, 8, 64]⟩
        (extractStridedSlice ⟨6, ![8, 2048, 1, 2, 8, 64]⟩ ![0, 0, 2, 0, 0, 0] (shapeCast ⟨6, ![8, 2048, 3, 2, 8, 64]⟩ (projected x g w) h₁) h₂) h₃) h₄) h₅
      : FVec Ideal ⟨3, ![8, 1024, 2048]⟩ .f32)
      = entries fun (b : Fin 8) (f : Fin 1024) (n : Fin 2048) => keyed x g w b n ⟨2048 + f.val, by omega⟩ := by
  refine eq_entries fun b f n => ?_
  pointwise
  exact (projected_apply x g w b _ _).trans (congrArg _ (Fin.ext (by dsimp only; omega)))

/-- Over the extended reals the kernel and the reference leave the same arrays. -/
theorem equal7 : Cert.algebraic_Kernel7Ideal_Reference7Ideal := fun m g m' g' _ h =>
  ⟨fun c => entries (kv m c),
    fun c => entries fun (b : Fin 8) (f : Fin 1024) (n : Fin 128) => kv m c b ⟨1920 + n.val, by omega⟩ ⟨f.val, by omega⟩,
    fun c => entries fun (b : Fin 8) (f : Fin 1024) (n : Fin 512) => kv m c b ⟨1536 + n.val, by omega⟩ ⟨1024 + f.val, by omega⟩,
    fun c => entries fun (b : Fin 8) (f : Fin 1024) (n : Fin 2048) => kv m c b n ⟨2048 + f.val, by omega⟩,
    (θ_run Kernel7Ideal.defs _ _).mono (fun _ k c =>
      ⟨(k c).1.trans (array3 m c), (k c).2.1.trans (array4 m c), (k c).2.2.1.trans (array5 m c), (k c).2.2.2.1.trans (array6 m c),
        (k c).2.2.2.2⟩) (Kernel7Ideal.Value.run_blocks m g),
    (θ_run Reference7Ideal.defs _ _).mono (fun _ k c => by
      have h0 : (m' ((c.tc : Thread Reference7Ideal.nD Reference7Ideal.τ).loc Reference7Ideal.main_arg0) : _) = given0 m c := (h c).1
      have h1 : (m' ((c.tc : Thread Reference7Ideal.nD Reference7Ideal.τ).loc Reference7Ideal.main_arg1) : _) = given1 m c := (h c).2.1
      have h2 : (m' ((c.tc : Thread Reference7Ideal.nD Reference7Ideal.τ).loc Reference7Ideal.main_arg2) : _) = given2 m c := (h c).2.2
      exact ⟨(k c).1.trans ((kv_entries _ _ _ _ _).trans (by rw [h0, h1, h2])),
        (k c).2.1.trans ((first_entries _ _ _ _ _ _ _ _).trans (by rw [h0, h1, h2])),
        (k c).2.2.1.trans ((second_entries _ _ _ _ _ _ _ _).trans (by rw [h0, h1, h2])),
        (k c).2.2.2.1.trans ((third_entries _ _ _ _ _ _ _ _).trans (by rw [h0, h1, h2])),
        (k c).2.2.2.2⟩) (Reference7Ideal.Value.run (F := Ideal) m' g')⟩

/-- The reference runs to its end, changes no argument and leaves every counter at zero: it has none. -/
theorem frame_reference7 : Cert.quiescent_Reference7Ideal := fun m ρ _ =>
  (θ_run Reference7Ideal.defs _ _).mono (fun r h => ⟨fun c => (h c).2.2.2.2, sem_eq_zero_of_no_sems (by decide) r.2⟩)
    (Reference7Ideal.Value.run (F := Ideal) m ρ)

end Cert.Ffn.RefTokens

end
-- ==== Proof.lean ====
/-
  The certificate: each kernel, its idealization and its reference run to the end and change nothing they are given, the
  idealization is the kernel, and over the extended reals kernel and reference leave the same arrays.
-/
module

public import proofs.«01_k».proof.Defs
public import proofs.«01_k».proof.Proof.Gen.Kernel.Frame
public import proofs.«01_k».proof.Proof.Gen.KernelIdeal.Frame
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Kernel8.Frame
public import proofs.«01_k».proof.Proof.Gen.Kernel9.Frame
public import proofs.«01_k».proof.Proof.Gen.Kernel8Ideal.Frame
public import proofs.«01_k».proof.Proof.Gen.Kernel9Ideal.Frame
public import proofs.«01_k».proof.Proof.Gen.Kernel8Ideal.Value
public import proofs.«01_k».proof.Proof.Gen.Reference8Ideal.Run
public import proofs.«01_k».proof.Proof.Gen.Reference9Ideal.Run
public import proofs.«01_k».proof.Proof.AttnEqual
public import proofs.«01_k».proof.Proof.FfnEqual
public import proofs.«01_k».proof.Proof.MixerEqual
public import proofs.«01_k».proof.Proof.SampleEqual
public import proofs.«01_k».proof.Proof.KvEqual

@[expose] public section

noncomputable section

namespace Cert.Proof

open Idealize.ShloMosaic Idealize.SL.Sem Cert.Kernel

/-- All that is claimed. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  fun m ρ _ => Cert.Kernel.Gen.frame m ρ, fun m ρ _ => Cert.KernelIdeal.Gen.frame m ρ, Cert.Attn.frame_reference,
  fun m ρ _ => Cert.Kernel2.Gen.frame m ρ, fun m ρ _ => Cert.Kernel2Ideal.Gen.frame m ρ, Cert.Ffn.RefTokens.frame_reference2,
  fun m ρ _ => Cert.Kernel3.Gen.frame m ρ, fun m ρ _ => Cert.Kernel3Ideal.Gen.frame m ρ, Cert.Ffn.RefSamples.frame_reference3,
  fun m ρ _ => Cert.Kernel4.Gen.frame m ρ, fun m ρ _ => Cert.Kernel4Ideal.Gen.frame m ρ, Cert.Ffn.RefTokens.frame_reference4,
  fun m ρ _ => Cert.Kernel5.Gen.frame m ρ, fun m ρ _ => Cert.Kernel5Ideal.Gen.frame m ρ, Cert.Ffn.RefTokens.frame_reference5,
  fun m ρ _ => Cert.Kernel6.Gen.frame m ρ, fun m ρ _ => Cert.Kernel6Ideal.Gen.frame m ρ, Cert.Ffn.RefTokens.frame_reference6,
  fun m ρ _ => Cert.Kernel7.Gen.frame m ρ, fun m ρ _ => Cert.Kernel7Ideal.Gen.frame m ρ, Cert.Ffn.RefTokens.frame_reference7,
  fun m ρ _ => Cert.Kernel8.Gen.frame m ρ, fun m ρ _ => Cert.Kernel8Ideal.Gen.frame m ρ, Cert.Ffn.RefSamples.frame_reference8,
  fun m ρ _ => Cert.Kernel9.Gen.frame m ρ, fun m ρ _ => Cert.Kernel9Ideal.Gen.frame m ρ, Cert.Mixer.frame_reference9,
  trivial, Cert.Attn.equal,
  trivial, Cert.Ffn.RefTokens.equal2,
  trivial, Cert.Ffn.RefSamples.equal3,
  trivial, Cert.Ffn.RefTokens.equal4,
  trivial, Cert.Ffn.RefTokens.equal5,
  trivial, Cert.Ffn.RefTokens.equal6,
  trivial, Cert.Ffn.RefTokens.equal7,
  trivial, Cert.Ffn.RefSamples.equal8,
  trivial, Cert.Mixer.equal9⟩

end Cert.Proof

end
